-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "scale2" .f32 0x3E0293EE#32 (((11863283 / 134217728) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_v48) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "scale2" .f32 0x3E0293EE#32 (((11863283 / 134217728) * (Real.log 2)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v30_0)) (v1 : (c : Dev Cert.Kernel8Ideal.nD) → Buf (Elt Ideal) ((c.tc : Thread Cert.Kernel8Ideal.nD Cert.Kernel8Ideal.τ).loc Cert.Kernel8Ideal.main_v30_1)) (v2 : (c : Dev Cert.Kernel8Ideal.nD) → Buf (Elt Ideal) ((c.tc : Thread Cert.Kernel8Ideal.nD Cert.Kernel8Ideal.τ).loc Cert.Kernel8Ideal.main_v30_2)) (v3 : (c : Dev Cert.Kernel8Ideal.nD) → Buf (Elt Ideal) ((c.tc : Thread Cert.Kernel8Ideal.nD Cert.Kernel8Ideal.τ).loc Cert.Kernel8Ideal.main_v30_3)) (v4 : (c : Dev Cert.Kernel8Ideal.nD) → Buf (Elt Ideal) ((c.tc : Thread Cert.Kernel8Ideal.nD Cert.Kernel8Ideal.τ).loc Cert.Kernel8Ideal.main_v30_4)) (v5 : (c : Dev Cert.Kernel8Ideal.nD) → Buf (Elt Ideal) ((c.tc : Thread Cert.Kernel8Ideal.nD Cert.Kernel8Ideal.τ).loc Cert.Kernel8Ideal.main_v30_5)) (v6 : (c : Dev Cert.Kernel8Ideal.nD) → Buf (Elt Ideal) ((c.tc : Thread Cert.Kernel8Ideal.nD Cert.Kernel8Ideal.τ).loc Cert.Kernel8Ideal.main_v30_6)) (v7 : (c : Dev Cert.Kernel8Ideal.nD) → Buf (Elt Ideal) ((c.tc : Thread Cert.Kernel8Ideal.nD Cert.Kernel8Ideal.τ).loc Cert.Kernel8Ideal.main_v30_7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v30_0) = v0 c
          ∧ r.2.mem ((c.tc : Thread Cert.Kernel8Ideal.nD Cert.Kernel8Ideal.τ).loc Cert.Kernel8Ideal.main_v30_1) = v1 c
          ∧ r.2.mem ((c.tc : Thread Cert.Kernel8Ideal.nD Cert.Kernel8Ideal.τ).loc Cert.Kernel8Ideal.main_v30_2) = v2 c
          ∧ r.2.mem ((c.tc : Thread Cert.Kernel8Ideal.nD Cert.Kernel8Ideal.τ).loc Cert.Kernel8Ideal.main_v30_3) = v3 c
          ∧ r.2.mem ((c.tc : Thread Cert.Kernel8Ideal.nD Cert.Kernel8Ideal.τ).loc Cert.Kernel8Ideal.main_v30_4) = v4 c
          ∧ r.2.mem ((c.tc : Thread Cert.Kernel8Ideal.nD Cert.Kernel8Ideal.τ).loc Cert.Kernel8Ideal.main_v30_5) = v5 c
          ∧ r.2.mem ((c.tc : Thread Cert.Kernel8Ideal.nD Cert.Kernel8Ideal.τ).loc Cert.Kernel8Ideal.main_v30_6) = v6 c
          ∧ r.2.mem ((c.tc : Thread Cert.Kernel8Ideal.nD Cert.Kernel8Ideal.τ).loc Cert.Kernel8Ideal.main_v30_7) = v7 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v27) = v1 c
          ∧ r.2.mem ((c.tc : Thread Cert.Reference8Ideal.nD Cert.Reference8Ideal.τ).loc Cert.Reference8Ideal.main_v41) = v2 c
          ∧ r.2.mem ((c.tc : Thread Cert.Reference8Ideal.nD Cert.Reference8Ideal.τ).loc Cert.Reference8Ideal.main_v48) = v3 c
          ∧ r.2.mem ((c.tc : Thread Cert.Reference8Ideal.nD Cert.Reference8Ideal.τ).loc Cert.Reference8Ideal.main_v53) = v4 c
          ∧ r.2.mem ((c.tc : Thread Cert.Reference8Ideal.nD Cert.Reference8Ideal.τ).loc Cert.Reference8Ideal.main_v60) = v5 c
          ∧ r.2.mem ((c.tc : Thread Cert.Reference8Ideal.nD Cert.Reference8Ideal.τ).loc Cert.Reference8Ideal.main_v62) = v6 c
          ∧ r.2.mem ((c.tc : Thread Cert.Reference8Ideal.nD Cert.Reference8Ideal.τ).loc Cert.Reference8Ideal.main_v64) = v7 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v20)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v20) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v31) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v21)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v21) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v30) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S2x32x1024x256 : Shape := ⟨4, ![2, 32, 1024, 256]⟩
abbrev S2x4x512x128 : Shape := ⟨4, ![2, 4, 512, 128]⟩
abbrev S2x4x64x512 : Shape := ⟨4, ![2, 4, 64, 512]⟩
abbrev S2x4x8192x128 : Shape := ⟨4, ![2, 4, 8192, 128]⟩
abbrev S2x4x32x80x256 : Shape := ⟨5, ![2, 4, 32, 80, 256]⟩
abbrev S2x32x128x256 : Shape := ⟨4, ![2, 32, 128, 256]⟩
abbrev S4x1024x1024 : Shape := ⟨3, ![4, 1024, 1024]⟩
abbrev S4x512x1024 : Shape := ⟨3, ![4, 512, 1024]⟩
abbrev S4x768x1024 : Shape := ⟨3, ![4, 768, 1024]⟩
abbrev S8192 : Shape := ⟨1, ![8192]⟩
abbrev S8192x1 : Shape := ⟨2, ![8192, 1]⟩
abbrev S128 : Shape := ⟨1, ![128]⟩
abbrev S1x128 : Shape := ⟨2, ![1, 128]⟩
abbrev S_ : Shape := ⟨0, ![]⟩
abbrev S8192x128 : Shape := ⟨2, ![8192, 128]⟩
abbrev S256x128 : Shape := ⟨2, ![256, 128]⟩
abbrev S8448x128 : Shape := ⟨2, ![8448, 128]⟩
abbrev S2x8192x1024 : Shape := ⟨3, ![2, 8192, 1024]⟩
abbrev S1x1x256x256 : Shape := ⟨4, ![1, 1, 256, 256]⟩
abbrev S1x1x512x128 : Shape := ⟨4, ![1, 1, 512, 128]⟩
abbrev S1x1x64x512 : Shape := ⟨4, ![1, 1, 64, 512]⟩
abbrev S1x1x8192x128 : Shape := ⟨4, ![1, 1, 8192, 128]⟩
abbrev S1x1x32x80x256 : Shape := ⟨5, ![1, 1, 32, 80, 256]⟩
abbrev S1x1x128x256 : Shape := ⟨4, ![1, 1, 128, 256]⟩
abbrev S1x1024x1024 : Shape := ⟨3, ![1, 1024, 1024]⟩
abbrev S1x512x1024 : Shape := ⟨3, ![1, 512, 1024]⟩
abbrev S1x768x1024 : Shape := ⟨3, ![1, 768, 1024]⟩
abbrev S1x256x256 : Shape := ⟨3, ![1, 256, 256]⟩
abbrev S2x528x128 : Shape := ⟨3, ![2, 528, 128]⟩
abbrev S256x1024 : Shape := ⟨2, ![256, 1024]⟩
abbrev S8x1024 : Shape := ⟨2, ![8, 1024]⟩
abbrev S80x1024 : Shape := ⟨2, ![80, 1024]⟩
abbrev S2x512x1024 : Shape := ⟨3, ![2, 512, 1024]⟩
abbrev S64x1024 : Shape := ⟨2, ![64, 1024]⟩
abbrev S16x1024 : Shape := ⟨2, ![16, 1024]⟩
abbrev S1x1x64x256 : Shape := ⟨4, ![1, 1, 64, 256]⟩
abbrev S64x256 : Shape := ⟨2, ![64, 256]⟩
abbrev S48x1024 : Shape := ⟨2, ![48, 1024]⟩
abbrev S128x1024 : Shape := ⟨2, ![128, 1024]⟩
abbrev S1x1x64x128 : Shape := ⟨4, ![1, 1, 64, 128]⟩
abbrev S64x128 : Shape := ⟨2, ![64, 128]⟩
abbrev S1x64x1024 : Shape := ⟨3, ![1, 64, 1024]⟩
abbrev S1024 : Shape := ⟨1, ![1024]⟩
abbrev S1x1024 : Shape := ⟨2, ![1, 1024]⟩
abbrev S1x1x64x64 : Shape := ⟨4, ![1, 1, 64, 64]⟩
abbrev S64x64 : Shape := ⟨2, ![64, 64]⟩
abbrev S1x256 : Shape := ⟨2, ![1, 256]⟩
abbrev S8x128 : Shape := ⟨2, ![8, 128]⟩
abbrev S1x8x128 : Shape := ⟨3, ![1, 8, 128]⟩
abbrev S1x64x128 : Shape := ⟨3, ![1, 64, 128]⟩
abbrev S1x16x128 : Shape := ⟨3, ![1, 16, 128]⟩
abbrev S16x128 : Shape := ⟨2, ![16, 128]⟩
abbrev S16x256 : Shape := ⟨2, ![16, 256]⟩
abbrev S1x1x256x128 : Shape := ⟨4, ![1, 1, 256, 128]⟩
abbrev S1x256x1024 : Shape := ⟨3, ![1, 256, 1024]⟩
abbrev S256 : Shape := ⟨1, ![256]⟩
abbrev S1x1x1x80x256 : Shape := ⟨5, ![1, 1, 1, 80, 256]⟩
abbrev S80x256 : Shape := ⟨2, ![80, 256]⟩
abbrev S112x1024 : Shape := ⟨2, ![112, 1024]⟩
abbrev S1x1x128x128 : Shape := ⟨4, ![1, 1, 128, 128]⟩
abbrev S128x128 : Shape := ⟨2, ![128, 128]⟩
abbrev S1x128x1024 : Shape := ⟨3, ![1, 128, 1024]⟩
abbrev S128x256 : Shape := ⟨2, ![128, 256]⟩
abbrev S1x128x128 : Shape := ⟨3, ![1, 128, 128]⟩
abbrev S1x32x128 : Shape := ⟨3, ![1, 32, 128]⟩
abbrev S32x128 : Shape := ⟨2, ![32, 128]⟩
abbrev S32x256 : Shape := ⟨2, ![32, 256]⟩
abbrev S96x1024 : Shape := ⟨2, ![96, 1024]⟩
abbrev S1x1x192x128 : Shape := ⟨4, ![1, 1, 192, 128]⟩
abbrev S192x128 : Shape := ⟨2, ![192, 128]⟩
abbrev S192x1024 : Shape := ⟨2, ![192, 1024]⟩
abbrev S1x192x1024 : Shape := ⟨3, ![1, 192, 1024]⟩
abbrev S1x1x64x192 : Shape := ⟨4, ![1, 1, 64, 192]⟩
abbrev S64x192 : Shape := ⟨2, ![64, 192]⟩
abbrev S192x256 : Shape := ⟨2, ![192, 256]⟩
abbrev S1x192x128 : Shape := ⟨3, ![1, 192, 128]⟩
abbrev S1x48x128 : Shape := ⟨3, ![1, 48, 128]⟩
abbrev S48x128 : Shape := ⟨2, ![48, 128]⟩
abbrev S48x256 : Shape := ⟨2, ![48, 256]⟩
abbrev S256x256 : Shape := ⟨2, ![256, 256]⟩
abbrev S1x256x128 : Shape := ⟨3, ![1, 256, 128]⟩
abbrev S1x1x320x128 : Shape := ⟨4, ![1, 1, 320, 128]⟩
abbrev S320x128 : Shape := ⟨2, ![320, 128]⟩
abbrev S320x1024 : Shape := ⟨2, ![320, 1024]⟩
abbrev S1x320x1024 : Shape := ⟨3, ![1, 320, 1024]⟩
abbrev S1x1x64x320 : Shape := ⟨4, ![1, 1, 64, 320]⟩
abbrev S64x320 : Shape := ⟨2, ![64, 320]⟩
abbrev S320x256 : Shape := ⟨2, ![320, 256]⟩
abbrev S1x320x128 : Shape := ⟨3, ![1, 320, 128]⟩
abbrev S1x80x128 : Shape := ⟨3, ![1, 80, 128]⟩
abbrev S80x128 : Shape := ⟨2, ![80, 128]⟩
abbrev S1x1x384x128 : Shape := ⟨4, ![1, 1, 384, 128]⟩
abbrev S384x128 : Shape := ⟨2, ![384, 128]⟩
abbrev S384x1024 : Shape := ⟨2, ![384, 1024]⟩
abbrev S1x384x1024 : Shape := ⟨3, ![1, 384, 1024]⟩
abbrev S1x1x64x384 : Shape := ⟨4, ![1, 1, 64, 384]⟩
abbrev S64x384 : Shape := ⟨2, ![64, 384]⟩
abbrev S384x256 : Shape := ⟨2, ![384, 256]⟩
abbrev S1x384x128 : Shape := ⟨3, ![1, 384, 128]⟩
abbrev S1x96x128 : Shape := ⟨3, ![1, 96, 128]⟩
abbrev S96x128 : Shape := ⟨2, ![96, 128]⟩
abbrev S96x256 : Shape := ⟨2, ![96, 256]⟩
abbrev S32x1024 : Shape := ⟨2, ![32, 1024]⟩
abbrev S1x1x448x128 : Shape := ⟨4, ![1, 1, 448, 128]⟩
abbrev S448x128 : Shape := ⟨2, ![448, 128]⟩
abbrev S448x1024 : Shape := ⟨2, ![448, 1024]⟩
abbrev S1x448x1024 : Shape := ⟨3, ![1, 448, 1024]⟩
abbrev S1x1x64x448 : Shape := ⟨4, ![1, 1, 64, 448]⟩
abbrev S64x448 : Shape := ⟨2, ![64, 448]⟩
abbrev S448x256 : Shape := ⟨2, ![448, 256]⟩
abbrev S1x448x128 : Shape := ⟨3, ![1, 448, 128]⟩
abbrev S1x112x128 : Shape := ⟨3, ![1, 112, 128]⟩
abbrev S112x128 : Shape := ⟨2, ![112, 128]⟩
abbrev S112x256 : Shape := ⟨2, ![112, 256]⟩
abbrev S512x128 : Shape := ⟨2, ![512, 128]⟩
abbrev S512x1024 : Shape := ⟨2, ![512, 1024]⟩
abbrev S64x512 : Shape := ⟨2, ![64, 512]⟩
abbrev S512x256 : Shape := ⟨2, ![512, 256]⟩
abbrev S1x512x128 : Shape := ⟨3, ![1, 512, 128]⟩
abbrev S80x512 : Shape := ⟨2, ![80, 512]⟩
abbrev S1x1x1x256 : Shape := ⟨4, ![1, 1, 1, 256]⟩

abbrev nBuf : Space → Nat
  | .hbm => 46
  | .vmem => 33
  | .smem => 0
  | _ => 0

abbrev bufTy : (tb : Table) → Fin (tcTables nBuf tb) → BufTy
  | .hbm, ⟨0, _⟩ => ⟨S2x32x1024x256, .bf16⟩
  | .hbm, ⟨1, _⟩ => ⟨S2x4x512x128, .bf16⟩
  | .hbm, ⟨2, _⟩ => ⟨S2x4x64x512, .bf16⟩
  | .hbm, ⟨3, _⟩ => ⟨S2x4x8192x128, .bf16⟩
  | .hbm, ⟨4, _⟩ => ⟨S2x4x32x80x256, .bf16⟩
  | .hbm, ⟨5, _⟩ => ⟨S2x4x8192x128, .bf16⟩
  | .hbm, ⟨6, _⟩ => ⟨S2x4x32x80x256, .bf16⟩
  | .hbm, ⟨7, _⟩ => ⟨S2x32x128x256, .f32⟩
  | .hbm, ⟨8, _⟩ => ⟨S4x1024x1024, .f32⟩
  | .hbm, ⟨9, _⟩ => ⟨S4x512x1024, .f32⟩
  | .hbm, ⟨10, _⟩ => ⟨S4x768x1024, .f32⟩
  | .hbm, ⟨11, _⟩ => ⟨S8192, .i32⟩
  | .hbm, ⟨12, _⟩ => ⟨S8192x1, .i32⟩
  | .hbm, ⟨13, _⟩ => ⟨S128, .i32⟩
  | .hbm, ⟨14, _⟩ => ⟨S1x128, .i32⟩
  | .hbm, ⟨15, _⟩ => ⟨S_, .i32⟩
  | .hbm, ⟨16, _⟩ => ⟨S_, .i32⟩
  | .hbm, ⟨17, _⟩ => ⟨S8192x1, .i32⟩
  | .hbm, ⟨18, _⟩ => ⟨S8192x1, .i32⟩
  | .hbm, ⟨19, _⟩ => ⟨S8192x1, .i32⟩
  | .hbm, ⟨20, _⟩ => ⟨S_, .i32⟩
  | .hbm, ⟨21, _⟩ => ⟨S8192x1, .i32⟩
  | .hbm, ⟨22, _⟩ => ⟨S8192x1, .i1⟩
  | .hbm, ⟨23, _⟩ => ⟨S8192x1, .i32⟩
  | .hbm, ⟨24, _⟩ => ⟨S8192x1, .i32⟩
  | .hbm, ⟨25, _⟩ => ⟨S_, .i32⟩
  | .hbm, ⟨26, _⟩ => ⟨S8192x1, .i32⟩
  | .hbm, ⟨27, _⟩ => ⟨S8192x1, .i1⟩
  | .hbm, ⟨28, _⟩ => ⟨S8192x1, .i1⟩
  | .hbm, ⟨29, _⟩ => ⟨S_, .i32⟩
  | .hbm, ⟨30, _⟩ => ⟨S8192x1, .i32⟩
  | .hbm, ⟨31, _⟩ => ⟨S8192x1, .i32⟩
  | .hbm, ⟨32, _⟩ => ⟨S8192x1, .i32⟩
  | .hbm, ⟨33, _⟩ => ⟨S8192x128, .i32⟩
  | .hbm, ⟨34, _⟩ => ⟨S8192x128, .i32⟩
  | .hbm, ⟨35, _⟩ => ⟨S8192x128, .i1⟩
  | .hbm, ⟨36, _⟩ => ⟨S_, .f32⟩
  | .hbm, ⟨37, _⟩ => ⟨S_, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S_, .f32⟩
  | .hbm, ⟨42, _⟩ => ⟨S256x128, .f32⟩
  | .hbm, ⟨43, _⟩ => ⟨S8448x128, .f32⟩
  | .hbm, ⟨44, _⟩ => ⟨S8448x128, .bf16⟩
  | .hbm, ⟨45, _⟩ => ⟨S2x8192x1024, .bf16⟩
  | .local _ .vmem, ⟨0, _⟩ => ⟨S1x1x256x256, .bf16⟩
  | .local _ .vmem, ⟨1, _⟩ => ⟨S1x1x256x256, .bf16⟩
  | .local _ .vmem, ⟨2, _⟩ => ⟨S1x1x512x128, .bf16⟩
  | .local _ .vmem, ⟨3, _⟩ => ⟨S1x1x512x128, .bf16⟩
  | .local _ .vmem, ⟨4, _⟩ => ⟨S1x1x64x512, .bf16⟩
  | .local _ .vmem, ⟨5, _⟩ => ⟨S1x1x64x512, .bf16⟩
  | .local _ .vmem, ⟨6, _⟩ => ⟨S1x1x8192x128, .bf16⟩
  | .local _ .vmem, ⟨7, _⟩ => ⟨S1x1x8192x128, .bf16⟩
  | .local _ .vmem, ⟨8, _⟩ => ⟨S1x1x32x80x256, .bf16⟩
  | .local _ .vmem, ⟨9, _⟩ => ⟨S1x1x32x80x256, .bf16⟩
  | .local _ .vmem, ⟨10, _⟩ => ⟨S1x1x8192x128, .bf16⟩
  | .local _ .vmem, ⟨11, _⟩ => ⟨S1x1x8192x128, .bf16⟩
  | .local _ .vmem, ⟨12, _⟩ => ⟨S1x1x32x80x256, .bf16⟩
  | .local _ .vmem, ⟨13, _⟩ => ⟨S1x1x32x80x256, .bf16⟩
  | .local _ .vmem, ⟨14, _⟩ => ⟨S8448x128, .bf16⟩
  | .local _ .vmem, ⟨15, _⟩ => ⟨S1x1x128x256, .f32⟩
  | .local _ .vmem, ⟨16, _⟩ => ⟨S1x1x128x256, .f32⟩
  | .local _ .vmem, ⟨17, _⟩ => ⟨S1x1024x1024, .f32⟩
  | .local _ .vmem, ⟨18, _⟩ => ⟨S1x1024x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x768x1024, .f32⟩
  | .local _ .vmem, ⟨22, _⟩ => ⟨S1x768x1024, .f32⟩
  | .local _ .vmem, ⟨23, _⟩ => ⟨S1x256x256, .bf16⟩
  | .local _ .vmem, ⟨24, _⟩ => ⟨S1x256x256, .bf16⟩
  | .local _ .vmem, ⟨25, _⟩ => ⟨S2x528x128, .f32⟩
  | .local _ .vmem, ⟨26, _⟩ => ⟨S256x1024, .bf16⟩
  | .local _ .vmem, ⟨27, _⟩ => ⟨S8x1024, .f32⟩
  | .local _ .vmem, ⟨28, _⟩ => ⟨S80x1024, .f32⟩
  | .local _ .vmem, ⟨29, _⟩ => ⟨S2x512x1024, .f32⟩
  | .local _ .vmem, ⟨30, _⟩ => ⟨S64x1024, .f32⟩
  | .local _ .vmem, ⟨31, _⟩ => ⟨S64x1024, .f32⟩
  | .local _ .vmem, ⟨32, _⟩ => ⟨S16x1024, .f32⟩
  | _, _ => ⟨S2x32x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨3, ![2, 4, 32], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  v0
def k0_cond1 (i : grid0.Coords) : BitVec 1 :=
  let arg2 : BitVec 32 := BitVec.ofNat 32 (i 2).val
  let c0_i32 : BitVec 32 := 0#32
  let v35 : BitVec 1 := Scalar.cmpi .sgt arg2 c0_i32
  let v36 : BitVec 32 := Scalar.extui v35
  let c0_i32_23 : BitVec 32 := 0#32
  let v37 : BitVec 1 := Scalar.cmpi .slt arg2 c0_i32_23
  let v38 : BitVec 32 := Scalar.extui v37
  let v39 : BitVec 32 := Scalar.subi v36 v38
  let c4_i32 : BitVec 32 := 4#32
  let c0_i32_24 : BitVec 32 := 0#32
  let v40 : BitVec 1 := Scalar.cmpi .sgt c4_i32 c0_i32_24
  let v41 : BitVec 32 := Scalar.extui v40
  let c0_i32_25 : BitVec 32 := 0#32
  let v42 : BitVec 1 := Scalar.cmpi .slt c4_i32 c0_i32_25
  let v43 : BitVec 32 := Scalar.extui v42
  let v44 : BitVec 32 := Scalar.subi v41 v43
  let v45 : BitVec 1 := Scalar.cmpi .ne v39 v44
  let v46 : BitVec 32 := Scalar.remsi arg2 c4_i32
  let c0_i32_26 : BitVec 32 := 0#32
  let v47 : BitVec 1 := Scalar.cmpi .ne v46 c0_i32_26
  let v48 : BitVec 1 := Scalar.andi v45 v47
  let v34 : BitVec 32 := Scalar.divsi arg2 c4_i32
  let c1_i32 : BitVec 32 := 1#32
  let v49 : BitVec 32 := Scalar.subi v34 c1_i32
  let v50 : BitVec 32 := Scalar.select v48 v49 v34
  let c0_i32_27 : BitVec 32 := 0#32
  let v51 : BitVec 1 := Scalar.cmpi .eq v50 c0_i32_27
  let v52 : BitVec 32 := Scalar.extui v51
  let c0_i32_28 : BitVec 32 := 0#32
  let v53 : BitVec 1 := Scalar.cmpi .ne v52 c0_i32_28
  v53

def k0_mult2 (i : grid0.Coords) : BitVec 32 :=
  let c512_i32 : BitVec 32 := 512#32
  let c16_i32_294 : BitVec 32 := 16#32
  let arg2 : BitVec 32 := BitVec.ofNat 32 (i 2).val
  let v528 : BitVec 32 := Scalar.muli c16_i32_294 arg2
  let v529 : BitVec 32 := Scalar.subi c512_i32 v528
  v529
def k0_off1 (i : grid0.Coords) : Fin 3 → Nat :=
  let c0_295 : Index := 0#32
  let c512_i32 : BitVec 32 := 512#32
  let c16_i32_294 : BitVec 32 := 16#32
  let arg2 : BitVec 32 := BitVec.ofNat 32 (i 2).val
  let v528 : BitVec 32 := Scalar.muli c16_i32_294 arg2
  let v529 : BitVec 32 := Scalar.subi c512_i32 v528
  let v530 : BitVec 32 := v529
  let v531 : Index := Scalar.indexCast v530
  let c0_296 : Index := 0#32
  ![0, v531.toNat, 0]
def k0_mult3 (i : grid0.Coords) : BitVec 32 :=
  let arg2 : BitVec 32 := BitVec.ofNat 32 (i 2).val
  let c0_i32_365 : BitVec 32 := 0#32
  let v674 : BitVec 32 := Scalar.subi arg2 c0_i32_365
  let c0_i32_366 : BitVec 32 := 0#32
  let v675 : BitVec 32 := Scalar.maxsi v674 c0_i32_366
  let c256_i32_367 : BitVec 32 := 256#32
  let v676 : BitVec 32 := Scalar.muli v675 c256_i32_367
  v676
def k0_off2 (i : grid0.Coords) (c0_i32_365 : BitVec 32) : Fin 4 → Nat :=
  let c0_368 : Index := 0#32
  let c0_369 : Index := 0#32
  let arg2 : BitVec 32 := BitVec.ofNat 32 (i 2).val
  let v674 : BitVec 32 := Scalar.subi arg2 c0_i32_365
  let c0_i32_366 : BitVec 32 := 0#32
  let v675 : BitVec 32 := Scalar.maxsi v674 c0_i32_366
  let c256_i32_367 : BitVec 32 := 256#32
  let v676 : BitVec 32 := Scalar.muli v675 c256_i32_367
  let v677 : BitVec 32 := v676
  let v678 : Index := Scalar.indexCast v677
  let c0_370 : Index := 0#32
  ![0, 0, v678.toNat, 0]
def k0_mult4 (i : grid0.Coords) : BitVec 32 :=
  let arg2 : BitVec 32 := BitVec.ofNat 32 (i 2).val
  let c1_i32_375 : BitVec 32 := 1#32
  let v685 : BitVec 32 := Scalar.subi arg2 c1_i32_375
  let c0_i32_376 : BitVec 32 := 0#32
  let v686 : BitVec 32 := Scalar.maxsi v685 c0_i32_376
  let c256_i32_377 : BitVec 32 := 256#32
  let v687 : BitVec 32 := Scalar.muli v686 c256_i32_377
  v687
def k0_mult5 (i : grid0.Coords) : BitVec 32 :=
  let arg2 : BitVec 32 := BitVec.ofNat 32 (i 2).val
  let c2_i32_408 : BitVec 32 := 2#32
  let v765 : BitVec 32 := Scalar.subi arg2 c2_i32_408
  let c0_i32_409 : BitVec 32 := 0#32
  let v766 : BitVec 32 := Scalar.maxsi v765 c0_i32_409
  let c256_i32_410 : BitVec 32 := 256#32
  let v767 : BitVec 32 := Scalar.muli v766 c256_i32_410
  v767
def k0_off3 (i : grid0.Coords) (c0_i32_421 : BitVec 32) : Fin 5 → Nat :=
  let c0_423 : Index := 0#32
  let c0_424 : Index := 0#32
  let arg2 : BitVec 32 := BitVec.ofNat 32 (i 2).val
  let v785 : BitVec 32 := Scalar.subi arg2 c0_i32_421
  let c0_i32_422 : BitVec 32 := 0#32
  let v786 : BitVec 32 := Scalar.maxsi v785 c0_i32_422
  let v787 : Index := Scalar.indexCast v786
  let c0_425 : Index := 0#32
  let c0_426 : Index := 0#32
  ![0, 0, v787.toNat, 0, 0]
def k0_cond2 (i : grid0.Coords) : BitVec 1 :=
  let arg2 : BitVec 32 := BitVec.ofNat 32 (i 2).val
  let c0_i32_30 : BitVec 32 := 0#32
  let v55 : BitVec 1 := Scalar.cmpi .sgt arg2 c0_i32_30
  let v56 : BitVec 32 := Scalar.extui v55
  let c0_i32_31 : BitVec 32 := 0#32
  let v57 : BitVec 1 := Scalar.cmpi .slt arg2 c0_i32_31
  let v58 : BitVec 32 := Scalar.extui v57
  let v59 : BitVec 32 := Scalar.subi v56 v58
  let c4_i32_29 : BitVec 32 := 4#32
  let c0_i32_32 : BitVec 32 := 0#32
  let v60 : BitVec 1 := Scalar.cmpi .sgt c4_i32_29 c0_i32_32
  let v61 : BitVec 32 := Scalar.extui v60
  let c0_i32_33 : BitVec 32 := 0#32
  let v62 : BitVec 1 := Scalar.cmpi .slt c4_i32_29 c0_i32_33
  let v63 : BitVec 32 := Scalar.extui v62
  let v64 : BitVec 32 := Scalar.subi v61 v63
  let v65 : BitVec 1 := Scalar.cmpi .ne v59 v64
  let v66 : BitVec 32 := Scalar.remsi arg2 c4_i32_29
  let c0_i32_34 : BitVec 32 := 0#32
  let v67 : BitVec 1 := Scalar.cmpi .ne v66 c0_i32_34
  let v68 : BitVec 1 := Scalar.andi v65 v67
  let v54 : BitVec 32 := Scalar.divsi arg2 c4_i32_29
  let c1_i32_35 : BitVec 32 := 1#32
  let v69 : BitVec 32 := Scalar.subi v54 c1_i32_35
  let v70 : BitVec 32 := Scalar.select v68 v69 v54
  let c1_i32_36 : BitVec 32 := 1#32
  let v71 : BitVec 1 := Scalar.cmpi .eq v70 c1_i32_36
  let v72 : BitVec 32 := Scalar.extui v71
  let c0_i32_37 : BitVec 32 := 0#32
  let v73 : BitVec 1 := Scalar.cmpi .ne v72 c0_i32_37
  v73

def k0_mult6 (i : grid0.Coords) : BitVec 32 :=
  let c512_i32 : BitVec 32 := 512#32
  let c16_i32_294 : BitVec 32 := 16#32
  let arg2 : BitVec 32 := BitVec.ofNat 32 (i 2).val
  let v528 : BitVec 32 := Scalar.muli c16_i32_294 arg2
  let v529 : BitVec 32 := Scalar.subi c512_i32 v528
  v529
def k0_off4 (i : grid0.Coords) : Fin 3 → Nat :=
  let c0_295 : Index := 0#32
  let c512_i32 : BitVec 32 := 512#32
  let c16_i32_294 : BitVec 32 := 16#32
  let arg2 : BitVec 32 := BitVec.ofNat 32 (i 2).val
  let v528 : BitVec 32 := Scalar.muli c16_i32_294 arg2
  let v529 : BitVec 32 := Scalar.subi c512_i32 v528
  let v530 : BitVec 32 := v529
  let v531 : Index := Scalar.indexCast v530
  let c0_296 : Index := 0#32
  ![0, v531.toNat, 0]
def k0_mult7 (i : grid0.Coords) : BitVec 32 :=
  let arg2 : BitVec 32 := BitVec.ofNat 32 (i 2).val
  let c0_i32_365 : BitVec 32 := 0#32
  let v674 : BitVec 32 := Scalar.subi arg2 c0_i32_365
  let c0_i32_366 : BitVec 32 := 0#32
  let v675 : BitVec 32 := Scalar.maxsi v674 c0_i32_366
  let c256_i32_367 : BitVec 32 := 256#32
  let v676 : BitVec 32 := Scalar.muli v675 c256_i32_367
  v676
def k0_off5 (i : grid0.Coords) (c0_i32_365 : BitVec 32) : Fin 4 → Nat :=
  let c0_368 : Index := 0#32
  let c0_369 : Index := 0#32
  let arg2 : BitVec 32 := BitVec.ofNat 32 (i 2).val
  let v674 : BitVec 32 := Scalar.subi arg2 c0_i32_365
  let c0_i32_366 : BitVec 32 := 0#32
  let v675 : BitVec 32 := Scalar.maxsi v674 c0_i32_366
  let c256_i32_367 : BitVec 32 := 256#32
  let v676 : BitVec 32 := Scalar.muli v675 c256_i32_367
  let v677 : BitVec 32 := v676
  let v678 : Index := Scalar.indexCast v677
  let c0_370 : Index := 0#32
  ![0, 0, v678.toNat, 0]
def k0_mult8 (i : grid0.Coords) : BitVec 32 :=
  let arg2 : BitVec 32 := BitVec.ofNat 32 (i 2).val
  let c1_i32_375 : BitVec 32 := 1#32
  let v685 : BitVec 32 := Scalar.subi arg2 c1_i32_375
  let c0_i32_376 : BitVec 32 := 0#32
  let v686 : BitVec 32 := Scalar.maxsi v685 c0_i32_376
  let c256_i32_377 : BitVec 32 := 256#32
  let v687 : BitVec 32 := Scalar.muli v686 c256_i32_377
  v687
def k0_mult9 (i : grid0.Coords) : BitVec 32 :=
  let arg2 : BitVec 32 := BitVec.ofNat 32 (i 2).val
  let c2_i32_408 : BitVec 32 := 2#32
  let v765 : BitVec 32 := Scalar.subi arg2 c2_i32_408
  let c0_i32_409 : BitVec 32 := 0#32
  let v766 : BitVec 32 := Scalar.maxsi v765 c0_i32_409
  let c256_i32_410 : BitVec 32 := 256#32
  let v767 : BitVec 32 := Scalar.muli v766 c256_i32_410
  v767
def k0_off6 (i : grid0.Coords) (c0_i32_421 : BitVec 32) : Fin 5 → Nat :=
  let c0_423 : Index := 0#32
  let c0_424 : Index := 0#32
  let arg2 : BitVec 32 := BitVec.ofNat 32 (i 2).val
  let v785 : BitVec 32 := Scalar.subi arg2 c0_i32_421
  let c0_i32_422 : BitVec 32 := 0#32
  let v786 : BitVec 32 := Scalar.maxsi v785 c0_i32_422
  let v787 : Index := Scalar.indexCast v786
  let c0_425 : Index := 0#32
  let c0_426 : Index := 0#32
  ![0, 0, v787.toNat, 0, 0]
def k0_cond3 (i : grid0.Coords) : BitVec 1 :=
  let arg2 : BitVec 32 := BitVec.ofNat 32 (i 2).val
  let c0_i32_39 : BitVec 32 := 0#32
  let v75 : BitVec 1 := Scalar.cmpi .sgt arg2 c0_i32_39
  let v76 : BitVec 32 := Scalar.extui v75
  let c0_i32_40 : BitVec 32 := 0#32
  let v77 : BitVec 1 := Scalar.cmpi .slt arg2 c0_i32_40
  let v78 : BitVec 32 := Scalar.extui v77
  let v79 : BitVec 32 := Scalar.subi v76 v78
  let c4_i32_38 : BitVec 32 := 4#32
  let c0_i32_41 : BitVec 32 := 0#32
  let v80 : BitVec 1 := Scalar.cmpi .sgt c4_i32_38 c0_i32_41
  let v81 : BitVec 32 := Scalar.extui v80
  let c0_i32_42 : BitVec 32 := 0#32
  let v82 : BitVec 1 := Scalar.cmpi .slt c4_i32_38 c0_i32_42
  let v83 : BitVec 32 := Scalar.extui v82
  let v84 : BitVec 32 := Scalar.subi v81 v83
  let v85 : BitVec 1 := Scalar.cmpi .ne v79 v84
  let v86 : BitVec 32 := Scalar.remsi arg2 c4_i32_38
  let c0_i32_43 : BitVec 32 := 0#32
  let v87 : BitVec 1 := Scalar.cmpi .ne v86 c0_i32_43
  let v88 : BitVec 1 := Scalar.andi v85 v87
  let v74 : BitVec 32 := Scalar.divsi arg2 c4_i32_38
  let c1_i32_44 : BitVec 32 := 1#32
  let v89 : BitVec 32 := Scalar.subi v74 c1_i32_44
  let v90 : BitVec 32 := Scalar.select v88 v89 v74
  let c2_i32 : BitVec 32 := 2#32
  let v91 : BitVec 1 := Scalar.cmpi .eq v90 c2_i32
  let v92 : BitVec 32 := Scalar.extui v91
  let c0_i32_45 : BitVec 32 := 0#32
  let v93 : BitVec 1 := Scalar.cmpi .ne v92 c0_i32_45
  v93

def k0_mult10 (i : grid0.Coords) : BitVec 32 :=
  let c512_i32 : BitVec 32 := 512#32
  let c16_i32_294 : BitVec 32 := 16#32
  let arg2 : BitVec 32 := BitVec.ofNat 32 (i 2).val
  let v528 : BitVec 32 := Scalar.muli c16_i32_294 arg2
  let v529 : BitVec 32 := Scalar.subi c512_i32 v528
  v529
def k0_off7 (i : grid0.Coords) : Fin 3 → Nat :=
  let c0_295 : Index := 0#32
  let c512_i32 : BitVec 32 := 512#32
  let c16_i32_294 : BitVec 32 := 16#32
  let arg2 : BitVec 32 := BitVec.ofNat 32 (i 2).val
  let v528 : BitVec 32 := Scalar.muli c16_i32_294 arg2
  let v529 : BitVec 32 := Scalar.subi c512_i32 v528
  let v530 : BitVec 32 := v529
  let v531 : Index := Scalar.indexCast v530
  let c0_296 : Index := 0#32
  ![0, v531.toNat, 0]
def k0_mult11 (i : grid0.Coords) : BitVec 32 :=
  let arg2 : BitVec 32 := BitVec.ofNat 32 (i 2).val
  let c0_i32_365 : BitVec 32 := 0#32
  let v674 : BitVec 32 := Scalar.subi arg2 c0_i32_365
  let c0_i32_366 : BitVec 32 := 0#32
  let v675 : BitVec 32 := Scalar.maxsi v674 c0_i32_366
  let c256_i32_367 : BitVec 32 := 256#32
  let v676 : BitVec 32 := Scalar.muli v675 c256_i32_367
  v676
def k0_off8 (i : grid0.Coords) (c0_i32_365 : BitVec 32) : Fin 4 → Nat :=
  let c0_368 : Index := 0#32
  let c0_369 : Index := 0#32
  let arg2 : BitVec 32 := BitVec.ofNat 32 (i 2).val
  let v674 : BitVec 32 := Scalar.subi arg2 c0_i32_365
  let c0_i32_366 : BitVec 32 := 0#32
  let v675 : BitVec 32 := Scalar.maxsi v674 c0_i32_366
  let c256_i32_367 : BitVec 32 := 256#32
  let v676 : BitVec 32 := Scalar.muli v675 c256_i32_367
  let v677 : BitVec 32 := v676
  let v678 : Index := Scalar.indexCast v677
  let c0_370 : Index := 0#32
  ![0, 0, v678.toNat, 0]
def k0_mult12 (i : grid0.Coords) : BitVec 32 :=
  let arg2 : BitVec 32 := BitVec.ofNat 32 (i 2).val
  let c1_i32_375 : BitVec 32 := 1#32
  let v685 : BitVec 32 := Scalar.subi arg2 c1_i32_375
  let c0_i32_376 : BitVec 32 := 0#32
  let v686 : BitVec 32 := Scalar.maxsi v685 c0_i32_376
  let c256_i32_377 : BitVec 32 := 256#32
  let v687 : BitVec 32 := Scalar.muli v686 c256_i32_377
  v687
def k0_mult13 (i : grid0.Coords) : BitVec 32 :=
  let arg2 : BitVec 32 := BitVec.ofNat 32 (i 2).val
  let c2_i32_407 : BitVec 32 := 2#32
  let v765 : BitVec 32 := Scalar.subi arg2 c2_i32_407
  let c0_i32_408 : BitVec 32 := 0#32
  let v766 : BitVec 32 := Scalar.maxsi v765 c0_i32_408
  let c256_i32_409 : BitVec 32 := 256#32
  let v767 : BitVec 32 := Scalar.muli v766 c256_i32_409
  v767
def k0_off9 (i : grid0.Coords) (c0_i32_420 : BitVec 32) : Fin 5 → Nat :=
  let c0_422 : Index := 0#32
  let c0_423 : Index := 0#32
  let arg2 : BitVec 32 := BitVec.ofNat 32 (i 2).val
  let v785 : BitVec 32 := Scalar.subi arg2 c0_i32_420
  let c0_i32_421 : BitVec 32 := 0#32
  let v786 : BitVec 32 := Scalar.maxsi v785 c0_i32_421
  let v787 : Index := Scalar.indexCast v786
  let c0_424 : Index := 0#32
  let c0_425 : Index := 0#32
  ![0, 0, v787.toNat, 0, 0]
def k0_cond4 (i : grid0.Coords) : BitVec 1 :=
  let arg2 : BitVec 32 := BitVec.ofNat 32 (i 2).val
  let c0_i32_47 : BitVec 32 := 0#32
  let v95 : BitVec 1 := Scalar.cmpi .sgt arg2 c0_i32_47
  let v96 : BitVec 32 := Scalar.extui v95
  let c0_i32_48 : BitVec 32 := 0#32
  let v97 : BitVec 1 := Scalar.cmpi .slt arg2 c0_i32_48
  let v98 : BitVec 32 := Scalar.extui v97
  let v99 : BitVec 32 := Scalar.subi v96 v98
  let c4_i32_46 : BitVec 32 := 4#32
  let c0_i32_49 : BitVec 32 := 0#32
  let v100 : BitVec 1 := Scalar.cmpi .sgt c4_i32_46 c0_i32_49
  let v101 : BitVec 32 := Scalar.extui v100
  let c0_i32_50 : BitVec 32 := 0#32
  let v102 : BitVec 1 := Scalar.cmpi .slt c4_i32_46 c0_i32_50
  let v103 : BitVec 32 := Scalar.extui v102
  let v104 : BitVec 32 := Scalar.subi v101 v103
  let v105 : BitVec 1 := Scalar.cmpi .ne v99 v104
  let v106 : BitVec 32 := Scalar.remsi arg2 c4_i32_46
  let c0_i32_51 : BitVec 32 := 0#32
  let v107 : BitVec 1 := Scalar.cmpi .ne v106 c0_i32_51
  let v108 : BitVec 1 := Scalar.andi v105 v107
  let v94 : BitVec 32 := Scalar.divsi arg2 c4_i32_46
  let c1_i32_52 : BitVec 32 := 1#32
  let v109 : BitVec 32 := Scalar.subi v94 c1_i32_52
  let v110 : BitVec 32 := Scalar.select v108 v109 v94
  let c3_i32 : BitVec 32 := 3#32
  let v111 : BitVec 1 := Scalar.cmpi .eq v110 c3_i32
  let v112 : BitVec 32 := Scalar.extui v111
  let c0_i32_53 : BitVec 32 := 0#32
  let v113 : BitVec 1 := Scalar.cmpi .ne v112 c0_i32_53
  v113

def k0_mult14 (i : grid0.Coords) : BitVec 32 :=
  let c512_i32 : BitVec 32 := 512#32
  let c16_i32_294 : BitVec 32 := 16#32
  let arg2 : BitVec 32 := BitVec.ofNat 32 (i 2).val
  let v528 : BitVec 32 := Scalar.muli c16_i32_294 arg2
  let v529 : BitVec 32 := Scalar.subi c512_i32 v528
  v529
def k0_off10 (i : grid0.Coords) : Fin 3 → Nat :=
  let c0_295 : Index := 0#32
  let c512_i32 : BitVec 32 := 512#32
  let c16_i32_294 : BitVec 32 := 16#32
  let arg2 : BitVec 32 := BitVec.ofNat 32 (i 2).val
  let v528 : BitVec 32 := Scalar.muli c16_i32_294 arg2
  let v529 : BitVec 32 := Scalar.subi c512_i32 v528
  let v530 : BitVec 32 := v529
  let v531 : Index := Scalar.indexCast v530
  let c0_296 : Index := 0#32
  ![0, v531.toNat, 0]
def k0_mult15 (i : grid0.Coords) : BitVec 32 :=
  let arg2 : BitVec 32 := BitVec.ofNat 32 (i 2).val
  let c0_i32_365 : BitVec 32 := 0#32
  let v674 : BitVec 32 := Scalar.subi arg2 c0_i32_365
  let c0_i32_366 : BitVec 32 := 0#32
  let v675 : BitVec 32 := Scalar.maxsi v674 c0_i32_366
  let c256_i32_367 : BitVec 32 := 256#32
  let v676 : BitVec 32 := Scalar.muli v675 c256_i32_367
  v676
def k0_off11 (i : grid0.Coords) (c0_i32_365 : BitVec 32) : Fin 4 → Nat :=
  let c0_368 : Index := 0#32
  let c0_369 : Index := 0#32
  let arg2 : BitVec 32 := BitVec.ofNat 32 (i 2).val
  let v674 : BitVec 32 := Scalar.subi arg2 c0_i32_365
  let c0_i32_366 : BitVec 32 := 0#32
  let v675 : BitVec 32 := Scalar.maxsi v674 c0_i32_366
  let c256_i32_367 : BitVec 32 := 256#32
  let v676 : BitVec 32 := Scalar.muli v675 c256_i32_367
  let v677 : BitVec 32 := v676
  let v678 : Index := Scalar.indexCast v677
  let c0_370 : Index := 0#32
  ![0, 0, v678.toNat, 0]
def k0_mult16 (i : grid0.Coords) : BitVec 32 :=
  let arg2 : BitVec 32 := BitVec.ofNat 32 (i 2).val
  let c1_i32_375 : BitVec 32 := 1#32
  let v685 : BitVec 32 := Scalar.subi arg2 c1_i32_375
  let c0_i32_376 : BitVec 32 := 0#32
  let v686 : BitVec 32 := Scalar.maxsi v685 c0_i32_376
  let c256_i32_377 : BitVec 32 := 256#32
  let v687 : BitVec 32 := Scalar.muli v686 c256_i32_377
  v687
def k0_mult17 (i : grid0.Coords) : BitVec 32 :=
  let arg2 : BitVec 32 := BitVec.ofNat 32 (i 2).val
  let c2_i32_408 : BitVec 32 := 2#32
  let v765 : BitVec 32 := Scalar.subi arg2 c2_i32_408
  let c0_i32_409 : BitVec 32 := 0#32
  let v766 : BitVec 32 := Scalar.maxsi v765 c0_i32_409
  let c256_i32_410 : BitVec 32 := 256#32
  let v767 : BitVec 32 := Scalar.muli v766 c256_i32_410
  v767
def k0_off12 (i : grid0.Coords) (c0_i32_421 : BitVec 32) : Fin 5 → Nat :=
  let c0_423 : Index := 0#32
  let c0_424 : Index := 0#32
  let arg2 : BitVec 32 := BitVec.ofNat 32 (i 2).val
  let v785 : BitVec 32 := Scalar.subi arg2 c0_i32_421
  let c0_i32_422 : BitVec 32 := 0#32
  let v786 : BitVec 32 := Scalar.maxsi v785 c0_i32_422
  let v787 : Index := Scalar.indexCast v786
  let c0_425 : Index := 0#32
  let c0_426 : Index := 0#32
  ![0, 0, v787.toNat, 0, 0]
def k0_cond5 (i : grid0.Coords) : BitVec 1 :=
  let arg2 : BitVec 32 := BitVec.ofNat 32 (i 2).val
  let c0_i32_55 : BitVec 32 := 0#32
  let v115 : BitVec 1 := Scalar.cmpi .sgt arg2 c0_i32_55
  let v116 : BitVec 32 := Scalar.extui v115
  let c0_i32_56 : BitVec 32 := 0#32
  let v117 : BitVec 1 := Scalar.cmpi .slt arg2 c0_i32_56
  let v118 : BitVec 32 := Scalar.extui v117
  let v119 : BitVec 32 := Scalar.subi v116 v118
  let c4_i32_54 : BitVec 32 := 4#32
  let c0_i32_57 : BitVec 32 := 0#32
  let v120 : BitVec 1 := Scalar.cmpi .sgt c4_i32_54 c0_i32_57
  let v121 : BitVec 32 := Scalar.extui v120
  let c0_i32_58 : BitVec 32 := 0#32
  let v122 : BitVec 1 := Scalar.cmpi .slt c4_i32_54 c0_i32_58
  let v123 : BitVec 32 := Scalar.extui v122
  let v124 : BitVec 32 := Scalar.subi v121 v123
  let v125 : BitVec 1 := Scalar.cmpi .ne v119 v124
  let v126 : BitVec 32 := Scalar.remsi arg2 c4_i32_54
  let c0_i32_59 : BitVec 32 := 0#32
  let v127 : BitVec 1 := Scalar.cmpi .ne v126 c0_i32_59
  let v128 : BitVec 1 := Scalar.andi v125 v127
  let v114 : BitVec 32 := Scalar.divsi arg2 c4_i32_54
  let c1_i32_60 : BitVec 32 := 1#32
  let v129 : BitVec 32 := Scalar.subi v114 c1_i32_60
  let v130 : BitVec 32 := Scalar.select v128 v129 v114
  let c4_i32_61 : BitVec 32 := 4#32
  let v131 : BitVec 1 := Scalar.cmpi .eq v130 c4_i32_61
  let v132 : BitVec 32 := Scalar.extui v131
  let c0_i32_62 : BitVec 32 := 0#32
  let v133 : BitVec 1 := Scalar.cmpi .ne v132 c0_i32_62
  v133

def k0_mult18 (i : grid0.Coords) : BitVec 32 :=
  let c512_i32 : BitVec 32 := 512#32
  let c16_i32_294 : BitVec 32 := 16#32
  let arg2 : BitVec 32 := BitVec.ofNat 32 (i 2).val
  let v528 : BitVec 32 := Scalar.muli c16_i32_294 arg2
  let v529 : BitVec 32 := Scalar.subi c512_i32 v528
  v529
def k0_off13 (i : grid0.Coords) : Fin 3 → Nat :=
  let c0_295 : Index := 0#32
  let c512_i32 : BitVec 32 := 512#32
  let c16_i32_294 : BitVec 32 := 16#32
  let arg2 : BitVec 32 := BitVec.ofNat 32 (i 2).val
  let v528 : BitVec 32 := Scalar.muli c16_i32_294 arg2
  let v529 : BitVec 32 := Scalar.subi c512_i32 v528
  let v530 : BitVec 32 := v529
  let v531 : Index := Scalar.indexCast v530
  let c0_296 : Index := 0#32
  ![0, v531.toNat, 0]
def k0_mult19 (i : grid0.Coords) : BitVec 32 :=
  let arg2 : BitVec 32 := BitVec.ofNat 32 (i 2).val
  let c0_i32_365 : BitVec 32 := 0#32
  let v674 : BitVec 32 := Scalar.subi arg2 c0_i32_365
  let c0_i32_366 : BitVec 32 := 0#32
  let v675 : BitVec 32 := Scalar.maxsi v674 c0_i32_366
  let c256_i32_367 : BitVec 32 := 256#32
  let v676 : BitVec 32 := Scalar.muli v675 c256_i32_367
  v676
def k0_off14 (i : grid0.Coords) (c0_i32_365 : BitVec 32) : Fin 4 → Nat :=
  let c0_368 : Index := 0#32
  let c0_369 : Index := 0#32
  let arg2 : BitVec 32 := BitVec.ofNat 32 (i 2).val
  let v674 : BitVec 32 := Scalar.subi arg2 c0_i32_365
  let c0_i32_366 : BitVec 32 := 0#32
  let v675 : BitVec 32 := Scalar.maxsi v674 c0_i32_366
  let c256_i32_367 : BitVec 32 := 256#32
  let v676 : BitVec 32 := Scalar.muli v675 c256_i32_367
  let v677 : BitVec 32 := v676
  let v678 : Index := Scalar.indexCast v677
  let c0_370 : Index := 0#32
  ![0, 0, v678.toNat, 0]
def k0_mult20 (i : grid0.Coords) : BitVec 32 :=
  let arg2 : BitVec 32 := BitVec.ofNat 32 (i 2).val
  let c1_i32_375 : BitVec 32 := 1#32
  let v685 : BitVec 32 := Scalar.subi arg2 c1_i32_375
  let c0_i32_376 : BitVec 32 := 0#32
  let v686 : BitVec 32 := Scalar.maxsi v685 c0_i32_376
  let c256_i32_377 : BitVec 32 := 256#32
  let v687 : BitVec 32 := Scalar.muli v686 c256_i32_377
  v687
def k0_mult21 (i : grid0.Coords) : BitVec 32 :=
  let arg2 : BitVec 32 := BitVec.ofNat 32 (i 2).val
  let c2_i32_407 : BitVec 32 := 2#32
  let v765 : BitVec 32 := Scalar.subi arg2 c2_i32_407
  let c0_i32_408 : BitVec 32 := 0#32
  let v766 : BitVec 32 := Scalar.maxsi v765 c0_i32_408
  let c256_i32_409 : BitVec 32 := 256#32
  let v767 : BitVec 32 := Scalar.muli v766 c256_i32_409
  v767
def k0_off15 (i : grid0.Coords) (c0_i32_420 : BitVec 32) : Fin 5 → Nat :=
  let c0_422 : Index := 0#32
  let c0_423 : Index := 0#32
  let arg2 : BitVec 32 := BitVec.ofNat 32 (i 2).val
  let v785 : BitVec 32 := Scalar.subi arg2 c0_i32_420
  let c0_i32_421 : BitVec 32 := 0#32
  let v786 : BitVec 32 := Scalar.maxsi v785 c0_i32_421
  let v787 : Index := Scalar.indexCast v786
  let c0_424 : Index := 0#32
  let c0_425 : Index := 0#32
  ![0, 0, v787.toNat, 0, 0]
def k0_cond6 (i : grid0.Coords) : BitVec 1 :=
  let arg2 : BitVec 32 := BitVec.ofNat 32 (i 2).val
  let c0_i32_64 : BitVec 32 := 0#32
  let v135 : BitVec 1 := Scalar.cmpi .sgt arg2 c0_i32_64
  let v136 : BitVec 32 := Scalar.extui v135
  let c0_i32_65 : BitVec 32 := 0#32
  let v137 : BitVec 1 := Scalar.cmpi .slt arg2 c0_i32_65
  let v138 : BitVec 32 := Scalar.extui v137
  let v139 : BitVec 32 := Scalar.subi v136 v138
  let c4_i32_63 : BitVec 32 := 4#32
  let c0_i32_66 : BitVec 32 := 0#32
  let v140 : BitVec 1 := Scalar.cmpi .sgt c4_i32_63 c0_i32_66
  let v141 : BitVec 32 := Scalar.extui v140
  let c0_i32_67 : BitVec 32 := 0#32
  let v142 : BitVec 1 := Scalar.cmpi .slt c4_i32_63 c0_i32_67
  let v143 : BitVec 32 := Scalar.extui v142
  let v144 : BitVec 32 := Scalar.subi v141 v143
  let v145 : BitVec 1 := Scalar.cmpi .ne v139 v144
  let v146 : BitVec 32 := Scalar.remsi arg2 c4_i32_63
  let c0_i32_68 : BitVec 32 := 0#32
  let v147 : BitVec 1 := Scalar.cmpi .ne v146 c0_i32_68
  let v148 : BitVec 1 := Scalar.andi v145 v147
  let v134 : BitVec 32 := Scalar.divsi arg2 c4_i32_63
  let c1_i32_69 : BitVec 32 := 1#32
  let v149 : BitVec 32 := Scalar.subi v134 c1_i32_69
  let v150 : BitVec 32 := Scalar.select v148 v149 v134
  let c5_i32 : BitVec 32 := 5#32
  let v151 : BitVec 1 := Scalar.cmpi .eq v150 c5_i32
  let v152 : BitVec 32 := Scalar.extui v151
  let c0_i32_70 : BitVec 32 := 0#32
  let v153 : BitVec 1 := Scalar.cmpi .ne v152 c0_i32_70
  v153

def k0_mult22 (i : grid0.Coords) : BitVec 32 :=
  let c512_i32 : BitVec 32 := 512#32
  let c16_i32_294 : BitVec 32 := 16#32
  let arg2 : BitVec 32 := BitVec.ofNat 32 (i 2).val
  let v528 : BitVec 32 := Scalar.muli c16_i32_294 arg2
  let v529 : BitVec 32 := Scalar.subi c512_i32 v528
  v529
def k0_off16 (i : grid0.Coords) : Fin 3 → Nat :=
  let c0_295 : Index := 0#32
  let c512_i32 : BitVec 32 := 512#32
  let c16_i32_294 : BitVec 32 := 16#32
  let arg2 : BitVec 32 := BitVec.ofNat 32 (i 2).val
  let v528 : BitVec 32 := Scalar.muli c16_i32_294 arg2
  let v529 : BitVec 32 := Scalar.subi c512_i32 v528
  let v530 : BitVec 32 := v529
  let v531 : Index := Scalar.indexCast v530
  let c0_296 : Index := 0#32
  ![0, v531.toNat, 0]
def k0_mult23 (i : grid0.Coords) : BitVec 32 :=
  let arg2 : BitVec 32 := BitVec.ofNat 32 (i 2).val
  let c0_i32_365 : BitVec 32 := 0#32
  let v674 : BitVec 32 := Scalar.subi arg2 c0_i32_365
  let c0_i32_366 : BitVec 32 := 0#32
  let v675 : BitVec 32 := Scalar.maxsi v674 c0_i32_366
  let c256_i32_367 : BitVec 32 := 256#32
  let v676 : BitVec 32 := Scalar.muli v675 c256_i32_367
  v676
def k0_off17 (i : grid0.Coords) (c0_i32_365 : BitVec 32) : Fin 4 → Nat :=
  let c0_368 : Index := 0#32
  let c0_369 : Index := 0#32
  let arg2 : BitVec 32 := BitVec.ofNat 32 (i 2).val
  let v674 : BitVec 32 := Scalar.subi arg2 c0_i32_365
  let c0_i32_366 : BitVec 32 := 0#32
  let v675 : BitVec 32 := Scalar.maxsi v674 c0_i32_366
  let c256_i32_367 : BitVec 32 := 256#32
  let v676 : BitVec 32 := Scalar.muli v675 c256_i32_367
  let v677 : BitVec 32 := v676
  let v678 : Index := Scalar.indexCast v677
  let c0_370 : Index := 0#32
  ![0, 0, v678.toNat, 0]
def k0_mult24 (i : grid0.Coords) : BitVec 32 :=
  let arg2 : BitVec 32 := BitVec.ofNat 32 (i 2).val
  let c1_i32_375 : BitVec 32 := 1#32
  let v685 : BitVec 32 := Scalar.subi arg2 c1_i32_375
  let c0_i32_376 : BitVec 32 := 0#32
  let v686 : BitVec 32 := Scalar.maxsi v685 c0_i32_376
  let c256_i32_377 : BitVec 32 := 256#32
  let v687 : BitVec 32 := Scalar.muli v686 c256_i32_377
  v687
def k0_mult25 (i : grid0.Coords) : BitVec 32 :=
  let arg2 : BitVec 32 := BitVec.ofNat 32 (i 2).val
  let c2_i32_407 : BitVec 32 := 2#32
  let v765 : BitVec 32 := Scalar.subi arg2 c2_i32_407
  let c0_i32_408 : BitVec 32 := 0#32
  let v766 : BitVec 32 := Scalar.maxsi v765 c0_i32_408
  let c256_i32_409 : BitVec 32 := 256#32
  let v767 : BitVec 32 := Scalar.muli v766 c256_i32_409
  v767
def k0_off18 (i : grid0.Coords) (c0_i32_420 : BitVec 32) : Fin 5 → Nat :=
  let c0_422 : Index := 0#32
  let c0_423 : Index := 0#32
  let arg2 : BitVec 32 := BitVec.ofNat 32 (i 2).val
  let v785 : BitVec 32 := Scalar.subi arg2 c0_i32_420
  let c0_i32_421 : BitVec 32 := 0#32
  let v786 : BitVec 32 := Scalar.maxsi v785 c0_i32_421
  let v787 : Index := Scalar.indexCast v786
  let c0_424 : Index := 0#32
  let c0_425 : Index := 0#32
  ![0, 0, v787.toNat, 0, 0]
def k0_cond7 (i : grid0.Coords) : BitVec 1 :=
  let arg2 : BitVec 32 := BitVec.ofNat 32 (i 2).val
  let c0_i32_72 : BitVec 32 := 0#32
  let v155 : BitVec 1 := Scalar.cmpi .sgt arg2 c0_i32_72
  let v156 : BitVec 32 := Scalar.extui v155
  let c0_i32_73 : BitVec 32 := 0#32
  let v157 : BitVec 1 := Scalar.cmpi .slt arg2 c0_i32_73
  let v158 : BitVec 32 := Scalar.extui v157
  let v159 : BitVec 32 := Scalar.subi v156 v158
  let c4_i32_71 : BitVec 32 := 4#32
  let c0_i32_74 : BitVec 32 := 0#32
  let v160 : BitVec 1 := Scalar.cmpi .sgt c4_i32_71 c0_i32_74
  let v161 : BitVec 32 := Scalar.extui v160
  let c0_i32_75 : BitVec 32 := 0#32
  let v162 : BitVec 1 := Scalar.cmpi .slt c4_i32_71 c0_i32_75
  let v163 : BitVec 32 := Scalar.extui v162
  let v164 : BitVec 32 := Scalar.subi v161 v163
  let v165 : BitVec 1 := Scalar.cmpi .ne v159 v164
  let v166 : BitVec 32 := Scalar.remsi arg2 c4_i32_71
  let c0_i32_76 : BitVec 32 := 0#32
  let v167 : BitVec 1 := Scalar.cmpi .ne v166 c0_i32_76
  let v168 : BitVec 1 := Scalar.andi v165 v167
  let v154 : BitVec 32 := Scalar.divsi arg2 c4_i32_71
  let c1_i32_77 : BitVec 32 := 1#32
  let v169 : BitVec 32 := Scalar.subi v154 c1_i32_77
  let v170 : BitVec 32 := Scalar.select v168 v169 v154
  let c6_i32 : BitVec 32 := 6#32
  let v171 : BitVec 1 := Scalar.cmpi .eq v170 c6_i32
  let v172 : BitVec 32 := Scalar.extui v171
  let c0_i32_78 : BitVec 32 := 0#32
  let v173 : BitVec 1 := Scalar.cmpi .ne v172 c0_i32_78
  v173

def k0_mult26 (i : grid0.Coords) : BitVec 32 :=
  let c512_i32 : BitVec 32 := 512#32
  let c16_i32_294 : BitVec 32 := 16#32
  let arg2 : BitVec 32 := BitVec.ofNat 32 (i 2).val
  let v528 : BitVec 32 := Scalar.muli c16_i32_294 arg2
  let v529 : BitVec 32 := Scalar.subi c512_i32 v528
  v529
def k0_off19 (i : grid0.Coords) : Fin 3 → Nat :=
  let c0_295 : Index := 0#32
  let c512_i32 : BitVec 32 := 512#32
  let c16_i32_294 : BitVec 32 := 16#32
  let arg2 : BitVec 32 := BitVec.ofNat 32 (i 2).val
  let v528 : BitVec 32 := Scalar.muli c16_i32_294 arg2
  let v529 : BitVec 32 := Scalar.subi c512_i32 v528
  let v530 : BitVec 32 := v529
  let v531 : Index := Scalar.indexCast v530
  let c0_296 : Index := 0#32
  ![0, v531.toNat, 0]
def k0_mult27 (i : grid0.Coords) : BitVec 32 :=
  let arg2 : BitVec 32 := BitVec.ofNat 32 (i 2).val
  let c0_i32_365 : BitVec 32 := 0#32
  let v674 : BitVec 32 := Scalar.subi arg2 c0_i32_365
  let c0_i32_366 : BitVec 32 := 0#32
  let v675 : BitVec 32 := Scalar.maxsi v674 c0_i32_366
  let c256_i32_367 : BitVec 32 := 256#32
  let v676 : BitVec 32 := Scalar.muli v675 c256_i32_367
  v676
def k0_off20 (i : grid0.Coords) (c0_i32_365 : BitVec 32) : Fin 4 → Nat :=
  let c0_368 : Index := 0#32
  let c0_369 : Index := 0#32
  let arg2 : BitVec 32 := BitVec.ofNat 32 (i 2).val
  let v674 : BitVec 32 := Scalar.subi arg2 c0_i32_365
  let c0_i32_366 : BitVec 32 := 0#32
  let v675 : BitVec 32 := Scalar.maxsi v674 c0_i32_366
  let c256_i32_367 : BitVec 32 := 256#32
  let v676 : BitVec 32 := Scalar.muli v675 c256_i32_367
  let v677 : BitVec 32 := v676
  let v678 : Index := Scalar.indexCast v677
  let c0_370 : Index := 0#32
  ![0, 0, v678.toNat, 0]
def k0_mult28 (i : grid0.Coords) : BitVec 32 :=
  let arg2 : BitVec 32 := BitVec.ofNat 32 (i 2).val
  let c1_i32_375 : BitVec 32 := 1#32
  let v685 : BitVec 32 := Scalar.subi arg2 c1_i32_375
  let c0_i32_376 : BitVec 32 := 0#32
  let v686 : BitVec 32 := Scalar.maxsi v685 c0_i32_376
  let c256_i32_377 : BitVec 32 := 256#32
  let v687 : BitVec 32 := Scalar.muli v686 c256_i32_377
  v687
def k0_mult29 (i : grid0.Coords) : BitVec 32 :=
  let arg2 : BitVec 32 := BitVec.ofNat 32 (i 2).val
  let c2_i32_407 : BitVec 32 := 2#32
  let v765 : BitVec 32 := Scalar.subi arg2 c2_i32_407
  let c0_i32_408 : BitVec 32 := 0#32
  let v766 : BitVec 32 := Scalar.maxsi v765 c0_i32_408
  let c256_i32_409 : BitVec 32 := 256#32
  let v767 : BitVec 32 := Scalar.muli v766 c256_i32_409
  v767
def k0_off21 (i : grid0.Coords) (c0_i32_420 : BitVec 32) : Fin 5 → Nat :=
  let c0_422 : Index := 0#32
  let c0_423 : Index := 0#32
  let arg2 : BitVec 32 := BitVec.ofNat 32 (i 2).val
  let v785 : BitVec 32 := Scalar.subi arg2 c0_i32_420
  let c0_i32_421 : BitVec 32 := 0#32
  let v786 : BitVec 32 := Scalar.maxsi v785 c0_i32_421
  let v787 : Index := Scalar.indexCast v786
  let c0_424 : Index := 0#32
  let c0_425 : Index := 0#32
  ![0, 0, v787.toNat, 0, 0]
def k0_cond8 (i : grid0.Coords) : BitVec 1 :=
  let arg2 : BitVec 32 := BitVec.ofNat 32 (i 2).val
  let c0_i32_80 : BitVec 32 := 0#32
  let v175 : BitVec 1 := Scalar.cmpi .sgt arg2 c0_i32_80
  let v176 : BitVec 32 := Scalar.extui v175
  let c0_i32_81 : BitVec 32 := 0#32
  let v177 : BitVec 1 := Scalar.cmpi .slt arg2 c0_i32_81
  let v178 : BitVec 32 := Scalar.extui v177
  let v179 : BitVec 32 := Scalar.subi v176 v178
  let c4_i32_79 : BitVec 32 := 4#32
  let c0_i32_82 : BitVec 32 := 0#32
  let v180 : BitVec 1 := Scalar.cmpi .sgt c4_i32_79 c0_i32_82
  let v181 : BitVec 32 := Scalar.extui v180
  let c0_i32_83 : BitVec 32 := 0#32
  let v182 : BitVec 1 := Scalar.cmpi .slt c4_i32_79 c0_i32_83
  let v183 : BitVec 32 := Scalar.extui v182
  let v184 : BitVec 32 := Scalar.subi v181 v183
  let v185 : BitVec 1 := Scalar.cmpi .ne v179 v184
  let v186 : BitVec 32 := Scalar.remsi arg2 c4_i32_79
  let c0_i32_84 : BitVec 32 := 0#32
  let v187 : BitVec 1 := Scalar.cmpi .ne v186 c0_i32_84
  let v188 : BitVec 1 := Scalar.andi v185 v187
  let v174 : BitVec 32 := Scalar.divsi arg2 c4_i32_79
  let c1_i32_85 : BitVec 32 := 1#32
  let v189 : BitVec 32 := Scalar.subi v174 c1_i32_85
  let v190 : BitVec 32 := Scalar.select v188 v189 v174
  let c7_i32 : BitVec 32 := 7#32
  let v191 : BitVec 1 := Scalar.cmpi .eq v190 c7_i32
  let v192 : BitVec 32 := Scalar.extui v191
  let c0_i32_86 : BitVec 32 := 0#32
  let v193 : BitVec 1 := Scalar.cmpi .ne v192 c0_i32_86
  v193

def k0_mult30 (i : grid0.Coords) : BitVec 32 :=
  let c512_i32 : BitVec 32 := 512#32
  let c16_i32_294 : BitVec 32 := 16#32
  let arg2 : BitVec 32 := BitVec.ofNat 32 (i 2).val
  let v528 : BitVec 32 := Scalar.muli c16_i32_294 arg2
  let v529 : BitVec 32 := Scalar.subi c512_i32 v528
  v529
def k0_off22 (i : grid0.Coords) : Fin 3 → Nat :=
  let c0_295 : Index := 0#32
  let c512_i32 : BitVec 32 := 512#32
  let c16_i32_294 : BitVec 32 := 16#32
  let arg2 : BitVec 32 := BitVec.ofNat 32 (i 2).val
  let v528 : BitVec 32 := Scalar.muli c16_i32_294 arg2
  let v529 : BitVec 32 := Scalar.subi c512_i32 v528
  let v530 : BitVec 32 := v529
  let v531 : Index := Scalar.indexCast v530
  let c0_296 : Index := 0#32
  ![0, v531.toNat, 0]
def k0_mult31 (i : grid0.Coords) : BitVec 32 :=
  let arg2 : BitVec 32 := BitVec.ofNat 32 (i 2).val
  let c0_i32_365 : BitVec 32 := 0#32
  let v674 : BitVec 32 := Scalar.subi arg2 c0_i32_365
  let c0_i32_366 : BitVec 32 := 0#32
  let v675 : BitVec 32 := Scalar.maxsi v674 c0_i32_366
  let c256_i32_367 : BitVec 32 := 256#32
  let v676 : BitVec 32 := Scalar.muli v675 c256_i32_367
  v676
def k0_off23 (i : grid0.Coords) (c0_i32_365 : BitVec 32) : Fin 4 → Nat :=
  let c0_368 : Index := 0#32
  let c0_369 : Index := 0#32
  let arg2 : BitVec 32 := BitVec.ofNat 32 (i 2).val
  let v674 : BitVec 32 := Scalar.subi arg2 c0_i32_365
  let c0_i32_366 : BitVec 32 := 0#32
  let v675 : BitVec 32 := Scalar.maxsi v674 c0_i32_366
  let c256_i32_367 : BitVec 32 := 256#32
  let v676 : BitVec 32 := Scalar.muli v675 c256_i32_367
  let v677 : BitVec 32 := v676
  let v678 : Index := Scalar.indexCast v677
  let c0_370 : Index := 0#32
  ![0, 0, v678.toNat, 0]
def k0_mult32 (i : grid0.Coords) : BitVec 32 :=
  let arg2 : BitVec 32 := BitVec.ofNat 32 (i 2).val
  let c1_i32_375 : BitVec 32 := 1#32
  let v685 : BitVec 32 := Scalar.subi arg2 c1_i32_375
  let c0_i32_376 : BitVec 32 := 0#32
  let v686 : BitVec 32 := Scalar.maxsi v685 c0_i32_376
  let c256_i32_377 : BitVec 32 := 256#32
  let v687 : BitVec 32 := Scalar.muli v686 c256_i32_377
  v687
def k0_mult33 (i : grid0.Coords) : BitVec 32 :=
  let arg2 : BitVec 32 := BitVec.ofNat 32 (i 2).val
  let c2_i32_407 : BitVec 32 := 2#32
  let v765 : BitVec 32 := Scalar.subi arg2 c2_i32_407
  let c0_i32_408 : BitVec 32 := 0#32
  let v766 : BitVec 32 := Scalar.maxsi v765 c0_i32_408
  let c256_i32_409 : BitVec 32 := 256#32
  let v767 : BitVec 32 := Scalar.muli v766 c256_i32_409
  v767
def k0_off24 (i : grid0.Coords) (c0_i32_420 : BitVec 32) : Fin 5 → Nat :=
  let c0_422 : Index := 0#32
  let c0_423 : Index := 0#32
  let arg2 : BitVec 32 := BitVec.ofNat 32 (i 2).val
  let v785 : BitVec 32 := Scalar.subi arg2 c0_i32_420
  let c0_i32_421 : BitVec 32 := 0#32
  let v786 : BitVec 32 := Scalar.maxsi v785 c0_i32_421
  let v787 : Index := Scalar.indexCast v786
  let c0_424 : Index := 0#32
  let c0_425 : Index := 0#32
  ![0, 0, v787.toNat, 0, 0]
def k0_mult34 (i : grid0.Coords) : BitVec 32 :=
  let arg2 : BitVec 32 := BitVec.ofNat 32 (i 2).val
  let c256_i32_91 : BitVec 32 := 256#32
  let v197 : BitVec 32 := Scalar.muli arg2 c256_i32_91
  v197
def k0_off25 (i : grid0.Coords) : Fin 4 → Nat :=
  let c0_92 : Index := 0#32
  let c0_93 : Index := 0#32
  let arg2 : BitVec 32 := BitVec.ofNat 32 (i 2).val
  let c256_i32_91 : BitVec 32 := 256#32
  let v197 : BitVec 32 := Scalar.muli arg2 c256_i32_91
  let v198 : BitVec 32 := v197
  let v199 : Index := Scalar.indexCast v198
  let c0_94 : Index := 0#32
  ![0, 0, v199.toNat, 0]
def k0_mult35 (i : grid0.Coords) : BitVec 32 :=
  let arg2 : BitVec 32 := BitVec.ofNat 32 (i 2).val
  let c256_i32_95 : BitVec 32 := 256#32
  let v202 : BitVec 32 := Scalar.muli arg2 c256_i32_95
  v202
def k0_off26 (i : grid0.Coords) : Fin 2 → Nat :=
  let arg2 : BitVec 32 := BitVec.ofNat 32 (i 2).val
  let c256_i32_95 : BitVec 32 := 256#32
  let v202 : BitVec 32 := Scalar.muli arg2 c256_i32_95
  let v203 : BitVec 32 := v202
  let v204 : Index := Scalar.indexCast v203
  let c0_96 : Index := 0#32
  ![v204.toNat, 0]
def k0_mult36 (i : grid0.Coords) : BitVec 32 :=
  let arg2 : BitVec 32 := BitVec.ofNat 32 (i 2).val
  let c1_i32_89 : BitVec 32 := 1#32
  let v195 : BitVec 32 := Scalar.subi arg2 c1_i32_89
  let c0_i32_90 : BitVec 32 := 0#32
  let v196 : BitVec 32 := Scalar.maxsi v195 c0_i32_90
  let c256_i32_103 : BitVec 32 := 256#32
  let v215 : BitVec 32 := Scalar.muli v196 c256_i32_103
  v215
def k0_off27 (i : grid0.Coords) : Fin 4 → Nat :=
  let c0_104 : Index := 0#32
  let c0_105 : Index := 0#32
  let arg2 : BitVec 32 := BitVec.ofNat 32 (i 2).val
  let c1_i32_89 : BitVec 32 := 1#32
  let v195 : BitVec 32 := Scalar.subi arg2 c1_i32_89
  let c0_i32_90 : BitVec 32 := 0#32
  let v196 : BitVec 32 := Scalar.maxsi v195 c0_i32_90
  let c256_i32_103 : BitVec 32 := 256#32
  let v215 : BitVec 32 := Scalar.muli v196 c256_i32_103
  let v216 : BitVec 32 := v215
  let v217 : Index := Scalar.indexCast v216
  let c0_106 : Index := 0#32
  ![0, 0, v217.toNat, 0]
def k0_mult37 (i : grid0.Coords) : BitVec 32 :=
  let arg2 : BitVec 32 := BitVec.ofNat 32 (i 2).val
  let c0_i32_101 : BitVec 32 := 0#32
  let v212 : BitVec 1 := Scalar.cmpi .eq arg2 c0_i32_101
  let c32_i32 : BitVec 32 := 32#32
  let c1_i32_102 : BitVec 32 := 1#32
  let v213 : BitVec 32 := Scalar.subi arg2 c1_i32_102
  let v214 : BitVec 32 := Scalar.select v212 c32_i32 v213
  let c256_i32_107 : BitVec 32 := 256#32
  let v220 : BitVec 32 := Scalar.muli v214 c256_i32_107
  v220
def k0_off28 (i : grid0.Coords) : Fin 2 → Nat :=
  let arg2 : BitVec 32 := BitVec.ofNat 32 (i 2).val
  let c0_i32_101 : BitVec 32 := 0#32
  let v212 : BitVec 1 := Scalar.cmpi .eq arg2 c0_i32_101
  let c32_i32 : BitVec 32 := 32#32
  let c1_i32_102 : BitVec 32 := 1#32
  let v213 : BitVec 32 := Scalar.subi arg2 c1_i32_102
  let v214 : BitVec 32 := Scalar.select v212 c32_i32 v213
  let c256_i32_107 : BitVec 32 := 256#32
  let v220 : BitVec 32 := Scalar.muli v214 c256_i32_107
  let v221 : BitVec 32 := v220
  let v222 : Index := Scalar.indexCast v221
  let c0_108 : Index := 0#32
  ![v222.toNat, 0]
def k0_mult38 (i : grid0.Coords) : BitVec 32 :=
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c0_i32_124 : BitVec 32 := 0#32
  let v251 : BitVec 1 := Scalar.cmpi .sgt v231 c0_i32_124
  let c0_i32_125 : BitVec 32 := 0#32
  let c0_i32_126 : BitVec 32 := 0#32
  let v252 : BitVec 32 := Scalar.select v251 c0_i32_125 c0_i32_126
  let c256_i32_129 : BitVec 32 := 256#32
  let v254 : BitVec 32 := Scalar.muli v252 c256_i32_129
  v254
def k0_off29 (i : grid0.Coords) (c0_i32_124 : BitVec 32) (c0_i32_125 : BitVec 32) : Fin 4 → Nat :=
  let c0_130 : Index := 0#32
  let c0_131 : Index := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v251 : BitVec 1 := Scalar.cmpi .sgt v231 c0_i32_124
  let c0_i32_126 : BitVec 32 := 0#32
  let v252 : BitVec 32 := Scalar.select v251 c0_i32_125 c0_i32_126
  let c256_i32_129 : BitVec 32 := 256#32
  let v254 : BitVec 32 := Scalar.muli v252 c256_i32_129
  let v255 : BitVec 32 := v254
  let v256 : Index := Scalar.indexCast v255
  let c0_132 : Index := 0#32
  ![0, 0, v256.toNat, 0]
def k0_off29_at (r : Fin 2) : BitVec 32 × BitVec 32 :=
  if r.val < 1 then
    (0#32, 0#32)
  else
    (1#32, 1#32)
def k0_mult39 (i : grid0.Coords) : BitVec 32 :=
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c0_i32_124 : BitVec 32 := 0#32
  let v251 : BitVec 1 := Scalar.cmpi .sgt v231 c0_i32_124
  let c0_i32_127 : BitVec 32 := 0#32
  let c32_i32_128 : BitVec 32 := 32#32
  let v253 : BitVec 32 := Scalar.select v251 c0_i32_127 c32_i32_128
  let c256_i32_133 : BitVec 32 := 256#32
  let v259 : BitVec 32 := Scalar.muli v253 c256_i32_133
  v259
def k0_off30 (i : grid0.Coords) (c0_i32_124 : BitVec 32) (c0_i32_127 : BitVec 32) : Fin 2 → Nat :=
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v251 : BitVec 1 := Scalar.cmpi .sgt v231 c0_i32_124
  let c32_i32_128 : BitVec 32 := 32#32
  let v253 : BitVec 32 := Scalar.select v251 c0_i32_127 c32_i32_128
  let c256_i32_133 : BitVec 32 := 256#32
  let v259 : BitVec 32 := Scalar.muli v253 c256_i32_133
  let v260 : BitVec 32 := v259
  let v261 : Index := Scalar.indexCast v260
  let c0_134 : Index := 0#32
  ![v261.toNat, 0]
def k0_off30_at (r : Fin 2) : BitVec 32 × BitVec 32 :=
  if r.val < 1 then
    (0#32, 0#32)
  else
    (1#32, 1#32)
def k0_mult40 (i : grid0.Coords) : BitVec 32 :=
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c1_i32_135 : BitVec 32 := 1#32
  let v265 : BitVec 1 := Scalar.cmpi .sgt v231 c1_i32_135
  let c1_i32_136 : BitVec 32 := 1#32
  let c0_i32_137 : BitVec 32 := 0#32
  let v266 : BitVec 32 := Scalar.select v265 c1_i32_136 c0_i32_137
  let c256_i32_140 : BitVec 32 := 256#32
  let v268 : BitVec 32 := Scalar.muli v266 c256_i32_140
  v268
def k0_mult41 (i : grid0.Coords) : BitVec 32 :=
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c1_i32_135 : BitVec 32 := 1#32
  let v265 : BitVec 1 := Scalar.cmpi .sgt v231 c1_i32_135
  let c1_i32_138 : BitVec 32 := 1#32
  let c32_i32_139 : BitVec 32 := 32#32
  let v267 : BitVec 32 := Scalar.select v265 c1_i32_138 c32_i32_139
  let c256_i32_144 : BitVec 32 := 256#32
  let v273 : BitVec 32 := Scalar.muli v267 c256_i32_144
  v273
def k0_off31 (i : grid0.Coords) : Fin 5 → Nat :=
  let c0_155 : Index := 0#32
  let c0_156 : Index := 0#32
  let arg2 : BitVec 32 := BitVec.ofNat 32 (i 2).val
  let v290 : Index := Scalar.indexCast arg2
  let c0_157 : Index := 0#32
  let c0_158 : Index := 0#32
  ![0, 0, v290.toNat, 0, 0]
def k0_off32 (i : grid0.Coords) : Fin 5 → Nat :=
  let c0_161 : Index := 0#32
  let c0_162 : Index := 0#32
  let arg2 : BitVec 32 := BitVec.ofNat 32 (i 2).val
  let c1_i32_89 : BitVec 32 := 1#32
  let v195 : BitVec 32 := Scalar.subi arg2 c1_i32_89
  let c0_i32_90 : BitVec 32 := 0#32
  let v196 : BitVec 32 := Scalar.maxsi v195 c0_i32_90
  let v300 : Index := Scalar.indexCast v196
  let c0_163 : Index := 0#32
  let c0_164 : Index := 0#32
  ![0, 0, v300.toNat, 0, 0]
@[reducible] def k0_t1_loop (i : grid0.Coords) : Scf.Loop 32 :=
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_180 : BitVec 32 := 1#32
  ⟨c0_i32_178, v343, c1_i32_180⟩
def k0_mult42 (i : grid0.Coords) (k0_t1 : Fin (k0_t1_loop i).trips) : BitVec 32 :=
  let c2_i32_292 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c0_i32_290 : BitVec 32 := 0#32
  let v526 : BitVec 32 := Scalar.addi v525 c0_i32_290
  let c1_i32_291 : BitVec 32 := 1#32
  let v527 : BitVec 32 := Scalar.addi v526 c1_i32_291
  let v528 : BitVec 32 := Scalar.muli c2_i32_292 v527
  let c0_i32_293 : BitVec 32 := 0#32
  let v529 : BitVec 32 := Scalar.addi v528 c0_i32_293
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v530 : BitVec 1 := Scalar.cmpi .slt v529 v231
  let c0_i32_294 : BitVec 32 := 0#32
  let v531 : BitVec 32 := Scalar.select v530 v529 c0_i32_294
  let c256_i32_296 : BitVec 32 := 256#32
  let v533 : BitVec 32 := Scalar.muli v531 c256_i32_296
  v533
def k0_off33 (i : grid0.Coords) (k0_t1 : Fin (k0_t1_loop i).trips) (c0_i32_290 : BitVec 32) (c0_i32_293 : BitVec 32) : Fin 4 → Nat :=
  let c0_297 : Index := 0#32
  let c0_298 : Index := 0#32
  let c2_i32_292 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let v526 : BitVec 32 := Scalar.addi v525 c0_i32_290
  let c1_i32_291 : BitVec 32 := 1#32
  let v527 : BitVec 32 := Scalar.addi v526 c1_i32_291
  let v528 : BitVec 32 := Scalar.muli c2_i32_292 v527
  let v529 : BitVec 32 := Scalar.addi v528 c0_i32_293
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v530 : BitVec 1 := Scalar.cmpi .slt v529 v231
  let c0_i32_294 : BitVec 32 := 0#32
  let v531 : BitVec 32 := Scalar.select v530 v529 c0_i32_294
  let c256_i32_296 : BitVec 32 := 256#32
  let v533 : BitVec 32 := Scalar.muli v531 c256_i32_296
  let v534 : BitVec 32 := v533
  let v535 : Index := Scalar.indexCast v534
  let c0_299 : Index := 0#32
  ![0, 0, v535.toNat, 0]
def k0_mult43 (i : grid0.Coords) (k0_t1 : Fin (k0_t1_loop i).trips) : BitVec 32 :=
  let c2_i32_292 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c0_i32_290 : BitVec 32 := 0#32
  let v526 : BitVec 32 := Scalar.addi v525 c0_i32_290
  let c1_i32_291 : BitVec 32 := 1#32
  let v527 : BitVec 32 := Scalar.addi v526 c1_i32_291
  let v528 : BitVec 32 := Scalar.muli c2_i32_292 v527
  let c0_i32_293 : BitVec 32 := 0#32
  let v529 : BitVec 32 := Scalar.addi v528 c0_i32_293
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v530 : BitVec 1 := Scalar.cmpi .slt v529 v231
  let c32_i32_295 : BitVec 32 := 32#32
  let v532 : BitVec 32 := Scalar.select v530 v529 c32_i32_295
  let c256_i32_300 : BitVec 32 := 256#32
  let v538 : BitVec 32 := Scalar.muli v532 c256_i32_300
  v538
def k0_off34 (i : grid0.Coords) (k0_t1 : Fin (k0_t1_loop i).trips) (c0_i32_290 : BitVec 32) (c0_i32_293 : BitVec 32) : Fin 2 → Nat :=
  let c2_i32_292 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let v526 : BitVec 32 := Scalar.addi v525 c0_i32_290
  let c1_i32_291 : BitVec 32 := 1#32
  let v527 : BitVec 32 := Scalar.addi v526 c1_i32_291
  let v528 : BitVec 32 := Scalar.muli c2_i32_292 v527
  let v529 : BitVec 32 := Scalar.addi v528 c0_i32_293
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v530 : BitVec 1 := Scalar.cmpi .slt v529 v231
  let c32_i32_295 : BitVec 32 := 32#32
  let v532 : BitVec 32 := Scalar.select v530 v529 c32_i32_295
  let c256_i32_300 : BitVec 32 := 256#32
  let v538 : BitVec 32 := Scalar.muli v532 c256_i32_300
  let v539 : BitVec 32 := v538
  let v540 : Index := Scalar.indexCast v539
  let c0_301 : Index := 0#32
  ![v540.toNat, 0]
def k0_mult44 (i : grid0.Coords) (k0_t1 : Fin (k0_t1_loop i).trips) : BitVec 32 :=
  let c2_i32_302 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c0_i32_290 : BitVec 32 := 0#32
  let v526 : BitVec 32 := Scalar.addi v525 c0_i32_290
  let c1_i32_291 : BitVec 32 := 1#32
  let v527 : BitVec 32 := Scalar.addi v526 c1_i32_291
  let v544 : BitVec 32 := Scalar.muli c2_i32_302 v527
  let c1_i32_303 : BitVec 32 := 1#32
  let v545 : BitVec 32 := Scalar.addi v544 c1_i32_303
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v546 : BitVec 1 := Scalar.cmpi .slt v545 v231
  let c0_i32_304 : BitVec 32 := 0#32
  let v547 : BitVec 32 := Scalar.select v546 v545 c0_i32_304
  let c256_i32_306 : BitVec 32 := 256#32
  let v549 : BitVec 32 := Scalar.muli v547 c256_i32_306
  v549
def k0_mult45 (i : grid0.Coords) (k0_t1 : Fin (k0_t1_loop i).trips) : BitVec 32 :=
  let c2_i32_302 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c0_i32_290 : BitVec 32 := 0#32
  let v526 : BitVec 32 := Scalar.addi v525 c0_i32_290
  let c1_i32_291 : BitVec 32 := 1#32
  let v527 : BitVec 32 := Scalar.addi v526 c1_i32_291
  let v544 : BitVec 32 := Scalar.muli c2_i32_302 v527
  let c1_i32_303 : BitVec 32 := 1#32
  let v545 : BitVec 32 := Scalar.addi v544 c1_i32_303
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v546 : BitVec 1 := Scalar.cmpi .slt v545 v231
  let c32_i32_305 : BitVec 32 := 32#32
  let v548 : BitVec 32 := Scalar.select v546 v545 c32_i32_305
  let c256_i32_310 : BitVec 32 := 256#32
  let v554 : BitVec 32 := Scalar.muli v548 c256_i32_310
  v554
def k0_off35 (i : grid0.Coords) (k0_t1 : Fin (k0_t1_loop i).trips) (c0_i32_319 : BitVec 32) (c0_i32_328 : BitVec 32) : Fin 5 → Nat :=
  let c0_331 : Index := 0#32
  let c0_332 : Index := 0#32
  let c2_i32_327 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let v571 : BitVec 32 := Scalar.addi v525 c0_i32_319
  let v580 : BitVec 32 := Scalar.muli c2_i32_327 v571
  let v581 : BitVec 32 := Scalar.addi v580 c0_i32_328
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v582 : BitVec 1 := Scalar.cmpi .slt v581 v231
  let c0_i32_329 : BitVec 32 := 0#32
  let v583 : BitVec 32 := Scalar.select v582 v581 c0_i32_329
  let v585 : Index := Scalar.indexCast v583
  let c0_333 : Index := 0#32
  let c0_334 : Index := 0#32
  ![0, 0, v585.toNat, 0, 0]
def k0_mult46 (i : grid0.Coords) (k0_t1 : Fin (k0_t1_loop i).trips) : BitVec 32 :=
  let c2_i32_352 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c1_i32_350 : BitVec 32 := 1#32
  let v611 : BitVec 32 := Scalar.addi v525 c1_i32_350
  let c1_i32_351 : BitVec 32 := 1#32
  let v612 : BitVec 32 := Scalar.addi v611 c1_i32_351
  let v613 : BitVec 32 := Scalar.muli c2_i32_352 v612
  let c0_i32_353 : BitVec 32 := 0#32
  let v614 : BitVec 32 := Scalar.addi v613 c0_i32_353
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v615 : BitVec 1 := Scalar.cmpi .slt v614 v231
  let c0_i32_354 : BitVec 32 := 0#32
  let v616 : BitVec 32 := Scalar.select v615 v614 c0_i32_354
  let c256_i32_356 : BitVec 32 := 256#32
  let v618 : BitVec 32 := Scalar.muli v616 c256_i32_356
  v618
def k0_mult47 (i : grid0.Coords) (k0_t1 : Fin (k0_t1_loop i).trips) : BitVec 32 :=
  let c2_i32_352 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c1_i32_350 : BitVec 32 := 1#32
  let v611 : BitVec 32 := Scalar.addi v525 c1_i32_350
  let c1_i32_351 : BitVec 32 := 1#32
  let v612 : BitVec 32 := Scalar.addi v611 c1_i32_351
  let v613 : BitVec 32 := Scalar.muli c2_i32_352 v612
  let c0_i32_353 : BitVec 32 := 0#32
  let v614 : BitVec 32 := Scalar.addi v613 c0_i32_353
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v615 : BitVec 1 := Scalar.cmpi .slt v614 v231
  let c32_i32_355 : BitVec 32 := 32#32
  let v617 : BitVec 32 := Scalar.select v615 v614 c32_i32_355
  let c256_i32_360 : BitVec 32 := 256#32
  let v623 : BitVec 32 := Scalar.muli v617 c256_i32_360
  v623
def k0_mult48 (i : grid0.Coords) (k0_t1 : Fin (k0_t1_loop i).trips) : BitVec 32 :=
  let c2_i32_362 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c1_i32_350 : BitVec 32 := 1#32
  let v611 : BitVec 32 := Scalar.addi v525 c1_i32_350
  let c1_i32_351 : BitVec 32 := 1#32
  let v612 : BitVec 32 := Scalar.addi v611 c1_i32_351
  let v629 : BitVec 32 := Scalar.muli c2_i32_362 v612
  let c1_i32_363 : BitVec 32 := 1#32
  let v630 : BitVec 32 := Scalar.addi v629 c1_i32_363
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v631 : BitVec 1 := Scalar.cmpi .slt v630 v231
  let c0_i32_364 : BitVec 32 := 0#32
  let v632 : BitVec 32 := Scalar.select v631 v630 c0_i32_364
  let c256_i32_366 : BitVec 32 := 256#32
  let v634 : BitVec 32 := Scalar.muli v632 c256_i32_366
  v634
def k0_mult49 (i : grid0.Coords) (k0_t1 : Fin (k0_t1_loop i).trips) : BitVec 32 :=
  let c2_i32_362 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c1_i32_350 : BitVec 32 := 1#32
  let v611 : BitVec 32 := Scalar.addi v525 c1_i32_350
  let c1_i32_351 : BitVec 32 := 1#32
  let v612 : BitVec 32 := Scalar.addi v611 c1_i32_351
  let v629 : BitVec 32 := Scalar.muli c2_i32_362 v612
  let c1_i32_363 : BitVec 32 := 1#32
  let v630 : BitVec 32 := Scalar.addi v629 c1_i32_363
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v631 : BitVec 1 := Scalar.cmpi .slt v630 v231
  let c32_i32_365 : BitVec 32 := 32#32
  let v633 : BitVec 32 := Scalar.select v631 v630 c32_i32_365
  let c256_i32_370 : BitVec 32 := 256#32
  let v639 : BitVec 32 := Scalar.muli v633 c256_i32_370
  v639
def k0_mult50 (i : grid0.Coords) (k0_t1 : Fin (k0_t1_loop i).trips) : BitVec 32 :=
  let c2_i32_414 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c2_i32_412 : BitVec 32 := 2#32
  let v696 : BitVec 32 := Scalar.addi v525 c2_i32_412
  let c1_i32_413 : BitVec 32 := 1#32
  let v697 : BitVec 32 := Scalar.addi v696 c1_i32_413
  let v698 : BitVec 32 := Scalar.muli c2_i32_414 v697
  let c0_i32_415 : BitVec 32 := 0#32
  let v699 : BitVec 32 := Scalar.addi v698 c0_i32_415
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v700 : BitVec 1 := Scalar.cmpi .slt v699 v231
  let c0_i32_416 : BitVec 32 := 0#32
  let v701 : BitVec 32 := Scalar.select v700 v699 c0_i32_416
  let c256_i32_418 : BitVec 32 := 256#32
  let v703 : BitVec 32 := Scalar.muli v701 c256_i32_418
  v703
def k0_mult51 (i : grid0.Coords) (k0_t1 : Fin (k0_t1_loop i).trips) : BitVec 32 :=
  let c2_i32_414 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c2_i32_412 : BitVec 32 := 2#32
  let v696 : BitVec 32 := Scalar.addi v525 c2_i32_412
  let c1_i32_413 : BitVec 32 := 1#32
  let v697 : BitVec 32 := Scalar.addi v696 c1_i32_413
  let v698 : BitVec 32 := Scalar.muli c2_i32_414 v697
  let c0_i32_415 : BitVec 32 := 0#32
  let v699 : BitVec 32 := Scalar.addi v698 c0_i32_415
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v700 : BitVec 1 := Scalar.cmpi .slt v699 v231
  let c32_i32_417 : BitVec 32 := 32#32
  let v702 : BitVec 32 := Scalar.select v700 v699 c32_i32_417
  let c256_i32_422 : BitVec 32 := 256#32
  let v708 : BitVec 32 := Scalar.muli v702 c256_i32_422
  v708
def k0_mult52 (i : grid0.Coords) (k0_t1 : Fin (k0_t1_loop i).trips) : BitVec 32 :=
  let c2_i32_424 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c2_i32_412 : BitVec 32 := 2#32
  let v696 : BitVec 32 := Scalar.addi v525 c2_i32_412
  let c1_i32_413 : BitVec 32 := 1#32
  let v697 : BitVec 32 := Scalar.addi v696 c1_i32_413
  let v714 : BitVec 32 := Scalar.muli c2_i32_424 v697
  let c1_i32_425 : BitVec 32 := 1#32
  let v715 : BitVec 32 := Scalar.addi v714 c1_i32_425
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v716 : BitVec 1 := Scalar.cmpi .slt v715 v231
  let c0_i32_426 : BitVec 32 := 0#32
  let v717 : BitVec 32 := Scalar.select v716 v715 c0_i32_426
  let c256_i32_428 : BitVec 32 := 256#32
  let v719 : BitVec 32 := Scalar.muli v717 c256_i32_428
  v719
def k0_mult53 (i : grid0.Coords) (k0_t1 : Fin (k0_t1_loop i).trips) : BitVec 32 :=
  let c2_i32_424 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c2_i32_412 : BitVec 32 := 2#32
  let v696 : BitVec 32 := Scalar.addi v525 c2_i32_412
  let c1_i32_413 : BitVec 32 := 1#32
  let v697 : BitVec 32 := Scalar.addi v696 c1_i32_413
  let v714 : BitVec 32 := Scalar.muli c2_i32_424 v697
  let c1_i32_425 : BitVec 32 := 1#32
  let v715 : BitVec 32 := Scalar.addi v714 c1_i32_425
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v716 : BitVec 1 := Scalar.cmpi .slt v715 v231
  let c32_i32_427 : BitVec 32 := 32#32
  let v718 : BitVec 32 := Scalar.select v716 v715 c32_i32_427
  let c256_i32_432 : BitVec 32 := 256#32
  let v724 : BitVec 32 := Scalar.muli v718 c256_i32_432
  v724
def k0_mult54 (i : grid0.Coords) (k0_t1 : Fin (k0_t1_loop i).trips) : BitVec 32 :=
  let c2_i32_476 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c3_i32_474 : BitVec 32 := 3#32
  let v781 : BitVec 32 := Scalar.addi v525 c3_i32_474
  let c1_i32_475 : BitVec 32 := 1#32
  let v782 : BitVec 32 := Scalar.addi v781 c1_i32_475
  let v783 : BitVec 32 := Scalar.muli c2_i32_476 v782
  let c0_i32_477 : BitVec 32 := 0#32
  let v784 : BitVec 32 := Scalar.addi v783 c0_i32_477
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v785 : BitVec 1 := Scalar.cmpi .slt v784 v231
  let c0_i32_478 : BitVec 32 := 0#32
  let v786 : BitVec 32 := Scalar.select v785 v784 c0_i32_478
  let c256_i32_480 : BitVec 32 := 256#32
  let v788 : BitVec 32 := Scalar.muli v786 c256_i32_480
  v788
def k0_mult55 (i : grid0.Coords) (k0_t1 : Fin (k0_t1_loop i).trips) : BitVec 32 :=
  let c2_i32_476 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c3_i32_474 : BitVec 32 := 3#32
  let v781 : BitVec 32 := Scalar.addi v525 c3_i32_474
  let c1_i32_475 : BitVec 32 := 1#32
  let v782 : BitVec 32 := Scalar.addi v781 c1_i32_475
  let v783 : BitVec 32 := Scalar.muli c2_i32_476 v782
  let c0_i32_477 : BitVec 32 := 0#32
  let v784 : BitVec 32 := Scalar.addi v783 c0_i32_477
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v785 : BitVec 1 := Scalar.cmpi .slt v784 v231
  let c32_i32_479 : BitVec 32 := 32#32
  let v787 : BitVec 32 := Scalar.select v785 v784 c32_i32_479
  let c256_i32_484 : BitVec 32 := 256#32
  let v793 : BitVec 32 := Scalar.muli v787 c256_i32_484
  v793
def k0_mult56 (i : grid0.Coords) (k0_t1 : Fin (k0_t1_loop i).trips) : BitVec 32 :=
  let c2_i32_486 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c3_i32_474 : BitVec 32 := 3#32
  let v781 : BitVec 32 := Scalar.addi v525 c3_i32_474
  let c1_i32_475 : BitVec 32 := 1#32
  let v782 : BitVec 32 := Scalar.addi v781 c1_i32_475
  let v799 : BitVec 32 := Scalar.muli c2_i32_486 v782
  let c1_i32_487 : BitVec 32 := 1#32
  let v800 : BitVec 32 := Scalar.addi v799 c1_i32_487
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v801 : BitVec 1 := Scalar.cmpi .slt v800 v231
  let c0_i32_488 : BitVec 32 := 0#32
  let v802 : BitVec 32 := Scalar.select v801 v800 c0_i32_488
  let c256_i32_490 : BitVec 32 := 256#32
  let v804 : BitVec 32 := Scalar.muli v802 c256_i32_490
  v804
def k0_mult57 (i : grid0.Coords) (k0_t1 : Fin (k0_t1_loop i).trips) : BitVec 32 :=
  let c2_i32_486 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c3_i32_474 : BitVec 32 := 3#32
  let v781 : BitVec 32 := Scalar.addi v525 c3_i32_474
  let c1_i32_475 : BitVec 32 := 1#32
  let v782 : BitVec 32 := Scalar.addi v781 c1_i32_475
  let v799 : BitVec 32 := Scalar.muli c2_i32_486 v782
  let c1_i32_487 : BitVec 32 := 1#32
  let v800 : BitVec 32 := Scalar.addi v799 c1_i32_487
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v801 : BitVec 1 := Scalar.cmpi .slt v800 v231
  let c32_i32_489 : BitVec 32 := 32#32
  let v803 : BitVec 32 := Scalar.select v801 v800 c32_i32_489
  let c256_i32_494 : BitVec 32 := 256#32
  let v809 : BitVec 32 := Scalar.muli v803 c256_i32_494
  v809
def k0_mult58 (i : grid0.Coords) (k0_t1 : Fin (k0_t1_loop i).trips) : BitVec 32 :=
  let c2_i32_538 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c4_i32_536 : BitVec 32 := 4#32
  let v866 : BitVec 32 := Scalar.addi v525 c4_i32_536
  let c1_i32_537 : BitVec 32 := 1#32
  let v867 : BitVec 32 := Scalar.addi v866 c1_i32_537
  let v868 : BitVec 32 := Scalar.muli c2_i32_538 v867
  let c0_i32_539 : BitVec 32 := 0#32
  let v869 : BitVec 32 := Scalar.addi v868 c0_i32_539
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v870 : BitVec 1 := Scalar.cmpi .slt v869 v231
  let c0_i32_540 : BitVec 32 := 0#32
  let v871 : BitVec 32 := Scalar.select v870 v869 c0_i32_540
  let c256_i32_542 : BitVec 32 := 256#32
  let v873 : BitVec 32 := Scalar.muli v871 c256_i32_542
  v873
def k0_mult59 (i : grid0.Coords) (k0_t1 : Fin (k0_t1_loop i).trips) : BitVec 32 :=
  let c2_i32_538 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c4_i32_536 : BitVec 32 := 4#32
  let v866 : BitVec 32 := Scalar.addi v525 c4_i32_536
  let c1_i32_537 : BitVec 32 := 1#32
  let v867 : BitVec 32 := Scalar.addi v866 c1_i32_537
  let v868 : BitVec 32 := Scalar.muli c2_i32_538 v867
  let c0_i32_539 : BitVec 32 := 0#32
  let v869 : BitVec 32 := Scalar.addi v868 c0_i32_539
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v870 : BitVec 1 := Scalar.cmpi .slt v869 v231
  let c32_i32_541 : BitVec 32 := 32#32
  let v872 : BitVec 32 := Scalar.select v870 v869 c32_i32_541
  let c256_i32_546 : BitVec 32 := 256#32
  let v878 : BitVec 32 := Scalar.muli v872 c256_i32_546
  v878
def k0_mult60 (i : grid0.Coords) (k0_t1 : Fin (k0_t1_loop i).trips) : BitVec 32 :=
  let c2_i32_548 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c4_i32_536 : BitVec 32 := 4#32
  let v866 : BitVec 32 := Scalar.addi v525 c4_i32_536
  let c1_i32_537 : BitVec 32 := 1#32
  let v867 : BitVec 32 := Scalar.addi v866 c1_i32_537
  let v884 : BitVec 32 := Scalar.muli c2_i32_548 v867
  let c1_i32_549 : BitVec 32 := 1#32
  let v885 : BitVec 32 := Scalar.addi v884 c1_i32_549
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v886 : BitVec 1 := Scalar.cmpi .slt v885 v231
  let c0_i32_550 : BitVec 32 := 0#32
  let v887 : BitVec 32 := Scalar.select v886 v885 c0_i32_550
  let c256_i32_552 : BitVec 32 := 256#32
  let v889 : BitVec 32 := Scalar.muli v887 c256_i32_552
  v889
def k0_mult61 (i : grid0.Coords) (k0_t1 : Fin (k0_t1_loop i).trips) : BitVec 32 :=
  let c2_i32_548 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c4_i32_536 : BitVec 32 := 4#32
  let v866 : BitVec 32 := Scalar.addi v525 c4_i32_536
  let c1_i32_537 : BitVec 32 := 1#32
  let v867 : BitVec 32 := Scalar.addi v866 c1_i32_537
  let v884 : BitVec 32 := Scalar.muli c2_i32_548 v867
  let c1_i32_549 : BitVec 32 := 1#32
  let v885 : BitVec 32 := Scalar.addi v884 c1_i32_549
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v886 : BitVec 1 := Scalar.cmpi .slt v885 v231
  let c32_i32_551 : BitVec 32 := 32#32
  let v888 : BitVec 32 := Scalar.select v886 v885 c32_i32_551
  let c256_i32_556 : BitVec 32 := 256#32
  let v894 : BitVec 32 := Scalar.muli v888 c256_i32_556
  v894
def k0_mult62 (i : grid0.Coords) (k0_t1 : Fin (k0_t1_loop i).trips) : BitVec 32 :=
  let c2_i32_600 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c5_i32_598 : BitVec 32 := 5#32
  let v951 : BitVec 32 := Scalar.addi v525 c5_i32_598
  let c1_i32_599 : BitVec 32 := 1#32
  let v952 : BitVec 32 := Scalar.addi v951 c1_i32_599
  let v953 : BitVec 32 := Scalar.muli c2_i32_600 v952
  let c0_i32_601 : BitVec 32 := 0#32
  let v954 : BitVec 32 := Scalar.addi v953 c0_i32_601
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v955 : BitVec 1 := Scalar.cmpi .slt v954 v231
  let c0_i32_602 : BitVec 32 := 0#32
  let v956 : BitVec 32 := Scalar.select v955 v954 c0_i32_602
  let c256_i32_604 : BitVec 32 := 256#32
  let v958 : BitVec 32 := Scalar.muli v956 c256_i32_604
  v958
def k0_mult63 (i : grid0.Coords) (k0_t1 : Fin (k0_t1_loop i).trips) : BitVec 32 :=
  let c2_i32_600 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c5_i32_598 : BitVec 32 := 5#32
  let v951 : BitVec 32 := Scalar.addi v525 c5_i32_598
  let c1_i32_599 : BitVec 32 := 1#32
  let v952 : BitVec 32 := Scalar.addi v951 c1_i32_599
  let v953 : BitVec 32 := Scalar.muli c2_i32_600 v952
  let c0_i32_601 : BitVec 32 := 0#32
  let v954 : BitVec 32 := Scalar.addi v953 c0_i32_601
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v955 : BitVec 1 := Scalar.cmpi .slt v954 v231
  let c32_i32_603 : BitVec 32 := 32#32
  let v957 : BitVec 32 := Scalar.select v955 v954 c32_i32_603
  let c256_i32_608 : BitVec 32 := 256#32
  let v963 : BitVec 32 := Scalar.muli v957 c256_i32_608
  v963
def k0_mult64 (i : grid0.Coords) (k0_t1 : Fin (k0_t1_loop i).trips) : BitVec 32 :=
  let c2_i32_610 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c5_i32_598 : BitVec 32 := 5#32
  let v951 : BitVec 32 := Scalar.addi v525 c5_i32_598
  let c1_i32_599 : BitVec 32 := 1#32
  let v952 : BitVec 32 := Scalar.addi v951 c1_i32_599
  let v969 : BitVec 32 := Scalar.muli c2_i32_610 v952
  let c1_i32_611 : BitVec 32 := 1#32
  let v970 : BitVec 32 := Scalar.addi v969 c1_i32_611
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v971 : BitVec 1 := Scalar.cmpi .slt v970 v231
  let c0_i32_612 : BitVec 32 := 0#32
  let v972 : BitVec 32 := Scalar.select v971 v970 c0_i32_612
  let c256_i32_614 : BitVec 32 := 256#32
  let v974 : BitVec 32 := Scalar.muli v972 c256_i32_614
  v974
def k0_mult65 (i : grid0.Coords) (k0_t1 : Fin (k0_t1_loop i).trips) : BitVec 32 :=
  let c2_i32_610 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c5_i32_598 : BitVec 32 := 5#32
  let v951 : BitVec 32 := Scalar.addi v525 c5_i32_598
  let c1_i32_599 : BitVec 32 := 1#32
  let v952 : BitVec 32 := Scalar.addi v951 c1_i32_599
  let v969 : BitVec 32 := Scalar.muli c2_i32_610 v952
  let c1_i32_611 : BitVec 32 := 1#32
  let v970 : BitVec 32 := Scalar.addi v969 c1_i32_611
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v971 : BitVec 1 := Scalar.cmpi .slt v970 v231
  let c32_i32_613 : BitVec 32 := 32#32
  let v973 : BitVec 32 := Scalar.select v971 v970 c32_i32_613
  let c256_i32_618 : BitVec 32 := 256#32
  let v979 : BitVec 32 := Scalar.muli v973 c256_i32_618
  v979
def k0_mult66 (i : grid0.Coords) (k0_t1 : Fin (k0_t1_loop i).trips) : BitVec 32 :=
  let c2_i32_662 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c6_i32_660 : BitVec 32 := 6#32
  let v1036 : BitVec 32 := Scalar.addi v525 c6_i32_660
  let c1_i32_661 : BitVec 32 := 1#32
  let v1037 : BitVec 32 := Scalar.addi v1036 c1_i32_661
  let v1038 : BitVec 32 := Scalar.muli c2_i32_662 v1037
  let c0_i32_663 : BitVec 32 := 0#32
  let v1039 : BitVec 32 := Scalar.addi v1038 c0_i32_663
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v1040 : BitVec 1 := Scalar.cmpi .slt v1039 v231
  let c0_i32_664 : BitVec 32 := 0#32
  let v1041 : BitVec 32 := Scalar.select v1040 v1039 c0_i32_664
  let c256_i32_666 : BitVec 32 := 256#32
  let v1043 : BitVec 32 := Scalar.muli v1041 c256_i32_666
  v1043
def k0_mult67 (i : grid0.Coords) (k0_t1 : Fin (k0_t1_loop i).trips) : BitVec 32 :=
  let c2_i32_662 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c6_i32_660 : BitVec 32 := 6#32
  let v1036 : BitVec 32 := Scalar.addi v525 c6_i32_660
  let c1_i32_661 : BitVec 32 := 1#32
  let v1037 : BitVec 32 := Scalar.addi v1036 c1_i32_661
  let v1038 : BitVec 32 := Scalar.muli c2_i32_662 v1037
  let c0_i32_663 : BitVec 32 := 0#32
  let v1039 : BitVec 32 := Scalar.addi v1038 c0_i32_663
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v1040 : BitVec 1 := Scalar.cmpi .slt v1039 v231
  let c32_i32_665 : BitVec 32 := 32#32
  let v1042 : BitVec 32 := Scalar.select v1040 v1039 c32_i32_665
  let c256_i32_670 : BitVec 32 := 256#32
  let v1048 : BitVec 32 := Scalar.muli v1042 c256_i32_670
  v1048
def k0_mult68 (i : grid0.Coords) (k0_t1 : Fin (k0_t1_loop i).trips) : BitVec 32 :=
  let c2_i32_672 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c6_i32_660 : BitVec 32 := 6#32
  let v1036 : BitVec 32 := Scalar.addi v525 c6_i32_660
  let c1_i32_661 : BitVec 32 := 1#32
  let v1037 : BitVec 32 := Scalar.addi v1036 c1_i32_661
  let v1054 : BitVec 32 := Scalar.muli c2_i32_672 v1037
  let c1_i32_673 : BitVec 32 := 1#32
  let v1055 : BitVec 32 := Scalar.addi v1054 c1_i32_673
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v1056 : BitVec 1 := Scalar.cmpi .slt v1055 v231
  let c0_i32_674 : BitVec 32 := 0#32
  let v1057 : BitVec 32 := Scalar.select v1056 v1055 c0_i32_674
  let c256_i32_676 : BitVec 32 := 256#32
  let v1059 : BitVec 32 := Scalar.muli v1057 c256_i32_676
  v1059
def k0_mult69 (i : grid0.Coords) (k0_t1 : Fin (k0_t1_loop i).trips) : BitVec 32 :=
  let c2_i32_672 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c6_i32_660 : BitVec 32 := 6#32
  let v1036 : BitVec 32 := Scalar.addi v525 c6_i32_660
  let c1_i32_661 : BitVec 32 := 1#32
  let v1037 : BitVec 32 := Scalar.addi v1036 c1_i32_661
  let v1054 : BitVec 32 := Scalar.muli c2_i32_672 v1037
  let c1_i32_673 : BitVec 32 := 1#32
  let v1055 : BitVec 32 := Scalar.addi v1054 c1_i32_673
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v1056 : BitVec 1 := Scalar.cmpi .slt v1055 v231
  let c32_i32_675 : BitVec 32 := 32#32
  let v1058 : BitVec 32 := Scalar.select v1056 v1055 c32_i32_675
  let c256_i32_680 : BitVec 32 := 256#32
  let v1064 : BitVec 32 := Scalar.muli v1058 c256_i32_680
  v1064
def k0_mult70 (i : grid0.Coords) (k0_t1 : Fin (k0_t1_loop i).trips) : BitVec 32 :=
  let c2_i32_724 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c7_i32_722 : BitVec 32 := 7#32
  let v1121 : BitVec 32 := Scalar.addi v525 c7_i32_722
  let c1_i32_723 : BitVec 32 := 1#32
  let v1122 : BitVec 32 := Scalar.addi v1121 c1_i32_723
  let v1123 : BitVec 32 := Scalar.muli c2_i32_724 v1122
  let c0_i32_725 : BitVec 32 := 0#32
  let v1124 : BitVec 32 := Scalar.addi v1123 c0_i32_725
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v1125 : BitVec 1 := Scalar.cmpi .slt v1124 v231
  let c0_i32_726 : BitVec 32 := 0#32
  let v1126 : BitVec 32 := Scalar.select v1125 v1124 c0_i32_726
  let c256_i32_728 : BitVec 32 := 256#32
  let v1128 : BitVec 32 := Scalar.muli v1126 c256_i32_728
  v1128
def k0_mult71 (i : grid0.Coords) (k0_t1 : Fin (k0_t1_loop i).trips) : BitVec 32 :=
  let c2_i32_724 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c7_i32_722 : BitVec 32 := 7#32
  let v1121 : BitVec 32 := Scalar.addi v525 c7_i32_722
  let c1_i32_723 : BitVec 32 := 1#32
  let v1122 : BitVec 32 := Scalar.addi v1121 c1_i32_723
  let v1123 : BitVec 32 := Scalar.muli c2_i32_724 v1122
  let c0_i32_725 : BitVec 32 := 0#32
  let v1124 : BitVec 32 := Scalar.addi v1123 c0_i32_725
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v1125 : BitVec 1 := Scalar.cmpi .slt v1124 v231
  let c32_i32_727 : BitVec 32 := 32#32
  let v1127 : BitVec 32 := Scalar.select v1125 v1124 c32_i32_727
  let c256_i32_732 : BitVec 32 := 256#32
  let v1133 : BitVec 32 := Scalar.muli v1127 c256_i32_732
  v1133
def k0_mult72 (i : grid0.Coords) (k0_t1 : Fin (k0_t1_loop i).trips) : BitVec 32 :=
  let c2_i32_734 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c7_i32_722 : BitVec 32 := 7#32
  let v1121 : BitVec 32 := Scalar.addi v525 c7_i32_722
  let c1_i32_723 : BitVec 32 := 1#32
  let v1122 : BitVec 32 := Scalar.addi v1121 c1_i32_723
  let v1139 : BitVec 32 := Scalar.muli c2_i32_734 v1122
  let c1_i32_735 : BitVec 32 := 1#32
  let v1140 : BitVec 32 := Scalar.addi v1139 c1_i32_735
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v1141 : BitVec 1 := Scalar.cmpi .slt v1140 v231
  let c0_i32_736 : BitVec 32 := 0#32
  let v1142 : BitVec 32 := Scalar.select v1141 v1140 c0_i32_736
  let c256_i32_738 : BitVec 32 := 256#32
  let v1144 : BitVec 32 := Scalar.muli v1142 c256_i32_738
  v1144
def k0_mult73 (i : grid0.Coords) (k0_t1 : Fin (k0_t1_loop i).trips) : BitVec 32 :=
  let c2_i32_734 : BitVec 32 := 2#32
  let c8_i32_289 : BitVec 32 := 8#32
  let c0_i32_178 : BitVec 32 := 0#32
  let c1_i32_180 : BitVec 32 := 1#32
  let arg24 : BitVec 32 := Scf.iv c0_i32_178 c1_i32_180 k0_t1
  let v525 : BitVec 32 := Scalar.muli c8_i32_289 arg24
  let c7_i32_722 : BitVec 32 := 7#32
  let v1121 : BitVec 32 := Scalar.addi v525 c7_i32_722
  let c1_i32_723 : BitVec 32 := 1#32
  let v1122 : BitVec 32 := Scalar.addi v1121 c1_i32_723
  let v1139 : BitVec 32 := Scalar.muli c2_i32_734 v1122
  let c1_i32_735 : BitVec 32 := 1#32
  let v1140 : BitVec 32 := Scalar.addi v1139 c1_i32_735
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let v1141 : BitVec 1 := Scalar.cmpi .slt v1140 v231
  let c32_i32_737 : BitVec 32 := 32#32
  let v1143 : BitVec 32 := Scalar.select v1141 v1140 c32_i32_737
  let c256_i32_742 : BitVec 32 := 256#32
  let v1149 : BitVec 32 := Scalar.muli v1143 c256_i32_742
  v1149
@[reducible] def k0_t2_loop (i : grid0.Coords) : Scf.Loop 32 :=
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let v340 : BitVec 32 := Scalar.addi c0_i32_178 v339
  let c1_i32_181 : BitVec 32 := 1#32
  ⟨v343, v340, c1_i32_181⟩
def k0_mult74 (i : grid0.Coords) (k0_t2 : Fin (k0_t2_loop i).trips) : BitVec 32 :=
  let c2_i32_292 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c0_i32_290 : BitVec 32 := 0#32
  let v526 : BitVec 32 := Scalar.addi v525 c0_i32_290
  let c1_i32_291 : BitVec 32 := 1#32
  let v527 : BitVec 32 := Scalar.addi v526 c1_i32_291
  let v528 : BitVec 32 := Scalar.muli c2_i32_292 v527
  let c0_i32_293 : BitVec 32 := 0#32
  let v529 : BitVec 32 := Scalar.addi v528 c0_i32_293
  let v530 : BitVec 1 := Scalar.cmpi .slt v529 v231
  let c0_i32_294 : BitVec 32 := 0#32
  let v531 : BitVec 32 := Scalar.select v530 v529 c0_i32_294
  let c256_i32_296 : BitVec 32 := 256#32
  let v533 : BitVec 32 := Scalar.muli v531 c256_i32_296
  v533
def k0_off36 (i : grid0.Coords) (k0_t2 : Fin (k0_t2_loop i).trips) (c0_i32_290 : BitVec 32) (c0_i32_293 : BitVec 32) : Fin 4 → Nat :=
  let c0_297 : Index := 0#32
  let c0_298 : Index := 0#32
  let c2_i32_292 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let v526 : BitVec 32 := Scalar.addi v525 c0_i32_290
  let c1_i32_291 : BitVec 32 := 1#32
  let v527 : BitVec 32 := Scalar.addi v526 c1_i32_291
  let v528 : BitVec 32 := Scalar.muli c2_i32_292 v527
  let v529 : BitVec 32 := Scalar.addi v528 c0_i32_293
  let v530 : BitVec 1 := Scalar.cmpi .slt v529 v231
  let c0_i32_294 : BitVec 32 := 0#32
  let v531 : BitVec 32 := Scalar.select v530 v529 c0_i32_294
  let c256_i32_296 : BitVec 32 := 256#32
  let v533 : BitVec 32 := Scalar.muli v531 c256_i32_296
  let v534 : BitVec 32 := v533
  let v535 : Index := Scalar.indexCast v534
  let c0_299 : Index := 0#32
  ![0, 0, v535.toNat, 0]
def k0_mult75 (i : grid0.Coords) (k0_t2 : Fin (k0_t2_loop i).trips) : BitVec 32 :=
  let c2_i32_292 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c0_i32_290 : BitVec 32 := 0#32
  let v526 : BitVec 32 := Scalar.addi v525 c0_i32_290
  let c1_i32_291 : BitVec 32 := 1#32
  let v527 : BitVec 32 := Scalar.addi v526 c1_i32_291
  let v528 : BitVec 32 := Scalar.muli c2_i32_292 v527
  let c0_i32_293 : BitVec 32 := 0#32
  let v529 : BitVec 32 := Scalar.addi v528 c0_i32_293
  let v530 : BitVec 1 := Scalar.cmpi .slt v529 v231
  let c32_i32_295 : BitVec 32 := 32#32
  let v532 : BitVec 32 := Scalar.select v530 v529 c32_i32_295
  let c256_i32_300 : BitVec 32 := 256#32
  let v538 : BitVec 32 := Scalar.muli v532 c256_i32_300
  v538
def k0_off37 (i : grid0.Coords) (k0_t2 : Fin (k0_t2_loop i).trips) (c0_i32_290 : BitVec 32) (c0_i32_293 : BitVec 32) : Fin 2 → Nat :=
  let c2_i32_292 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let v526 : BitVec 32 := Scalar.addi v525 c0_i32_290
  let c1_i32_291 : BitVec 32 := 1#32
  let v527 : BitVec 32 := Scalar.addi v526 c1_i32_291
  let v528 : BitVec 32 := Scalar.muli c2_i32_292 v527
  let v529 : BitVec 32 := Scalar.addi v528 c0_i32_293
  let v530 : BitVec 1 := Scalar.cmpi .slt v529 v231
  let c32_i32_295 : BitVec 32 := 32#32
  let v532 : BitVec 32 := Scalar.select v530 v529 c32_i32_295
  let c256_i32_300 : BitVec 32 := 256#32
  let v538 : BitVec 32 := Scalar.muli v532 c256_i32_300
  let v539 : BitVec 32 := v538
  let v540 : Index := Scalar.indexCast v539
  let c0_301 : Index := 0#32
  ![v540.toNat, 0]
def k0_mult76 (i : grid0.Coords) (k0_t2 : Fin (k0_t2_loop i).trips) : BitVec 32 :=
  let c2_i32_302 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c0_i32_290 : BitVec 32 := 0#32
  let v526 : BitVec 32 := Scalar.addi v525 c0_i32_290
  let c1_i32_291 : BitVec 32 := 1#32
  let v527 : BitVec 32 := Scalar.addi v526 c1_i32_291
  let v544 : BitVec 32 := Scalar.muli c2_i32_302 v527
  let c1_i32_303 : BitVec 32 := 1#32
  let v545 : BitVec 32 := Scalar.addi v544 c1_i32_303
  let v546 : BitVec 1 := Scalar.cmpi .slt v545 v231
  let c0_i32_304 : BitVec 32 := 0#32
  let v547 : BitVec 32 := Scalar.select v546 v545 c0_i32_304
  let c256_i32_306 : BitVec 32 := 256#32
  let v549 : BitVec 32 := Scalar.muli v547 c256_i32_306
  v549
def k0_mult77 (i : grid0.Coords) (k0_t2 : Fin (k0_t2_loop i).trips) : BitVec 32 :=
  let c2_i32_302 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c0_i32_290 : BitVec 32 := 0#32
  let v526 : BitVec 32 := Scalar.addi v525 c0_i32_290
  let c1_i32_291 : BitVec 32 := 1#32
  let v527 : BitVec 32 := Scalar.addi v526 c1_i32_291
  let v544 : BitVec 32 := Scalar.muli c2_i32_302 v527
  let c1_i32_303 : BitVec 32 := 1#32
  let v545 : BitVec 32 := Scalar.addi v544 c1_i32_303
  let v546 : BitVec 1 := Scalar.cmpi .slt v545 v231
  let c32_i32_305 : BitVec 32 := 32#32
  let v548 : BitVec 32 := Scalar.select v546 v545 c32_i32_305
  let c256_i32_310 : BitVec 32 := 256#32
  let v554 : BitVec 32 := Scalar.muli v548 c256_i32_310
  v554
def k0_off38 (i : grid0.Coords) (k0_t2 : Fin (k0_t2_loop i).trips) (c0_i32_319 : BitVec 32) (c0_i32_328 : BitVec 32) : Fin 5 → Nat :=
  let c0_331 : Index := 0#32
  let c0_332 : Index := 0#32
  let c2_i32_327 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let v571 : BitVec 32 := Scalar.addi v525 c0_i32_319
  let v580 : BitVec 32 := Scalar.muli c2_i32_327 v571
  let v581 : BitVec 32 := Scalar.addi v580 c0_i32_328
  let v582 : BitVec 1 := Scalar.cmpi .slt v581 v231
  let c0_i32_329 : BitVec 32 := 0#32
  let v583 : BitVec 32 := Scalar.select v582 v581 c0_i32_329
  let v585 : Index := Scalar.indexCast v583
  let c0_333 : Index := 0#32
  let c0_334 : Index := 0#32
  ![0, 0, v585.toNat, 0, 0]
def k0_mult78 (i : grid0.Coords) (k0_t2 : Fin (k0_t2_loop i).trips) : BitVec 32 :=
  let c2_i32_352 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c1_i32_350 : BitVec 32 := 1#32
  let v611 : BitVec 32 := Scalar.addi v525 c1_i32_350
  let c1_i32_351 : BitVec 32 := 1#32
  let v612 : BitVec 32 := Scalar.addi v611 c1_i32_351
  let v613 : BitVec 32 := Scalar.muli c2_i32_352 v612
  let c0_i32_353 : BitVec 32 := 0#32
  let v614 : BitVec 32 := Scalar.addi v613 c0_i32_353
  let v615 : BitVec 1 := Scalar.cmpi .slt v614 v231
  let c0_i32_354 : BitVec 32 := 0#32
  let v616 : BitVec 32 := Scalar.select v615 v614 c0_i32_354
  let c256_i32_356 : BitVec 32 := 256#32
  let v618 : BitVec 32 := Scalar.muli v616 c256_i32_356
  v618
def k0_mult79 (i : grid0.Coords) (k0_t2 : Fin (k0_t2_loop i).trips) : BitVec 32 :=
  let c2_i32_352 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c1_i32_350 : BitVec 32 := 1#32
  let v611 : BitVec 32 := Scalar.addi v525 c1_i32_350
  let c1_i32_351 : BitVec 32 := 1#32
  let v612 : BitVec 32 := Scalar.addi v611 c1_i32_351
  let v613 : BitVec 32 := Scalar.muli c2_i32_352 v612
  let c0_i32_353 : BitVec 32 := 0#32
  let v614 : BitVec 32 := Scalar.addi v613 c0_i32_353
  let v615 : BitVec 1 := Scalar.cmpi .slt v614 v231
  let c32_i32_355 : BitVec 32 := 32#32
  let v617 : BitVec 32 := Scalar.select v615 v614 c32_i32_355
  let c256_i32_360 : BitVec 32 := 256#32
  let v623 : BitVec 32 := Scalar.muli v617 c256_i32_360
  v623
def k0_mult80 (i : grid0.Coords) (k0_t2 : Fin (k0_t2_loop i).trips) : BitVec 32 :=
  let c2_i32_362 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c1_i32_350 : BitVec 32 := 1#32
  let v611 : BitVec 32 := Scalar.addi v525 c1_i32_350
  let c1_i32_351 : BitVec 32 := 1#32
  let v612 : BitVec 32 := Scalar.addi v611 c1_i32_351
  let v629 : BitVec 32 := Scalar.muli c2_i32_362 v612
  let c1_i32_363 : BitVec 32 := 1#32
  let v630 : BitVec 32 := Scalar.addi v629 c1_i32_363
  let v631 : BitVec 1 := Scalar.cmpi .slt v630 v231
  let c0_i32_364 : BitVec 32 := 0#32
  let v632 : BitVec 32 := Scalar.select v631 v630 c0_i32_364
  let c256_i32_366 : BitVec 32 := 256#32
  let v634 : BitVec 32 := Scalar.muli v632 c256_i32_366
  v634
def k0_mult81 (i : grid0.Coords) (k0_t2 : Fin (k0_t2_loop i).trips) : BitVec 32 :=
  let c2_i32_362 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c1_i32_350 : BitVec 32 := 1#32
  let v611 : BitVec 32 := Scalar.addi v525 c1_i32_350
  let c1_i32_351 : BitVec 32 := 1#32
  let v612 : BitVec 32 := Scalar.addi v611 c1_i32_351
  let v629 : BitVec 32 := Scalar.muli c2_i32_362 v612
  let c1_i32_363 : BitVec 32 := 1#32
  let v630 : BitVec 32 := Scalar.addi v629 c1_i32_363
  let v631 : BitVec 1 := Scalar.cmpi .slt v630 v231
  let c32_i32_365 : BitVec 32 := 32#32
  let v633 : BitVec 32 := Scalar.select v631 v630 c32_i32_365
  let c256_i32_370 : BitVec 32 := 256#32
  let v639 : BitVec 32 := Scalar.muli v633 c256_i32_370
  v639
def k0_mult82 (i : grid0.Coords) (k0_t2 : Fin (k0_t2_loop i).trips) : BitVec 32 :=
  let c2_i32_414 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c2_i32_412 : BitVec 32 := 2#32
  let v696 : BitVec 32 := Scalar.addi v525 c2_i32_412
  let c1_i32_413 : BitVec 32 := 1#32
  let v697 : BitVec 32 := Scalar.addi v696 c1_i32_413
  let v698 : BitVec 32 := Scalar.muli c2_i32_414 v697
  let c0_i32_415 : BitVec 32 := 0#32
  let v699 : BitVec 32 := Scalar.addi v698 c0_i32_415
  let v700 : BitVec 1 := Scalar.cmpi .slt v699 v231
  let c0_i32_416 : BitVec 32 := 0#32
  let v701 : BitVec 32 := Scalar.select v700 v699 c0_i32_416
  let c256_i32_418 : BitVec 32 := 256#32
  let v703 : BitVec 32 := Scalar.muli v701 c256_i32_418
  v703
def k0_mult83 (i : grid0.Coords) (k0_t2 : Fin (k0_t2_loop i).trips) : BitVec 32 :=
  let c2_i32_414 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c2_i32_412 : BitVec 32 := 2#32
  let v696 : BitVec 32 := Scalar.addi v525 c2_i32_412
  let c1_i32_413 : BitVec 32 := 1#32
  let v697 : BitVec 32 := Scalar.addi v696 c1_i32_413
  let v698 : BitVec 32 := Scalar.muli c2_i32_414 v697
  let c0_i32_415 : BitVec 32 := 0#32
  let v699 : BitVec 32 := Scalar.addi v698 c0_i32_415
  let v700 : BitVec 1 := Scalar.cmpi .slt v699 v231
  let c32_i32_417 : BitVec 32 := 32#32
  let v702 : BitVec 32 := Scalar.select v700 v699 c32_i32_417
  let c256_i32_422 : BitVec 32 := 256#32
  let v708 : BitVec 32 := Scalar.muli v702 c256_i32_422
  v708
def k0_mult84 (i : grid0.Coords) (k0_t2 : Fin (k0_t2_loop i).trips) : BitVec 32 :=
  let c2_i32_424 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c2_i32_412 : BitVec 32 := 2#32
  let v696 : BitVec 32 := Scalar.addi v525 c2_i32_412
  let c1_i32_413 : BitVec 32 := 1#32
  let v697 : BitVec 32 := Scalar.addi v696 c1_i32_413
  let v714 : BitVec 32 := Scalar.muli c2_i32_424 v697
  let c1_i32_425 : BitVec 32 := 1#32
  let v715 : BitVec 32 := Scalar.addi v714 c1_i32_425
  let v716 : BitVec 1 := Scalar.cmpi .slt v715 v231
  let c0_i32_426 : BitVec 32 := 0#32
  let v717 : BitVec 32 := Scalar.select v716 v715 c0_i32_426
  let c256_i32_428 : BitVec 32 := 256#32
  let v719 : BitVec 32 := Scalar.muli v717 c256_i32_428
  v719
def k0_mult85 (i : grid0.Coords) (k0_t2 : Fin (k0_t2_loop i).trips) : BitVec 32 :=
  let c2_i32_424 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c2_i32_412 : BitVec 32 := 2#32
  let v696 : BitVec 32 := Scalar.addi v525 c2_i32_412
  let c1_i32_413 : BitVec 32 := 1#32
  let v697 : BitVec 32 := Scalar.addi v696 c1_i32_413
  let v714 : BitVec 32 := Scalar.muli c2_i32_424 v697
  let c1_i32_425 : BitVec 32 := 1#32
  let v715 : BitVec 32 := Scalar.addi v714 c1_i32_425
  let v716 : BitVec 1 := Scalar.cmpi .slt v715 v231
  let c32_i32_427 : BitVec 32 := 32#32
  let v718 : BitVec 32 := Scalar.select v716 v715 c32_i32_427
  let c256_i32_432 : BitVec 32 := 256#32
  let v724 : BitVec 32 := Scalar.muli v718 c256_i32_432
  v724
def k0_mult86 (i : grid0.Coords) (k0_t2 : Fin (k0_t2_loop i).trips) : BitVec 32 :=
  let c2_i32_476 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c3_i32_474 : BitVec 32 := 3#32
  let v781 : BitVec 32 := Scalar.addi v525 c3_i32_474
  let c1_i32_475 : BitVec 32 := 1#32
  let v782 : BitVec 32 := Scalar.addi v781 c1_i32_475
  let v783 : BitVec 32 := Scalar.muli c2_i32_476 v782
  let c0_i32_477 : BitVec 32 := 0#32
  let v784 : BitVec 32 := Scalar.addi v783 c0_i32_477
  let v785 : BitVec 1 := Scalar.cmpi .slt v784 v231
  let c0_i32_478 : BitVec 32 := 0#32
  let v786 : BitVec 32 := Scalar.select v785 v784 c0_i32_478
  let c256_i32_480 : BitVec 32 := 256#32
  let v788 : BitVec 32 := Scalar.muli v786 c256_i32_480
  v788
def k0_mult87 (i : grid0.Coords) (k0_t2 : Fin (k0_t2_loop i).trips) : BitVec 32 :=
  let c2_i32_476 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c3_i32_474 : BitVec 32 := 3#32
  let v781 : BitVec 32 := Scalar.addi v525 c3_i32_474
  let c1_i32_475 : BitVec 32 := 1#32
  let v782 : BitVec 32 := Scalar.addi v781 c1_i32_475
  let v783 : BitVec 32 := Scalar.muli c2_i32_476 v782
  let c0_i32_477 : BitVec 32 := 0#32
  let v784 : BitVec 32 := Scalar.addi v783 c0_i32_477
  let v785 : BitVec 1 := Scalar.cmpi .slt v784 v231
  let c32_i32_479 : BitVec 32 := 32#32
  let v787 : BitVec 32 := Scalar.select v785 v784 c32_i32_479
  let c256_i32_484 : BitVec 32 := 256#32
  let v793 : BitVec 32 := Scalar.muli v787 c256_i32_484
  v793
def k0_mult88 (i : grid0.Coords) (k0_t2 : Fin (k0_t2_loop i).trips) : BitVec 32 :=
  let c2_i32_486 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c3_i32_474 : BitVec 32 := 3#32
  let v781 : BitVec 32 := Scalar.addi v525 c3_i32_474
  let c1_i32_475 : BitVec 32 := 1#32
  let v782 : BitVec 32 := Scalar.addi v781 c1_i32_475
  let v799 : BitVec 32 := Scalar.muli c2_i32_486 v782
  let c1_i32_487 : BitVec 32 := 1#32
  let v800 : BitVec 32 := Scalar.addi v799 c1_i32_487
  let v801 : BitVec 1 := Scalar.cmpi .slt v800 v231
  let c0_i32_488 : BitVec 32 := 0#32
  let v802 : BitVec 32 := Scalar.select v801 v800 c0_i32_488
  let c256_i32_490 : BitVec 32 := 256#32
  let v804 : BitVec 32 := Scalar.muli v802 c256_i32_490
  v804
def k0_mult89 (i : grid0.Coords) (k0_t2 : Fin (k0_t2_loop i).trips) : BitVec 32 :=
  let c2_i32_486 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c3_i32_474 : BitVec 32 := 3#32
  let v781 : BitVec 32 := Scalar.addi v525 c3_i32_474
  let c1_i32_475 : BitVec 32 := 1#32
  let v782 : BitVec 32 := Scalar.addi v781 c1_i32_475
  let v799 : BitVec 32 := Scalar.muli c2_i32_486 v782
  let c1_i32_487 : BitVec 32 := 1#32
  let v800 : BitVec 32 := Scalar.addi v799 c1_i32_487
  let v801 : BitVec 1 := Scalar.cmpi .slt v800 v231
  let c32_i32_489 : BitVec 32 := 32#32
  let v803 : BitVec 32 := Scalar.select v801 v800 c32_i32_489
  let c256_i32_494 : BitVec 32 := 256#32
  let v809 : BitVec 32 := Scalar.muli v803 c256_i32_494
  v809
def k0_mult90 (i : grid0.Coords) (k0_t2 : Fin (k0_t2_loop i).trips) : BitVec 32 :=
  let c2_i32_538 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c4_i32_536 : BitVec 32 := 4#32
  let v866 : BitVec 32 := Scalar.addi v525 c4_i32_536
  let c1_i32_537 : BitVec 32 := 1#32
  let v867 : BitVec 32 := Scalar.addi v866 c1_i32_537
  let v868 : BitVec 32 := Scalar.muli c2_i32_538 v867
  let c0_i32_539 : BitVec 32 := 0#32
  let v869 : BitVec 32 := Scalar.addi v868 c0_i32_539
  let v870 : BitVec 1 := Scalar.cmpi .slt v869 v231
  let c0_i32_540 : BitVec 32 := 0#32
  let v871 : BitVec 32 := Scalar.select v870 v869 c0_i32_540
  let c256_i32_542 : BitVec 32 := 256#32
  let v873 : BitVec 32 := Scalar.muli v871 c256_i32_542
  v873
def k0_mult91 (i : grid0.Coords) (k0_t2 : Fin (k0_t2_loop i).trips) : BitVec 32 :=
  let c2_i32_538 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c4_i32_536 : BitVec 32 := 4#32
  let v866 : BitVec 32 := Scalar.addi v525 c4_i32_536
  let c1_i32_537 : BitVec 32 := 1#32
  let v867 : BitVec 32 := Scalar.addi v866 c1_i32_537
  let v868 : BitVec 32 := Scalar.muli c2_i32_538 v867
  let c0_i32_539 : BitVec 32 := 0#32
  let v869 : BitVec 32 := Scalar.addi v868 c0_i32_539
  let v870 : BitVec 1 := Scalar.cmpi .slt v869 v231
  let c32_i32_541 : BitVec 32 := 32#32
  let v872 : BitVec 32 := Scalar.select v870 v869 c32_i32_541
  let c256_i32_546 : BitVec 32 := 256#32
  let v878 : BitVec 32 := Scalar.muli v872 c256_i32_546
  v878
def k0_mult92 (i : grid0.Coords) (k0_t2 : Fin (k0_t2_loop i).trips) : BitVec 32 :=
  let c2_i32_548 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c4_i32_536 : BitVec 32 := 4#32
  let v866 : BitVec 32 := Scalar.addi v525 c4_i32_536
  let c1_i32_537 : BitVec 32 := 1#32
  let v867 : BitVec 32 := Scalar.addi v866 c1_i32_537
  let v884 : BitVec 32 := Scalar.muli c2_i32_548 v867
  let c1_i32_549 : BitVec 32 := 1#32
  let v885 : BitVec 32 := Scalar.addi v884 c1_i32_549
  let v886 : BitVec 1 := Scalar.cmpi .slt v885 v231
  let c0_i32_550 : BitVec 32 := 0#32
  let v887 : BitVec 32 := Scalar.select v886 v885 c0_i32_550
  let c256_i32_552 : BitVec 32 := 256#32
  let v889 : BitVec 32 := Scalar.muli v887 c256_i32_552
  v889
def k0_mult93 (i : grid0.Coords) (k0_t2 : Fin (k0_t2_loop i).trips) : BitVec 32 :=
  let c2_i32_548 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c4_i32_536 : BitVec 32 := 4#32
  let v866 : BitVec 32 := Scalar.addi v525 c4_i32_536
  let c1_i32_537 : BitVec 32 := 1#32
  let v867 : BitVec 32 := Scalar.addi v866 c1_i32_537
  let v884 : BitVec 32 := Scalar.muli c2_i32_548 v867
  let c1_i32_549 : BitVec 32 := 1#32
  let v885 : BitVec 32 := Scalar.addi v884 c1_i32_549
  let v886 : BitVec 1 := Scalar.cmpi .slt v885 v231
  let c32_i32_551 : BitVec 32 := 32#32
  let v888 : BitVec 32 := Scalar.select v886 v885 c32_i32_551
  let c256_i32_556 : BitVec 32 := 256#32
  let v894 : BitVec 32 := Scalar.muli v888 c256_i32_556
  v894
def k0_mult94 (i : grid0.Coords) (k0_t2 : Fin (k0_t2_loop i).trips) : BitVec 32 :=
  let c2_i32_600 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c5_i32_598 : BitVec 32 := 5#32
  let v951 : BitVec 32 := Scalar.addi v525 c5_i32_598
  let c1_i32_599 : BitVec 32 := 1#32
  let v952 : BitVec 32 := Scalar.addi v951 c1_i32_599
  let v953 : BitVec 32 := Scalar.muli c2_i32_600 v952
  let c0_i32_601 : BitVec 32 := 0#32
  let v954 : BitVec 32 := Scalar.addi v953 c0_i32_601
  let v955 : BitVec 1 := Scalar.cmpi .slt v954 v231
  let c0_i32_602 : BitVec 32 := 0#32
  let v956 : BitVec 32 := Scalar.select v955 v954 c0_i32_602
  let c256_i32_604 : BitVec 32 := 256#32
  let v958 : BitVec 32 := Scalar.muli v956 c256_i32_604
  v958
def k0_mult95 (i : grid0.Coords) (k0_t2 : Fin (k0_t2_loop i).trips) : BitVec 32 :=
  let c2_i32_600 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c5_i32_598 : BitVec 32 := 5#32
  let v951 : BitVec 32 := Scalar.addi v525 c5_i32_598
  let c1_i32_599 : BitVec 32 := 1#32
  let v952 : BitVec 32 := Scalar.addi v951 c1_i32_599
  let v953 : BitVec 32 := Scalar.muli c2_i32_600 v952
  let c0_i32_601 : BitVec 32 := 0#32
  let v954 : BitVec 32 := Scalar.addi v953 c0_i32_601
  let v955 : BitVec 1 := Scalar.cmpi .slt v954 v231
  let c32_i32_603 : BitVec 32 := 32#32
  let v957 : BitVec 32 := Scalar.select v955 v954 c32_i32_603
  let c256_i32_608 : BitVec 32 := 256#32
  let v963 : BitVec 32 := Scalar.muli v957 c256_i32_608
  v963
def k0_mult96 (i : grid0.Coords) (k0_t2 : Fin (k0_t2_loop i).trips) : BitVec 32 :=
  let c2_i32_610 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c5_i32_598 : BitVec 32 := 5#32
  let v951 : BitVec 32 := Scalar.addi v525 c5_i32_598
  let c1_i32_599 : BitVec 32 := 1#32
  let v952 : BitVec 32 := Scalar.addi v951 c1_i32_599
  let v969 : BitVec 32 := Scalar.muli c2_i32_610 v952
  let c1_i32_611 : BitVec 32 := 1#32
  let v970 : BitVec 32 := Scalar.addi v969 c1_i32_611
  let v971 : BitVec 1 := Scalar.cmpi .slt v970 v231
  let c0_i32_612 : BitVec 32 := 0#32
  let v972 : BitVec 32 := Scalar.select v971 v970 c0_i32_612
  let c256_i32_614 : BitVec 32 := 256#32
  let v974 : BitVec 32 := Scalar.muli v972 c256_i32_614
  v974
def k0_mult97 (i : grid0.Coords) (k0_t2 : Fin (k0_t2_loop i).trips) : BitVec 32 :=
  let c2_i32_610 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c5_i32_598 : BitVec 32 := 5#32
  let v951 : BitVec 32 := Scalar.addi v525 c5_i32_598
  let c1_i32_599 : BitVec 32 := 1#32
  let v952 : BitVec 32 := Scalar.addi v951 c1_i32_599
  let v969 : BitVec 32 := Scalar.muli c2_i32_610 v952
  let c1_i32_611 : BitVec 32 := 1#32
  let v970 : BitVec 32 := Scalar.addi v969 c1_i32_611
  let v971 : BitVec 1 := Scalar.cmpi .slt v970 v231
  let c32_i32_613 : BitVec 32 := 32#32
  let v973 : BitVec 32 := Scalar.select v971 v970 c32_i32_613
  let c256_i32_618 : BitVec 32 := 256#32
  let v979 : BitVec 32 := Scalar.muli v973 c256_i32_618
  v979
def k0_mult98 (i : grid0.Coords) (k0_t2 : Fin (k0_t2_loop i).trips) : BitVec 32 :=
  let c2_i32_662 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c6_i32_660 : BitVec 32 := 6#32
  let v1036 : BitVec 32 := Scalar.addi v525 c6_i32_660
  let c1_i32_661 : BitVec 32 := 1#32
  let v1037 : BitVec 32 := Scalar.addi v1036 c1_i32_661
  let v1038 : BitVec 32 := Scalar.muli c2_i32_662 v1037
  let c0_i32_663 : BitVec 32 := 0#32
  let v1039 : BitVec 32 := Scalar.addi v1038 c0_i32_663
  let v1040 : BitVec 1 := Scalar.cmpi .slt v1039 v231
  let c0_i32_664 : BitVec 32 := 0#32
  let v1041 : BitVec 32 := Scalar.select v1040 v1039 c0_i32_664
  let c256_i32_666 : BitVec 32 := 256#32
  let v1043 : BitVec 32 := Scalar.muli v1041 c256_i32_666
  v1043
def k0_mult99 (i : grid0.Coords) (k0_t2 : Fin (k0_t2_loop i).trips) : BitVec 32 :=
  let c2_i32_662 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c6_i32_660 : BitVec 32 := 6#32
  let v1036 : BitVec 32 := Scalar.addi v525 c6_i32_660
  let c1_i32_661 : BitVec 32 := 1#32
  let v1037 : BitVec 32 := Scalar.addi v1036 c1_i32_661
  let v1038 : BitVec 32 := Scalar.muli c2_i32_662 v1037
  let c0_i32_663 : BitVec 32 := 0#32
  let v1039 : BitVec 32 := Scalar.addi v1038 c0_i32_663
  let v1040 : BitVec 1 := Scalar.cmpi .slt v1039 v231
  let c32_i32_665 : BitVec 32 := 32#32
  let v1042 : BitVec 32 := Scalar.select v1040 v1039 c32_i32_665
  let c256_i32_670 : BitVec 32 := 256#32
  let v1048 : BitVec 32 := Scalar.muli v1042 c256_i32_670
  v1048
def k0_mult100 (i : grid0.Coords) (k0_t2 : Fin (k0_t2_loop i).trips) : BitVec 32 :=
  let c2_i32_672 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c6_i32_660 : BitVec 32 := 6#32
  let v1036 : BitVec 32 := Scalar.addi v525 c6_i32_660
  let c1_i32_661 : BitVec 32 := 1#32
  let v1037 : BitVec 32 := Scalar.addi v1036 c1_i32_661
  let v1054 : BitVec 32 := Scalar.muli c2_i32_672 v1037
  let c1_i32_673 : BitVec 32 := 1#32
  let v1055 : BitVec 32 := Scalar.addi v1054 c1_i32_673
  let v1056 : BitVec 1 := Scalar.cmpi .slt v1055 v231
  let c0_i32_674 : BitVec 32 := 0#32
  let v1057 : BitVec 32 := Scalar.select v1056 v1055 c0_i32_674
  let c256_i32_676 : BitVec 32 := 256#32
  let v1059 : BitVec 32 := Scalar.muli v1057 c256_i32_676
  v1059
def k0_mult101 (i : grid0.Coords) (k0_t2 : Fin (k0_t2_loop i).trips) : BitVec 32 :=
  let c2_i32_672 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c6_i32_660 : BitVec 32 := 6#32
  let v1036 : BitVec 32 := Scalar.addi v525 c6_i32_660
  let c1_i32_661 : BitVec 32 := 1#32
  let v1037 : BitVec 32 := Scalar.addi v1036 c1_i32_661
  let v1054 : BitVec 32 := Scalar.muli c2_i32_672 v1037
  let c1_i32_673 : BitVec 32 := 1#32
  let v1055 : BitVec 32 := Scalar.addi v1054 c1_i32_673
  let v1056 : BitVec 1 := Scalar.cmpi .slt v1055 v231
  let c32_i32_675 : BitVec 32 := 32#32
  let v1058 : BitVec 32 := Scalar.select v1056 v1055 c32_i32_675
  let c256_i32_680 : BitVec 32 := 256#32
  let v1064 : BitVec 32 := Scalar.muli v1058 c256_i32_680
  v1064
def k0_mult102 (i : grid0.Coords) (k0_t2 : Fin (k0_t2_loop i).trips) : BitVec 32 :=
  let c2_i32_724 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c7_i32_722 : BitVec 32 := 7#32
  let v1121 : BitVec 32 := Scalar.addi v525 c7_i32_722
  let c1_i32_723 : BitVec 32 := 1#32
  let v1122 : BitVec 32 := Scalar.addi v1121 c1_i32_723
  let v1123 : BitVec 32 := Scalar.muli c2_i32_724 v1122
  let c0_i32_725 : BitVec 32 := 0#32
  let v1124 : BitVec 32 := Scalar.addi v1123 c0_i32_725
  let v1125 : BitVec 1 := Scalar.cmpi .slt v1124 v231
  let c0_i32_726 : BitVec 32 := 0#32
  let v1126 : BitVec 32 := Scalar.select v1125 v1124 c0_i32_726
  let c256_i32_728 : BitVec 32 := 256#32
  let v1128 : BitVec 32 := Scalar.muli v1126 c256_i32_728
  v1128
def k0_mult103 (i : grid0.Coords) (k0_t2 : Fin (k0_t2_loop i).trips) : BitVec 32 :=
  let c2_i32_724 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c7_i32_722 : BitVec 32 := 7#32
  let v1121 : BitVec 32 := Scalar.addi v525 c7_i32_722
  let c1_i32_723 : BitVec 32 := 1#32
  let v1122 : BitVec 32 := Scalar.addi v1121 c1_i32_723
  let v1123 : BitVec 32 := Scalar.muli c2_i32_724 v1122
  let c0_i32_725 : BitVec 32 := 0#32
  let v1124 : BitVec 32 := Scalar.addi v1123 c0_i32_725
  let v1125 : BitVec 1 := Scalar.cmpi .slt v1124 v231
  let c32_i32_727 : BitVec 32 := 32#32
  let v1127 : BitVec 32 := Scalar.select v1125 v1124 c32_i32_727
  let c256_i32_732 : BitVec 32 := 256#32
  let v1133 : BitVec 32 := Scalar.muli v1127 c256_i32_732
  v1133
def k0_mult104 (i : grid0.Coords) (k0_t2 : Fin (k0_t2_loop i).trips) : BitVec 32 :=
  let c2_i32_734 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c7_i32_722 : BitVec 32 := 7#32
  let v1121 : BitVec 32 := Scalar.addi v525 c7_i32_722
  let c1_i32_723 : BitVec 32 := 1#32
  let v1122 : BitVec 32 := Scalar.addi v1121 c1_i32_723
  let v1139 : BitVec 32 := Scalar.muli c2_i32_734 v1122
  let c1_i32_735 : BitVec 32 := 1#32
  let v1140 : BitVec 32 := Scalar.addi v1139 c1_i32_735
  let v1141 : BitVec 1 := Scalar.cmpi .slt v1140 v231
  let c0_i32_736 : BitVec 32 := 0#32
  let v1142 : BitVec 32 := Scalar.select v1141 v1140 c0_i32_736
  let c256_i32_738 : BitVec 32 := 256#32
  let v1144 : BitVec 32 := Scalar.muli v1142 c256_i32_738
  v1144
def k0_mult105 (i : grid0.Coords) (k0_t2 : Fin (k0_t2_loop i).trips) : BitVec 32 :=
  let c2_i32_734 : BitVec 32 := 2#32
  let c8_i32_289 : BitVec 32 := 8#32
  let c0_i32_178 : BitVec 32 := 0#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v339 : BitVec 32 := Scalar.subi v338 c0_i32_178
  let c1_i32_179 : BitVec 32 := 1#32
  let v341 : BitVec 32 := Scalar.divsi v339 c1_i32_179
  let v342 : BitVec 32 := Scalar.muli v341 c1_i32_179
  let v343 : BitVec 32 := Scalar.addi c0_i32_178 v342
  let c1_i32_181 : BitVec 32 := 1#32
  let arg24 : BitVec 32 := Scf.iv v343 c1_i32_181 k0_t2
  let v525 : BitVec 32 := Scalar.muli c8_i32_289 arg24
  let c7_i32_722 : BitVec 32 := 7#32
  let v1121 : BitVec 32 := Scalar.addi v525 c7_i32_722
  let c1_i32_723 : BitVec 32 := 1#32
  let v1122 : BitVec 32 := Scalar.addi v1121 c1_i32_723
  let v1139 : BitVec 32 := Scalar.muli c2_i32_734 v1122
  let c1_i32_735 : BitVec 32 := 1#32
  let v1140 : BitVec 32 := Scalar.addi v1139 c1_i32_735
  let v1141 : BitVec 1 := Scalar.cmpi .slt v1140 v231
  let c32_i32_737 : BitVec 32 := 32#32
  let v1143 : BitVec 32 := Scalar.select v1141 v1140 c32_i32_737
  let c256_i32_742 : BitVec 32 := 256#32
  let v1149 : BitVec 32 := Scalar.muli v1143 c256_i32_742
  v1149
def k0_cond9 (i : grid0.Coords) : BitVec 1 :=
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c8_i32_182 : BitVec 32 := 8#32
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let c0_i32_190 : BitVec 32 := 0#32
  let v363 : BitVec 1 := Scalar.cmpi .sgt v362 c0_i32_190
  let v364 : BitVec 32 := Scalar.extui v363
  let c0_i32_191 : BitVec 32 := 0#32
  let v365 : BitVec 1 := Scalar.cmpi .ne v364 c0_i32_191
  v365

def k0_mult106 (i : grid0.Coords) : BitVec 32 :=
  let c2_i32_291 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c0_i32_289 : BitVec 32 := 0#32
  let v525 : BitVec 32 := Scalar.addi v344 c0_i32_289
  let c1_i32_290 : BitVec 32 := 1#32
  let v526 : BitVec 32 := Scalar.addi v525 c1_i32_290
  let v527 : BitVec 32 := Scalar.muli c2_i32_291 v526
  let c0_i32_292 : BitVec 32 := 0#32
  let v528 : BitVec 32 := Scalar.addi v527 c0_i32_292
  let v529 : BitVec 1 := Scalar.cmpi .slt v528 v231
  let c0_i32_293 : BitVec 32 := 0#32
  let v530 : BitVec 32 := Scalar.select v529 v528 c0_i32_293
  let c256_i32_295 : BitVec 32 := 256#32
  let v532 : BitVec 32 := Scalar.muli v530 c256_i32_295
  v532
def k0_off39 (i : grid0.Coords) (c0_i32_289 : BitVec 32) (c0_i32_292 : BitVec 32) : Fin 4 → Nat :=
  let c0_296 : Index := 0#32
  let c0_297 : Index := 0#32
  let c2_i32_291 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let v525 : BitVec 32 := Scalar.addi v344 c0_i32_289
  let c1_i32_290 : BitVec 32 := 1#32
  let v526 : BitVec 32 := Scalar.addi v525 c1_i32_290
  let v527 : BitVec 32 := Scalar.muli c2_i32_291 v526
  let v528 : BitVec 32 := Scalar.addi v527 c0_i32_292
  let v529 : BitVec 1 := Scalar.cmpi .slt v528 v231
  let c0_i32_293 : BitVec 32 := 0#32
  let v530 : BitVec 32 := Scalar.select v529 v528 c0_i32_293
  let c256_i32_295 : BitVec 32 := 256#32
  let v532 : BitVec 32 := Scalar.muli v530 c256_i32_295
  let v533 : BitVec 32 := v532
  let v534 : Index := Scalar.indexCast v533
  let c0_298 : Index := 0#32
  ![0, 0, v534.toNat, 0]
def k0_mult107 (i : grid0.Coords) : BitVec 32 :=
  let c2_i32_291 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c0_i32_289 : BitVec 32 := 0#32
  let v525 : BitVec 32 := Scalar.addi v344 c0_i32_289
  let c1_i32_290 : BitVec 32 := 1#32
  let v526 : BitVec 32 := Scalar.addi v525 c1_i32_290
  let v527 : BitVec 32 := Scalar.muli c2_i32_291 v526
  let c0_i32_292 : BitVec 32 := 0#32
  let v528 : BitVec 32 := Scalar.addi v527 c0_i32_292
  let v529 : BitVec 1 := Scalar.cmpi .slt v528 v231
  let c32_i32_294 : BitVec 32 := 32#32
  let v531 : BitVec 32 := Scalar.select v529 v528 c32_i32_294
  let c256_i32_299 : BitVec 32 := 256#32
  let v537 : BitVec 32 := Scalar.muli v531 c256_i32_299
  v537
def k0_off40 (i : grid0.Coords) (c0_i32_289 : BitVec 32) (c0_i32_292 : BitVec 32) : Fin 2 → Nat :=
  let c2_i32_291 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let v525 : BitVec 32 := Scalar.addi v344 c0_i32_289
  let c1_i32_290 : BitVec 32 := 1#32
  let v526 : BitVec 32 := Scalar.addi v525 c1_i32_290
  let v527 : BitVec 32 := Scalar.muli c2_i32_291 v526
  let v528 : BitVec 32 := Scalar.addi v527 c0_i32_292
  let v529 : BitVec 1 := Scalar.cmpi .slt v528 v231
  let c32_i32_294 : BitVec 32 := 32#32
  let v531 : BitVec 32 := Scalar.select v529 v528 c32_i32_294
  let c256_i32_299 : BitVec 32 := 256#32
  let v537 : BitVec 32 := Scalar.muli v531 c256_i32_299
  let v538 : BitVec 32 := v537
  let v539 : Index := Scalar.indexCast v538
  let c0_300 : Index := 0#32
  ![v539.toNat, 0]
def k0_mult108 (i : grid0.Coords) : BitVec 32 :=
  let c2_i32_301 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c0_i32_289 : BitVec 32 := 0#32
  let v525 : BitVec 32 := Scalar.addi v344 c0_i32_289
  let c1_i32_290 : BitVec 32 := 1#32
  let v526 : BitVec 32 := Scalar.addi v525 c1_i32_290
  let v543 : BitVec 32 := Scalar.muli c2_i32_301 v526
  let c1_i32_302 : BitVec 32 := 1#32
  let v544 : BitVec 32 := Scalar.addi v543 c1_i32_302
  let v545 : BitVec 1 := Scalar.cmpi .slt v544 v231
  let c0_i32_303 : BitVec 32 := 0#32
  let v546 : BitVec 32 := Scalar.select v545 v544 c0_i32_303
  let c256_i32_305 : BitVec 32 := 256#32
  let v548 : BitVec 32 := Scalar.muli v546 c256_i32_305
  v548
def k0_mult109 (i : grid0.Coords) : BitVec 32 :=
  let c2_i32_301 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c0_i32_289 : BitVec 32 := 0#32
  let v525 : BitVec 32 := Scalar.addi v344 c0_i32_289
  let c1_i32_290 : BitVec 32 := 1#32
  let v526 : BitVec 32 := Scalar.addi v525 c1_i32_290
  let v543 : BitVec 32 := Scalar.muli c2_i32_301 v526
  let c1_i32_302 : BitVec 32 := 1#32
  let v544 : BitVec 32 := Scalar.addi v543 c1_i32_302
  let v545 : BitVec 1 := Scalar.cmpi .slt v544 v231
  let c32_i32_304 : BitVec 32 := 32#32
  let v547 : BitVec 32 := Scalar.select v545 v544 c32_i32_304
  let c256_i32_309 : BitVec 32 := 256#32
  let v553 : BitVec 32 := Scalar.muli v547 c256_i32_309
  v553
def k0_off41 (i : grid0.Coords) (c0_i32_318 : BitVec 32) (c0_i32_327 : BitVec 32) : Fin 5 → Nat :=
  let c0_329 : Index := 0#32
  let c0_330 : Index := 0#32
  let c2_i32_326 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let v570 : BitVec 32 := Scalar.addi v344 c0_i32_318
  let v579 : BitVec 32 := Scalar.muli c2_i32_326 v570
  let v580 : BitVec 32 := Scalar.addi v579 c0_i32_327
  let v581 : BitVec 1 := Scalar.cmpi .slt v580 v231
  let c0_i32_328 : BitVec 32 := 0#32
  let v582 : BitVec 32 := Scalar.select v581 v580 c0_i32_328
  let v583 : Index := Scalar.indexCast v582
  let c0_331 : Index := 0#32
  let c0_332 : Index := 0#32
  ![0, 0, v583.toNat, 0, 0]
def k0_mult110 (i : grid0.Coords) : BitVec 32 :=
  let c2_i32_349 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c1_i32_347 : BitVec 32 := 1#32
  let v608 : BitVec 32 := Scalar.addi v344 c1_i32_347
  let c1_i32_348 : BitVec 32 := 1#32
  let v609 : BitVec 32 := Scalar.addi v608 c1_i32_348
  let v610 : BitVec 32 := Scalar.muli c2_i32_349 v609
  let c0_i32_350 : BitVec 32 := 0#32
  let v611 : BitVec 32 := Scalar.addi v610 c0_i32_350
  let v612 : BitVec 1 := Scalar.cmpi .slt v611 v231
  let c0_i32_351 : BitVec 32 := 0#32
  let v613 : BitVec 32 := Scalar.select v612 v611 c0_i32_351
  let c256_i32_353 : BitVec 32 := 256#32
  let v615 : BitVec 32 := Scalar.muli v613 c256_i32_353
  v615
def k0_mult111 (i : grid0.Coords) : BitVec 32 :=
  let c2_i32_349 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c1_i32_347 : BitVec 32 := 1#32
  let v608 : BitVec 32 := Scalar.addi v344 c1_i32_347
  let c1_i32_348 : BitVec 32 := 1#32
  let v609 : BitVec 32 := Scalar.addi v608 c1_i32_348
  let v610 : BitVec 32 := Scalar.muli c2_i32_349 v609
  let c0_i32_350 : BitVec 32 := 0#32
  let v611 : BitVec 32 := Scalar.addi v610 c0_i32_350
  let v612 : BitVec 1 := Scalar.cmpi .slt v611 v231
  let c32_i32_352 : BitVec 32 := 32#32
  let v614 : BitVec 32 := Scalar.select v612 v611 c32_i32_352
  let c256_i32_357 : BitVec 32 := 256#32
  let v620 : BitVec 32 := Scalar.muli v614 c256_i32_357
  v620
def k0_mult112 (i : grid0.Coords) : BitVec 32 :=
  let c2_i32_359 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c1_i32_347 : BitVec 32 := 1#32
  let v608 : BitVec 32 := Scalar.addi v344 c1_i32_347
  let c1_i32_348 : BitVec 32 := 1#32
  let v609 : BitVec 32 := Scalar.addi v608 c1_i32_348
  let v626 : BitVec 32 := Scalar.muli c2_i32_359 v609
  let c1_i32_360 : BitVec 32 := 1#32
  let v627 : BitVec 32 := Scalar.addi v626 c1_i32_360
  let v628 : BitVec 1 := Scalar.cmpi .slt v627 v231
  let c0_i32_361 : BitVec 32 := 0#32
  let v629 : BitVec 32 := Scalar.select v628 v627 c0_i32_361
  let c256_i32_363 : BitVec 32 := 256#32
  let v631 : BitVec 32 := Scalar.muli v629 c256_i32_363
  v631
def k0_mult113 (i : grid0.Coords) : BitVec 32 :=
  let c2_i32_359 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c1_i32_347 : BitVec 32 := 1#32
  let v608 : BitVec 32 := Scalar.addi v344 c1_i32_347
  let c1_i32_348 : BitVec 32 := 1#32
  let v609 : BitVec 32 := Scalar.addi v608 c1_i32_348
  let v626 : BitVec 32 := Scalar.muli c2_i32_359 v609
  let c1_i32_360 : BitVec 32 := 1#32
  let v627 : BitVec 32 := Scalar.addi v626 c1_i32_360
  let v628 : BitVec 1 := Scalar.cmpi .slt v627 v231
  let c32_i32_362 : BitVec 32 := 32#32
  let v630 : BitVec 32 := Scalar.select v628 v627 c32_i32_362
  let c256_i32_367 : BitVec 32 := 256#32
  let v636 : BitVec 32 := Scalar.muli v630 c256_i32_367
  v636
def k0_mult114 (i : grid0.Coords) : BitVec 32 :=
  let c2_i32_409 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c2_i32_407 : BitVec 32 := 2#32
  let v691 : BitVec 32 := Scalar.addi v344 c2_i32_407
  let c1_i32_408 : BitVec 32 := 1#32
  let v692 : BitVec 32 := Scalar.addi v691 c1_i32_408
  let v693 : BitVec 32 := Scalar.muli c2_i32_409 v692
  let c0_i32_410 : BitVec 32 := 0#32
  let v694 : BitVec 32 := Scalar.addi v693 c0_i32_410
  let v695 : BitVec 1 := Scalar.cmpi .slt v694 v231
  let c0_i32_411 : BitVec 32 := 0#32
  let v696 : BitVec 32 := Scalar.select v695 v694 c0_i32_411
  let c256_i32_413 : BitVec 32 := 256#32
  let v698 : BitVec 32 := Scalar.muli v696 c256_i32_413
  v698
def k0_mult115 (i : grid0.Coords) : BitVec 32 :=
  let c2_i32_409 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c2_i32_407 : BitVec 32 := 2#32
  let v691 : BitVec 32 := Scalar.addi v344 c2_i32_407
  let c1_i32_408 : BitVec 32 := 1#32
  let v692 : BitVec 32 := Scalar.addi v691 c1_i32_408
  let v693 : BitVec 32 := Scalar.muli c2_i32_409 v692
  let c0_i32_410 : BitVec 32 := 0#32
  let v694 : BitVec 32 := Scalar.addi v693 c0_i32_410
  let v695 : BitVec 1 := Scalar.cmpi .slt v694 v231
  let c32_i32_412 : BitVec 32 := 32#32
  let v697 : BitVec 32 := Scalar.select v695 v694 c32_i32_412
  let c256_i32_417 : BitVec 32 := 256#32
  let v703 : BitVec 32 := Scalar.muli v697 c256_i32_417
  v703
def k0_mult116 (i : grid0.Coords) : BitVec 32 :=
  let c2_i32_419 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c2_i32_407 : BitVec 32 := 2#32
  let v691 : BitVec 32 := Scalar.addi v344 c2_i32_407
  let c1_i32_408 : BitVec 32 := 1#32
  let v692 : BitVec 32 := Scalar.addi v691 c1_i32_408
  let v709 : BitVec 32 := Scalar.muli c2_i32_419 v692
  let c1_i32_420 : BitVec 32 := 1#32
  let v710 : BitVec 32 := Scalar.addi v709 c1_i32_420
  let v711 : BitVec 1 := Scalar.cmpi .slt v710 v231
  let c0_i32_421 : BitVec 32 := 0#32
  let v712 : BitVec 32 := Scalar.select v711 v710 c0_i32_421
  let c256_i32_423 : BitVec 32 := 256#32
  let v714 : BitVec 32 := Scalar.muli v712 c256_i32_423
  v714
def k0_mult117 (i : grid0.Coords) : BitVec 32 :=
  let c2_i32_419 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c2_i32_407 : BitVec 32 := 2#32
  let v691 : BitVec 32 := Scalar.addi v344 c2_i32_407
  let c1_i32_408 : BitVec 32 := 1#32
  let v692 : BitVec 32 := Scalar.addi v691 c1_i32_408
  let v709 : BitVec 32 := Scalar.muli c2_i32_419 v692
  let c1_i32_420 : BitVec 32 := 1#32
  let v710 : BitVec 32 := Scalar.addi v709 c1_i32_420
  let v711 : BitVec 1 := Scalar.cmpi .slt v710 v231
  let c32_i32_422 : BitVec 32 := 32#32
  let v713 : BitVec 32 := Scalar.select v711 v710 c32_i32_422
  let c256_i32_427 : BitVec 32 := 256#32
  let v719 : BitVec 32 := Scalar.muli v713 c256_i32_427
  v719
def k0_mult118 (i : grid0.Coords) : BitVec 32 :=
  let c2_i32_469 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c3_i32_467 : BitVec 32 := 3#32
  let v774 : BitVec 32 := Scalar.addi v344 c3_i32_467
  let c1_i32_468 : BitVec 32 := 1#32
  let v775 : BitVec 32 := Scalar.addi v774 c1_i32_468
  let v776 : BitVec 32 := Scalar.muli c2_i32_469 v775
  let c0_i32_470 : BitVec 32 := 0#32
  let v777 : BitVec 32 := Scalar.addi v776 c0_i32_470
  let v778 : BitVec 1 := Scalar.cmpi .slt v777 v231
  let c0_i32_471 : BitVec 32 := 0#32
  let v779 : BitVec 32 := Scalar.select v778 v777 c0_i32_471
  let c256_i32_473 : BitVec 32 := 256#32
  let v781 : BitVec 32 := Scalar.muli v779 c256_i32_473
  v781
def k0_mult119 (i : grid0.Coords) : BitVec 32 :=
  let c2_i32_469 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c3_i32_467 : BitVec 32 := 3#32
  let v774 : BitVec 32 := Scalar.addi v344 c3_i32_467
  let c1_i32_468 : BitVec 32 := 1#32
  let v775 : BitVec 32 := Scalar.addi v774 c1_i32_468
  let v776 : BitVec 32 := Scalar.muli c2_i32_469 v775
  let c0_i32_470 : BitVec 32 := 0#32
  let v777 : BitVec 32 := Scalar.addi v776 c0_i32_470
  let v778 : BitVec 1 := Scalar.cmpi .slt v777 v231
  let c32_i32_472 : BitVec 32 := 32#32
  let v780 : BitVec 32 := Scalar.select v778 v777 c32_i32_472
  let c256_i32_477 : BitVec 32 := 256#32
  let v786 : BitVec 32 := Scalar.muli v780 c256_i32_477
  v786
def k0_mult120 (i : grid0.Coords) : BitVec 32 :=
  let c2_i32_479 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c3_i32_467 : BitVec 32 := 3#32
  let v774 : BitVec 32 := Scalar.addi v344 c3_i32_467
  let c1_i32_468 : BitVec 32 := 1#32
  let v775 : BitVec 32 := Scalar.addi v774 c1_i32_468
  let v792 : BitVec 32 := Scalar.muli c2_i32_479 v775
  let c1_i32_480 : BitVec 32 := 1#32
  let v793 : BitVec 32 := Scalar.addi v792 c1_i32_480
  let v794 : BitVec 1 := Scalar.cmpi .slt v793 v231
  let c0_i32_481 : BitVec 32 := 0#32
  let v795 : BitVec 32 := Scalar.select v794 v793 c0_i32_481
  let c256_i32_483 : BitVec 32 := 256#32
  let v797 : BitVec 32 := Scalar.muli v795 c256_i32_483
  v797
def k0_mult121 (i : grid0.Coords) : BitVec 32 :=
  let c2_i32_479 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c3_i32_467 : BitVec 32 := 3#32
  let v774 : BitVec 32 := Scalar.addi v344 c3_i32_467
  let c1_i32_468 : BitVec 32 := 1#32
  let v775 : BitVec 32 := Scalar.addi v774 c1_i32_468
  let v792 : BitVec 32 := Scalar.muli c2_i32_479 v775
  let c1_i32_480 : BitVec 32 := 1#32
  let v793 : BitVec 32 := Scalar.addi v792 c1_i32_480
  let v794 : BitVec 1 := Scalar.cmpi .slt v793 v231
  let c32_i32_482 : BitVec 32 := 32#32
  let v796 : BitVec 32 := Scalar.select v794 v793 c32_i32_482
  let c256_i32_487 : BitVec 32 := 256#32
  let v802 : BitVec 32 := Scalar.muli v796 c256_i32_487
  v802
def k0_cond10 (i : grid0.Coords) : BitVec 1 :=
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c8_i32_182 : BitVec 32 := 8#32
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let v368 : BitVec 32 := Scalar.subi v250 v367
  let c0_i32_194 : BitVec 32 := 0#32
  let v370 : BitVec 1 := Scalar.cmpi .sgt v368 c0_i32_194
  let v371 : BitVec 32 := Scalar.extui v370
  let c0_i32_195 : BitVec 32 := 0#32
  let v372 : BitVec 1 := Scalar.cmpi .slt v368 c0_i32_195
  let v373 : BitVec 32 := Scalar.extui v372
  let v374 : BitVec 32 := Scalar.subi v371 v373
  let c2_i32_193 : BitVec 32 := 2#32
  let c0_i32_196 : BitVec 32 := 0#32
  let v375 : BitVec 1 := Scalar.cmpi .sgt c2_i32_193 c0_i32_196
  let v376 : BitVec 32 := Scalar.extui v375
  let c0_i32_197 : BitVec 32 := 0#32
  let v377 : BitVec 1 := Scalar.cmpi .slt c2_i32_193 c0_i32_197
  let v378 : BitVec 32 := Scalar.extui v377
  let v379 : BitVec 32 := Scalar.subi v376 v378
  let v380 : BitVec 1 := Scalar.cmpi .ne v374 v379
  let v381 : BitVec 32 := Scalar.remsi v368 c2_i32_193
  let c0_i32_198 : BitVec 32 := 0#32
  let v382 : BitVec 1 := Scalar.cmpi .ne v381 c0_i32_198
  let v383 : BitVec 1 := Scalar.andi v380 v382
  let v369 : BitVec 32 := Scalar.divsi v368 c2_i32_193
  let c1_i32_199 : BitVec 32 := 1#32
  let v384 : BitVec 32 := Scalar.subi v369 c1_i32_199
  let v385 : BitVec 32 := Scalar.select v383 v384 v369
  let c0_i32_200 : BitVec 32 := 0#32
  let v386 : BitVec 1 := Scalar.cmpi .sgt v385 c0_i32_200
  let v387 : BitVec 32 := Scalar.extui v386
  let c0_i32_201 : BitVec 32 := 0#32
  let v388 : BitVec 1 := Scalar.cmpi .ne v387 c0_i32_201
  v388

def k0_mult122 (i : grid0.Coords) : BitVec 32 :=
  let c2_i32_291 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let c0_i32_289 : BitVec 32 := 0#32
  let v525 : BitVec 32 := Scalar.addi v367 c0_i32_289
  let c1_i32_290 : BitVec 32 := 1#32
  let v526 : BitVec 32 := Scalar.addi v525 c1_i32_290
  let v527 : BitVec 32 := Scalar.muli c2_i32_291 v526
  let c0_i32_292 : BitVec 32 := 0#32
  let v528 : BitVec 32 := Scalar.addi v527 c0_i32_292
  let v529 : BitVec 1 := Scalar.cmpi .slt v528 v231
  let c0_i32_293 : BitVec 32 := 0#32
  let v530 : BitVec 32 := Scalar.select v529 v528 c0_i32_293
  let c256_i32_295 : BitVec 32 := 256#32
  let v532 : BitVec 32 := Scalar.muli v530 c256_i32_295
  v532
def k0_off42 (i : grid0.Coords) (c0_i32_289 : BitVec 32) (c0_i32_292 : BitVec 32) : Fin 4 → Nat :=
  let c0_296 : Index := 0#32
  let c0_297 : Index := 0#32
  let c2_i32_291 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let v525 : BitVec 32 := Scalar.addi v367 c0_i32_289
  let c1_i32_290 : BitVec 32 := 1#32
  let v526 : BitVec 32 := Scalar.addi v525 c1_i32_290
  let v527 : BitVec 32 := Scalar.muli c2_i32_291 v526
  let v528 : BitVec 32 := Scalar.addi v527 c0_i32_292
  let v529 : BitVec 1 := Scalar.cmpi .slt v528 v231
  let c0_i32_293 : BitVec 32 := 0#32
  let v530 : BitVec 32 := Scalar.select v529 v528 c0_i32_293
  let c256_i32_295 : BitVec 32 := 256#32
  let v532 : BitVec 32 := Scalar.muli v530 c256_i32_295
  let v533 : BitVec 32 := v532
  let v534 : Index := Scalar.indexCast v533
  let c0_298 : Index := 0#32
  ![0, 0, v534.toNat, 0]
def k0_mult123 (i : grid0.Coords) : BitVec 32 :=
  let c2_i32_291 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let c0_i32_289 : BitVec 32 := 0#32
  let v525 : BitVec 32 := Scalar.addi v367 c0_i32_289
  let c1_i32_290 : BitVec 32 := 1#32
  let v526 : BitVec 32 := Scalar.addi v525 c1_i32_290
  let v527 : BitVec 32 := Scalar.muli c2_i32_291 v526
  let c0_i32_292 : BitVec 32 := 0#32
  let v528 : BitVec 32 := Scalar.addi v527 c0_i32_292
  let v529 : BitVec 1 := Scalar.cmpi .slt v528 v231
  let c32_i32_294 : BitVec 32 := 32#32
  let v531 : BitVec 32 := Scalar.select v529 v528 c32_i32_294
  let c256_i32_299 : BitVec 32 := 256#32
  let v537 : BitVec 32 := Scalar.muli v531 c256_i32_299
  v537
def k0_off43 (i : grid0.Coords) (c0_i32_289 : BitVec 32) (c0_i32_292 : BitVec 32) : Fin 2 → Nat :=
  let c2_i32_291 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let v525 : BitVec 32 := Scalar.addi v367 c0_i32_289
  let c1_i32_290 : BitVec 32 := 1#32
  let v526 : BitVec 32 := Scalar.addi v525 c1_i32_290
  let v527 : BitVec 32 := Scalar.muli c2_i32_291 v526
  let v528 : BitVec 32 := Scalar.addi v527 c0_i32_292
  let v529 : BitVec 1 := Scalar.cmpi .slt v528 v231
  let c32_i32_294 : BitVec 32 := 32#32
  let v531 : BitVec 32 := Scalar.select v529 v528 c32_i32_294
  let c256_i32_299 : BitVec 32 := 256#32
  let v537 : BitVec 32 := Scalar.muli v531 c256_i32_299
  let v538 : BitVec 32 := v537
  let v539 : Index := Scalar.indexCast v538
  let c0_300 : Index := 0#32
  ![v539.toNat, 0]
def k0_mult124 (i : grid0.Coords) : BitVec 32 :=
  let c2_i32_301 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let c0_i32_289 : BitVec 32 := 0#32
  let v525 : BitVec 32 := Scalar.addi v367 c0_i32_289
  let c1_i32_290 : BitVec 32 := 1#32
  let v526 : BitVec 32 := Scalar.addi v525 c1_i32_290
  let v543 : BitVec 32 := Scalar.muli c2_i32_301 v526
  let c1_i32_302 : BitVec 32 := 1#32
  let v544 : BitVec 32 := Scalar.addi v543 c1_i32_302
  let v545 : BitVec 1 := Scalar.cmpi .slt v544 v231
  let c0_i32_303 : BitVec 32 := 0#32
  let v546 : BitVec 32 := Scalar.select v545 v544 c0_i32_303
  let c256_i32_305 : BitVec 32 := 256#32
  let v548 : BitVec 32 := Scalar.muli v546 c256_i32_305
  v548
def k0_mult125 (i : grid0.Coords) : BitVec 32 :=
  let c2_i32_301 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let c0_i32_289 : BitVec 32 := 0#32
  let v525 : BitVec 32 := Scalar.addi v367 c0_i32_289
  let c1_i32_290 : BitVec 32 := 1#32
  let v526 : BitVec 32 := Scalar.addi v525 c1_i32_290
  let v543 : BitVec 32 := Scalar.muli c2_i32_301 v526
  let c1_i32_302 : BitVec 32 := 1#32
  let v544 : BitVec 32 := Scalar.addi v543 c1_i32_302
  let v545 : BitVec 1 := Scalar.cmpi .slt v544 v231
  let c32_i32_304 : BitVec 32 := 32#32
  let v547 : BitVec 32 := Scalar.select v545 v544 c32_i32_304
  let c256_i32_309 : BitVec 32 := 256#32
  let v553 : BitVec 32 := Scalar.muli v547 c256_i32_309
  v553
def k0_off44 (i : grid0.Coords) (c0_i32_318 : BitVec 32) (c0_i32_327 : BitVec 32) : Fin 5 → Nat :=
  let c0_329 : Index := 0#32
  let c0_330 : Index := 0#32
  let c2_i32_326 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let v570 : BitVec 32 := Scalar.addi v367 c0_i32_318
  let v579 : BitVec 32 := Scalar.muli c2_i32_326 v570
  let v580 : BitVec 32 := Scalar.addi v579 c0_i32_327
  let v581 : BitVec 1 := Scalar.cmpi .slt v580 v231
  let c0_i32_328 : BitVec 32 := 0#32
  let v582 : BitVec 32 := Scalar.select v581 v580 c0_i32_328
  let v583 : Index := Scalar.indexCast v582
  let c0_331 : Index := 0#32
  let c0_332 : Index := 0#32
  ![0, 0, v583.toNat, 0, 0]
def k0_mult126 (i : grid0.Coords) : BitVec 32 :=
  let c2_i32_349 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let c1_i32_347 : BitVec 32 := 1#32
  let v608 : BitVec 32 := Scalar.addi v367 c1_i32_347
  let c1_i32_348 : BitVec 32 := 1#32
  let v609 : BitVec 32 := Scalar.addi v608 c1_i32_348
  let v610 : BitVec 32 := Scalar.muli c2_i32_349 v609
  let c0_i32_350 : BitVec 32 := 0#32
  let v611 : BitVec 32 := Scalar.addi v610 c0_i32_350
  let v612 : BitVec 1 := Scalar.cmpi .slt v611 v231
  let c0_i32_351 : BitVec 32 := 0#32
  let v613 : BitVec 32 := Scalar.select v612 v611 c0_i32_351
  let c256_i32_353 : BitVec 32 := 256#32
  let v615 : BitVec 32 := Scalar.muli v613 c256_i32_353
  v615
def k0_mult127 (i : grid0.Coords) : BitVec 32 :=
  let c2_i32_349 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let c1_i32_347 : BitVec 32 := 1#32
  let v608 : BitVec 32 := Scalar.addi v367 c1_i32_347
  let c1_i32_348 : BitVec 32 := 1#32
  let v609 : BitVec 32 := Scalar.addi v608 c1_i32_348
  let v610 : BitVec 32 := Scalar.muli c2_i32_349 v609
  let c0_i32_350 : BitVec 32 := 0#32
  let v611 : BitVec 32 := Scalar.addi v610 c0_i32_350
  let v612 : BitVec 1 := Scalar.cmpi .slt v611 v231
  let c32_i32_352 : BitVec 32 := 32#32
  let v614 : BitVec 32 := Scalar.select v612 v611 c32_i32_352
  let c256_i32_357 : BitVec 32 := 256#32
  let v620 : BitVec 32 := Scalar.muli v614 c256_i32_357
  v620
def k0_mult128 (i : grid0.Coords) : BitVec 32 :=
  let c2_i32_359 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let c1_i32_347 : BitVec 32 := 1#32
  let v608 : BitVec 32 := Scalar.addi v367 c1_i32_347
  let c1_i32_348 : BitVec 32 := 1#32
  let v609 : BitVec 32 := Scalar.addi v608 c1_i32_348
  let v626 : BitVec 32 := Scalar.muli c2_i32_359 v609
  let c1_i32_360 : BitVec 32 := 1#32
  let v627 : BitVec 32 := Scalar.addi v626 c1_i32_360
  let v628 : BitVec 1 := Scalar.cmpi .slt v627 v231
  let c0_i32_361 : BitVec 32 := 0#32
  let v629 : BitVec 32 := Scalar.select v628 v627 c0_i32_361
  let c256_i32_363 : BitVec 32 := 256#32
  let v631 : BitVec 32 := Scalar.muli v629 c256_i32_363
  v631
def k0_mult129 (i : grid0.Coords) : BitVec 32 :=
  let c2_i32_359 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let c1_i32_347 : BitVec 32 := 1#32
  let v608 : BitVec 32 := Scalar.addi v367 c1_i32_347
  let c1_i32_348 : BitVec 32 := 1#32
  let v609 : BitVec 32 := Scalar.addi v608 c1_i32_348
  let v626 : BitVec 32 := Scalar.muli c2_i32_359 v609
  let c1_i32_360 : BitVec 32 := 1#32
  let v627 : BitVec 32 := Scalar.addi v626 c1_i32_360
  let v628 : BitVec 1 := Scalar.cmpi .slt v627 v231
  let c32_i32_362 : BitVec 32 := 32#32
  let v630 : BitVec 32 := Scalar.select v628 v627 c32_i32_362
  let c256_i32_367 : BitVec 32 := 256#32
  let v636 : BitVec 32 := Scalar.muli v630 c256_i32_367
  v636
def k0_cond11 (i : grid0.Coords) : BitVec 1 :=
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c8_i32_182 : BitVec 32 := 8#32
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let c2_i32_202 : BitVec 32 := 2#32
  let v368 : BitVec 32 := Scalar.subi v250 v367
  let c0_i32_194 : BitVec 32 := 0#32
  let v370 : BitVec 1 := Scalar.cmpi .sgt v368 c0_i32_194
  let v371 : BitVec 32 := Scalar.extui v370
  let c0_i32_195 : BitVec 32 := 0#32
  let v372 : BitVec 1 := Scalar.cmpi .slt v368 c0_i32_195
  let v373 : BitVec 32 := Scalar.extui v372
  let v374 : BitVec 32 := Scalar.subi v371 v373
  let c2_i32_193 : BitVec 32 := 2#32
  let c0_i32_196 : BitVec 32 := 0#32
  let v375 : BitVec 1 := Scalar.cmpi .sgt c2_i32_193 c0_i32_196
  let v376 : BitVec 32 := Scalar.extui v375
  let c0_i32_197 : BitVec 32 := 0#32
  let v377 : BitVec 1 := Scalar.cmpi .slt c2_i32_193 c0_i32_197
  let v378 : BitVec 32 := Scalar.extui v377
  let v379 : BitVec 32 := Scalar.subi v376 v378
  let v380 : BitVec 1 := Scalar.cmpi .ne v374 v379
  let v381 : BitVec 32 := Scalar.remsi v368 c2_i32_193
  let c0_i32_198 : BitVec 32 := 0#32
  let v382 : BitVec 1 := Scalar.cmpi .ne v381 c0_i32_198
  let v383 : BitVec 1 := Scalar.andi v380 v382
  let v369 : BitVec 32 := Scalar.divsi v368 c2_i32_193
  let c1_i32_199 : BitVec 32 := 1#32
  let v384 : BitVec 32 := Scalar.subi v369 c1_i32_199
  let v385 : BitVec 32 := Scalar.select v383 v384 v369
  let v389 : BitVec 32 := Scalar.muli c2_i32_202 v385
  let v390 : BitVec 32 := Scalar.addi v367 v389
  let v391 : BitVec 32 := Scalar.subi v250 v390
  let c0_i32_204 : BitVec 32 := 0#32
  let v393 : BitVec 1 := Scalar.cmpi .sgt v391 c0_i32_204
  let v394 : BitVec 32 := Scalar.extui v393
  let c0_i32_205 : BitVec 32 := 0#32
  let v395 : BitVec 1 := Scalar.cmpi .slt v391 c0_i32_205
  let v396 : BitVec 32 := Scalar.extui v395
  let v397 : BitVec 32 := Scalar.subi v394 v396
  let c1_i32_203 : BitVec 32 := 1#32
  let c0_i32_206 : BitVec 32 := 0#32
  let v398 : BitVec 1 := Scalar.cmpi .sgt c1_i32_203 c0_i32_206
  let v399 : BitVec 32 := Scalar.extui v398
  let c0_i32_207 : BitVec 32 := 0#32
  let v400 : BitVec 1 := Scalar.cmpi .slt c1_i32_203 c0_i32_207
  let v401 : BitVec 32 := Scalar.extui v400
  let v402 : BitVec 32 := Scalar.subi v399 v401
  let v403 : BitVec 1 := Scalar.cmpi .ne v397 v402
  let v404 : BitVec 32 := Scalar.remsi v391 c1_i32_203
  let c0_i32_208 : BitVec 32 := 0#32
  let v405 : BitVec 1 := Scalar.cmpi .ne v404 c0_i32_208
  let v406 : BitVec 1 := Scalar.andi v403 v405
  let v392 : BitVec 32 := Scalar.divsi v391 c1_i32_203
  let c1_i32_209 : BitVec 32 := 1#32
  let v407 : BitVec 32 := Scalar.subi v392 c1_i32_209
  let v408 : BitVec 32 := Scalar.select v406 v407 v392
  let c0_i32_210 : BitVec 32 := 0#32
  let v409 : BitVec 1 := Scalar.cmpi .sgt v408 c0_i32_210
  let v410 : BitVec 32 := Scalar.extui v409
  let c0_i32_211 : BitVec 32 := 0#32
  let v411 : BitVec 1 := Scalar.cmpi .ne v410 c0_i32_211
  v411

def k0_mult130 (i : grid0.Coords) : BitVec 32 :=
  let c2_i32_291 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let c2_i32_202 : BitVec 32 := 2#32
  let v368 : BitVec 32 := Scalar.subi v250 v367
  let c0_i32_194 : BitVec 32 := 0#32
  let v370 : BitVec 1 := Scalar.cmpi .sgt v368 c0_i32_194
  let v371 : BitVec 32 := Scalar.extui v370
  let c0_i32_195 : BitVec 32 := 0#32
  let v372 : BitVec 1 := Scalar.cmpi .slt v368 c0_i32_195
  let v373 : BitVec 32 := Scalar.extui v372
  let v374 : BitVec 32 := Scalar.subi v371 v373
  let c2_i32_193 : BitVec 32 := 2#32
  let c0_i32_196 : BitVec 32 := 0#32
  let v375 : BitVec 1 := Scalar.cmpi .sgt c2_i32_193 c0_i32_196
  let v376 : BitVec 32 := Scalar.extui v375
  let c0_i32_197 : BitVec 32 := 0#32
  let v377 : BitVec 1 := Scalar.cmpi .slt c2_i32_193 c0_i32_197
  let v378 : BitVec 32 := Scalar.extui v377
  let v379 : BitVec 32 := Scalar.subi v376 v378
  let v380 : BitVec 1 := Scalar.cmpi .ne v374 v379
  let v381 : BitVec 32 := Scalar.remsi v368 c2_i32_193
  let c0_i32_198 : BitVec 32 := 0#32
  let v382 : BitVec 1 := Scalar.cmpi .ne v381 c0_i32_198
  let v383 : BitVec 1 := Scalar.andi v380 v382
  let v369 : BitVec 32 := Scalar.divsi v368 c2_i32_193
  let c1_i32_199 : BitVec 32 := 1#32
  let v384 : BitVec 32 := Scalar.subi v369 c1_i32_199
  let v385 : BitVec 32 := Scalar.select v383 v384 v369
  let v389 : BitVec 32 := Scalar.muli c2_i32_202 v385
  let v390 : BitVec 32 := Scalar.addi v367 v389
  let c0_i32_289 : BitVec 32 := 0#32
  let v525 : BitVec 32 := Scalar.addi v390 c0_i32_289
  let c1_i32_290 : BitVec 32 := 1#32
  let v526 : BitVec 32 := Scalar.addi v525 c1_i32_290
  let v527 : BitVec 32 := Scalar.muli c2_i32_291 v526
  let c0_i32_292 : BitVec 32 := 0#32
  let v528 : BitVec 32 := Scalar.addi v527 c0_i32_292
  let v529 : BitVec 1 := Scalar.cmpi .slt v528 v231
  let c0_i32_293 : BitVec 32 := 0#32
  let v530 : BitVec 32 := Scalar.select v529 v528 c0_i32_293
  let c256_i32_295 : BitVec 32 := 256#32
  let v532 : BitVec 32 := Scalar.muli v530 c256_i32_295
  v532
def k0_off45 (i : grid0.Coords) (c0_i32_292 : BitVec 32) : Fin 4 → Nat :=
  let c0_296 : Index := 0#32
  let c0_297 : Index := 0#32
  let c2_i32_291 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let c2_i32_202 : BitVec 32 := 2#32
  let v368 : BitVec 32 := Scalar.subi v250 v367
  let c0_i32_194 : BitVec 32 := 0#32
  let v370 : BitVec 1 := Scalar.cmpi .sgt v368 c0_i32_194
  let v371 : BitVec 32 := Scalar.extui v370
  let c0_i32_195 : BitVec 32 := 0#32
  let v372 : BitVec 1 := Scalar.cmpi .slt v368 c0_i32_195
  let v373 : BitVec 32 := Scalar.extui v372
  let v374 : BitVec 32 := Scalar.subi v371 v373
  let c2_i32_193 : BitVec 32 := 2#32
  let c0_i32_196 : BitVec 32 := 0#32
  let v375 : BitVec 1 := Scalar.cmpi .sgt c2_i32_193 c0_i32_196
  let v376 : BitVec 32 := Scalar.extui v375
  let c0_i32_197 : BitVec 32 := 0#32
  let v377 : BitVec 1 := Scalar.cmpi .slt c2_i32_193 c0_i32_197
  let v378 : BitVec 32 := Scalar.extui v377
  let v379 : BitVec 32 := Scalar.subi v376 v378
  let v380 : BitVec 1 := Scalar.cmpi .ne v374 v379
  let v381 : BitVec 32 := Scalar.remsi v368 c2_i32_193
  let c0_i32_198 : BitVec 32 := 0#32
  let v382 : BitVec 1 := Scalar.cmpi .ne v381 c0_i32_198
  let v383 : BitVec 1 := Scalar.andi v380 v382
  let v369 : BitVec 32 := Scalar.divsi v368 c2_i32_193
  let c1_i32_199 : BitVec 32 := 1#32
  let v384 : BitVec 32 := Scalar.subi v369 c1_i32_199
  let v385 : BitVec 32 := Scalar.select v383 v384 v369
  let v389 : BitVec 32 := Scalar.muli c2_i32_202 v385
  let v390 : BitVec 32 := Scalar.addi v367 v389
  let c0_i32_289 : BitVec 32 := 0#32
  let v525 : BitVec 32 := Scalar.addi v390 c0_i32_289
  let c1_i32_290 : BitVec 32 := 1#32
  let v526 : BitVec 32 := Scalar.addi v525 c1_i32_290
  let v527 : BitVec 32 := Scalar.muli c2_i32_291 v526
  let v528 : BitVec 32 := Scalar.addi v527 c0_i32_292
  let v529 : BitVec 1 := Scalar.cmpi .slt v528 v231
  let c0_i32_293 : BitVec 32 := 0#32
  let v530 : BitVec 32 := Scalar.select v529 v528 c0_i32_293
  let c256_i32_295 : BitVec 32 := 256#32
  let v532 : BitVec 32 := Scalar.muli v530 c256_i32_295
  let v533 : BitVec 32 := v532
  let v534 : Index := Scalar.indexCast v533
  let c0_298 : Index := 0#32
  ![0, 0, v534.toNat, 0]
def k0_mult131 (i : grid0.Coords) : BitVec 32 :=
  let c2_i32_291 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let c2_i32_202 : BitVec 32 := 2#32
  let v368 : BitVec 32 := Scalar.subi v250 v367
  let c0_i32_194 : BitVec 32 := 0#32
  let v370 : BitVec 1 := Scalar.cmpi .sgt v368 c0_i32_194
  let v371 : BitVec 32 := Scalar.extui v370
  let c0_i32_195 : BitVec 32 := 0#32
  let v372 : BitVec 1 := Scalar.cmpi .slt v368 c0_i32_195
  let v373 : BitVec 32 := Scalar.extui v372
  let v374 : BitVec 32 := Scalar.subi v371 v373
  let c2_i32_193 : BitVec 32 := 2#32
  let c0_i32_196 : BitVec 32 := 0#32
  let v375 : BitVec 1 := Scalar.cmpi .sgt c2_i32_193 c0_i32_196
  let v376 : BitVec 32 := Scalar.extui v375
  let c0_i32_197 : BitVec 32 := 0#32
  let v377 : BitVec 1 := Scalar.cmpi .slt c2_i32_193 c0_i32_197
  let v378 : BitVec 32 := Scalar.extui v377
  let v379 : BitVec 32 := Scalar.subi v376 v378
  let v380 : BitVec 1 := Scalar.cmpi .ne v374 v379
  let v381 : BitVec 32 := Scalar.remsi v368 c2_i32_193
  let c0_i32_198 : BitVec 32 := 0#32
  let v382 : BitVec 1 := Scalar.cmpi .ne v381 c0_i32_198
  let v383 : BitVec 1 := Scalar.andi v380 v382
  let v369 : BitVec 32 := Scalar.divsi v368 c2_i32_193
  let c1_i32_199 : BitVec 32 := 1#32
  let v384 : BitVec 32 := Scalar.subi v369 c1_i32_199
  let v385 : BitVec 32 := Scalar.select v383 v384 v369
  let v389 : BitVec 32 := Scalar.muli c2_i32_202 v385
  let v390 : BitVec 32 := Scalar.addi v367 v389
  let c0_i32_289 : BitVec 32 := 0#32
  let v525 : BitVec 32 := Scalar.addi v390 c0_i32_289
  let c1_i32_290 : BitVec 32 := 1#32
  let v526 : BitVec 32 := Scalar.addi v525 c1_i32_290
  let v527 : BitVec 32 := Scalar.muli c2_i32_291 v526
  let c0_i32_292 : BitVec 32 := 0#32
  let v528 : BitVec 32 := Scalar.addi v527 c0_i32_292
  let v529 : BitVec 1 := Scalar.cmpi .slt v528 v231
  let c32_i32_294 : BitVec 32 := 32#32
  let v531 : BitVec 32 := Scalar.select v529 v528 c32_i32_294
  let c256_i32_299 : BitVec 32 := 256#32
  let v537 : BitVec 32 := Scalar.muli v531 c256_i32_299
  v537
def k0_off46 (i : grid0.Coords) (c0_i32_292 : BitVec 32) : Fin 2 → Nat :=
  let c2_i32_291 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let c2_i32_202 : BitVec 32 := 2#32
  let v368 : BitVec 32 := Scalar.subi v250 v367
  let c0_i32_194 : BitVec 32 := 0#32
  let v370 : BitVec 1 := Scalar.cmpi .sgt v368 c0_i32_194
  let v371 : BitVec 32 := Scalar.extui v370
  let c0_i32_195 : BitVec 32 := 0#32
  let v372 : BitVec 1 := Scalar.cmpi .slt v368 c0_i32_195
  let v373 : BitVec 32 := Scalar.extui v372
  let v374 : BitVec 32 := Scalar.subi v371 v373
  let c2_i32_193 : BitVec 32 := 2#32
  let c0_i32_196 : BitVec 32 := 0#32
  let v375 : BitVec 1 := Scalar.cmpi .sgt c2_i32_193 c0_i32_196
  let v376 : BitVec 32 := Scalar.extui v375
  let c0_i32_197 : BitVec 32 := 0#32
  let v377 : BitVec 1 := Scalar.cmpi .slt c2_i32_193 c0_i32_197
  let v378 : BitVec 32 := Scalar.extui v377
  let v379 : BitVec 32 := Scalar.subi v376 v378
  let v380 : BitVec 1 := Scalar.cmpi .ne v374 v379
  let v381 : BitVec 32 := Scalar.remsi v368 c2_i32_193
  let c0_i32_198 : BitVec 32 := 0#32
  let v382 : BitVec 1 := Scalar.cmpi .ne v381 c0_i32_198
  let v383 : BitVec 1 := Scalar.andi v380 v382
  let v369 : BitVec 32 := Scalar.divsi v368 c2_i32_193
  let c1_i32_199 : BitVec 32 := 1#32
  let v384 : BitVec 32 := Scalar.subi v369 c1_i32_199
  let v385 : BitVec 32 := Scalar.select v383 v384 v369
  let v389 : BitVec 32 := Scalar.muli c2_i32_202 v385
  let v390 : BitVec 32 := Scalar.addi v367 v389
  let c0_i32_289 : BitVec 32 := 0#32
  let v525 : BitVec 32 := Scalar.addi v390 c0_i32_289
  let c1_i32_290 : BitVec 32 := 1#32
  let v526 : BitVec 32 := Scalar.addi v525 c1_i32_290
  let v527 : BitVec 32 := Scalar.muli c2_i32_291 v526
  let v528 : BitVec 32 := Scalar.addi v527 c0_i32_292
  let v529 : BitVec 1 := Scalar.cmpi .slt v528 v231
  let c32_i32_294 : BitVec 32 := 32#32
  let v531 : BitVec 32 := Scalar.select v529 v528 c32_i32_294
  let c256_i32_299 : BitVec 32 := 256#32
  let v537 : BitVec 32 := Scalar.muli v531 c256_i32_299
  let v538 : BitVec 32 := v537
  let v539 : Index := Scalar.indexCast v538
  let c0_300 : Index := 0#32
  ![v539.toNat, 0]
def k0_mult132 (i : grid0.Coords) : BitVec 32 :=
  let c2_i32_301 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let c2_i32_202 : BitVec 32 := 2#32
  let v368 : BitVec 32 := Scalar.subi v250 v367
  let c0_i32_194 : BitVec 32 := 0#32
  let v370 : BitVec 1 := Scalar.cmpi .sgt v368 c0_i32_194
  let v371 : BitVec 32 := Scalar.extui v370
  let c0_i32_195 : BitVec 32 := 0#32
  let v372 : BitVec 1 := Scalar.cmpi .slt v368 c0_i32_195
  let v373 : BitVec 32 := Scalar.extui v372
  let v374 : BitVec 32 := Scalar.subi v371 v373
  let c2_i32_193 : BitVec 32 := 2#32
  let c0_i32_196 : BitVec 32 := 0#32
  let v375 : BitVec 1 := Scalar.cmpi .sgt c2_i32_193 c0_i32_196
  let v376 : BitVec 32 := Scalar.extui v375
  let c0_i32_197 : BitVec 32 := 0#32
  let v377 : BitVec 1 := Scalar.cmpi .slt c2_i32_193 c0_i32_197
  let v378 : BitVec 32 := Scalar.extui v377
  let v379 : BitVec 32 := Scalar.subi v376 v378
  let v380 : BitVec 1 := Scalar.cmpi .ne v374 v379
  let v381 : BitVec 32 := Scalar.remsi v368 c2_i32_193
  let c0_i32_198 : BitVec 32 := 0#32
  let v382 : BitVec 1 := Scalar.cmpi .ne v381 c0_i32_198
  let v383 : BitVec 1 := Scalar.andi v380 v382
  let v369 : BitVec 32 := Scalar.divsi v368 c2_i32_193
  let c1_i32_199 : BitVec 32 := 1#32
  let v384 : BitVec 32 := Scalar.subi v369 c1_i32_199
  let v385 : BitVec 32 := Scalar.select v383 v384 v369
  let v389 : BitVec 32 := Scalar.muli c2_i32_202 v385
  let v390 : BitVec 32 := Scalar.addi v367 v389
  let c0_i32_289 : BitVec 32 := 0#32
  let v525 : BitVec 32 := Scalar.addi v390 c0_i32_289
  let c1_i32_290 : BitVec 32 := 1#32
  let v526 : BitVec 32 := Scalar.addi v525 c1_i32_290
  let v543 : BitVec 32 := Scalar.muli c2_i32_301 v526
  let c1_i32_302 : BitVec 32 := 1#32
  let v544 : BitVec 32 := Scalar.addi v543 c1_i32_302
  let v545 : BitVec 1 := Scalar.cmpi .slt v544 v231
  let c0_i32_303 : BitVec 32 := 0#32
  let v546 : BitVec 32 := Scalar.select v545 v544 c0_i32_303
  let c256_i32_305 : BitVec 32 := 256#32
  let v548 : BitVec 32 := Scalar.muli v546 c256_i32_305
  v548
def k0_mult133 (i : grid0.Coords) : BitVec 32 :=
  let c2_i32_301 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let c2_i32_202 : BitVec 32 := 2#32
  let v368 : BitVec 32 := Scalar.subi v250 v367
  let c0_i32_194 : BitVec 32 := 0#32
  let v370 : BitVec 1 := Scalar.cmpi .sgt v368 c0_i32_194
  let v371 : BitVec 32 := Scalar.extui v370
  let c0_i32_195 : BitVec 32 := 0#32
  let v372 : BitVec 1 := Scalar.cmpi .slt v368 c0_i32_195
  let v373 : BitVec 32 := Scalar.extui v372
  let v374 : BitVec 32 := Scalar.subi v371 v373
  let c2_i32_193 : BitVec 32 := 2#32
  let c0_i32_196 : BitVec 32 := 0#32
  let v375 : BitVec 1 := Scalar.cmpi .sgt c2_i32_193 c0_i32_196
  let v376 : BitVec 32 := Scalar.extui v375
  let c0_i32_197 : BitVec 32 := 0#32
  let v377 : BitVec 1 := Scalar.cmpi .slt c2_i32_193 c0_i32_197
  let v378 : BitVec 32 := Scalar.extui v377
  let v379 : BitVec 32 := Scalar.subi v376 v378
  let v380 : BitVec 1 := Scalar.cmpi .ne v374 v379
  let v381 : BitVec 32 := Scalar.remsi v368 c2_i32_193
  let c0_i32_198 : BitVec 32 := 0#32
  let v382 : BitVec 1 := Scalar.cmpi .ne v381 c0_i32_198
  let v383 : BitVec 1 := Scalar.andi v380 v382
  let v369 : BitVec 32 := Scalar.divsi v368 c2_i32_193
  let c1_i32_199 : BitVec 32 := 1#32
  let v384 : BitVec 32 := Scalar.subi v369 c1_i32_199
  let v385 : BitVec 32 := Scalar.select v383 v384 v369
  let v389 : BitVec 32 := Scalar.muli c2_i32_202 v385
  let v390 : BitVec 32 := Scalar.addi v367 v389
  let c0_i32_289 : BitVec 32 := 0#32
  let v525 : BitVec 32 := Scalar.addi v390 c0_i32_289
  let c1_i32_290 : BitVec 32 := 1#32
  let v526 : BitVec 32 := Scalar.addi v525 c1_i32_290
  let v543 : BitVec 32 := Scalar.muli c2_i32_301 v526
  let c1_i32_302 : BitVec 32 := 1#32
  let v544 : BitVec 32 := Scalar.addi v543 c1_i32_302
  let v545 : BitVec 1 := Scalar.cmpi .slt v544 v231
  let c32_i32_304 : BitVec 32 := 32#32
  let v547 : BitVec 32 := Scalar.select v545 v544 c32_i32_304
  let c256_i32_309 : BitVec 32 := 256#32
  let v553 : BitVec 32 := Scalar.muli v547 c256_i32_309
  v553
def k0_off47 (i : grid0.Coords) (c0_i32_327 : BitVec 32) : Fin 5 → Nat :=
  let c0_329 : Index := 0#32
  let c0_330 : Index := 0#32
  let c2_i32_326 : BitVec 32 := 2#32
  let c8_i32_182 : BitVec 32 := 8#32
  let arg2 : BitVec 32 := BitVec.ofNat 32 (i 2).val
  let c1_i32_113 : BitVec 32 := 1#32
  let v230 : BitVec 32 := Scalar.subi arg2 c1_i32_113
  let c0_i32_114 : BitVec 32 := 0#32
  let v231 : BitVec 32 := Scalar.maxsi v230 c0_i32_114
  let c2_i32_115 : BitVec 32 := 2#32
  let v232 : BitVec 32 := Scalar.addi v231 c2_i32_115
  let c1_i32_116 : BitVec 32 := 1#32
  let v233 : BitVec 32 := Scalar.subi v232 c1_i32_116
  let c0_i32_118 : BitVec 32 := 0#32
  let v235 : BitVec 1 := Scalar.cmpi .sgt v233 c0_i32_118
  let v236 : BitVec 32 := Scalar.extui v235
  let c0_i32_119 : BitVec 32 := 0#32
  let v237 : BitVec 1 := Scalar.cmpi .slt v233 c0_i32_119
  let v238 : BitVec 32 := Scalar.extui v237
  let v239 : BitVec 32 := Scalar.subi v236 v238
  let c2_i32_117 : BitVec 32 := 2#32
  let c0_i32_120 : BitVec 32 := 0#32
  let v240 : BitVec 1 := Scalar.cmpi .sgt c2_i32_117 c0_i32_120
  let v241 : BitVec 32 := Scalar.extui v240
  let c0_i32_121 : BitVec 32 := 0#32
  let v242 : BitVec 1 := Scalar.cmpi .slt c2_i32_117 c0_i32_121
  let v243 : BitVec 32 := Scalar.extui v242
  let v244 : BitVec 32 := Scalar.subi v241 v243
  let v245 : BitVec 1 := Scalar.cmpi .ne v239 v244
  let v246 : BitVec 32 := Scalar.remsi v233 c2_i32_117
  let c0_i32_122 : BitVec 32 := 0#32
  let v247 : BitVec 1 := Scalar.cmpi .ne v246 c0_i32_122
  let v248 : BitVec 1 := Scalar.andi v245 v247
  let v234 : BitVec 32 := Scalar.divsi v233 c2_i32_117
  let c1_i32_123 : BitVec 32 := 1#32
  let v249 : BitVec 32 := Scalar.subi v234 c1_i32_123
  let v250 : BitVec 32 := Scalar.select v248 v249 v234
  let c0_i32_171 : BitVec 32 := 0#32
  let v323 : BitVec 1 := Scalar.cmpi .sgt v250 c0_i32_171
  let v324 : BitVec 32 := Scalar.extui v323
  let c0_i32_172 : BitVec 32 := 0#32
  let v325 : BitVec 1 := Scalar.cmpi .slt v250 c0_i32_172
  let v326 : BitVec 32 := Scalar.extui v325
  let v327 : BitVec 32 := Scalar.subi v324 v326
  let c8_i32 : BitVec 32 := 8#32
  let c0_i32_173 : BitVec 32 := 0#32
  let v328 : BitVec 1 := Scalar.cmpi .sgt c8_i32 c0_i32_173
  let v329 : BitVec 32 := Scalar.extui v328
  let c0_i32_174 : BitVec 32 := 0#32
  let v330 : BitVec 1 := Scalar.cmpi .slt c8_i32 c0_i32_174
  let v331 : BitVec 32 := Scalar.extui v330
  let v332 : BitVec 32 := Scalar.subi v329 v331
  let v333 : BitVec 1 := Scalar.cmpi .ne v327 v332
  let v334 : BitVec 32 := Scalar.remsi v250 c8_i32
  let c0_i32_175 : BitVec 32 := 0#32
  let v335 : BitVec 1 := Scalar.cmpi .ne v334 c0_i32_175
  let v336 : BitVec 1 := Scalar.andi v333 v335
  let v322 : BitVec 32 := Scalar.divsi v250 c8_i32
  let c1_i32_176 : BitVec 32 := 1#32
  let v337 : BitVec 32 := Scalar.subi v322 c1_i32_176
  let v338 : BitVec 32 := Scalar.select v336 v337 v322
  let v344 : BitVec 32 := Scalar.muli c8_i32_182 v338
  let c4_i32_192 : BitVec 32 := 4#32
  let v345 : BitVec 32 := Scalar.subi v250 v344
  let c0_i32_184 : BitVec 32 := 0#32
  let v347 : BitVec 1 := Scalar.cmpi .sgt v345 c0_i32_184
  let v348 : BitVec 32 := Scalar.extui v347
  let c0_i32_185 : BitVec 32 := 0#32
  let v349 : BitVec 1 := Scalar.cmpi .slt v345 c0_i32_185
  let v350 : BitVec 32 := Scalar.extui v349
  let v351 : BitVec 32 := Scalar.subi v348 v350
  let c4_i32_183 : BitVec 32 := 4#32
  let c0_i32_186 : BitVec 32 := 0#32
  let v352 : BitVec 1 := Scalar.cmpi .sgt c4_i32_183 c0_i32_186
  let v353 : BitVec 32 := Scalar.extui v352
  let c0_i32_187 : BitVec 32 := 0#32
  let v354 : BitVec 1 := Scalar.cmpi .slt c4_i32_183 c0_i32_187
  let v355 : BitVec 32 := Scalar.extui v354
  let v356 : BitVec 32 := Scalar.subi v353 v355
  let v357 : BitVec 1 := Scalar.cmpi .ne v351 v356
  let v358 : BitVec 32 := Scalar.remsi v345 c4_i32_183
  let c0_i32_188 : BitVec 32 := 0#32
  let v359 : BitVec 1 := Scalar.cmpi .ne v358 c0_i32_188
  let v360 : BitVec 1 := Scalar.andi v357 v359
  let v346 : BitVec 32 := Scalar.divsi v345 c4_i32_183
  let c1_i32_189 : BitVec 32 := 1#32
  let v361 : BitVec 32 := Scalar.subi v346 c1_i32_189
  let v362 : BitVec 32 := Scalar.select v360 v361 v346
  let v366 : BitVec 32 := Scalar.muli c4_i32_192 v362
  let v367 : BitVec 32 := Scalar.addi v344 v366
  let c2_i32_202 : BitVec 32 := 2#32
  let v368 : BitVec 32 := Scalar.subi v250 v367
  let c0_i32_194 : BitVec 32 := 0#32
  let v370 : BitVec 1 := Scalar.cmpi .sgt v368 c0_i32_194
  let v371 : BitVec 32 := Scalar.extui v370
  let c0_i32_195 : BitVec 32 := 0#32
  let v372 : BitVec 1 := Scalar.cmpi .slt v368 c0_i32_195
  let v373 : BitVec 32 := Scalar.extui v372
  let v374 : BitVec 32 := Scalar.subi v371 v373
  let c2_i32_193 : BitVec 32 := 2#32
  let c0_i32_196 : BitVec 32 := 0#32
  let v375 : BitVec 1 := Scalar.cmpi .sgt c2_i32_193 c0_i32_196
  let v376 : BitVec 32 := Scalar.extui v375
  let c0_i32_197 : BitVec 32 := 0#32
  let v377 : BitVec 1 := Scalar.cmpi .slt c2_i32_193 c0_i32_197
  let v378 : BitVec 32 := Scalar.extui v377
  let v379 : BitVec 32 := Scalar.subi v376 v378
  let v380 : BitVec 1 := Scalar.cmpi .ne v374 v379
  let v381 : BitVec 32 := Scalar.remsi v368 c2_i32_193
  let c0_i32_198 : BitVec 32 := 0#32
  let v382 : BitVec 1 := Scalar.cmpi .ne v381 c0_i32_198
  let v383 : BitVec 1 := Scalar.andi v380 v382
  let v369 : BitVec 32 := Scalar.divsi v368 c2_i32_193
  let c1_i32_199 : BitVec 32 := 1#32
  let v384 : BitVec 32 := Scalar.subi v369 c1_i32_199
  let v385 : BitVec 32 := Scalar.select v383 v384 v369
  let v389 : BitVec 32 := Scalar.muli c2_i32_202 v385
  let v390 : BitVec 32 := Scalar.addi v367 v389
  let c0_i32_318 : BitVec 32 := 0#32
  let v570 : BitVec 32 := Scalar.addi v390 c0_i32_318
  let v579 : BitVec 32 := Scalar.muli c2_i32_326 v570
  let v580 : BitVec 32 := Scalar.addi v579 c0_i32_327
  let v581 : BitVec 1 := Scalar.cmpi .slt v580 v231
  let c0_i32_328 : BitVec 32 := 0#32
  let v582 : BitVec 32 := Scalar.select v581 v580 c0_i32_328
  let v583 : Index := Scalar.indexCast v582
  let c0_331 : Index := 0#32
  let c0_332 : Index := 0#32
  ![0, 0, v583.toNat, 0, 0]
def k0_off48 (i : grid0.Coords) (c0_i32_217 : BitVec 32) (c0_i32_216 : BitVec 32) : Fin 4 → Nat :=
  let c0_218 : Index := 0#32
  let c0_219 : Index := 0#32
  let arg1 : BitVec 32 := BitVec.ofNat 32 (i 1).val
  let c4_i32_215 : BitVec 32 := 4#32
  let v419 : BitVec 32 := Scalar.muli arg1 c4_i32_215
  let v420 : BitVec 32 := Scalar.addi v419 c0_i32_216
  let v421 : BitVec 32 := Scalar.addi c0_i32_217 v420
  let v422 : Index := Scalar.indexCast v421
  let c0_220 : Index := 0#32
  ![0, 0, v422.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x32x80x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x32x80x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S8448x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x768x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== Kernel2.lean ====
abbrev S2x8192x1024 : Shape := ⟨3, ![2, 8192, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S1x512x1024 : Shape := ⟨3, ![1, 512, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S2x1024x5632, .bf16⟩
  | .hbm, ⟨8, _⟩ => ⟨S2x2816x1024, .bf16⟩
  | .hbm, ⟨9, _⟩ => ⟨S1x1024, .f32⟩
  | .hbm, ⟨10, _⟩ => ⟨S1x1024, .f32⟩
  | .hbm, ⟨11, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2x8192x1024 : Shape := ⟨3, ![2, 8192, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩

abbrev nBuf : Space → Nat
  | .hbm => 58
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S1x1024x5632, .f32⟩
  | .hbm, ⟨8, _⟩ => ⟨S1024x5632, .f32⟩
  | .hbm, ⟨9, _⟩ => ⟨S1x2816x1024, .f32⟩
  | .hbm, ⟨10, _⟩ => ⟨S2816x1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S2x8192x5632, .f32⟩
  | .hbm, ⟨28, _⟩ => ⟨S2x8192x2816, .f32⟩
  | .hbm, ⟨29, _⟩ => ⟨S2x8192x2816, .f32⟩
  | .hbm, ⟨30, _⟩ => ⟨S2x8192x2816, .f32⟩
  | .hbm, ⟨31, _⟩ => ⟨S_, .f32⟩
  | .hbm, ⟨32, _⟩ => ⟨S2x8192x2816, .f32⟩
  | .hbm, ⟨33, _⟩ => ⟨S2x8192x2816, .f32⟩
  | .hbm, ⟨34, _⟩ => ⟨S_, .f32⟩
  | .hbm, ⟨35, _⟩ => ⟨S2x8192x2816, .f32⟩
  | .hbm, ⟨36, _⟩ => ⟨S2x8192x2816, .f32⟩
  | .hbm, ⟨37, _⟩ => ⟨S2x8192x2816, .f32⟩
  | .hbm, ⟨38, _⟩ => ⟨S2x8192x2816, .f32⟩
  | .hbm, ⟨39, _⟩ => ⟨S2x8192x2816, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S_, .f32⟩
  | .hbm, ⟨44, _⟩ => ⟨S2x8192, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S_, .f32⟩
  | .hbm, ⟨50, _⟩ => ⟨S2x8192x1, .f32⟩
  | .hbm, ⟨51, _⟩ => ⟨S2x8192x1, .f32⟩
  | .hbm, ⟨52, _⟩ => ⟨S2x8192x1, .f32⟩
  | .hbm, ⟨53, _⟩ => ⟨S2x8192x1024, .f32⟩
  | .hbm, ⟨54, _⟩ => ⟨S2x8192x1024, .f32⟩
  | .hbm, ⟨55, _⟩ => ⟨S1x1x1024, .f32⟩
  | .hbm, ⟨56, _⟩ => ⟨S2x8192x1024, .f32⟩
  | .hbm, ⟨57, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x512 : Shape := ⟨3, ![2, 8192, 512]⟩
abbrev S2x2x256x1024 : Shape := ⟨4, ![2, 2, 256, 1024]⟩
abbrev S2x1536x1024 : Shape := ⟨3, ![2, 1536, 1024]⟩
abbrev S1x512x1024 : Shape := ⟨3, ![1, 512, 1024]⟩
abbrev S1x512x512 : Shape := ⟨3, ![1, 512, 512]⟩
abbrev S1x1x256x1024 : Shape := ⟨4, ![1, 1, 256, 1024]⟩
abbrev S1x1536x1024 : Shape := ⟨3, ![1, 1536, 1024]⟩
abbrev S512x512 : Shape := ⟨2, ![512, 512]⟩
abbrev S256x1024 : Shape := ⟨2, ![256, 1024]⟩
abbrev S512x128 : Shape := ⟨2, ![512, 128]⟩
abbrev S256x128 : Shape := ⟨2, ![256, 128]⟩
abbrev S512x256 : Shape := ⟨2, ![512, 256]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S2x8192x512, .bf16⟩
  | .hbm, ⟨3, _⟩ => ⟨S2x2x256x1024, .bf16⟩
  | .hbm, ⟨4, _⟩ => ⟨S2x1536x1024, .f32⟩
  | .hbm, ⟨5, _⟩ => ⟨S2x1536x1024, .bf16⟩
  | .hbm, ⟨6, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S1x1536x1024, .bf16⟩
  | .local _ .vmem, ⟨9, _⟩ => ⟨S1x512x1024, .f32⟩
  | .local _ .vmem, ⟨10, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel3Ideal.lean ====
variable {F : FTy → Type} [FloatOps F] [Named F]
def κ : String → Option EReal := fun
  | "scale2" => some (((11863283 / 134217728) * (Real.log 2)⁻¹ : ℝ) : EReal)
  | _ => none
-- ==== Reference3Ideal.lean ====
abbrev S2x8192x1024 : Shape := ⟨3, ![2, 8192, 1024]⟩
abbrev S2x8192x512 : Shape := ⟨3, ![2, 8192, 512]⟩
abbrev S2x2x256x1024 : Shape := ⟨4, ![2, 2, 256, 1024]⟩
abbrev S2x1536x1024 : Shape := ⟨3, ![2, 1536, 1024]⟩
abbrev S1x2x256x1024 : Shape := ⟨4, ![1, 2, 256, 1024]⟩
abbrev S2x256x1024 : Shape := ⟨3, ![2, 256, 1024]⟩
abbrev S1x1536x1024 : Shape := ⟨3, ![1, 1536, 1024]⟩
abbrev S1536x1024 : Shape := ⟨2, ![1536, 1024]⟩
abbrev S2x256x512 : Shape := ⟨3, ![2, 256, 512]⟩
abbrev S2x256x4x128 : Shape := ⟨4, ![2, 256, 4, 128]⟩
abbrev S2x8192x4x128 : Shape := ⟨4, ![2, 8192, 4, 128]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S2x8192x1536 : Shape := ⟨3, ![2, 8192, 1536]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S2x8192x512, .bf16⟩
  | .hbm, ⟨3, _⟩ => ⟨S2x2x256x1024, .bf16⟩
  | .hbm, ⟨4, _⟩ => ⟨S2x1536x1024, .f32⟩
  | .hbm, ⟨5, _⟩ => ⟨S1x2x256x1024, .bf16⟩
  | .hbm, ⟨6, _⟩ => ⟨S2x256x1024, .bf16⟩
  | .hbm, ⟨7, _⟩ => ⟨S1x1536x1024, .f32⟩
  | .hbm, ⟨8, _⟩ => ⟨S1536x1024, .f32⟩
  | .hbm, ⟨9, _⟩ => ⟨S2x256x1024, .f32⟩
  | .hbm, ⟨10, _⟩ => ⟨S2x256x512, .f32⟩
  | .hbm, ⟨11, _⟩ => ⟨S2x256x4x128, .f32⟩
  | .hbm, ⟨12, _⟩ => ⟨S2x256x512, .f32⟩
  | .hbm, ⟨13, _⟩ => ⟨S2x256x4x128, .f32⟩
  | .hbm, ⟨14, _⟩ => ⟨S2x8192x512, .f32⟩
  | .hbm, ⟨15, _⟩ => ⟨S2x8192x4x128, .f32⟩
  | .hbm, ⟨16, _⟩ => ⟨S2x4x8192x256, .f32⟩
  | .hbm, ⟨17, _⟩ => ⟨S_, .f32⟩
  | .hbm, ⟨18, _⟩ => ⟨S2x4x8192x256, .f32⟩
  | .hbm, ⟨19, _⟩ => ⟨S2x4x8192x256, .f32⟩
  | .hbm, ⟨20, _⟩ => ⟨S_, .f32⟩
  | .hbm, ⟨21, _⟩ => ⟨S2x4x8192, .f32⟩
  | .hbm, ⟨22, _⟩ => ⟨S_, .f32⟩
  | .hbm, ⟨23, _⟩ => ⟨S2x4x8192, .f32⟩
  | .hbm, ⟨24, _⟩ => ⟨S2x4x8192, .f32⟩
  | .hbm, ⟨25, _⟩ => ⟨S2x4x8192x1, .f32⟩
  | .hbm, ⟨26, _⟩ => ⟨S2x4x8192x256, .f32⟩
  | .hbm, ⟨27, _⟩ => ⟨S2x4x8192x256, .f32⟩
  | .hbm, ⟨28, _⟩ => ⟨S2x4x8192x256, .f32⟩
  | .hbm, ⟨29, _⟩ => ⟨S_, .f32⟩
  | .hbm, ⟨30, _⟩ => ⟨S2x4x8192, .f32⟩
  | .hbm, ⟨31, _⟩ => ⟨S2x4x8192x1, .f32⟩
  | .hbm, ⟨32, _⟩ => ⟨S2x4x8192x256, .f32⟩
  | .hbm, ⟨33, _⟩ => ⟨S2x4x8192x256, .f32⟩
  | .hbm, ⟨34, _⟩ => ⟨S2x4x128x8192, .f32⟩
  | .hbm, ⟨35, _⟩ => ⟨S2x8192x4x128, .f32⟩
  | .hbm, ⟨36, _⟩ => ⟨S2x8192x512, .f32⟩
  | .hbm, ⟨37, _⟩ => ⟨S2x8192x1024, .f32⟩
  | .hbm, ⟨38, _⟩ => ⟨S2x8192x1536, .f32⟩
  | .hbm, ⟨39, _⟩ => ⟨S2x8192x1024, .f32⟩
  | .hbm, ⟨40, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x1024 : Shape := ⟨2, ![2, 1024]⟩
abbrev S1x1024x3584 : Shape := ⟨3, ![1, 1024, 3584]⟩
abbrev S1x3x1024 : Shape := ⟨3, ![1, 3, 1024]⟩
abbrev S1x1024 : Shape := ⟨2, ![1, 1024]⟩
abbrev S1024 : Shape := ⟨1, ![1024]⟩
abbrev S1024x3584 : Shape := ⟨2, ![1024, 3584]⟩
abbrev S3x1024 : Shape := ⟨2, ![3, 1024]⟩
abbrev S2x8192x512 : Shape := ⟨3, ![2, 8192, 512]⟩
abbrev S1x512x1024 : Shape := ⟨3, ![1, 512, 1024]⟩
abbrev S1x8x1024 : Shape := ⟨3, ![1, 8, 1024]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩
abbrev S8 : Shape := ⟨1, ![8]⟩
abbrev S8x1 : Shape := ⟨2, ![8, 1]⟩
abbrev S512x256 : Shape := ⟨2, ![512, 256]⟩
abbrev S1024x256 : Shape := ⟨2, ![1024, 256]⟩
abbrev S8x256 : Shape := ⟨2, ![8, 256]⟩
abbrev S1x256 : Shape := ⟨2, ![1, 256]⟩
abbrev S1x512x256 : Shape := ⟨3, ![1, 512, 256]⟩
abbrev S1024x512 : Shape := ⟨2, ![1024, 512]⟩
abbrev S512x512 : Shape := ⟨2, ![512, 512]⟩

abbrev nBuf : Space → Nat
  | .hbm => 12
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S1x1024x3584, .f32⟩
  | .hbm, ⟨3, _⟩ => ⟨S1x3x1024, .f32⟩
  | .hbm, ⟨4, _⟩ => ⟨S1x1024, .f32⟩
  | .hbm, ⟨5, _⟩ => ⟨S1024, .f32⟩
  | .hbm, ⟨6, _⟩ => ⟨S1024x3584, .f32⟩
  | .hbm, ⟨7, _⟩ => ⟨S1024x3584, .bf16⟩
  | .hbm, ⟨8, _⟩ => ⟨S3x1024, .f32⟩
  | .hbm, ⟨9, _⟩ => ⟨S1x1024, .f32⟩
  | .hbm, ⟨10, _⟩ => ⟨S2x8192x1024, .bf16⟩
  | .hbm, ⟨11, _⟩ => ⟨S2x8192x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x3584, .bf16⟩
  | .local _ .vmem, ⟨6, _⟩ => ⟨S3x1024, .f32⟩
  | .local _ .vmem, ⟨7, _⟩ => ⟨S1x512x1024, .bf16⟩
  | .local _ .vmem, ⟨8, _⟩ => ⟨S1x512x1024, .bf16⟩
  | .local _ .vmem, ⟨9, _⟩ => ⟨S1x512x512, .bf16⟩
  | .local _ .vmem, ⟨10, _⟩ => ⟨S1x512x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S2x8192x1024 : Shape := ⟨3, ![2, 8192, 1024]⟩
abbrev S2x1024 : Shape := ⟨2, ![2, 1024]⟩
abbrev S1x1024x3584 : Shape := ⟨3, ![1, 1024, 3584]⟩
abbrev S1x3x1024 : Shape := ⟨3, ![1, 3, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x3584 : Shape := ⟨2, ![1024, 3584]⟩
abbrev S2x8192x3584 : Shape := ⟨3, ![2, 8192, 3584]⟩
abbrev S2x8194x1024 : Shape := ⟨3, ![2, 8194, 1024]⟩
abbrev S3x1024 : Shape := ⟨2, ![3, 1024]⟩
abbrev S2x8192x512 : Shape := ⟨3, ![2, 8192, 512]⟩

abbrev nBuf : Space → Nat
  | .hbm => 58
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S1x1024x3584, .f32⟩
  | .hbm, ⟨3, _⟩ => ⟨S1x3x1024, .f32⟩
  | .hbm, ⟨4, _⟩ => ⟨S1x1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S1024x3584, .f32⟩
  | .hbm, ⟨23, _⟩ => ⟨S2x8192x3584, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S_, .i32⟩
  | .hbm, ⟨29, _⟩ => ⟨S_, .f32⟩
  | .hbm, ⟨30, _⟩ => ⟨S2x8194x1024, .f32⟩
  | .hbm, ⟨31, _⟩ => ⟨S2x8192x1024, .f32⟩
  | .hbm, ⟨32, _⟩ => ⟨S3x1024, .f32⟩
  | .hbm, ⟨33, _⟩ => ⟨S1x1024, .f32⟩
  | .hbm, ⟨34, _⟩ => ⟨S1024, .f32⟩
  | .hbm, ⟨35, _⟩ => ⟨S1x1x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S3x1024, .f32⟩
  | .hbm, ⟨40, _⟩ => ⟨S1x1024, .f32⟩
  | .hbm, ⟨41, _⟩ => ⟨S1024, .f32⟩
  | .hbm, ⟨42, _⟩ => ⟨S1x1x1024, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S3x1024, .f32⟩
  | .hbm, ⟨48, _⟩ => ⟨S1x1024, .f32⟩
  | .hbm, ⟨49, _⟩ => ⟨S1024, .f32⟩
  | .hbm, ⟨50, _⟩ => ⟨S1x1x1024, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S2x8192x1024, .bf16⟩
  | .hbm, ⟨56, _⟩ => ⟨S2x8192x512, .f32⟩
  | .hbm, ⟨57, _⟩ => ⟨S2x8192x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩

abbrev nD : Nat := 1
abbrev τ : Topo := Topo.v7x

variable {F : FTy → Type} [FloatOps F]
-- ==== Kernel5.lean ====
abbrev S2x8192x1024 : Shape := ⟨3, ![2, 8192, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S1x512x1024 : Shape := ⟨3, ![1, 512, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S2x1024x5632, .bf16⟩
  | .hbm, ⟨8, _⟩ => ⟨S2x2816x1024, .bf16⟩
  | .hbm, ⟨9, _⟩ => ⟨S1x1024, .f32⟩
  | .hbm, ⟨10, _⟩ => ⟨S1x1024, .f32⟩
  | .hbm, ⟨11, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S2x8192x1024 : Shape := ⟨3, ![2, 8192, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩

abbrev nBuf : Space → Nat
  | .hbm => 42
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S1x1024x5632, .f32⟩
  | .hbm, ⟨8, _⟩ => ⟨S1024x5632, .f32⟩
  | .hbm, ⟨9, _⟩ => ⟨S1x2816x1024, .f32⟩
  | .hbm, ⟨10, _⟩ => ⟨S2816x1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S2x8192x5632, .f32⟩
  | .hbm, ⟨28, _⟩ => ⟨S2x8192x2816, .f32⟩
  | .hbm, ⟨29, _⟩ => ⟨S2x8192x2816, .f32⟩
  | .hbm, ⟨30, _⟩ => ⟨S2x8192x2816, .f32⟩
  | .hbm, ⟨31, _⟩ => ⟨S_, .f32⟩
  | .hbm, ⟨32, _⟩ => ⟨S2x8192x2816, .f32⟩
  | .hbm, ⟨33, _⟩ => ⟨S2x8192x2816, .f32⟩
  | .hbm, ⟨34, _⟩ => ⟨S_, .f32⟩
  | .hbm, ⟨35, _⟩ => ⟨S2x8192x2816, .f32⟩
  | .hbm, ⟨36, _⟩ => ⟨S2x8192x2816, .f32⟩
  | .hbm, ⟨37, _⟩ => ⟨S2x8192x2816, .f32⟩
  | .hbm, ⟨38, _⟩ => ⟨S2x8192x2816, .f32⟩
  | .hbm, ⟨39, _⟩ => ⟨S2x8192x2816, .f32⟩
  | .hbm, ⟨40, _⟩ => ⟨S2x8192x1024, .f32⟩
  | .hbm, ⟨41, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Kernel6.lean ====
abbrev S2x8192x1024 : Shape := ⟨3, ![2, 8192, 1024]⟩
abbrev S2x8192x512 : Shape := ⟨3, ![2, 8192, 512]⟩
abbrev S2x2x256x1024 : Shape := ⟨4, ![2, 2, 256, 1024]⟩
abbrev S2x1536x1024 : Shape := ⟨3, ![2, 1536, 1024]⟩
abbrev S1x512x1024 : Shape := ⟨3, ![1, 512, 1024]⟩
abbrev S1x512x512 : Shape := ⟨3, ![1, 512, 512]⟩
abbrev S1x1x256x1024 : Shape := ⟨4, ![1, 1, 256, 1024]⟩
abbrev S1x1536x1024 : Shape := ⟨3, ![1, 1536, 1024]⟩
abbrev S512x512 : Shape := ⟨2, ![512, 512]⟩
abbrev S256x1024 : Shape := ⟨2, ![256, 1024]⟩
abbrev S512x128 : Shape := ⟨2, ![512, 128]⟩
abbrev S256x128 : Shape := ⟨2, ![256, 128]⟩
abbrev S512x256 : Shape := ⟨2, ![512, 256]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S2x8192x512, .bf16⟩
  | .hbm, ⟨3, _⟩ => ⟨S2x2x256x1024, .bf16⟩
  | .hbm, ⟨4, _⟩ => ⟨S2x1536x1024, .f32⟩
  | .hbm, ⟨5, _⟩ => ⟨S2x1536x1024, .bf16⟩
  | .hbm, ⟨6, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S1x1536x1024, .bf16⟩
  | .local _ .vmem, ⟨9, _⟩ => ⟨S1x512x1024, .f32⟩
  | .local _ .vmem, ⟨10, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel6Ideal.lean ====
variable {F : FTy → Type} [FloatOps F] [Named F]
def κ : String → Option EReal := fun
  | "scale2" => some (((11863283 / 134217728) * (Real.log 2)⁻¹ : ℝ) : EReal)
  | _ => none
-- ==== Reference6Ideal.lean ====
abbrev S2x8192x1024 : Shape := ⟨3, ![2, 8192, 1024]⟩
abbrev S2x8192x512 : Shape := ⟨3, ![2, 8192, 512]⟩
abbrev S2x2x256x1024 : Shape := ⟨4, ![2, 2, 256, 1024]⟩
abbrev S2x1536x1024 : Shape := ⟨3, ![2, 1536, 1024]⟩
abbrev S1x2x256x1024 : Shape := ⟨4, ![1, 2, 256, 1024]⟩
abbrev S2x256x1024 : Shape := ⟨3, ![2, 256, 1024]⟩
abbrev S1x1536x1024 : Shape := ⟨3, ![1, 1536, 1024]⟩
abbrev S1536x1024 : Shape := ⟨2, ![1536, 1024]⟩
abbrev S2x256x512 : Shape := ⟨3, ![2, 256, 512]⟩
abbrev S2x256x4x128 : Shape := ⟨4, ![2, 256, 4, 128]⟩
abbrev S2x8192x4x128 : Shape := ⟨4, ![2, 8192, 4, 128]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S2x8192x1536 : Shape := ⟨3, ![2, 8192, 1536]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S2x8192x512, .bf16⟩
  | .hbm, ⟨3, _⟩ => ⟨S2x2x256x1024, .bf16⟩
  | .hbm, ⟨4, _⟩ => ⟨S2x1536x1024, .f32⟩
  | .hbm, ⟨5, _⟩ => ⟨S1x2x256x1024, .bf16⟩
  | .hbm, ⟨6, _⟩ => ⟨S2x256x1024, .bf16⟩
  | .hbm, ⟨7, _⟩ => ⟨S1x1536x1024, .f32⟩
  | .hbm, ⟨8, _⟩ => ⟨S1536x1024, .f32⟩
  | .hbm, ⟨9, _⟩ => ⟨S2x256x1024, .f32⟩
  | .hbm, ⟨10, _⟩ => ⟨S2x256x512, .f32⟩
  | .hbm, ⟨11, _⟩ => ⟨S2x256x4x128, .f32⟩
  | .hbm, ⟨12, _⟩ => ⟨S2x256x512, .f32⟩
  | .hbm, ⟨13, _⟩ => ⟨S2x256x4x128, .f32⟩
  | .hbm, ⟨14, _⟩ => ⟨S2x8192x512, .f32⟩
  | .hbm, ⟨15, _⟩ => ⟨S2x8192x4x128, .f32⟩
  | .hbm, ⟨16, _⟩ => ⟨S2x4x8192x256, .f32⟩
  | .hbm, ⟨17, _⟩ => ⟨S_, .f32⟩
  | .hbm, ⟨18, _⟩ => ⟨S2x4x8192x256, .f32⟩
  | .hbm, ⟨19, _⟩ => ⟨S2x4x8192x256, .f32⟩
  | .hbm, ⟨20, _⟩ => ⟨S_, .f32⟩
  | .hbm, ⟨21, _⟩ => ⟨S2x4x8192, .f32⟩
  | .hbm, ⟨22, _⟩ => ⟨S_, .f32⟩
  | .hbm, ⟨23, _⟩ => ⟨S2x4x8192, .f32⟩
  | .hbm, ⟨24, _⟩ => ⟨S2x4x8192, .f32⟩
  | .hbm, ⟨25, _⟩ => ⟨S2x4x8192x1, .f32⟩
  | .hbm, ⟨26, _⟩ => ⟨S2x4x8192x256, .f32⟩
  | .hbm, ⟨27, _⟩ => ⟨S2x4x8192x256, .f32⟩
  | .hbm, ⟨28, _⟩ => ⟨S2x4x8192x256, .f32⟩
  | .hbm, ⟨29, _⟩ => ⟨S_, .f32⟩
  | .hbm, ⟨30, _⟩ => ⟨S2x4x8192, .f32⟩
  | .hbm, ⟨31, _⟩ => ⟨S2x4x8192x1, .f32⟩
  | .hbm, ⟨32, _⟩ => ⟨S2x4x8192x256, .f32⟩
  | .hbm, ⟨33, _⟩ => ⟨S2x4x8192x256, .f32⟩
  | .hbm, ⟨34, _⟩ => ⟨S2x4x128x8192, .f32⟩
  | .hbm, ⟨35, _⟩ => ⟨S2x8192x4x128, .f32⟩
  | .hbm, ⟨36, _⟩ => ⟨S2x8192x512, .f32⟩
  | .hbm, ⟨37, _⟩ => ⟨S2x8192x1024, .f32⟩
  | .hbm, ⟨38, _⟩ => ⟨S2x8192x1536, .f32⟩
  | .hbm, ⟨39, _⟩ => ⟨S2x8192x1024, .f32⟩
  | .hbm, ⟨40, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel7.lean ====
abbrev S2x256x1024 : Shape := ⟨3, ![2, 256, 1024]⟩
abbrev S2x1024 : Shape := ⟨2, ![2, 1024]⟩
abbrev S2x1024x1024 : Shape := ⟨3, ![2, 1024, 1024]⟩
abbrev S2x1x1024 : Shape := ⟨3, ![2, 1, 1024]⟩
abbrev S2x2x256x1024 : Shape := ⟨4, ![2, 2, 256, 1024]⟩
abbrev S1x256x1024 : Shape := ⟨3, ![1, 256, 1024]⟩
abbrev S1x1x1024 : Shape := ⟨3, ![1, 1, 1024]⟩
abbrev S1x1024x1024 : Shape := ⟨3, ![1, 1024, 1024]⟩
abbrev S1x1x256x1024 : Shape := ⟨4, ![1, 1, 256, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S2x1024, .f32⟩
  | .hbm, ⟨2, _⟩ => ⟨S2x1024x1024, .f32⟩
  | .hbm, ⟨3, _⟩ => ⟨S2x1024x1024, .bf16⟩
  | .hbm, ⟨4, _⟩ => ⟨S2x1x1024, .f32⟩
  | .hbm, ⟨5, _⟩ => ⟨S2x2x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1x256x1024, .bf16⟩
  | .local _ .vmem, ⟨7, _⟩ => ⟨S1x1x256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2x256x1024 : Shape := ⟨3, ![2, 256, 1024]⟩
abbrev S2x1024 : Shape := ⟨2, ![2, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x2x256x1024 : Shape := ⟨4, ![1, 2, 256, 1024]⟩
abbrev S2x2x256x1024 : Shape := ⟨4, ![2, 2, 256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x1024, .f32⟩
  | .hbm, ⟨2, _⟩ => ⟨S2x1024x1024, .f32⟩
  | .hbm, ⟨3, _⟩ => ⟨S1x1024, .f32⟩
  | .hbm, ⟨4, _⟩ => ⟨S1024, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1024, .f32⟩
  | .hbm, ⟨17, _⟩ => ⟨S2x256x1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S1x1024x1024, .f32⟩
  | .hbm, ⟨22, _⟩ => ⟨S1024x1024, .f32⟩
  | .hbm, ⟨23, _⟩ => ⟨S2x256x1024, .f32⟩
  | .hbm, ⟨24, _⟩ => ⟨S1x1024, .f32⟩
  | .hbm, ⟨25, _⟩ => ⟨S1024, .f32⟩
  | .hbm, ⟨26, _⟩ => ⟨S2x256x1024, .f32⟩
  | .hbm, ⟨27, _⟩ => ⟨S_, .f32⟩
  | .hbm, ⟨28, _⟩ => ⟨S2x256, .f32⟩
  | .hbm, ⟨29, _⟩ => ⟨S2x256x1, .f32⟩
  | .hbm, ⟨30, _⟩ => ⟨S_, .f32⟩
  | .hbm, ⟨31, _⟩ => ⟨S2x256x1, .f32⟩
  | .hbm, ⟨32, _⟩ => ⟨S2x256x1, .f32⟩
  | .hbm, ⟨33, _⟩ => ⟨S_, .f32⟩
  | .hbm, ⟨34, _⟩ => ⟨S2x256x1, .f32⟩
  | .hbm, ⟨35, _⟩ => ⟨S2x256x1, .f32⟩
  | .hbm, ⟨36, _⟩ => ⟨S2x256x1, .f32⟩
  | .hbm, ⟨37, _⟩ => ⟨S2x256x1024, .f32⟩
  | .hbm, ⟨38, _⟩ => ⟨S2x256x1024, .f32⟩
  | .hbm, ⟨39, _⟩ => ⟨S1x1x1024, .f32⟩
  | .hbm, ⟨40, _⟩ => ⟨S2x256x1024, .f32⟩
  | .hbm, ⟨41, _⟩ => ⟨S2x256x1024, .f32⟩
  | .hbm, ⟨42, _⟩ => ⟨S1x1024x1024, .f32⟩
  | .hbm, ⟨43, _⟩ => ⟨S1024x1024, .f32⟩
  | .hbm, ⟨44, _⟩ => ⟨S2x256x1024, .f32⟩
  | .hbm, ⟨45, _⟩ => ⟨S1x2x256x1024, .f32⟩
  | .hbm, ⟨46, _⟩ => ⟨S1x2x256x1024, .f32⟩
  | .hbm, ⟨47, _⟩ => ⟨S2x2x256x1024, .f32⟩
  | .hbm, ⟨48, _⟩ => ⟨S2x2x256x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Kernel8.lean ====
abbrev S2x8192x1024 : Shape := ⟨3, ![2, 8192, 1024]⟩
abbrev S2x1024 : Shape := ⟨2, ![2, 1024]⟩
abbrev S1x1024x3120 : Shape := ⟨3, ![1, 1024, 3120]⟩
abbrev S1x1024 : Shape := ⟨2, ![1, 1024]⟩
abbrev S1024 : Shape := ⟨1, ![1024]⟩
abbrev S1024x3120 : Shape := ⟨2, ![1024, 3120]⟩
abbrev S1024x1024 : Shape := ⟨2, ![1024, 1024]⟩
abbrev S1024x1536 : Shape := ⟨2, ![1024, 1536]⟩
abbrev S1024x6x4x64 : Shape := ⟨4, ![1024, 6, 4, 64]⟩
abbrev S1024x2x4x64 : Shape := ⟨4, ![1024, 2, 4, 64]⟩
abbrev S1024x512 : Shape := ⟨2, ![1024, 512]⟩
abbrev S1024x1x4x64 : Shape := ⟨4, ![1024, 1, 4, 64]⟩
abbrev S1024x4x64 : Shape := ⟨3, ![1024, 4, 64]⟩
abbrev S1024x4x1x64 : Shape := ⟨4, ![1024, 4, 1, 64]⟩
abbrev S1024x4x2x64 : Shape := ⟨4, ![1024, 4, 2, 64]⟩
abbrev S1024x48 : Shape := ⟨2, ![1024, 48]⟩
abbrev S_ : Shape := ⟨0, ![]⟩
abbrev S1024x128 : Shape := ⟨2, ![1024, 128]⟩
abbrev S1024x3200 : Shape := ⟨2, ![1024, 3200]⟩
abbrev S2x32x1024x256 : Shape := ⟨4, ![2, 32, 1024, 256]⟩
abbrev S2x4x8192x128 : Shape := ⟨4, ![2, 4, 8192, 128]⟩
abbrev S2x4x32x80x256 : Shape := ⟨5, ![2, 4, 32, 80, 256]⟩
abbrev S2x32x128x256 : Shape := ⟨4, ![2, 32, 128, 256]⟩
abbrev S2x8192x512 : Shape := ⟨3, ![2, 8192, 512]⟩
abbrev S1x512x1024 : Shape := ⟨3, ![1, 512, 1024]⟩
abbrev S1x2x1024x256 : Shape := ⟨4, ![1, 2, 1024, 256]⟩
abbrev S1x4x512x128 : Shape := ⟨4, ![1, 4, 512, 128]⟩
abbrev S1x4x2x80x256 : Shape := ⟨5, ![1, 4, 2, 80, 256]⟩
abbrev S1x2x128x256 : Shape := ⟨4, ![1, 2, 128, 256]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S512x512 : Shape := ⟨2, ![512, 512]⟩
abbrev S256x1024 : Shape := ⟨2, ![256, 1024]⟩
abbrev S1024x256 : Shape := ⟨2, ![1024, 256]⟩
abbrev S1x1x1024x256 : Shape := ⟨4, ![1, 1, 1024, 256]⟩
abbrev S256x128 : Shape := ⟨2, ![256, 128]⟩
abbrev S128x256 : Shape := ⟨2, ![128, 256]⟩
abbrev S1x1x128x256 : Shape := ⟨4, ![1, 1, 128, 256]⟩
abbrev S1x1x512x128 : Shape := ⟨4, ![1, 1, 512, 128]⟩
abbrev S64x256 : Shape := ⟨2, ![64, 256]⟩
abbrev S16x256 : Shape := ⟨2, ![16, 256]⟩
abbrev S80x256 : Shape := ⟨2, ![80, 256]⟩
abbrev S1x1x1x80x256 : Shape := ⟨5, ![1, 1, 1, 80, 256]⟩

abbrev nBuf : Space → Nat
  | .hbm => 43
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S1x1024x3120, .f32⟩
  | .hbm, ⟨3, _⟩ => ⟨S1x1024, .f32⟩
  | .hbm, ⟨4, _⟩ => ⟨S1024, .f32⟩
  | .hbm, ⟨5, _⟩ => ⟨S1024x3120, .f32⟩
  | .hbm, ⟨6, _⟩ => ⟨S1024x1024, .f32⟩
  | .hbm, ⟨7, _⟩ => ⟨S1024x1536, .f32⟩
  | .hbm, ⟨8, _⟩ => ⟨S1024x6x4x64, .f32⟩
  | .hbm, ⟨9, _⟩ => ⟨S1024x2x4x64, .f32⟩
  | .hbm, ⟨10, _⟩ => ⟨S1024x512, .f32⟩
  | .hbm, ⟨11, _⟩ => ⟨S1024x1x4x64, .f32⟩
  | .hbm, ⟨12, _⟩ => ⟨S1024x4x64, .f32⟩
  | .hbm, ⟨13, _⟩ => ⟨S1024x1x4x64, .f32⟩
  | .hbm, ⟨14, _⟩ => ⟨S1024x4x64, .f32⟩
  | .hbm, ⟨15, _⟩ => ⟨S1024x4x1x64, .f32⟩
  | .hbm, ⟨16, _⟩ => ⟨S1024x4x1x64, .f32⟩
  | .hbm, ⟨17, _⟩ => ⟨S1024x4x2x64, .f32⟩
  | .hbm, ⟨18, _⟩ => ⟨S1024x512, .f32⟩
  | .hbm, ⟨19, _⟩ => ⟨S1024x1x4x64, .f32⟩
  | .hbm, ⟨20, _⟩ => ⟨S1024x4x64, .f32⟩
  | .hbm, ⟨21, _⟩ => ⟨S1024x1x4x64, .f32⟩
  | .hbm, ⟨22, _⟩ => ⟨S1024x4x64, .f32⟩
  | .hbm, ⟨23, _⟩ => ⟨S1024x4x1x64, .f32⟩
  | .hbm, ⟨24, _⟩ => ⟨S1024x4x1x64, .f32⟩
  | .hbm, ⟨25, _⟩ => ⟨S1024x4x2x64, .f32⟩
  | .hbm, ⟨26, _⟩ => ⟨S1024x512, .f32⟩
  | .hbm, ⟨27, _⟩ => ⟨S1024x48, .f32⟩
  | .hbm, ⟨28, _⟩ => ⟨S_, .i32⟩
  | .hbm, ⟨29, _⟩ => ⟨S_, .f32⟩
  | .hbm, ⟨30, _⟩ => ⟨S1024x128, .f32⟩
  | .hbm, ⟨31, _⟩ => ⟨S1024x512, .f32⟩
  | .hbm, ⟨32, _⟩ => ⟨S1024x3200, .f32⟩
  | .hbm, ⟨33, _⟩ => ⟨S1024x3200, .bf16⟩
  | .hbm, ⟨34, _⟩ => ⟨S1x1024, .f32⟩
  | .hbm, ⟨35, _⟩ => ⟨S2x32x1024x256, .bf16⟩
  | .hbm, ⟨36, _⟩ => ⟨S2x4x8192x128, .f32⟩
  | .hbm, ⟨37, _⟩ => ⟨S2x4x8192x128, .bf16⟩
  | .hbm, ⟨38, _⟩ => ⟨S2x4x32x80x256, .bf16⟩
  | .hbm, ⟨39, _⟩ => ⟨S2x4x8192x128, .bf16⟩
  | .hbm, ⟨40, _⟩ => ⟨S2x4x32x80x256, .bf16⟩
  | .hbm, ⟨41, _⟩ => ⟨S2x32x128x256, .f32⟩
  | .hbm, ⟨42, _⟩ => ⟨S2x8192x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3200, .bf16⟩
  | .local _ .vmem, ⟨4, _⟩ => ⟨S1x2x1024x256, .bf16⟩
  | .local _ .vmem, ⟨5, _⟩ => ⟨S1x2x1024x256, .bf16⟩
  | .local _ .vmem, ⟨6, _⟩ => ⟨S1x4x512x128, .f32⟩
  | .local _ .vmem, ⟨7, _⟩ => ⟨S1x4x512x128, .f32⟩
  | .local _ .vmem, ⟨8, _⟩ => ⟨S1x4x512x128, .bf16⟩
  | .local _ .vmem, ⟨9, _⟩ => ⟨S1x4x512x128, .bf16⟩
  | .local _ .vmem, ⟨10, _⟩ => ⟨S1x4x2x80x256, .bf16⟩
  | .local _ .vmem, ⟨11, _⟩ => ⟨S1x4x2x80x256, .bf16⟩
  | .local _ .vmem, ⟨12, _⟩ => ⟨S1x4x512x128, .bf16⟩
  | .local _ .vmem, ⟨13, _⟩ => ⟨S1x4x512x128, .bf16⟩
  | .local _ .vmem, ⟨14, _⟩ => ⟨S1x4x2x80x256, .bf16⟩
  | .local _ .vmem, ⟨15, _⟩ => ⟨S1x4x2x80x256, .bf16⟩
  | .local _ .vmem, ⟨16, _⟩ => ⟨S1x2x128x256, .f32⟩
  | .local _ .vmem, ⟨17, _⟩ => ⟨S1x2x128x256, .f32⟩
  | .local _ .vmem, ⟨18, _⟩ => ⟨S1x512x512, .bf16⟩
  | .local _ .vmem, ⟨19, _⟩ => ⟨S1x512x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_c : Ref sig .tc := ⟨.hbm, 28, rfl⟩
abbrev main_call0_v0 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30_0 : Ref sig .tc := ⟨.hbm, 35, rfl⟩
abbrev main_v30_1 : Ref sig .tc := ⟨.hbm, 36, rfl⟩
abbrev main_v30_2 : Ref sig .tc := ⟨.hbm, 37, rfl⟩
abbrev main_v30_3 : Ref sig .tc := ⟨.hbm, 38, rfl⟩
abbrev main_v30_4 : Ref sig .tc := ⟨.hbm, 39, rfl⟩
abbrev main_v30_5 : Ref sig .tc := ⟨.hbm, 40, rfl⟩
abbrev main_v30_6 : Ref sig .tc := ⟨.hbm, 41, rfl⟩
abbrev main_v30_7 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x2x80x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x2x80x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference8Ideal.lean ====
abbrev S2x8192x1024 : Shape := ⟨3, ![2, 8192, 1024]⟩
abbrev S2x1024 : Shape := ⟨2, ![2, 1024]⟩
abbrev S1x1024x3120 : Shape := ⟨3, ![1, 1024, 3120]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x3120 : Shape := ⟨2, ![1024, 3120]⟩
abbrev S2x8192x3120 : Shape := ⟨3, ![2, 8192, 3120]⟩
abbrev S2x8192x1536 : Shape := ⟨3, ![2, 8192, 1536]⟩
abbrev S2x8192x6x4x64 : Shape := ⟨5, ![2, 8192, 6, 4, 64]⟩
abbrev S6x2x4x8192x64 : Shape := ⟨5, ![6, 2, 4, 8192, 64]⟩
abbrev S2x32x256x1024 : Shape := ⟨4, ![2, 32, 256, 1024]⟩
abbrev S2x32x1024x256 : Shape := ⟨4, ![2, 32, 1024, 256]⟩
abbrev S2x8192x512 : Shape := ⟨3, ![2, 8192, 512]⟩
abbrev S2x8192x4x128 : Shape := ⟨4, ![2, 8192, 4, 128]⟩
abbrev S2x4x8192x128 : Shape := ⟨4, ![2, 4, 8192, 128]⟩
abbrev S2x8192x48 : Shape := ⟨3, ![2, 8192, 48]⟩
abbrev S2x8192x128 : Shape := ⟨3, ![2, 8192, 128]⟩
abbrev S1x2x4x8192x64 : Shape := ⟨5, ![1, 2, 4, 8192, 64]⟩
abbrev S2x4x8192x64 : Shape := ⟨4, ![2, 4, 8192, 64]⟩
abbrev S2x4x32x256x64 : Shape := ⟨5, ![2, 4, 32, 256, 64]⟩
abbrev S2x4x32x64x256 : Shape := ⟨5, ![2, 4, 32, 64, 256]⟩
abbrev S2x4x32x16x256 : Shape := ⟨5, ![2, 4, 32, 16, 256]⟩
abbrev S2x4x32x80x256 : Shape := ⟨5, ![2, 4, 32, 80, 256]⟩
abbrev S2x32x256x128 : Shape := ⟨4, ![2, 32, 256, 128]⟩
abbrev S2x32x128x256 : Shape := ⟨4, ![2, 32, 128, 256]⟩

abbrev nBuf : Space → Nat
  | .hbm => 80
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S1x1024x3120, .f32⟩
  | .hbm, ⟨3, _⟩ => ⟨S1x1024, .f32⟩
  | .hbm, ⟨4, _⟩ => ⟨S1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S1024x3120, .f32⟩
  | .hbm, ⟨22, _⟩ => ⟨S2x8192x3120, .f32⟩
  | .hbm, ⟨23, _⟩ => ⟨S2x8192x1536, .f32⟩
  | .hbm, ⟨24, _⟩ => ⟨S2x8192x6x4x64, .f32⟩
  | .hbm, ⟨25, _⟩ => ⟨S6x2x4x8192x64, .f32⟩
  | .hbm, ⟨26, _⟩ => ⟨S2x8192x1024, .f32⟩
  | .hbm, ⟨27, _⟩ => ⟨S_, .f32⟩
  | .hbm, ⟨28, _⟩ => ⟨S2x8192x1024, .f32⟩
  | .hbm, ⟨29, _⟩ => ⟨S2x8192x1024, .f32⟩
  | .hbm, ⟨30, _⟩ => ⟨S2x32x256x1024, .f32⟩
  | .hbm, ⟨31, _⟩ => ⟨S2x32x1024x256, .f32⟩
  | .hbm, ⟨32, _⟩ => ⟨S2x8192x512, .f32⟩
  | .hbm, ⟨33, _⟩ => ⟨S2x8192x4x128, .f32⟩
  | .hbm, ⟨34, _⟩ => ⟨S2x4x8192x128, .f32⟩
  | .hbm, ⟨35, _⟩ => ⟨S2x8192x48, .f32⟩
  | .hbm, ⟨36, _⟩ => ⟨S2x8192x48, .f32⟩
  | .hbm, ⟨37, _⟩ => ⟨S2x8192x48, .f32⟩
  | .hbm, ⟨38, _⟩ => ⟨S_, .f32⟩
  | .hbm, ⟨39, _⟩ => ⟨S2x8192x48, .f32⟩
  | .hbm, ⟨40, _⟩ => ⟨S2x8192x48, .f32⟩
  | .hbm, ⟨41, _⟩ => ⟨S_, .f32⟩
  | .hbm, ⟨42, _⟩ => ⟨S2x8192x48, .f32⟩
  | .hbm, ⟨43, _⟩ => ⟨S2x8192x48, .f32⟩
  | .hbm, ⟨44, _⟩ => ⟨S_, .f32⟩
  | .hbm, ⟨45, _⟩ => ⟨S_, .f32⟩
  | .hbm, ⟨46, _⟩ => ⟨S2x8192x128, .f32⟩
  | .hbm, ⟨47, _⟩ => ⟨S2x32x1024x256, .bf16⟩
  | .hbm, ⟨48, _⟩ => ⟨S1x2x4x8192x64, .f32⟩
  | .hbm, ⟨49, _⟩ => ⟨S2x4x8192x64, .f32⟩
  | .hbm, ⟨50, _⟩ => ⟨S_, .f32⟩
  | .hbm, ⟨51, _⟩ => ⟨S2x4x8192x64, .f32⟩
  | .hbm, ⟨52, _⟩ => ⟨S2x4x8192x128, .f32⟩
  | .hbm, ⟨53, _⟩ => ⟨S2x4x8192x128, .bf16⟩
  | .hbm, ⟨54, _⟩ => ⟨S1x2x4x8192x64, .f32⟩
  | .hbm, ⟨55, _⟩ => ⟨S2x4x8192x64, .f32⟩
  | .hbm, ⟨56, _⟩ => ⟨S2x4x32x256x64, .f32⟩
  | .hbm, ⟨57, _⟩ => ⟨S2x4x32x64x256, .f32⟩
  | .hbm, ⟨58, _⟩ => ⟨S_, .f32⟩
  | .hbm, ⟨59, _⟩ => ⟨S2x4x32x16x256, .f32⟩
  | .hbm, ⟨60, _⟩ => ⟨S2x4x32x80x256, .f32⟩
  | .hbm, ⟨61, _⟩ => ⟨S2x4x32x80x256, .bf16⟩
  | .hbm, ⟨62, _⟩ => ⟨S1x2x4x8192x64, .f32⟩
  | .hbm, ⟨63, _⟩ => ⟨S2x4x8192x64, .f32⟩
  | .hbm, ⟨64, _⟩ => ⟨S_, .f32⟩
  | .hbm, ⟨65, _⟩ => ⟨S2x4x8192x64, .f32⟩
  | .hbm, ⟨66, _⟩ => ⟨S2x4x8192x128, .f32⟩
  | .hbm, ⟨67, _⟩ => ⟨S2x4x8192x128, .bf16⟩
  | .hbm, ⟨68, _⟩ => ⟨S1x2x4x8192x64, .f32⟩
  | .hbm, ⟨69, _⟩ => ⟨S2x4x8192x64, .f32⟩
  | .hbm, ⟨70, _⟩ => ⟨S2x4x32x256x64, .f32⟩
  | .hbm, ⟨71, _⟩ => ⟨S2x4x32x64x256, .f32⟩
  | .hbm, ⟨72, _⟩ => ⟨S_, .f32⟩
  | .hbm, ⟨73, _⟩ => ⟨S2x4x32x16x256, .f32⟩
  | .hbm, ⟨74, _⟩ => ⟨S2x4x32x80x256, .f32⟩
  | .hbm, ⟨75, _⟩ => ⟨S2x4x32x80x256, .bf16⟩
  | .hbm, ⟨76, _⟩ => ⟨S2x32x256x128, .f32⟩
  | .hbm, ⟨77, _⟩ => ⟨S2x32x128x256, .f32⟩
  | .hbm, ⟨78, _⟩ => ⟨S2x8192x512, .f32⟩
  | .hbm, ⟨79, _⟩ => ⟨S2x8192x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_call0_v0 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩

abbrev nD : Nat := 1
abbrev τ : Topo := Topo.v7x

variable {F : FTy → Type} [FloatOps F]
-- ==== Kernel9.lean ====
abbrev S2x4x8192x128 : Shape := ⟨4, ![2, 4, 8192, 128]⟩
abbrev S1x32x64 : Shape := ⟨3, ![1, 32, 64]⟩
abbrev S1x2048x128 : Shape := ⟨3, ![1, 2048, 128]⟩
abbrev S1x128x64 : Shape := ⟨3, ![1, 128, 64]⟩
abbrev S32x64 : Shape := ⟨2, ![32, 64]⟩
abbrev S1x32x1x64 : Shape := ⟨4, ![1, 32, 1, 64]⟩
abbrev S1x32x4x64 : Shape := ⟨4, ![1, 32, 4, 64]⟩
abbrev S32x256 : Shape := ⟨2, ![32, 256]⟩
abbrev S1x32x256 : Shape := ⟨3, ![1, 32, 256]⟩
abbrev S2x32x256 : Shape := ⟨3, ![2, 32, 256]⟩
abbrev S2048x128 : Shape := ⟨2, ![2048, 128]⟩
abbrev S2x2048x128 : Shape := ⟨3, ![2, 2048, 128]⟩
abbrev S128x64 : Shape := ⟨2, ![128, 64]⟩
abbrev S2x4x512x128 : Shape := ⟨4, ![2, 4, 512, 128]⟩
abbrev S1x2x8192x128 : Shape := ⟨4, ![1, 2, 8192, 128]⟩
abbrev S1x4x512x128 : Shape := ⟨4, ![1, 4, 512, 128]⟩
abbrev S520x128 : Shape := ⟨2, ![520, 128]⟩
abbrev S512x128 : Shape := ⟨2, ![512, 128]⟩
abbrev S1x1x512x128 : Shape := ⟨4, ![1, 1, 512, 128]⟩
abbrev S1x1x128 : Shape := ⟨3, ![1, 1, 128]⟩
abbrev S1x128 : Shape := ⟨2, ![1, 128]⟩
abbrev S512x64 : Shape := ⟨2, ![512, 64]⟩
abbrev S1x64x128 : Shape := ⟨3, ![1, 64, 128]⟩
abbrev S64x128 : Shape := ⟨2, ![64, 128]⟩
abbrev S8x128 : Shape := ⟨2, ![8, 128]⟩

abbrev nBuf : Space → Nat
  | .hbm => 27
  | .vmem => 8
  | .smem => 0
  | _ => 0

abbrev bufTy : (tb : Table) → Fin (tcTables nBuf tb) → BufTy
  | .hbm, ⟨0, _⟩ => ⟨S2x4x8192x128, .f32⟩
  | .hbm, ⟨1, _⟩ => ⟨S1x32x64, .f32⟩
  | .hbm, ⟨2, _⟩ => ⟨S1x32x64, .f32⟩
  | .hbm, ⟨3, _⟩ => ⟨S1x2048x128, .f32⟩
  | .hbm, ⟨4, _⟩ => ⟨S1x2048x128, .f32⟩
  | .hbm, ⟨5, _⟩ => ⟨S1x128x64, .f32⟩
  | .hbm, ⟨6, _⟩ => ⟨S32x64, .f32⟩
  | .hbm, ⟨7, _⟩ => ⟨S1x32x1x64, .f32⟩
  | .hbm, ⟨8, _⟩ => ⟨S1x32x4x64, .f32⟩
  | .hbm, ⟨9, _⟩ => ⟨S32x256, .f32⟩
  | .hbm, ⟨10, _⟩ => ⟨S32x64, .f32⟩
  | .hbm, ⟨11, _⟩ => ⟨S1x32x1x64, .f32⟩
  | .hbm, ⟨12, _⟩ => ⟨S1x32x4x64, .f32⟩
  | .hbm, ⟨13, _⟩ => ⟨S32x256, .f32⟩
  | .hbm, ⟨14, _⟩ => ⟨S1x32x256, .f32⟩
  | .hbm, ⟨15, _⟩ => ⟨S1x32x256, .f32⟩
  | .hbm, ⟨16, _⟩ => ⟨S2x32x256, .f32⟩
  | .hbm, ⟨17, _⟩ => ⟨S2048x128, .f32⟩
  | .hbm, ⟨18, _⟩ => ⟨S2048x128, .f32⟩
  | .hbm, ⟨19, _⟩ => ⟨S1x2048x128, .f32⟩
  | .hbm, ⟨20, _⟩ => ⟨S1x2048x128, .f32⟩
  | .hbm, ⟨21, _⟩ => ⟨S2x2048x128, .f32⟩
  | .hbm, ⟨22, _⟩ => ⟨S2x2048x128, .bf16⟩
  | .hbm, ⟨23, _⟩ => ⟨S128x64, .f32⟩
  | .hbm, ⟨24, _⟩ => ⟨S128x64, .bf16⟩
  | .hbm, ⟨25, _⟩ => ⟨S1x128x64, .bf16⟩
  | .hbm, ⟨26, _⟩ => ⟨S2x4x512x128, .bf16⟩
  | .local _ .vmem, ⟨0, _⟩ => ⟨S1x2x8192x128, .f32⟩
  | .local _ .vmem, ⟨1, _⟩ => ⟨S1x2x8192x128, .f32⟩
  | .local _ .vmem, ⟨2, _⟩ => ⟨S1x32x256, .f32⟩
  | .local _ .vmem, ⟨3, _⟩ => ⟨S1x2048x128, .bf16⟩
  | .local _ .vmem, ⟨4, _⟩ => ⟨S1x128x64, .bf16⟩
  | .local _ .vmem, ⟨5, _⟩ => ⟨S1x4x512x128, .bf16⟩
  | .local _ .vmem, ⟨6, _⟩ => ⟨S1x4x512x128, .bf16⟩
  | .local _ .vmem, ⟨7, _⟩ => ⟨S520x128, .f32⟩
  | _, _ => ⟨S2x4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S2x4x8192x128 : Shape := ⟨4, ![2, 4, 8192, 128]⟩
abbrev S1x32x64 : Shape := ⟨3, ![1, 32, 64]⟩
abbrev S1x2048x128 : Shape := ⟨3, ![1, 2048, 128]⟩
abbrev S1x128x64 : Shape := ⟨3, ![1, 128, 64]⟩
abbrev S2x2x2x8192x2x64 : Shape := ⟨6, ![2, 2, 2, 8192, 2, 64]⟩
abbrev S2x1x2x8192x2x64 : Shape := ⟨6, ![2, 1, 2, 8192, 2, 64]⟩
abbrev S2x2x8192x2x64 : Shape := ⟨5, ![2, 2, 8192, 2, 64]⟩
abbrev S2x2x2x8192x64 : Shape := ⟨5, ![2, 2, 2, 8192, 64]⟩
abbrev S2x4x8192x64 : Shape := ⟨4, ![2, 4, 8192, 64]⟩
abbrev S32x64 : Shape := ⟨2, ![32, 64]⟩
abbrev S2048x128 : Shape := ⟨2, ![2048, 128]⟩
abbrev S128x64 : Shape := ⟨2, ![128, 64]⟩
abbrev S512 : Shape := ⟨1, ![512]⟩
abbrev S_ : Shape := ⟨0, ![]⟩
abbrev S512x1 : Shape := ⟨2, ![512, 1]⟩
abbrev S32 : Shape := ⟨1, ![32]⟩
abbrev S1x32 : Shape := ⟨2, ![1, 32]⟩
abbrev S512x32 : Shape := ⟨2, ![512, 32]⟩
abbrev S512x32x1 : Shape := ⟨3, ![512, 32, 1]⟩
abbrev S2x4x512x32x64 : Shape := ⟨5, ![2, 4, 512, 32, 64]⟩
abbrev S1x1x1x32x64 : Shape := ⟨5, ![1, 1, 1, 32, 64]⟩
abbrev S2x4x512x2048 : Shape := ⟨4, ![2, 4, 512, 2048]⟩
abbrev S2x4x512x128 : Shape := ⟨4, ![2, 4, 512, 128]⟩
abbrev S2x4x512x64 : Shape := ⟨4, ![2, 4, 512, 64]⟩

abbrev nBuf : Space → Nat
  | .hbm => 54
  | .vmem => 0
  | .smem => 0
  | _ => 0

abbrev bufTy : (tb : Table) → Fin (tcTables nBuf tb) → BufTy
  | .hbm, ⟨0, _⟩ => ⟨S2x4x8192x128, .f32⟩
  | .hbm, ⟨1, _⟩ => ⟨S1x32x64, .f32⟩
  | .hbm, ⟨2, _⟩ => ⟨S1x32x64, .f32⟩
  | .hbm, ⟨3, _⟩ => ⟨S1x2048x128, .f32⟩
  | .hbm, ⟨4, _⟩ => ⟨S1x2048x128, .f32⟩
  | .hbm, ⟨5, _⟩ => ⟨S1x128x64, .f32⟩
  | .hbm, ⟨6, _⟩ => ⟨S2x2x2x8192x2x64, .f32⟩
  | .hbm, ⟨7, _⟩ => ⟨S2x1x2x8192x2x64, .f32⟩
  | .hbm, ⟨8, _⟩ => ⟨S2x2x8192x2x64, .f32⟩
  | .hbm, ⟨9, _⟩ => ⟨S2x2x2x8192x64, .f32⟩
  | .hbm, ⟨10, _⟩ => ⟨S2x4x8192x64, .f32⟩
  | .hbm, ⟨11, _⟩ => ⟨S32x64, .f32⟩
  | .hbm, ⟨12, _⟩ => ⟨S2048x128, .f32⟩
  | .hbm, ⟨13, _⟩ => ⟨S128x64, .f32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i32⟩
  | .hbm, ⟨18, _⟩ => ⟨S512x1, .i32⟩
  | .hbm, ⟨19, _⟩ => ⟨S32, .i32⟩
  | .hbm, ⟨20, _⟩ => ⟨S1x32, .i32⟩
  | .hbm, ⟨21, _⟩ => ⟨S512x32, .i32⟩
  | .hbm, ⟨22, _⟩ => ⟨S512x32, .i32⟩
  | .hbm, ⟨23, _⟩ => ⟨S512x32, .i32⟩
  | .hbm, ⟨24, _⟩ => ⟨S_, .i32⟩
  | .hbm, ⟨25, _⟩ => ⟨S512x32, .i32⟩
  | .hbm, ⟨26, _⟩ => ⟨S512x32, .i1⟩
  | .hbm, ⟨27, _⟩ => ⟨S512x32x1, .i1⟩
  | .hbm, ⟨28, _⟩ => ⟨S512x32x1, .i32⟩
  | .hbm, ⟨29, _⟩ => ⟨S2x4x512x32x64, .f32⟩
  | .hbm, ⟨30, _⟩ => ⟨S1x1x1x32x64, .f32⟩
  | .hbm, ⟨31, _⟩ => ⟨S2x4x512x32x64, .f32⟩
  | .hbm, ⟨32, _⟩ => ⟨S2x4x512x32x64, .f32⟩
  | .hbm, ⟨33, _⟩ => ⟨S_, .f32⟩
  | .hbm, ⟨34, _⟩ => ⟨S_, .f32⟩
  | .hbm, ⟨35, _⟩ => ⟨S2x4x512x32x64, .i1⟩
  | .hbm, ⟨36, _⟩ => ⟨S2x4x512x32x64, .f32⟩
  | .hbm, ⟨37, _⟩ => ⟨S2x4x512x32x64, .f32⟩
  | .hbm, ⟨38, _⟩ => ⟨S2x4x512x2048, .f32⟩
  | .hbm, ⟨39, _⟩ => ⟨S2x4x512x128, .f32⟩
  | .hbm, ⟨40, _⟩ => ⟨S2x4x512x128, .f32⟩
  | .hbm, ⟨41, _⟩ => ⟨S2x4x512x128, .f32⟩
  | .hbm, ⟨42, _⟩ => ⟨S_, .f32⟩
  | .hbm, ⟨43, _⟩ => ⟨S2x4x512x128, .f32⟩
  | .hbm, ⟨44, _⟩ => ⟨S2x4x512x128, .f32⟩
  | .hbm, ⟨45, _⟩ => ⟨S_, .f32⟩
  | .hbm, ⟨46, _⟩ => ⟨S2x4x512x128, .f32⟩
  | .hbm, ⟨47, _⟩ => ⟨S2x4x512x128, .f32⟩
  | .hbm, ⟨48, _⟩ => ⟨S2x4x512x128, .f32⟩
  | .hbm, ⟨49, _⟩ => ⟨S2x4x512x64, .f32⟩
  | .hbm, ⟨50, _⟩ => ⟨S_, .f32⟩
  | .hbm, ⟨51, _⟩ => ⟨S2x4x512x64, .f32⟩
  | .hbm, ⟨52, _⟩ => ⟨S2x4x512x128, .f32⟩
  | .hbm, ⟨53, _⟩ => ⟨S2x4x512x128, .bf16⟩
  | _, _ => ⟨S2x4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call2_v0 : Ref sig .tc := ⟨.hbm, 40, rfl⟩
abbrev main_call2_v1 : Ref sig .tc := ⟨.hbm, 41, rfl⟩
abbrev main_call2_cst : Ref sig .tc := ⟨.hbm, 42, rfl⟩
abbrev main_call2_v2 : Ref sig .tc := ⟨.hbm, 43, rfl⟩
abbrev main_call2_v3 : Ref sig .tc := ⟨.hbm, 44, rfl⟩
abbrev main_call2_cst_0 : Ref sig .tc := ⟨.hbm, 45, rfl⟩
abbrev main_call2_v4 : Ref sig .tc := ⟨.hbm, 46, rfl⟩
abbrev main_call2_v5 : Ref sig .tc := ⟨.hbm, 47, rfl⟩
abbrev main_v27 : Ref sig .tc := ⟨.hbm, 48, rfl⟩
abbrev main_v28 : Ref sig .tc := ⟨.hbm, 49, rfl⟩
abbrev main_cst_1 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]
-- ==== Kernel10.lean ====
abbrev S2x4x8192x128 : Shape := ⟨4, ![2, 4, 8192, 128]⟩
abbrev S1x32x64 : Shape := ⟨3, ![1, 32, 64]⟩
abbrev S1x2048x128 : Shape := ⟨3, ![1, 2048, 128]⟩
abbrev S1x128x64 : Shape := ⟨3, ![1, 128, 64]⟩
abbrev S32x64 : Shape := ⟨2, ![32, 64]⟩
abbrev S1x32x1x64 : Shape := ⟨4, ![1, 32, 1, 64]⟩
abbrev S1x32x4x64 : Shape := ⟨4, ![1, 32, 4, 64]⟩
abbrev S32x256 : Shape := ⟨2, ![32, 256]⟩
abbrev S1x32x256 : Shape := ⟨3, ![1, 32, 256]⟩
abbrev S2x32x256 : Shape := ⟨3, ![2, 32, 256]⟩
abbrev S2048x128 : Shape := ⟨2, ![2048, 128]⟩
abbrev S2x2048x128 : Shape := ⟨3, ![2, 2048, 128]⟩
abbrev S128x64 : Shape := ⟨2, ![128, 64]⟩
abbrev S64x128 : Shape := ⟨2, ![64, 128]⟩
abbrev S1x64x128 : Shape := ⟨3, ![1, 64, 128]⟩
abbrev S2x4x64x512 : Shape := ⟨4, ![2, 4, 64, 512]⟩
abbrev S1x2x8192x128 : Shape := ⟨4, ![1, 2, 8192, 128]⟩
abbrev S1x4x64x512 : Shape := ⟨4, ![1, 4, 64, 512]⟩
abbrev S520x128 : Shape := ⟨2, ![520, 128]⟩
abbrev S512x128 : Shape := ⟨2, ![512, 128]⟩
abbrev S1x1x512x128 : Shape := ⟨4, ![1, 1, 512, 128]⟩
abbrev S1x1x128 : Shape := ⟨3, ![1, 1, 128]⟩
abbrev S1x128 : Shape := ⟨2, ![1, 128]⟩
abbrev S512x64 : Shape := ⟨2, ![512, 64]⟩
abbrev S8x128 : Shape := ⟨2, ![8, 128]⟩
abbrev S64x512 : Shape := ⟨2, ![64, 512]⟩
abbrev S1x1x64x512 : Shape := ⟨4, ![1, 1, 64, 512]⟩

abbrev nBuf : Space → Nat
  | .hbm => 28
  | .vmem => 8
  | .smem => 0
  | _ => 0

abbrev bufTy : (tb : Table) → Fin (tcTables nBuf tb) → BufTy
  | .hbm, ⟨0, _⟩ => ⟨S2x4x8192x128, .f32⟩
  | .hbm, ⟨1, _⟩ => ⟨S1x32x64, .f32⟩
  | .hbm, ⟨2, _⟩ => ⟨S1x32x64, .f32⟩
  | .hbm, ⟨3, _⟩ => ⟨S1x2048x128, .f32⟩
  | .hbm, ⟨4, _⟩ => ⟨S1x2048x128, .f32⟩
  | .hbm, ⟨5, _⟩ => ⟨S1x128x64, .f32⟩
  | .hbm, ⟨6, _⟩ => ⟨S32x64, .f32⟩
  | .hbm, ⟨7, _⟩ => ⟨S1x32x1x64, .f32⟩
  | .hbm, ⟨8, _⟩ => ⟨S1x32x4x64, .f32⟩
  | .hbm, ⟨9, _⟩ => ⟨S32x256, .f32⟩
  | .hbm, ⟨10, _⟩ => ⟨S32x64, .f32⟩
  | .hbm, ⟨11, _⟩ => ⟨S1x32x1x64, .f32⟩
  | .hbm, ⟨12, _⟩ => ⟨S1x32x4x64, .f32⟩
  | .hbm, ⟨13, _⟩ => ⟨S32x256, .f32⟩
  | .hbm, ⟨14, _⟩ => ⟨S1x32x256, .f32⟩
  | .hbm, ⟨15, _⟩ => ⟨S1x32x256, .f32⟩
  | .hbm, ⟨16, _⟩ => ⟨S2x32x256, .f32⟩
  | .hbm, ⟨17, _⟩ => ⟨S2048x128, .f32⟩
  | .hbm, ⟨18, _⟩ => ⟨S2048x128, .f32⟩
  | .hbm, ⟨19, _⟩ => ⟨S1x2048x128, .f32⟩
  | .hbm, ⟨20, _⟩ => ⟨S1x2048x128, .f32⟩
  | .hbm, ⟨21, _⟩ => ⟨S2x2048x128, .f32⟩
  | .hbm, ⟨22, _⟩ => ⟨S2x2048x128, .bf16⟩
  | .hbm, ⟨23, _⟩ => ⟨S128x64, .f32⟩
  | .hbm, ⟨24, _⟩ => ⟨S64x128, .f32⟩
  | .hbm, ⟨25, _⟩ => ⟨S64x128, .bf16⟩
  | .hbm, ⟨26, _⟩ => ⟨S1x64x128, .bf16⟩
  | .hbm, ⟨27, _⟩ => ⟨S2x4x64x512, .bf16⟩
  | .local _ .vmem, ⟨0, _⟩ => ⟨S1x2x8192x128, .f32⟩
  | .local _ .vmem, ⟨1, _⟩ => ⟨S1x2x8192x128, .f32⟩
  | .local _ .vmem, ⟨2, _⟩ => ⟨S1x32x256, .f32⟩
  | .local _ .vmem, ⟨3, _⟩ => ⟨S1x2048x128, .bf16⟩
  | .local _ .vmem, ⟨4, _⟩ => ⟨S1x64x128, .bf16⟩
  | .local _ .vmem, ⟨5, _⟩ => ⟨S1x4x64x512, .bf16⟩
  | .local _ .vmem, ⟨6, _⟩ => ⟨S1x4x64x512, .bf16⟩
  | .local _ .vmem, ⟨7, _⟩ => ⟨S520x128, .f32⟩
  | _, _ => ⟨S2x4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S2x4x8192x128 : Shape := ⟨4, ![2, 4, 8192, 128]⟩
abbrev S1x32x64 : Shape := ⟨3, ![1, 32, 64]⟩
abbrev S1x2048x128 : Shape := ⟨3, ![1, 2048, 128]⟩
abbrev S1x128x64 : Shape := ⟨3, ![1, 128, 64]⟩
abbrev S2x2x2x8192x2x64 : Shape := ⟨6, ![2, 2, 2, 8192, 2, 64]⟩
abbrev S2x1x2x8192x2x64 : Shape := ⟨6, ![2, 1, 2, 8192, 2, 64]⟩
abbrev S2x2x8192x2x64 : Shape := ⟨5, ![2, 2, 8192, 2, 64]⟩
abbrev S2x2x2x8192x64 : Shape := ⟨5, ![2, 2, 2, 8192, 64]⟩
abbrev S2x4x8192x64 : Shape := ⟨4, ![2, 4, 8192, 64]⟩
abbrev S32x64 : Shape := ⟨2, ![32, 64]⟩
abbrev S2048x128 : Shape := ⟨2, ![2048, 128]⟩
abbrev S128x64 : Shape := ⟨2, ![128, 64]⟩
abbrev S512 : Shape := ⟨1, ![512]⟩
abbrev S_ : Shape := ⟨0, ![]⟩
abbrev S512x1 : Shape := ⟨2, ![512, 1]⟩
abbrev S32 : Shape := ⟨1, ![32]⟩
abbrev S1x32 : Shape := ⟨2, ![1, 32]⟩
abbrev S512x32 : Shape := ⟨2, ![512, 32]⟩
abbrev S512x32x1 : Shape := ⟨3, ![512, 32, 1]⟩
abbrev S2x4x512x32x64 : Shape := ⟨5, ![2, 4, 512, 32, 64]⟩
abbrev S1x1x1x32x64 : Shape := ⟨5, ![1, 1, 1, 32, 64]⟩
abbrev S2x4x512x2048 : Shape := ⟨4, ![2, 4, 512, 2048]⟩
abbrev S2x4x512x128 : Shape := ⟨4, ![2, 4, 512, 128]⟩
abbrev S2x4x512x64 : Shape := ⟨4, ![2, 4, 512, 64]⟩
abbrev S2x4x64x512 : Shape := ⟨4, ![2, 4, 64, 512]⟩

abbrev nBuf : Space → Nat
  | .hbm => 52
  | .vmem => 0
  | .smem => 0
  | _ => 0

abbrev bufTy : (tb : Table) → Fin (tcTables nBuf tb) → BufTy
  | .hbm, ⟨0, _⟩ => ⟨S2x4x8192x128, .f32⟩
  | .hbm, ⟨1, _⟩ => ⟨S1x32x64, .f32⟩
  | .hbm, ⟨2, _⟩ => ⟨S1x32x64, .f32⟩
  | .hbm, ⟨3, _⟩ => ⟨S1x2048x128, .f32⟩
  | .hbm, ⟨4, _⟩ => ⟨S1x2048x128, .f32⟩
  | .hbm, ⟨5, _⟩ => ⟨S1x128x64, .f32⟩
  | .hbm, ⟨6, _⟩ => ⟨S2x2x2x8192x2x64, .f32⟩
  | .hbm, ⟨7, _⟩ => ⟨S2x1x2x8192x2x64, .f32⟩
  | .hbm, ⟨8, _⟩ => ⟨S2x2x8192x2x64, .f32⟩
  | .hbm, ⟨9, _⟩ => ⟨S2x2x2x8192x64, .f32⟩
  | .hbm, ⟨10, _⟩ => ⟨S2x4x8192x64, .f32⟩
  | .hbm, ⟨11, _⟩ => ⟨S32x64, .f32⟩
  | .hbm, ⟨12, _⟩ => ⟨S2048x128, .f32⟩
  | .hbm, ⟨13, _⟩ => ⟨S128x64, .f32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i32⟩
  | .hbm, ⟨18, _⟩ => ⟨S512x1, .i32⟩
  | .hbm, ⟨19, _⟩ => ⟨S32, .i32⟩
  | .hbm, ⟨20, _⟩ => ⟨S1x32, .i32⟩
  | .hbm, ⟨21, _⟩ => ⟨S512x32, .i32⟩
  | .hbm, ⟨22, _⟩ => ⟨S512x32, .i32⟩
  | .hbm, ⟨23, _⟩ => ⟨S512x32, .i32⟩
  | .hbm, ⟨24, _⟩ => ⟨S_, .i32⟩
  | .hbm, ⟨25, _⟩ => ⟨S512x32, .i32⟩
  | .hbm, ⟨26, _⟩ => ⟨S512x32, .i1⟩
  | .hbm, ⟨27, _⟩ => ⟨S512x32x1, .i1⟩
  | .hbm, ⟨28, _⟩ => ⟨S512x32x1, .i32⟩
  | .hbm, ⟨29, _⟩ => ⟨S2x4x512x32x64, .f32⟩
  | .hbm, ⟨30, _⟩ => ⟨S1x1x1x32x64, .f32⟩
  | .hbm, ⟨31, _⟩ => ⟨S2x4x512x32x64, .f32⟩
  | .hbm, ⟨32, _⟩ => ⟨S2x4x512x32x64, .f32⟩
  | .hbm, ⟨33, _⟩ => ⟨S_, .f32⟩
  | .hbm, ⟨34, _⟩ => ⟨S_, .f32⟩
  | .hbm, ⟨35, _⟩ => ⟨S2x4x512x32x64, .i1⟩
  | .hbm, ⟨36, _⟩ => ⟨S2x4x512x32x64, .f32⟩
  | .hbm, ⟨37, _⟩ => ⟨S2x4x512x32x64, .f32⟩
  | .hbm, ⟨38, _⟩ => ⟨S2x4x512x2048, .f32⟩
  | .hbm, ⟨39, _⟩ => ⟨S2x4x512x128, .f32⟩
  | .hbm, ⟨40, _⟩ => ⟨S2x4x512x128, .f32⟩
  | .hbm, ⟨41, _⟩ => ⟨S2x4x512x128, .f32⟩
  | .hbm, ⟨42, _⟩ => ⟨S_, .f32⟩
  | .hbm, ⟨43, _⟩ => ⟨S2x4x512x128, .f32⟩
  | .hbm, ⟨44, _⟩ => ⟨S2x4x512x128, .f32⟩
  | .hbm, ⟨45, _⟩ => ⟨S_, .f32⟩
  | .hbm, ⟨46, _⟩ => ⟨S2x4x512x128, .f32⟩
  | .hbm, ⟨47, _⟩ => ⟨S2x4x512x128, .f32⟩
  | .hbm, ⟨48, _⟩ => ⟨S2x4x512x128, .f32⟩
  | .hbm, ⟨49, _⟩ => ⟨S2x4x512x64, .f32⟩
  | .hbm, ⟨50, _⟩ => ⟨S2x4x64x512, .f32⟩
  | .hbm, ⟨51, _⟩ => ⟨S2x4x64x512, .bf16⟩
  | _, _ => ⟨S2x4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call2_v0 : Ref sig .tc := ⟨.hbm, 40, rfl⟩
abbrev main_call2_v1 : Ref sig .tc := ⟨.hbm, 41, rfl⟩
abbrev main_call2_cst : Ref sig .tc := ⟨.hbm, 42, rfl⟩
abbrev main_call2_v2 : Ref sig .tc := ⟨.hbm, 43, rfl⟩
abbrev main_call2_v3 : Ref sig .tc := ⟨.hbm, 44, rfl⟩
abbrev main_call2_cst_0 : Ref sig .tc := ⟨.hbm, 45, rfl⟩
abbrev main_call2_v4 : Ref sig .tc := ⟨.hbm, 46, rfl⟩
abbrev main_call2_v5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩

abbrev nD : Nat := 1
abbrev τ : Topo := Topo.v7x

variable {F : FTy → Type} [FloatOps F]
-- ==== Proof.FfnSpec.lean ====
/-
  The feed-forward part of a block, as mathematics on one row of activations.

  For a row `x` of 1024 numbers the layer computes `x + W_down (silu(a) * u)`, where `a` and `u` are the two halves of
  `W_up` applied to the root-mean-square normalised row. Everything here is about plain functions on finite index
  types; no program appears. The one fact with content is `sum_chunks`: a sum over the 2816 hidden units is the sum of
  eleven sums over 256 of them, which is the order in which the kernel adds them up.
-/
module

public import Idealize.ShloMosaic.Lib.Pipeline.ValueKit

@[expose] public section

set_option maxRecDepth 16384

noncomputable section

namespace Cert.Ffn

open Idealize.ShloMosaic

/-- Root-mean-square normalisation of a row `x` with gain `g`: the mean of the squares plus 1e-6 under the root. -/
def rms (x g : Fin 1024 → EReal) (j : Fin 1024) : EReal :=
  x j * Ideal.rsqrt (Ideal.div (∑ i, x i * x i) (Ideal.ofBits .f32 0x44800000#32) + Ideal.ofBits .f32 0x358637BD#32) * g j

/-- The gated unit: `a` times its logistic, times `u`. -/
def gate (a u : EReal) : EReal := a * Ideal.div 1 (1 + Ideal.exp (0 - a)) * u

/-- Hidden unit `k` of a normalised row `h`: the gate column is column `k`, the value column is column `2816 + k`. -/
def hidden (h : Fin 1024 → EReal) (W : Fin 1024 → Fin 5632 → EReal) (k : Fin 2816) : EReal :=
  gate (∑ j, h j * W j ⟨k, by omega⟩) (∑ j, h j * W j ⟨2816 + k, by omega⟩)

/-- The whole part on one row: the row itself plus the down projection of its hidden units. -/
def row (x g : Fin 1024 → EReal) (W : Fin 1024 → Fin 5632 → EReal) (D : Fin 2816 → Fin 1024 → EReal) (c : Fin 1024) : EReal :=
  x c + ∑ k, hidden (rms x g) W k * D k c

/-- The 256 hidden units from unit `o` on, through the down projection. -/
def chunk (h : Fin 1024 → EReal) (W : Fin 1024 → Fin 5632 → EReal) (D : Fin 2816 → Fin 1024 → EReal) (c : Fin 1024)
    (o : ℕ) (ho : o + 256 ≤ 2816) : EReal :=
  ∑ e : Fin 256, hidden h W ⟨o + e, by omega⟩ * D ⟨o + e, by omega⟩ c

/-- A sum over 2816 places is the sum, over eleven stretches of 256 places, of the sums over each stretch. -/
theorem sum_stretches (f : Fin 2816 → EReal) :
    ∑ k, f k = ∑ i : Fin 11, ∑ e : Fin 256, f ⟨256 * i + e, by omega⟩ := by
  rw [← Equiv.sum_comp (finProdFinEquiv (m := 11) (n := 256)), Fintype.sum_prod_type]
  refine Finset.sum_congr rfl fun i _ => Finset.sum_congr rfl fun e _ => congrArg f (Fin.ext ?_)
  show e.val + 256 * i.val = 256 * i.val + e.val
  omega

/-- The hidden units summed in the kernel's order: eleven chunks added to the row one after the other. -/
theorem row_chunks (x g : Fin 1024 → EReal) (W : Fin 1024 → Fin 5632 → EReal) (D : Fin 2816 → Fin 1024 → EReal) (c : Fin 1024) :
    x c + chunk (rms x g) W D c 0 (by omega) + chunk (rms x g) W D c 256 (by omega) + chunk (rms x g) W D c 512 (by omega)
      + chunk (rms x g) W D c 768 (by omega) + chunk (rms x g) W D c 1024 (by omega) + chunk (rms x g) W D c 1280 (by omega)
      + chunk (rms x g) W D c 1536 (by omega) + chunk (rms x g) W D c 1792 (by omega) + chunk (rms x g) W D c 2048 (by omega)
      + chunk (rms x g) W D c 2304 (by omega) + chunk (rms x g) W D c 2560 (by omega) = row x g W D c := by
  unfold row
  rw [sum_stretches]
  simp only [Fin.sum_univ_castSucc (n := 10), Fin.sum_univ_castSucc (n := 9), Fin.sum_univ_castSucc (n := 8),
    Fin.sum_univ_castSucc (n := 7), Fin.sum_univ_castSucc (n := 6), Fin.sum_univ_castSucc (n := 5),
    Fin.sum_univ_castSucc (n := 4), Fin.sum_univ_castSucc (n := 3), Fin.sum_univ_castSucc (n := 2),
    Fin.sum_univ_castSucc (n := 1), Fin.sum_univ_castSucc (n := 0), Fin.sum_univ_zero, zero_add, ← add_assoc]
  rfl

/-- The part applied to every row of the activations `X`, with the weights of layer `l`. -/
def layer (l : Fin 2) (X : FVec Ideal ⟨3, ![2, 8192, 1024]⟩ .f32) (G : FVec Ideal ⟨2, ![2, 1024]⟩ .f32)
    (W : FVec Ideal ⟨3, ![2, 1024, 5632]⟩ .f32) (D : FVec Ideal ⟨3, ![2, 2816, 1024]⟩ .f32) (b : Fin 2) (t : Fin 8192) :
    Fin 1024 → EReal :=
  row (fun j => X (ix3 b t j)) (fun j => G (ix2 l j)) (fun j k => W (ix3 l j k)) (fun k c => D (ix3 l k c))

end Cert.Ffn
-- ==== Proof.FfnBlock.lean ====
/-
  What one grid point of the last feed-forward call computes: row `r` of its output block is `Ffn.row` of row `r` of its
  input block, normalised once more by the final gain.

  The printed body adds eleven chunks of 256 hidden units onto the block. Each theorem `chunk_…` reads one or two of
  these additions at a row and a column; `residual_apply` strings them together and `block_apply` adds the final
  normalisation.
-/
module

public import proofs.«01_k».proof.Proof.Gen.Kernel2Ideal.Value
public import proofs.«01_k».proof.Proof.FfnSpec
public import Idealize.ShloMosaic.Lib.Pipeline.ValueKit

@[expose] public section

set_option maxRecDepth 16384

noncomputable section

open Idealize.ShloMosaic Idealize.ShloMosaic.TcCoe Idealize.SL.Sem

namespace Cert.Kernel2Ideal.Value

open Cert.Kernel2Ideal Cert.Kernel2Ideal.Gen

/-- Row `r` of the activation block. -/
def xRow (x0 : Vec Ideal S1x512x1024 .f32) (r : Fin 512) : Fin 1024 → EReal := fun j => x0 (ix3 0 r j)
/-- The gain block as a row. -/
def gRow (x1 : Vec Ideal S1x1024 .f32) : Fin 1024 → EReal := fun j => x1 (ix2 0 j)
/-- The gate-and-value weights of the block. -/
def upW (x2 : Vec Ideal S1x1024x5632 .bf16) : Fin 1024 → Fin 5632 → EReal := fun j k => x2 (ix3 0 j k)
/-- The down weights of the block. -/
def downW (x3 : Vec Ideal S1x2816x1024 .bf16) : Fin 2816 → Fin 1024 → EReal := fun k c => x3 (ix3 0 k c)
/-- Row `r` of the normalised block. -/
def hRow (h : FVec Ideal S512x1024 .bf16) (r : Fin 512) : Fin 1024 → EReal := fun j => h (ix2 r j)

variable (h : FVec Ideal S512x1024 .bf16) (x0 : Vec Ideal S1x512x1024 .f32) (x1 : Vec Ideal S1x1024 .f32)
  (x2 : Vec Ideal S1x1024x5632 .bf16) (x3 : Vec Ideal S1x2816x1024 .bf16) (x4 : Vec Ideal S1x1024 .f32)
  (v : FVec Ideal S512x1024 .f32) (r : Fin 512) (c : Fin 1024)

/-- The first normalisation, row by row. -/
theorem norm_row : hRow (k0_pay3 (View.ld x0 r0_0) (View.ld x1 r0_1)) r = Ffn.rms (xRow x0 r) (gRow x1) := by
  funext j
  pointwise [hRow, k0_pay3, k0_pay2, Ffn.rms, xRow, gRow]

/-- The block itself plus chunks 0 and 1. -/
theorem chunk_0 : k0_pay11 (k0_pay2 (View.ld x0 r0_0)) (k0_pay4 (View.ld x0 r0_0) (View.ld x1 r0_1) (View.ld x2 r0_2))
      (k0_pay5 (View.ld x0 r0_0) (View.ld x1 r0_1) (View.ld x2 r0_3)) (k0_pay6 (View.ld x0 r0_0) (View.ld x1 r0_1) (View.ld x2 r0_4))
      (k0_pay7 (View.ld x0 r0_0) (View.ld x1 r0_1) (View.ld x2 r0_5)) (k0_pay8 (View.ld x0 r0_0) (View.ld x1 r0_1) (View.ld x2 r0_2))
      (Scalar.ofBits .f32 0x3F800000#32) (View.ld x3 r0_6) (View.ld x3 r0_9) (ix2 r c)
    = xRow x0 r c + Ffn.chunk (hRow (k0_pay3 (View.ld x0 r0_0) (View.ld x1 r0_1)) r) (upW x2) (downW x3) c 0 (by omega)
      + Ffn.chunk (hRow (k0_pay3 (View.ld x0 r0_0) (View.ld x1 r0_1)) r) (upW x2) (downW x3) c 256 (by omega) := by
  unfold k0_pay8 k0_pay4 k0_pay5 k0_pay6 k0_pay7
  generalize k0_pay3 (View.ld x0 r0_0) (View.ld x1 r0_1) = h
  pointwise [k0_pay11, k0_pay2, Ffn.chunk, Ffn.hidden, Ffn.gate, hRow, upW, downW, xRow]
  blk_point []

/-- Chunk 2. -/
theorem chunk_2 : k0_pay13 (k0_pay9 h (View.ld x2 r0_7)) (k0_pay10 h (View.ld x2 r0_8)) v (View.ld x3 r0_12) (ix2 r c)
    = v (ix2 r c) + Ffn.chunk (hRow h r) (upW x2) (downW x3) c 512 (by omega) := by
  pointwise [k0_pay13, k0_pay9, k0_pay10, Ffn.chunk, Ffn.hidden, Ffn.gate, hRow, upW, downW]
  blk_point []

/-- Chunks 3 and 4. -/
theorem chunk_3 : k0_pay19 v (k0_pay14 h (View.ld x2 r0_13)) (k0_pay15 h (View.ld x2 r0_14))
      (k0_pay16 h (k0_pay12 h (View.ld x2 r0_10)) (View.ld x2 r0_11) (View.ld x3 r0_15)) (View.ld x3 r0_18) (ix2 r c)
    = v (ix2 r c) + Ffn.chunk (hRow h r) (upW x2) (downW x3) c 768 (by omega)
      + Ffn.chunk (hRow h r) (upW x2) (downW x3) c 1024 (by omega) := by
  pointwise [k0_pay19, k0_pay14, k0_pay15, k0_pay16, k0_pay12, Ffn.chunk, Ffn.hidden, Ffn.gate, hRow, upW, downW]
  blk_point []

/-- Chunks 5 and 6. -/
theorem chunk_5 : k0_pay25 (k0_pay17 h (View.ld x2 r0_16)) (k0_pay18 h (View.ld x2 r0_17)) v
      (k0_pay20 h (View.ld x2 r0_19)) (k0_pay21 h (View.ld x2 r0_20)) (k0_pay22 h (View.ld x2 r0_16)) (View.ld x3 r0_21)
      (View.ld x3 r0_24) (ix2 r c)
    = v (ix2 r c) + Ffn.chunk (hRow h r) (upW x2) (downW x3) c 1280 (by omega)
      + Ffn.chunk (hRow h r) (upW x2) (downW x3) c 1536 (by omega) := by
  pointwise [k0_pay25, k0_pay17, k0_pay18, k0_pay20, k0_pay21, k0_pay22, Ffn.chunk, Ffn.hidden, Ffn.gate, hRow, upW, downW]
  blk_point []

/-- Chunks 7 and 8. -/
theorem chunk_7 : k0_pay30 (k0_pay23 h (View.ld x2 r0_22)) (k0_pay24 h (View.ld x2 r0_23)) v (k0_pay26 h (View.ld x2 r0_25))
      (k0_pay27 h (View.ld x2 r0_26)) (View.ld x3 r0_27) (View.ld x3 r0_30) (ix2 r c)
    = v (ix2 r c) + Ffn.chunk (hRow h r) (upW x2) (downW x3) c 1792 (by omega)
      + Ffn.chunk (hRow h r) (upW x2) (downW x3) c 2048 (by omega) := by
  pointwise [k0_pay30, k0_pay23, k0_pay24, k0_pay26, k0_pay27, Ffn.chunk, Ffn.hidden, Ffn.gate, hRow, upW, downW]
  blk_point []

/-- Chunks 9 and 10. -/
theorem chunk_9 : k0_pay31 h (k0_pay28 h (View.ld x2 r0_28)) (k0_pay29 h (View.ld x2 r0_29)) v (View.ld x2 r0_31)
      (View.ld x2 r0_32) (View.ld x3 r0_33) (View.ld x3 r0_34) (ix2 r c)
    = v (ix2 r c) + Ffn.chunk (hRow h r) (upW x2) (downW x3) c 2304 (by omega)
      + Ffn.chunk (hRow h r) (upW x2) (downW x3) c 2560 (by omega) := by
  pointwise [k0_pay31, k0_pay28, k0_pay29, Ffn.chunk, Ffn.hidden, Ffn.gate, hRow, upW, downW]
  blk_point []

/-- The block after all eleven chunks, as the body computes it from its input blocks. -/
def residual : FVec Ideal S512x1024 .f32 :=
  k0_pay31 (k0_pay34 x0 x1 x2 x3 x4) (k0_pay35 x0 x1 x2 x3 x4) (k0_pay36 x0 x1 x2 x3 x4) (k0_pay37 x0 x1 x2 x3 x4)
    (View.ld x2 r0_31) (View.ld x2 r0_32) (View.ld x3 r0_33) (View.ld x3 r0_34)

/-- Its row `r` is `Ffn.row` of the input block's row `r`. -/
theorem residual_apply : residual x0 x1 x2 x3 x4 (ix2 r c) = Ffn.row (xRow x0 r) (gRow x1) (upW x2) (downW x3) c := by
  unfold residual k0_pay35 k0_pay36 k0_pay37 k0_pay34
  rw [chunk_9, chunk_7, chunk_5, chunk_3, chunk_2, chunk_0, norm_row, Ffn.row_chunks]

/-- What the body leaves in its output block. -/
theorem block_apply : out0_5 x0 x1 x2 x3 x4 (ix3 0 r c)
    = Ffn.rms (Ffn.row (xRow x0 r) (gRow x1) (upW x2) (downW x3)) (gRow x4) c := by
  have hres : ∀ j, residual x0 x1 x2 x3 x4 (ix2 r j) = Ffn.row (xRow x0 r) (gRow x1) (upW x2) (downW x3) j :=
    fun j => residual_apply x0 x1 x2 x3 x4 r j
  unfold residual at hres
  unfold out0_5 k0_pay33
  rw [View.canon_unit_zero (show (![0, 0, 0] : Fin 3 → ℕ) = fun _ => 0 by funext a; fin_cases a <;> rfl)]
  pointwise [k0_pay1, k0_pay32, Ffn.rms, gRow]
  simp only [hres]

end Cert.Kernel2Ideal.Value
-- ==== Proof.FfnKernel2.lean ====
/-
  The last feed-forward call (layer 1, with the final normalisation): its result array as a function of its arguments.
-/
module

public import proofs.«01_k».proof.Proof.FfnBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

variable (m : (ℓ : Loc nD τ sig) → Buf (Elt Ideal) ℓ)

/-- The index maps of the windows, over all grid points: point `t` is batch row `t / 16` and token block `t % 16`, and the
    weights are those of layer 1. -/
theorem idx : ∀ t : Fin cfg0.N, win0_0.index t = ![t.val / 16, t.val % 16, 0] ∧ win0_1.index t = ![0, 0]
    ∧ win0_2.index t = ![1, 0, 0] ∧ win0_3.index t = ![1, 0, 0] ∧ win0_4.index t = ![0, 0]
    ∧ win0_5.index t = ![t.val / 16, t.val % 16, 0] :=
  (by decide +kernel : ∀ t : Fin grid0.N, _)

/-- The result array as a function of the argument arrays. -/
def value (X : FVec Ideal S2x8192x1024 .f32) (G : FVec Ideal S2x1024 .f32) (W : FVec Ideal S2x1024x5632 .f32)
    (D : FVec Ideal S2x2816x1024 .f32) (E : FVec Ideal S1024 .f32) : FVec Ideal S2x8192x1024 .f32 := fun i =>
  Ffn.rms (Ffn.layer 1 X G W D (i 0) (i 1)) (fun j => E (ix1 j)) (i 2)

/-- A block of input rows and weights, read in the arrays: row `r` of point `t`'s block gives the row of `value` at the
    place in the result array where the block's row `r` is written. -/
theorem point (c : Dev nD) (t : Fin cfg0.N) (r : Fin 512) (j : Fin 1024) :
    Ffn.rms (Ffn.row (xRow (iblk m c 0 t) r) (gRow (iblk m c 1 t)) (upW (iblk m c 2 t)) (downW (iblk m c 3 t))) (gRow (iblk m c 4 t)) j
      = value (m ((c : Thread nD τ).loc main_arg0)) (m ((c : Thread nD τ).loc main_arg1)) (m ((c : Thread nD τ).loc main_arg2)) (m ((c : Thread nD τ).loc main_arg3)) (m ((c : Thread nD τ).loc main_arg4))
        (((cfg0.win 5).blk t).view.emb (ix3 0 r j)) := by
  have h0 : xRow (iblk m c 0 t) r = fun j' => (m ((c : Thread nD τ).loc main_arg0) : FVec Ideal S2x8192x1024 .f32)
      (ix3 (((cfg0.win 5).blk t).view.emb (ix3 0 r j) 0) (((cfg0.win 5).blk t).view.emb (ix3 0 r j) 1) j') := by
    funext j'
    unfold xRow
    blk_point [iblk, V, idx t]
  have h1 : gRow (iblk m c 1 t) = fun j' => (m ((c : Thread nD τ).loc main_arg1) : FVec Ideal S2x1024 .f32) (ix2 1 j') := by
    funext j'
    unfold gRow
    blk_point [iblk, V, idx t]
  have h2 : upW (iblk m c 2 t)
      = fun j' k => (m ((c : Thread nD τ).loc main_arg2) : FVec Ideal S2x1024x5632 .f32) (ix3 1 j' k) := by
    funext j' k
    unfold upW
    blk_point [iblk, V, idx t]
  have h3 : downW (iblk m c 3 t)
      = fun k j' => (m ((c : Thread nD τ).loc main_arg3) : FVec Ideal S2x2816x1024 .f32) (ix3 1 k j') := by
    funext j' k
    unfold downW
    blk_point [iblk, V, idx t]
  have h4 : gRow (iblk m c 4 t) = fun j' => (m ((c : Thread nD τ).loc main_arg4) : FVec Ideal S1024 .f32) (ix1 j') := by
    funext j'
    unfold gRow
    blk_point [iblk, V, idx t]
  unfold value Ffn.layer
  rw [h0, h1, h2, h3, h4]
  exact congrArg (Ffn.rms _ _) (Fin.ext (by blk_simp [idx t]))

/-- The result array after the run. -/
theorem final (c : Dev nD) : (dats m 0 c).arrAt 5 (cfgs 0).N = value (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  obtain ⟨r, j, rfl⟩ : ∃ (r : Fin 512) (j : Fin 1024), y = ix3 0 r j := ⟨y 1, y 2, by blk_ext⟩
  exact (block_apply _ _ _ _ _ r j).trans (point m c t r j)

end Cert.Kernel2Ideal.Value
-- ==== Proof.FfnClaim2.lean ====
/-
  The reference of the last feed-forward call computes the same function, row by row, and so the value claim.
-/
module

public import proofs.«01_k».proof.Proof.FfnKernel2
public import proofs.«01_k».proof.Proof.Gen.Reference2Ideal.Read
public import proofs.«01_k».proof.Defs
public import Idealize.ShloMosaic.Lib.Claim

@[expose] public section

set_option maxRecDepth 16384

noncomputable section

open Idealize.ShloMosaic Idealize.ShloMosaic.TcCoe Idealize.SL.Sem

namespace Cert.Reference2Ideal.Value

open Cert.Reference2Ideal Cert.Reference2Ideal.Gen

variable (X : FVec Ideal S2x8192x1024 .f32) (G : FVec Ideal S2x1024 .f32) (W : FVec Ideal S2x1024x5632 .f32)
  (D : FVec Ideal S2x2816x1024 .f32) (E : FVec Ideal S1024 .f32)

/-- The reference before its last normalisation, at a place of the activations. -/
theorem layer_apply (b : Fin 2) (t : Fin 8192) (j : Fin 1024) :
    Read.val_main_v25 (F := Ideal) X G W D (ix3 b t j) = Ffn.layer 1 X G W D b t j := by
  open Read in
  pointwise [
    val_main_v0, val_main_v1, val_main_v2, val_main_v3, val_main_v4, val_main_v5, val_main_v6, val_main_cst,
    val_main_v7, val_main_v8, val_main_cst_0, val_main_v9, val_main_v10, val_main_cst_1, val_main_v11, val_main_v12,
    val_main_v13, val_main_v14, val_main_v15, val_main_v16, val_main_v17, val_main_v18, val_main_v19, val_main_v20,
    val_main_call0_v0, val_main_call0_v1, val_main_call0_cst, val_main_call0_v2, val_main_call0_v3,
    val_main_call0_cst_0, val_main_call0_v4, val_main_call0_v5, val_main_v21, val_main_v22, val_main_v23,
    val_main_v24, val_main_v25, Ffn.layer, Ffn.row, Ffn.hidden,
    Ffn.gate, Ffn.rms]
  simp only [zero_sub]

/-- The reference's result. -/
theorem value_eq : Read.val_main_v38 (F := Ideal) X G W D E = Cert.Kernel2Ideal.Value.value X G W D E := by
  funext i
  obtain ⟨b, t, j, rfl⟩ : ∃ (b : Fin 2) (t : Fin 8192) (j : Fin 1024), i = ix3 b t j := ⟨i 0, i 1, i 2, by blk_ext⟩
  have hl := layer_apply X G W D b t
  show _ = Ffn.rms (Ffn.layer 1 X G W D b t) (fun j => E (ix1 j)) j
  open Read in
  pointwise [
    val_main_v26, val_main_cst_2, val_main_v27, val_main_v28, val_main_cst_3, val_main_v29, val_main_v30,
    val_main_cst_4, val_main_v31, val_main_v32, val_main_v33, val_main_v34, val_main_v35, val_main_v36,
    val_main_v37, val_main_v38, Ffn.rms]
  simp only [hl]

end Cert.Reference2Ideal.Value

namespace Cert.Proof

/-- The call and the reference end with the same array. -/
theorem algebraic2 : Cert.algebraic_Kernel2Ideal_Reference2Ideal := by
  pair_intro
  · run_from Cert.Kernel2Ideal.Gen.run_main m g
  · run_from Cert.Reference2Ideal.Value.run m' g'
    rw [Cert.Kernel2Ideal.Value.final m c]
    obtain ⟨h0, h1, h2, h3, h4⟩ := hagree c
    rw [Cert.Reference2Ideal.Read.val_main_v38_eq m' c, h0, h1, h2, h3, h4]
    exact Cert.Reference2Ideal.Value.value_eq _ _ _ _ _

end Cert.Proof
-- ==== Proof.FfnKernel5.lean ====
/-
  The feed-forward call of layer 0 (no final normalisation): its result array as a function of its arguments.
-/
module

public import proofs.«01_k».proof.Proof.FfnBlock
public import proofs.«01_k».proof.Proof.Gen.Kernel5Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.Kernel2Ideal.Value

variable (m : (ℓ : Loc nD τ sig) → Buf (Elt Ideal) ℓ)

/-- The index maps of the windows, over all grid points: point `t` is batch row `t / 16` and token block `t % 16`, and the
    weights are those of layer 0. -/
theorem idx : ∀ t : Fin cfg0.N, win0_0.index t = ![t.val / 16, t.val % 16, 0] ∧ win0_1.index t = ![0, 0]
    ∧ win0_2.index t = ![0, 0, 0] ∧ win0_3.index t = ![0, 0, 0]
    ∧ win0_5.index t = ![t.val / 16, t.val % 16, 0] :=
  (by decide +kernel : ∀ t : Fin grid0.N, _)

/-- The result array as a function of the argument arrays. -/
def value (X : FVec Ideal S2x8192x1024 .f32) (G : FVec Ideal S2x1024 .f32) (W : FVec Ideal S2x1024x5632 .f32)
    (D : FVec Ideal S2x2816x1024 .f32) : FVec Ideal S2x8192x1024 .f32 := fun i =>
  Ffn.layer 0 X G W D (i 0) (i 1) (i 2)

/-- What the body leaves in its output block: the two calls of the feed-forward part have the same body up to the last
    normalisation, so this is the block after the eleven chunks, read in `FfnBlock`. -/
theorem block_apply (x0 : Vec Ideal S1x512x1024 .f32) (x1 : Vec Ideal S1x1024 .f32) (x2 : Vec Ideal S1x1024x5632 .bf16)
    (x3 : Vec Ideal S1x2816x1024 .bf16) (x4 : Vec Ideal S1x1024 .f32) (r : Fin 512) (c : Fin 1024) :
    out0_5 x0 x1 x2 x3 x4 (ix3 0 r c) = Ffn.row (xRow x0 r) (gRow x1) (upW x2) (downW x3) c := by
  unfold out0_5
  rw [View.canon_unit_zero (show (![0, 0, 0] : Fin 3 → ℕ) = fun _ => 0 by funext a; fin_cases a <;> rfl)]
  refine Eq.trans ?_ (Cert.Kernel2Ideal.Value.residual_apply x0 x1 x2 x3 x4 r c)
  rw [show ∀ v : FVec Ideal S512x1024 .f32, k0_pay1 v (ix3 0 r c) = v (ix2 r c) from fun v => by pointwise [k0_pay1]]
  unfold k0_pay32
  rw [show @k0_pay31 Ideal _ = @Cert.Kernel2Ideal.Gen.k0_pay31 Ideal _ from rfl,
    show @k0_pay30 Ideal _ = @Cert.Kernel2Ideal.Gen.k0_pay30 Ideal _ from rfl,
    show @k0_pay29 Ideal _ = @Cert.Kernel2Ideal.Gen.k0_pay29 Ideal _ from rfl,
    show @k0_pay28 Ideal _ = @Cert.Kernel2Ideal.Gen.k0_pay28 Ideal _ from rfl,
    show @k0_pay27 Ideal _ = @Cert.Kernel2Ideal.Gen.k0_pay27 Ideal _ from rfl,
    show @k0_pay26 Ideal _ = @Cert.Kernel2Ideal.Gen.k0_pay26 Ideal _ from rfl,
    show @k0_pay25 Ideal _ = @Cert.Kernel2Ideal.Gen.k0_pay25 Ideal _ from rfl,
    show @k0_pay24 Ideal _ = @Cert.Kernel2Ideal.Gen.k0_pay24 Ideal _ from rfl,
    show @k0_pay23 Ideal _ = @Cert.Kernel2Ideal.Gen.k0_pay23 Ideal _ from rfl,
    show @k0_pay22 Ideal _ = @Cert.Kernel2Ideal.Gen.k0_pay22 Ideal _ from rfl,
    show @k0_pay21 Ideal _ = @Cert.Kernel2Ideal.Gen.k0_pay21 Ideal _ from rfl,
    show @k0_pay20 Ideal _ = @Cert.Kernel2Ideal.Gen.k0_pay20 Ideal _ from rfl,
    show @k0_pay19 Ideal _ = @Cert.Kernel2Ideal.Gen.k0_pay19 Ideal _ from rfl,
    show @k0_pay18 Ideal _ = @Cert.Kernel2Ideal.Gen.k0_pay18 Ideal _ from rfl,
    show @k0_pay17 Ideal _ = @Cert.Kernel2Ideal.Gen.k0_pay17 Ideal _ from rfl,
    show @k0_pay16 Ideal _ = @Cert.Kernel2Ideal.Gen.k0_pay16 Ideal _ from rfl,
    show @k0_pay15 Ideal _ = @Cert.Kernel2Ideal.Gen.k0_pay15 Ideal _ from rfl,
    show @k0_pay14 Ideal _ = @Cert.Kernel2Ideal.Gen.k0_pay14 Ideal _ from rfl,
    show @k0_pay13 Ideal _ = @Cert.Kernel2Ideal.Gen.k0_pay13 Ideal _ from rfl,
    show @k0_pay12 Ideal _ = @Cert.Kernel2Ideal.Gen.k0_pay12 Ideal _ from rfl,
    show @k0_pay11 Ideal _ = @Cert.Kernel2Ideal.Gen.k0_pay11 Ideal _ from rfl,
    show @k0_pay10 Ideal _ = @Cert.Kernel2Ideal.Gen.k0_pay10 Ideal _ from rfl,
    show @k0_pay9 Ideal _ = @Cert.Kernel2Ideal.Gen.k0_pay9 Ideal _ from rfl,
    show @k0_pay8 Ideal _ = @Cert.Kernel2Ideal.Gen.k0_pay8 Ideal _ from rfl,
    show @k0_pay7 Ideal _ = @Cert.Kernel2Ideal.Gen.k0_pay7 Ideal _ from rfl,
    show @k0_pay6 Ideal _ = @Cert.Kernel2Ideal.Gen.k0_pay6 Ideal _ from rfl,
    show @k0_pay5 Ideal _ = @Cert.Kernel2Ideal.Gen.k0_pay5 Ideal _ from rfl,
    show @k0_pay4 Ideal _ = @Cert.Kernel2Ideal.Gen.k0_pay4 Ideal _ from rfl,
    show @k0_pay3 Ideal _ = @Cert.Kernel2Ideal.Gen.k0_pay3 Ideal _ from rfl,
    show @k0_pay2 Ideal _ = @Cert.Kernel2Ideal.Gen.k0_pay2 Ideal _ from rfl]
  unfold Cert.Kernel2Ideal.Value.residual
  unfold Cert.Kernel2Ideal.Gen.k0_pay35 Cert.Kernel2Ideal.Gen.k0_pay36 Cert.Kernel2Ideal.Gen.k0_pay37
  unfold Cert.Kernel2Ideal.Gen.k0_pay34
  rfl

/-- A block of input rows and weights, read in the arrays: row `r` of point `t`'s block gives the row of `value` at the
    place in the result array where the block's row `r` is written. -/
theorem point (c : Dev nD) (t : Fin cfg0.N) (r : Fin 512) (j : Fin 1024) :
    Ffn.row (xRow (iblk m c 0 t) r) (gRow (iblk m c 1 t)) (upW (iblk m c 2 t)) (downW (iblk m c 3 t)) j
      = value (m ((c : Thread nD τ).loc main_arg0)) (m ((c : Thread nD τ).loc main_arg1)) (m ((c : Thread nD τ).loc main_arg2)) (m ((c : Thread nD τ).loc main_arg3))
        (((cfg0.win 5).blk t).view.emb (ix3 0 r j)) := by
  have h0 : xRow (iblk m c 0 t) r = fun j' => (m ((c : Thread nD τ).loc main_arg0) : FVec Ideal S2x8192x1024 .f32)
      (ix3 (((cfg0.win 5).blk t).view.emb (ix3 0 r j) 0) (((cfg0.win 5).blk t).view.emb (ix3 0 r j) 1) j') := by
    funext j'
    unfold xRow
    blk_point [iblk, V, idx t]
  have h1 : gRow (iblk m c 1 t) = fun j' => (m ((c : Thread nD τ).loc main_arg1) : FVec Ideal S2x1024 .f32) (ix2 0 j') := by
    funext j'
    unfold gRow
    blk_point [iblk, V, idx t]
  have h2 : upW (iblk m c 2 t)
      = fun j' k => (m ((c : Thread nD τ).loc main_arg2) : FVec Ideal S2x1024x5632 .f32) (ix3 0 j' k) := by
    funext j' k
    unfold upW
    blk_point [iblk, V, idx t]
  have h3 : downW (iblk m c 3 t)
      = fun k j' => (m ((c : Thread nD τ).loc main_arg3) : FVec Ideal S2x2816x1024 .f32) (ix3 0 k j') := by
    funext j' k
    unfold downW
    blk_point [iblk, V, idx t]
  unfold value Ffn.layer
  rw [h0, h1, h2, h3]
  exact congrArg (Ffn.row _ _ _ _) (Fin.ext (by blk_simp [idx t]))

/-- The result array after the run. -/
theorem final (c : Dev nD) : (dats m 0 c).arrAt 5 (cfgs 0).N = value (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, j, rfl⟩ : ∃ (r : Fin 512) (j : Fin 1024), y = ix3 0 r j := ⟨y 1, y 2, by blk_ext⟩
  exact (block_apply _ _ _ _ _ r j).trans (point m c t r j)

end Cert.Kernel5Ideal.Value
-- ==== Proof.FfnClaim5.lean ====
/-
  The reference of layer 0's feed-forward call computes the same function, row by row, and so the value claim.
-/
module

public import proofs.«01_k».proof.Proof.FfnKernel5
public import proofs.«01_k».proof.Proof.Gen.Reference5Ideal.Read
public import proofs.«01_k».proof.Defs
public import Idealize.ShloMosaic.Lib.Claim

@[expose] public section

set_option maxRecDepth 16384

noncomputable section

open Idealize.ShloMosaic Idealize.ShloMosaic.TcCoe Idealize.SL.Sem

namespace Cert.Reference5Ideal.Value

open Cert.Reference5Ideal Cert.Reference5Ideal.Gen

variable (X : FVec Ideal S2x8192x1024 .f32) (G : FVec Ideal S2x1024 .f32) (W : FVec Ideal S2x1024x5632 .f32)
  (D : FVec Ideal S2x2816x1024 .f32)

/-- The reference before its last normalisation, at a place of the activations. -/
theorem layer_apply (b : Fin 2) (t : Fin 8192) (j : Fin 1024) :
    Read.val_main_v25 (F := Ideal) X G W D (ix3 b t j) = Ffn.layer 0 X G W D b t j := by
  open Read in
  pointwise [
    val_main_v0, val_main_v1, val_main_v2, val_main_v3, val_main_v4, val_main_v5, val_main_v6, val_main_cst,
    val_main_v7, val_main_v8, val_main_cst_0, val_main_v9, val_main_v10, val_main_cst_1, val_main_v11, val_main_v12,
    val_main_v13, val_main_v14, val_main_v15, val_main_v16, val_main_v17, val_main_v18, val_main_v19, val_main_v20,
    val_main_call0_v0, val_main_call0_v1, val_main_call0_cst, val_main_call0_v2, val_main_call0_v3,
    val_main_call0_cst_0, val_main_call0_v4, val_main_call0_v5, val_main_v21, val_main_v22, val_main_v23,
    val_main_v24, val_main_v25, Ffn.layer, Ffn.row, Ffn.hidden,
    Ffn.gate, Ffn.rms]
  simp only [zero_sub]

/-- The reference's result. -/
theorem value_eq : Read.val_main_v25 (F := Ideal) X G W D = Cert.Kernel5Ideal.Value.value X G W D := by
  funext i
  obtain ⟨b, t, j, rfl⟩ : ∃ (b : Fin 2) (t : Fin 8192) (j : Fin 1024), i = ix3 b t j := ⟨i 0, i 1, i 2, by blk_ext⟩
  exact layer_apply X G W D b t j

end Cert.Reference5Ideal.Value

namespace Cert.Proof

/-- The call and the reference end with the same array. -/
theorem algebraic5 : Cert.algebraic_Kernel5Ideal_Reference5Ideal := by
  pair_intro
  · run_from Cert.Kernel5Ideal.Gen.run_main m g
  · run_from Cert.Reference5Ideal.Value.run m' g'
    rw [Cert.Kernel5Ideal.Value.final m c]
    obtain ⟨h0, h1, h2, h3, h4⟩ := hagree c
    rw [Cert.Reference5Ideal.Read.val_main_v25_eq m' c, h0, h1, h2, h3]
    exact Cert.Reference5Ideal.Value.value_eq _ _ _ _

end Cert.Proof
-- ==== Proof.ConvSpec.lean ====
/-
  The gated short convolution of layer 0, as mathematics on rows of activations.

  A row is normalised and projected to 3584 columns: 1024 gates, 1024 + 1024 columns whose products are the signal, and
  512 columns of queries for the memory. The signal is convolved along the tokens of one sequence with three weights a
  column (two tokens back, one token back, the token itself; zero before the first token) and multiplied by the gate.
-/
module

public import proofs.«01_k».proof.Proof.FfnSpec

@[expose] public section

noncomputable section

namespace Cert.Conv

open Idealize.ShloMosaic

/-- Column `k` of the projection of the normalised row. -/
def proj (x g : Fin 1024 → EReal) (W : Fin 1024 → Fin 3584 → EReal) (k : Fin 3584) : EReal :=
  ∑ j, Ffn.rms x g j * W j k

/-- The signal of a row at column `c`. -/
def signal (x g : Fin 1024 → EReal) (W : Fin 1024 → Fin 3584 → EReal) (c : Fin 1024) : EReal :=
  proj x g W ⟨1024 + c, by omega⟩ * proj x g W ⟨2048 + c, by omega⟩

/-- The gate times the three weighted signals, oldest first. -/
def mix (u p q s : EReal) (w : Fin 3 → EReal) : EReal := u * (p * w 0 + q * w 1 + s * w 2)

/-- `k` tokens before token `t` of a sequence: zero before its first token. -/
def back (k : ℕ) (p : Fin 8192 → EReal) (t : Fin 8192) : EReal := if h : k ≤ t then p ⟨t - k, by omega⟩ else 0

/-- The same inside a block of 512 tokens, when `z` holds the signals of the eight tokens just before the block. -/
def backIn (k : ℕ) (p : Fin 512 → EReal) (z : Fin 8 → EReal) (r : Fin 512) : EReal :=
  if h : k ≤ r then p ⟨r - k, by omega⟩ else z ⟨(8 + r - k) % 8, by omega⟩

/-- The mixed output at column `c` of token `t`, from the rows `x` of its sequence. -/
def layer (x : Fin 8192 → Fin 1024 → EReal) (g : Fin 1024 → EReal) (W : Fin 1024 → Fin 3584 → EReal)
    (w : Fin 3 → Fin 1024 → EReal) (t : Fin 8192) (c : Fin 1024) : EReal :=
  mix (proj (x t) g W ⟨c, by omega⟩) (back 2 (fun t => signal (x t) g W c) t) (back 1 (fun t => signal (x t) g W c) t)
    (signal (x t) g W c) fun k => w k c

end Cert.Conv
-- ==== Proof.ConvBlock.lean ====
/-
  What one grid point of the short convolution computes: the mixed block and the block of memory queries, row by row.

  The body works on four tiles of 256 columns. For each it projects the eight rows before the block (`halo_…`, zero in
  the first block of a sequence) and the block itself (`main_…`), shifts the product of the two projections by one and
  two rows, and writes the gated sum (`tile_…`).
-/
module

public import proofs.«01_k».proof.Proof.Gen.Kernel4Ideal.Value
public import proofs.«01_k».proof.Proof.ConvSpec
public import Idealize.ShloMosaic.Lib.Pipeline.ValueKit

@[expose] public section

set_option maxRecDepth 16384

noncomputable section

open Idealize.ShloMosaic Idealize.ShloMosaic.TcCoe Idealize.SL.Sem

namespace Cert.Kernel4Ideal.Value

open Cert.Kernel4Ideal Cert.Kernel4Ideal.Gen

/-- Row `r` of the activation block. -/
def xRow (x0 : Vec Ideal S1x512x1024 .f32) (r : Fin 512) : Fin 1024 → EReal := fun j => x0 (ix3 0 r j)
/-- Row `r` of the eight rows before the block. -/
def zRow (x1 : Vec Ideal S1x8x1024 .f32) (r : Fin 8) : Fin 1024 → EReal := fun j => x1 (ix3 0 r j)
/-- The gain block as a row. -/
def gRow (x2 : Vec Ideal S1x1024 .f32) : Fin 1024 → EReal := fun j => x2 (ix2 0 j)
/-- The projection weights. -/
def inW (x3 : Vec Ideal S1024x3584 .bf16) : Fin 1024 → Fin 3584 → EReal := fun j k => x3 (ix2 j k)
/-- The convolution weights. -/
def tapW (x4 : Vec Ideal S3x1024 .f32) : Fin 3 → Fin 1024 → EReal := fun k c => x4 (ix2 k c)

/-- A choice between three values by a row number, as two nested choices on words. -/
theorem pick_two (r : Fin 512) (a b c : EReal) :
    Scalar.select (IntOp.cmpi .eq (BitVec.ofNat 32 r) 0#32) a (Scalar.select (IntOp.cmpi .eq (BitVec.ofNat 32 r) 1#32) b c)
      = if r.val = 0 then a else if r.val = 1 then b else c := by
  have h0 : (BitVec.ofNat 32 r = 0#32) = (r.val = 0) := by
    rw [eq_iff_iff, ← BitVec.toNat_inj]; simp; omega
  have h1 : (BitVec.ofNat 32 r = 1#32) = (r.val = 1) := by
    rw [eq_iff_iff, ← BitVec.toNat_inj]; simp; omega
  rw [WordCmp.cmpi_eq_eq, WordCmp.cmpi_eq_eq]
  simp only [h0, h1]
  by_cases h : r.val = 0
  · simp [h, Scalar.select]
  · by_cases h' : r.val = 1 <;> simp [h, h', Scalar.select]

/-- A choice between two values by a row number. -/
theorem pick_one (r : Fin 512) (a c : EReal) :
    Scalar.select (IntOp.cmpi .eq (BitVec.ofNat 32 r) 0#32) a c = if r.val = 0 then a else c := by
  have h0 : (BitVec.ofNat 32 r = 0#32) = (r.val = 0) := by
    rw [eq_iff_iff, ← BitVec.toNat_inj]; simp; omega
  rw [WordCmp.cmpi_eq_eq]
  simp only [h0]
  by_cases h : r.val = 0 <;> simp [h, Scalar.select]

/-- The two rotated and patched columns are the columns one and two rows back. -/
theorem shifts (v : Fin 512 → EReal) (z : Fin 8 → EReal) (r : Fin 512) (h1 : (r.val + 512 - 1) % 512 < 512)
    (h2 : (r.val + 512 - 2) % 512 < 512) :
    (if r.val = 0 then z 6 else if r.val = 1 then z 7 else v ⟨(r.val + 512 - 2) % 512, h2⟩) = Conv.backIn 2 v z r
    ∧ (if r.val = 0 then z 7 else v ⟨(r.val + 512 - 1) % 512, h1⟩) = Conv.backIn 1 v z r := by
  unfold Conv.backIn
  by_cases h0 : r.val = 0
  · refine ⟨?_, ?_⟩
    · rw [if_pos h0, dif_neg (by omega)]; exact congrArg z (Fin.ext (by show 6 = (8 + r.val - 2) % 8; omega))
    · rw [if_pos h0, dif_neg (by omega)]; exact congrArg z (Fin.ext (by show 7 = (8 + r.val - 1) % 8; omega))
  · refine ⟨?_, ?_⟩
    · rw [if_neg h0]
      by_cases h : r.val = 1
      · rw [if_pos h, dif_neg (by omega)]; exact congrArg z (Fin.ext (by show 7 = (8 + r.val - 2) % 8; omega))
      · rw [if_neg h, dif_pos (by omega)]; exact congrArg v (Fin.ext (by show (r.val + 512 - 2) % 512 = r.val - 2; omega))
    · rw [if_neg h0, dif_pos (by omega)]; exact congrArg v (Fin.ext (by show (r.val + 512 - 1) % 512 = r.val - 1; omega))

variable (i : grid0.Coords) (x0 : Vec Ideal S1x512x1024 .f32) (x1 : Vec Ideal S1x8x1024 .f32) (x2 : Vec Ideal S1x1024 .f32)
  (x3 : Vec Ideal S1024x3584 .bf16) (x4 : Vec Ideal S3x1024 .f32) (r : Fin 512) (j : Fin 256)

/-- The normalised block. -/
theorem norm_main (j : Fin 1024) : k0_pay30 i x0 x1 x2 x3 x4 (ix2 r j) = Ffn.rms (xRow x0 r) (gRow x2) j := by
  pointwise [k0_pay30, k0_pay3, k0_pay2, Ffn.rms, xRow, gRow]

/-- The normalised rows before the block. -/
theorem norm_halo (r : Fin 8) (j : Fin 1024) : k0_pay31 i x0 x1 x2 x3 x4 (ix2 r j) = Ffn.rms (zRow x1 r) (gRow x2) j := by
  pointwise [k0_pay31, k0_pay4, k0_pay2, Ffn.rms, zRow, gRow]

/-- The convolution weights as the body reads them. -/
theorem taps (k : Fin 3) (j : Fin 1024) : k0_pay32 i x0 x1 x2 x3 x4 (ix2 k j) = tapW x4 k j := by
  pointwise [k0_pay32, k0_pay5, tapW]

/-- The signal of row `r` of the eight rows before the block: zero in the first block of a sequence. -/
def before (c : Fin 1024) (r : Fin 8) : EReal :=
  if 0 < (i 1).val then Conv.signal (zRow x1 r) (gRow x2) (inW x3) c else 0

/-- The choice the body makes on the block's number. -/
theorem choose (a : EReal) :
    Scalar.select (Scalar.cmpi .sgt (BitVec.ofNat 32 (i 1).val) 0#32) a 0 = if 0 < (i 1).val then a else 0 := by
  have hi : (i 1).val < 16 := (i 1).isLt
  show Scalar.select (IntOp.cmpi .sgt (BitVec.ofNat 32 (i 1).val) 0#32) a 0 = _
  rw [show (0#32 : BitVec 32) = BitVec.ofNat 32 0 from rfl, WordCmp.cmpi_sgt_ofNat (by omega) (by omega)]
  by_cases h : 0 < (i 1).val <;> simp [h, Scalar.select]

/-! ## Columns 0 to 255 -/

/-- The signals before the block. -/
theorem halo_0 (r : Fin 8) : k0_pay7 (k0_pay31 i x0 x1 x2 x3 x4) (Scalar.cmpi .sgt (BitVec.ofNat 32 (i 1).val) 0#32) (k0_pay6 (View.ld x3 r0_4)) (constant S8x256 .f32 0x00000000#32) (View.ld x3 r0_5) (ix2 r j)
    = before i x1 x2 x3 ⟨0 + j, by omega⟩ r := by
  pointwise [k0_pay7, k0_pay6]
  rw [choose]
  refine if_congr Iff.rfl ?_ rfl
  simp only [norm_halo]
  unfold Conv.signal Conv.proj inW
  blk_point []

/-- The gates of the block. -/
theorem gate_0 : k0_pay8 (k0_pay30 i x0 x1 x2 x3 x4) (View.ld x3 r0_6) (ix2 r j) = Conv.proj (xRow x0 r) (gRow x2) (inW x3) ⟨0 + j, by omega⟩ := by
  pointwise [k0_pay8]
  simp only [norm_main]
  unfold Conv.proj inW
  blk_point []

/-- The signals of the block. -/
theorem main_0 : k0_pay9 (k0_pay30 i x0 x1 x2 x3 x4) (View.ld x3 r0_4) (View.ld x3 r0_5) (ix2 r j)
    = Conv.signal (xRow x0 r) (gRow x2) (inW x3) ⟨0 + j, by omega⟩ := by
  pointwise [k0_pay9]
  simp only [norm_main]
  unfold Conv.signal Conv.proj inW
  blk_point []

/-- The written tile, from the weights, the signals before the block, the gates and the signals. -/
theorem tile_0 (w : FVec Ideal S3x1024 .f32) (z : FVec Ideal S8x256 .f32) (u v : FVec Ideal S512x256 .f32) :
    k0_pay14 w (k0_pay29 i x0 x1 x2 x3 x4) z u v (ix3 0 r j)
      = Conv.mix (u (ix2 r j)) (Conv.backIn 2 (fun r => v (ix2 r j)) (fun r => z (ix2 r j)) r)
          (Conv.backIn 1 (fun r => v (ix2 r j)) (fun r => z (ix2 r j)) r) (v (ix2 r j)) fun k => w (ix2 k ⟨0 + j, by omega⟩) := by
  have hs := shifts (fun r => v (ix2 r j)) (fun r => z (ix2 r j)) r (by omega) (by omega)
  rw [← hs.1, ← hs.2]
  pointwise [k0_pay14, k0_pay29, Conv.mix]
  rw [pick_two, pick_one]

/-! ## Columns 256 to 511 -/

/-- The signals before the block. -/
theorem halo_1 (r : Fin 8) : k0_pay33 i x0 x1 x2 x3 x4 (ix2 r j)
    = before i x1 x2 x3 ⟨256 + j, by omega⟩ r := by
  pointwise [k0_pay33, k0_pay10]
  rw [choose]
  refine if_congr Iff.rfl ?_ rfl
  simp only [norm_halo]
  unfold Conv.signal Conv.proj inW
  blk_point []

/-- The gates of the block. -/
theorem gate_1 : k0_pay11 (k0_pay30 i x0 x1 x2 x3 x4) (View.ld x3 r0_9) (ix2 r j) = Conv.proj (xRow x0 r) (gRow x2) (inW x3) ⟨256 + j, by omega⟩ := by
  pointwise [k0_pay11]
  simp only [norm_main]
  unfold Conv.proj inW
  blk_point []

/-- The signals of the block. -/
theorem main_1 : k0_pay34 i x0 x1 x2 x3 x4 (ix2 r j)
    = Conv.signal (xRow x0 r) (gRow x2) (inW x3) ⟨256 + j, by omega⟩ := by
  pointwise [k0_pay34, k0_pay13, k0_pay12]
  simp only [norm_main]
  unfold Conv.signal Conv.proj inW
  blk_point []

/-- The written tile, from the weights, the signals before the block, the gates and the signals. -/
theorem tile_1 (w : FVec Ideal S3x1024 .f32) (z : FVec Ideal S8x256 .f32) (u v : FVec Ideal S512x256 .f32) :
    k0_pay21 w u v (k0_pay19 w (k0_pay29 i x0 x1 x2 x3 x4) z v) (k0_pay20 w (k0_pay29 i x0 x1 x2 x3 x4) z v) (ix3 0 r j)
      = Conv.mix (u (ix2 r j)) (Conv.backIn 2 (fun r => v (ix2 r j)) (fun r => z (ix2 r j)) r)
          (Conv.backIn 1 (fun r => v (ix2 r j)) (fun r => z (ix2 r j)) r) (v (ix2 r j)) fun k => w (ix2 k ⟨256 + j, by omega⟩) := by
  have hs := shifts (fun r => v (ix2 r j)) (fun r => z (ix2 r j)) r (by omega) (by omega)
  rw [← hs.1, ← hs.2]
  pointwise [k0_pay21, k0_pay19, k0_pay20, k0_pay29, Conv.mix]
  rw [pick_two, pick_one]

/-! ## Columns 512 to 767 -/

/-- The signals before the block. -/
theorem halo_2 (r : Fin 8) : k0_pay35 i x0 x1 x2 x3 x4 (ix2 r j)
    = before i x1 x2 x3 ⟨512 + j, by omega⟩ r := by
  pointwise [k0_pay35, k0_pay16, k0_pay15]
  rw [choose]
  refine if_congr Iff.rfl ?_ rfl
  simp only [norm_halo]
  unfold Conv.signal Conv.proj inW
  blk_point []

/-- The gates of the block. -/
theorem gate_2 : k0_pay17 (k0_pay30 i x0 x1 x2 x3 x4) (View.ld x3 r0_13) (ix2 r j) = Conv.proj (xRow x0 r) (gRow x2) (inW x3) ⟨512 + j, by omega⟩ := by
  pointwise [k0_pay17]
  simp only [norm_main]
  unfold Conv.proj inW
  blk_point []

/-- The signals of the block. -/
theorem main_2 : k0_pay36 i x0 x1 x2 x3 x4 (ix2 r j)
    = Conv.signal (xRow x0 r) (gRow x2) (inW x3) ⟨512 + j, by omega⟩ := by
  pointwise [k0_pay36, k0_pay18]
  simp only [norm_main]
  unfold Conv.signal Conv.proj inW
  blk_point []

/-- The written tile, from the weights, the signals before the block, the gates and the signals. -/
theorem tile_2 (w : FVec Ideal S3x1024 .f32) (z : FVec Ideal S8x256 .f32) (u v : FVec Ideal S512x256 .f32) :
    k0_pay26 w (k0_pay29 i x0 x1 x2 x3 x4) z u v (k0_pay25 (k0_pay29 i x0 x1 x2 x3 x4) z v) (ix3 0 r j)
      = Conv.mix (u (ix2 r j)) (Conv.backIn 2 (fun r => v (ix2 r j)) (fun r => z (ix2 r j)) r)
          (Conv.backIn 1 (fun r => v (ix2 r j)) (fun r => z (ix2 r j)) r) (v (ix2 r j)) fun k => w (ix2 k ⟨512 + j, by omega⟩) := by
  have hs := shifts (fun r => v (ix2 r j)) (fun r => z (ix2 r j)) r (by omega) (by omega)
  rw [← hs.1, ← hs.2]
  pointwise [k0_pay26, k0_pay25, k0_pay29, Conv.mix]
  rw [pick_two, pick_one]

/-! ## Columns 768 to 1023 -/

/-- The signals before the block. -/
theorem halo_3 (r : Fin 8) : k0_pay37 i x0 x1 x2 x3 x4 (ix2 r j)
    = before i x1 x2 x3 ⟨768 + j, by omega⟩ r := by
  pointwise [k0_pay37, k0_pay22]
  rw [choose]
  refine if_congr Iff.rfl ?_ rfl
  simp only [norm_halo]
  unfold Conv.signal Conv.proj inW
  blk_point []

/-- The gates of the block. -/
theorem gate_3 : k0_pay23 (k0_pay30 i x0 x1 x2 x3 x4) (View.ld x3 r0_17) (ix2 r j) = Conv.proj (xRow x0 r) (gRow x2) (inW x3) ⟨768 + j, by omega⟩ := by
  pointwise [k0_pay23]
  simp only [norm_main]
  unfold Conv.proj inW
  blk_point []

/-- The signals of the block. -/
theorem main_3 : k0_pay38 i x0 x1 x2 x3 x4 (ix2 r j)
    = Conv.signal (xRow x0 r) (gRow x2) (inW x3) ⟨768 + j, by omega⟩ := by
  pointwise [k0_pay38, k0_pay24]
  simp only [norm_main]
  unfold Conv.signal Conv.proj inW
  blk_point []

/-- The written tile, from the weights, the signals before the block, the gates and the signals. -/
theorem tile_3 (w : FVec Ideal S3x1024 .f32) (z : FVec Ideal S8x256 .f32) (u v : FVec Ideal S512x256 .f32) :
    k0_pay1 w (k0_pay29 i x0 x1 x2 x3 x4) z u v (k0_pay28 (k0_pay29 i x0 x1 x2 x3 x4) z v) 0#32 (ix3 0 r j)
      = Conv.mix (u (ix2 r j)) (Conv.backIn 2 (fun r => v (ix2 r j)) (fun r => z (ix2 r j)) r)
          (Conv.backIn 1 (fun r => v (ix2 r j)) (fun r => z (ix2 r j)) r) (v (ix2 r j)) fun k => w (ix2 k ⟨768 + j, by omega⟩) := by
  have hs := shifts (fun r => v (ix2 r j)) (fun r => z (ix2 r j)) r (by omega) (by omega)
  rw [← hs.1, ← hs.2]
  pointwise [k0_pay1, k0_pay28, k0_pay29, Conv.mix]
  rw [pick_two, pick_one]

/-! ## The two blocks -/

/-- Column `c` of row `r` of the mixed block. -/
def mixed (c : Fin 1024) : EReal :=
  Conv.mix (Conv.proj (xRow x0 r) (gRow x2) (inW x3) ⟨c, by omega⟩)
    (Conv.backIn 2 (fun r => Conv.signal (xRow x0 r) (gRow x2) (inW x3) c) (before i x1 x2 x3 c) r)
    (Conv.backIn 1 (fun r => Conv.signal (xRow x0 r) (gRow x2) (inW x3) c) (before i x1 x2 x3 c) r)
    (Conv.signal (xRow x0 r) (gRow x2) (inW x3) c) fun k => tapW x4 k c

/-- The tile of columns 0 to 255. -/
theorem piece_0 : k0_pay14 (k0_pay32 i x0 x1 x2 x3 x4) (k0_pay29 i x0 x1 x2 x3 x4) (k0_pay7 (k0_pay31 i x0 x1 x2 x3 x4) (Scalar.cmpi .sgt (BitVec.ofNat 32 (i 1).val) 0#32) (k0_pay6 (View.ld x3 r0_4)) (constant S8x256 .f32 0x00000000#32) (View.ld x3 r0_5)) (k0_pay8 (k0_pay30 i x0 x1 x2 x3 x4) (View.ld x3 r0_6)) (k0_pay9 (k0_pay30 i x0 x1 x2 x3 x4) (View.ld x3 r0_4) (View.ld x3 r0_5)) (ix3 0 r j)
    = mixed i x0 x1 x2 x3 x4 r ⟨0 + j, by omega⟩ := by
  rw [tile_0]
  simp only [halo_0, gate_0, main_0, taps]
  rfl

/-- The tile of columns 256 to 511. -/
theorem piece_1 : k0_pay21 (k0_pay32 i x0 x1 x2 x3 x4) (k0_pay11 (k0_pay30 i x0 x1 x2 x3 x4) (View.ld x3 r0_9)) (k0_pay34 i x0 x1 x2 x3 x4) (k0_pay19 (k0_pay32 i x0 x1 x2 x3 x4) (k0_pay29 i x0 x1 x2 x3 x4) (k0_pay33 i x0 x1 x2 x3 x4) (k0_pay34 i x0 x1 x2 x3 x4)) (k0_pay20 (k0_pay32 i x0 x1 x2 x3 x4) (k0_pay29 i x0 x1 x2 x3 x4) (k0_pay33 i x0 x1 x2 x3 x4) (k0_pay34 i x0 x1 x2 x3 x4)) (ix3 0 r j)
    = mixed i x0 x1 x2 x3 x4 r ⟨256 + j, by omega⟩ := by
  rw [tile_1]
  simp only [halo_1, gate_1, main_1, taps]
  rfl

/-- The tile of columns 512 to 767. -/
theorem piece_2 : k0_pay26 (k0_pay32 i x0 x1 x2 x3 x4) (k0_pay29 i x0 x1 x2 x3 x4) (k0_pay35 i x0 x1 x2 x3 x4) (k0_pay17 (k0_pay30 i x0 x1 x2 x3 x4) (View.ld x3 r0_13)) (k0_pay36 i x0 x1 x2 x3 x4) (k0_pay25 (k0_pay29 i x0 x1 x2 x3 x4) (k0_pay35 i x0 x1 x2 x3 x4) (k0_pay36 i x0 x1 x2 x3 x4)) (ix3 0 r j)
    = mixed i x0 x1 x2 x3 x4 r ⟨512 + j, by omega⟩ := by
  rw [tile_2]
  simp only [halo_2, gate_2, main_2, taps]
  rfl

/-- The tile of columns 768 to 1023. -/
theorem piece_3 : k0_pay1 (k0_pay32 i x0 x1 x2 x3 x4) (k0_pay29 i x0 x1 x2 x3 x4) (k0_pay37 i x0 x1 x2 x3 x4) (k0_pay23 (k0_pay30 i x0 x1 x2 x3 x4) (View.ld x3 r0_17)) (k0_pay38 i x0 x1 x2 x3 x4) (k0_pay28 (k0_pay29 i x0 x1 x2 x3 x4) (k0_pay37 i x0 x1 x2 x3 x4) (k0_pay38 i x0 x1 x2 x3 x4)) 0#32 (ix3 0 r j)
    = mixed i x0 x1 x2 x3 x4 r ⟨768 + j, by omega⟩ := by
  rw [tile_3]
  simp only [halo_3, gate_3, main_3, taps]
  rfl

/-- The block of memory queries: the last 512 columns of the projection. -/
theorem queries_apply (k : Fin 512) :
    out0_6 i x0 x1 x2 x3 x4 (ix3 0 r k) = Conv.proj (xRow x0 r) (gRow x2) (inW x3) ⟨3072 + k, by omega⟩ := by
  unfold out0_6
  rw [View.canon_unit_zero (show (![0, 0, 0] : Fin 3 → ℕ) = fun _ => 0 by funext a; fin_cases a <;> rfl)]
  pointwise [k0_pay27]
  simp only [norm_main]
  unfold Conv.proj inW
  blk_point []

/-- The mixed block. -/
theorem mixed_apply (c : Fin 1024) : out0_5 i x0 x1 x2 x3 x4 (ix3 0 r c) = mixed i x0 x1 x2 x3 x4 r c := by
  unfold out0_5
  canon_tiles x h
  all_goals
    have hr : r.val = (x 1).val := h1
    obtain ⟨r', j, rfl⟩ : ∃ (r' : Fin 512) (j : Fin 256), x = ix3 0 r' j := ⟨x 1, x 2, by blk_ext⟩
    obtain rfl : r = r' := Fin.ext hr
  case piece0 => exact (piece_3 i x0 x1 x2 x3 x4 r j).trans (congrArg _ (Fin.ext h2.symm))
  case piece1 => exact (piece_2 i x0 x1 x2 x3 x4 r j).trans (congrArg _ (Fin.ext h2.symm))
  case piece2 => exact (piece_1 i x0 x1 x2 x3 x4 r j).trans (congrArg _ (Fin.ext h2.symm))
  case piece3 =>
    exact (piece_0 i x0 x1 x2 x3 x4 r j).trans (congrArg _ (Fin.ext ((Nat.zero_add j.val).trans h2.symm)))
end Cert.Kernel4Ideal.Value
-- ==== Proof.ConvKernel.lean ====
/-
  The short convolution call: its two result arrays as functions of its arguments.
-/
module

public import proofs.«01_k».proof.Proof.ConvBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

variable (m : (ℓ : Loc nD τ sig) → Buf (Elt Ideal) ℓ)

/-- The index maps of the windows: point `t` is batch row `t / 16` and token block `t % 16`; the eight rows before the
    block are block `64 (t % 16) - 1` of the eight-row blocks. -/
theorem idx : ∀ t : Fin cfg0.N, win0_0.index t = ![t.val / 16, t.val % 16, 0]
    ∧ win0_1.index t = ![t.val / 16, t.val % 16 * 64 - 1, 0]
    ∧ win0_2.index t = ![0, 0] ∧ win0_3.index t = ![0, 0] ∧ win0_4.index t = ![0, 0]
    ∧ win0_5.index t = ![t.val / 16, t.val % 16, 0] ∧ win0_6.index t = ![t.val / 16, t.val % 16, 0]
    ∧ (grid0.coords t 1).val = t.val % 16 :=
  (by decide +kernel : ∀ t : Fin grid0.N, _)

/-- The mixed result as a function of the argument arrays. -/
def value (X : FVec Ideal S2x8192x1024 .f32) (G : FVec Ideal S2x1024 .f32) (W : FVec Ideal S1x1024x3584 .f32)
    (C : FVec Ideal S1x3x1024 .f32) : FVec Ideal S2x8192x1024 .bf16 := fun i =>
  Conv.layer (fun t j => X (ix3 (i 0) t j)) (fun j => G (ix2 0 j)) (fun j k => W (ix3 0 j k)) (fun k c => C (ix3 0 k c)) (i 1) (i 2)

/-- The queries for the memory as a function of the argument arrays. -/
def queries (X : FVec Ideal S2x8192x1024 .f32) (G : FVec Ideal S2x1024 .f32) (W : FVec Ideal S1x1024x3584 .f32) :
    FVec Ideal S2x8192x512 .bf16 := fun i =>
  Conv.proj (fun j => X (ix3 (i 0) (i 1) j)) (fun j => G (ix2 0 j)) (fun j k => W (ix3 0 j k))
    ⟨3072 + (i 2).val, by have := (i 2).isLt; change (i 2).val < 512 at this; omega⟩

variable (c : Dev nD) (t : Fin cfg0.N)

/-- The arrays the call is run on. -/
abbrev argX : FVec Ideal S2x8192x1024 .f32 := m ((c : Thread nD τ).loc main_arg0)
abbrev argG : FVec Ideal S2x1024 .f32 := m ((c : Thread nD τ).loc main_arg1)
abbrev argW : FVec Ideal S1x1024x3584 .f32 := m ((c : Thread nD τ).loc main_arg2)
abbrev argC : FVec Ideal S1x3x1024 .f32 := m ((c : Thread nD τ).loc main_arg3)

theorem lt_32 : t.val < 32 := lt_of_lt_of_eq t.isLt (by decide +kernel)

/-- Row `r` of point `t`'s block is token `512 (t % 16) + r` of batch row `t / 16`. -/
theorem row_main (r : Fin 512) : xRow (iblk m c 0 t) r
    = fun j => argX m c (ix3 ⟨t.val / 16, by have := lt_32 t; omega⟩ ⟨t.val % 16 * 512 + r.val, by omega⟩ j) := by
  funext j
  unfold xRow
  blk_point [iblk, V, idx t]

/-- Row `r` of the eight rows before it, unless it is the first block of its sequence. -/
theorem row_halo (h : 0 < t.val % 16) (r : Fin 8) : zRow (iblk m c 1 t) r
    = fun j => argX m c (ix3 ⟨t.val / 16, by have := lt_32 t; omega⟩ ⟨t.val % 16 * 512 + r.val - 8, by omega⟩ j) := by
  funext j
  unfold zRow
  blk_point [iblk, V, idx t]

theorem gain : gRow (iblk m c 2 t) = fun j => argG m c (ix2 0 j) := by
  funext j
  unfold gRow
  blk_point [iblk, V, idx t]

theorem weights : inW (iblk m c 3 t) = fun j k => argW m c (ix3 0 j k) := by
  funext j k
  unfold inW
  blk_point [iblk, V, idx t]

theorem tap : tapW (iblk m c 4 t) = fun k j => argC m c (ix3 0 k j) := by
  funext k j
  unfold tapW
  blk_point [iblk, V, idx t]

/-- Looking `k` rows back inside the block is looking `k` tokens back in the sequence. -/
theorem back_eq (k : ℕ) (hk : 1 ≤ k) (hk8 : k ≤ 8) (d : Fin 1024) (r : Fin 512) (p : Fin 8192 → EReal)
    (hp : ∀ s, p s = Conv.signal (fun j => argX m c (ix3 ⟨t.val / 16, by have := lt_32 t; omega⟩ s j)) (fun j => argG m c (ix2 0 j))
      (fun j k => argW m c (ix3 0 j k)) d) :
    Conv.backIn k (fun r => Conv.signal (xRow (iblk m c 0 t) r) (gRow (iblk m c 2 t)) (inW (iblk m c 3 t)) d)
      (before (grid0.coords t) (iblk m c 1 t) (iblk m c 2 t) (iblk m c 3 t) d) r
    = Conv.back k p ⟨t.val % 16 * 512 + r.val, by omega⟩ := by
  unfold Conv.backIn Conv.back before
  rw [gain, weights, (idx t).2.2.2.2.2.2.2]
  by_cases h : k ≤ r.val
  · rw [dif_pos h, dif_pos (show k ≤ t.val % 16 * 512 + r.val by omega), hp]
    simp only [row_main]
    refine congrArg (fun s : Fin 8192 => Conv.signal (fun j => argX m c (ix3 _ s j)) _ _ d) (Fin.ext ?_)
    show t.val % 16 * 512 + (r.val - k) = t.val % 16 * 512 + r.val - k
    omega
  · rw [dif_neg h]
    by_cases h' : 0 < t.val % 16
    · rw [if_pos h', dif_pos (show k ≤ t.val % 16 * 512 + r.val by omega), hp]
      simp only [row_halo m c t h']
      refine congrArg (fun s : Fin 8192 => Conv.signal (fun j => argX m c (ix3 _ s j)) _ _ d) (Fin.ext ?_)
      show t.val % 16 * 512 + (8 + r.val - k) % 8 - 8 = t.val % 16 * 512 + r.val - k
      omega
    · rw [if_neg h', dif_neg (show ¬ k ≤ t.val % 16 * 512 + r.val by omega)]

/-- A row of the mixed block, at the place in the result array where it is written. -/
theorem mixed_point (r : Fin 512) (d : Fin 1024) :
    mixed (grid0.coords t) (iblk m c 0 t) (iblk m c 1 t) (iblk m c 2 t) (iblk m c 3 t) (iblk m c 4 t) r d
      = value (argX m c) (argG m c) (argW m c) (argC m c) (((cfg0.win 5).blk t).view.emb (ix3 0 r d)) := by
  have he : ((cfg0.win 5).blk t).view.emb (ix3 0 r d)
      = ix3 ⟨t.val / 16, by have := lt_32 t; omega⟩ ⟨t.val % 16 * 512 + r.val, by omega⟩ d := by
    blk_ext [idx t]
  rw [he]
  unfold mixed
  rw [back_eq m c t 2 (by omega) (by omega) d r _ fun s => rfl, back_eq m c t 1 (by omega) (by omega) d r _ fun s => rfl,
    row_main, gain, weights, tap]
  rfl

/-- A row of the block of queries, at the place where it is written. -/
theorem queries_point (r : Fin 512) (d : Fin 512) :
    Conv.proj (xRow (iblk m c 0 t) r) (gRow (iblk m c 2 t)) (inW (iblk m c 3 t)) ⟨3072 + d, by omega⟩
      = queries (argX m c) (argG m c) (argW m c) (((cfg0.win 6).blk t).view.emb (ix3 0 r d)) := by
  have he : ((cfg0.win 6).blk t).view.emb (ix3 0 r d)
      = ix3 ⟨t.val / 16, by have := lt_32 t; omega⟩ ⟨t.val % 16 * 512 + r.val, by omega⟩ d := by
    blk_ext [idx t]
  rw [he, row_main, gain, weights]
  rfl

/-- The first result array after the run. -/
theorem final_mixed : (dats m 0 c).arrAt 5 (cfgs 0).N = value (argX m c) (argG m c) (argW m c) (argC m c) := by
  refine (dats m 0 c).arrAt_eq_of_covers 5 _ (by decide +kernel) fun t _ y => ?_
  blk_simp
  rw [after0_5]
  obtain ⟨r, j, rfl⟩ : ∃ (r : Fin 512) (j : Fin 1024), y = ix3 0 r j := ⟨y 1, y 2, by blk_ext⟩
  exact (mixed_apply _ _ _ _ _ _ r j).trans (mixed_point m c t r j)

/-- The second result array after the run. -/
theorem final_queries : (dats m 0 c).arrAt 6 (cfgs 0).N = queries (argX m c) (argG m c) (argW m c) := by
  refine (dats m 0 c).arrAt_eq_of_covers 6 _ (by decide +kernel) fun t _ y => ?_
  blk_simp
  rw [after0_6]
  obtain ⟨r, j, rfl⟩ : ∃ (r : Fin 512) (j : Fin 512), y = ix3 0 r j := ⟨y 1, y 2, by blk_ext⟩
  exact (queries_apply _ _ _ _ _ _ r j).trans (queries_point m c t r j)

end Cert.Kernel4Ideal.Value
-- ==== Proof.ConvClaim.lean ====
/-
  The reference of the short convolution computes the same two functions, and so the value claim.
-/
module

public import proofs.«01_k».proof.Proof.ConvKernel
public import proofs.«01_k».proof.Proof.Gen.Reference4Ideal.Read
public import proofs.«01_k».proof.Defs
public import Idealize.ShloMosaic.Lib.Claim

@[expose] public section

set_option maxRecDepth 16384

noncomputable section

open Idealize.ShloMosaic Idealize.ShloMosaic.TcCoe Idealize.SL.Sem

namespace Cert.Reference4Ideal.Value

open Cert.Reference4Ideal Cert.Reference4Ideal.Gen

variable (X : FVec Ideal S2x8192x1024 .f32) (G : FVec Ideal S2x1024 .f32) (W : FVec Ideal S1x1024x3584 .f32)
  (C : FVec Ideal S1x3x1024 .f32)

/-- The reference's projection, at a token and a column. -/
theorem proj_apply (b : Fin 2) (t : Fin 8192) (k : Fin 3584) :
    Read.val_main_v16 (F := Ideal) X G W (ix3 b t k)
      = Conv.proj (fun j => X (ix3 b t j)) (fun j => G (ix2 0 j)) (fun j k => W (ix3 0 j k)) k := by
  open Read in
  pointwise [
    val_main_v0, val_main_v1, val_main_v2, val_main_cst, val_main_v3, val_main_v4, val_main_cst_0, val_main_v5,
    val_main_v6, val_main_cst_1, val_main_v7, val_main_v8, val_main_v9, val_main_v10, val_main_v11, val_main_v12,
    val_main_v13, val_main_v14, val_main_v15, val_main_v16, Conv.proj, Ffn.rms]

/-- The reference's signal. -/
theorem signal_apply (b : Fin 2) (t : Fin 8192) (c : Fin 1024) :
    Read.val_main_v20 (F := Ideal) X G W (ix3 b t c)
      = Conv.signal (fun j => X (ix3 b t j)) (fun j => G (ix2 0 j)) (fun j k => W (ix3 0 j k)) c := by
  open Read in
  pointwise [val_main_v18, val_main_v19, val_main_v20]
  simp only [proj_apply]
  unfold Conv.signal
  blk_point []

/-- The number the reference pads the signal with. -/
theorem zero_word : (FloatOps.sitofp .f32 0#32 : Ideal .f32) = (0 : EReal) := by
  show (((0#32 : BitVec 32).toInt : ℝ) : EReal) = 0
  norm_num

/-- A read of the padded signal two places before a token's own place. -/
theorem back_two (f : Fin 8192 → EReal) (t : Fin 8192) :
    (if h : 2 ≤ t.val ∧ t.val - 2 < 8192 then f ⟨t.val - 2, h.2⟩ else (FloatOps.sitofp .f32 0#32 : Ideal .f32)) = Conv.back 2 f t := by
  unfold Conv.back
  by_cases h : 2 ≤ t.val
  · rw [dif_pos ⟨h, by omega⟩, dif_pos h]
  · rw [dif_neg (by omega), dif_neg h, zero_word]

/-- A read of the padded signal one place before a token's own place. -/
theorem back_one (f : Fin 8192 → EReal) (t : Fin 8192) :
    (if h : 2 ≤ 1 + t.val ∧ 1 + t.val - 2 < 8192 then f ⟨1 + t.val - 2, h.2⟩ else (FloatOps.sitofp .f32 0#32 : Ideal .f32))
      = Conv.back 1 f t := by
  unfold Conv.back
  by_cases h : 1 ≤ t.val
  · rw [dif_pos ⟨by omega, by omega⟩, dif_pos h]
    exact congrArg f (Fin.ext (by show 1 + t.val - 2 = t.val - 1; omega))
  · rw [dif_neg (by omega), dif_neg h, zero_word]

/-- The reference's mixed result. -/
theorem mixed_eq : Read.val_main_v46 (F := Ideal) X G W C = Cert.Kernel4Ideal.Value.value X G W C := by
  funext i
  obtain ⟨b, t, c, rfl⟩ : ∃ (b : Fin 2) (t : Fin 8192) (c : Fin 1024), i = ix3 b t c := ⟨i 0, i 1, i 2, by blk_ext⟩
  show _ = Conv.layer (fun t j => X (ix3 b t j)) (fun j => G (ix2 0 j)) (fun j k => W (ix3 0 j k)) (fun k c => C (ix3 0 k c)) t c
  open Read in
  pointwise [
    val_main_c, val_main_call0_v0, val_main_v21, val_main_v22, val_main_v23, val_main_v24, val_main_v25, val_main_v26,
    val_main_v27, val_main_v28, val_main_v29, val_main_v30, val_main_v31, val_main_v32, val_main_v33, val_main_v34,
    val_main_v35, val_main_v36, val_main_v37, val_main_v38, val_main_v39, val_main_v40, val_main_v41, val_main_v42,
    val_main_v43, val_main_v44, val_main_v45, val_main_v46, val_main_v17]
  simp only [proj_apply, signal_apply]
  unfold Conv.layer
  rw [← back_two, ← back_one]
  rfl

/-- The reference's queries for the memory. -/
theorem queries_eq : Read.val_main_v48 (F := Ideal) X G W = Cert.Kernel4Ideal.Value.queries X G W := by
  funext i
  obtain ⟨b, t, c, rfl⟩ : ∃ (b : Fin 2) (t : Fin 8192) (c : Fin 512), i = ix3 b t c := ⟨i 0, i 1, i 2, by blk_ext⟩
  open Read in
  pointwise [val_main_v47, val_main_v48]
  rw [proj_apply]
  rfl

end Cert.Reference4Ideal.Value

namespace Cert.Proof

/-- The call and the reference end with the same two arrays. -/
theorem algebraic4 : Cert.algebraic_Kernel4Ideal_Reference4Ideal := by
  pair_intro
  · run_from Cert.Kernel4Ideal.Gen.run_main m g
  · run_from Cert.Reference4Ideal.Value.run m' g'
    · rw [Cert.Kernel4Ideal.Value.final_mixed m c]
      obtain ⟨h0, h1, h2, h3⟩ := hagree c
      rw [Cert.Reference4Ideal.Read.val_main_v46_eq m' c, h0, h1, h2, h3]
      exact Cert.Reference4Ideal.Value.mixed_eq _ _ _ _
    · rw [Cert.Kernel4Ideal.Value.final_queries m c]
      exact (Cert.Reference4Ideal.Read.val_main_v48_eq _ _ _).trans (Cert.Reference4Ideal.Value.queries_eq _ _ _)

end Cert.Proof
-- ==== Proof.MixSpec.lean ====
/-
  Reading the memory and mixing, for one token: four heads look their queries up in a memory of 256 entries, the outputs
  stand beside the mixed tokens, and one product of that row with a weight matrix is added to the layer's input.
  The softmax is written with `exp`, the largest scaled logit subtracted; the kernel computes it with `exp2` of a scale
  that carries the factor `1 / log 2`, and this file has the lemma that the two agree on all extended reals.
-/
module

public import Idealize.ShloMosaic.Lib.Pipeline.ValueKit

@[expose] public section

noncomputable section

open Idealize.ShloMosaic

namespace Cert.Mix

/-- The scale of the logits: the 32-bit word for `1 / √128`. -/
abbrev scale : EReal := Ideal.ofBits .f32 0x3DB504F3#32

/-- What the largest logit starts from: the word for minus infinity. -/
abbrev low : EReal := Ideal.ofBits .f32 0xFF800000#32

/-- The exponential of a scaled logit, the largest subtracted. -/
def ex (s : Fin 256 → EReal) (m : Fin 256) : EReal :=
  Ideal.exp (s m * scale - Finset.univ.fold max low fun k => s k * scale)

/-- The weight of memory entry `m` for logits `s`. -/
def weight (s : Fin 256 → EReal) (m : Fin 256) : EReal := Ideal.div (ex s m) (∑ k, ex s k)

/-- The logits of head `h` for a token's queries `q` and the memory's rows `kv`, whose first 512 columns are keys. -/
def logit (q : Fin 512 → EReal) (kv : Fin 256 → Fin 1024 → EReal) (h : Fin 4) (m : Fin 256) : EReal :=
  ∑ d : Fin 128, q ⟨128 * h + d, by omega⟩ * kv m ⟨128 * h + d, by omega⟩

/-- Column `k` of the four heads' outputs; head `k / 128` computes it from column `512 + k` of the memory. -/
def read (q : Fin 512 → EReal) (kv : Fin 256 → Fin 1024 → EReal) (k : Fin 512) : EReal :=
  ∑ m : Fin 256, weight (logit q kv ⟨k / 128, by omega⟩) m * kv m ⟨512 + k, by omega⟩

/-- The layer's output for a token: its input plus the product with the weights, in two parts. -/
def row (x tok : Fin 1024 → EReal) (q : Fin 512 → EReal) (kv : Fin 256 → Fin 1024 → EReal) (w : Fin 1536 → Fin 1024 → EReal)
    (c : Fin 1024) : EReal :=
  x c + (∑ k : Fin 1024, tok k * w ⟨k, by omega⟩ c) + ∑ k : Fin 512, read q kv k * w ⟨1024 + k, by omega⟩ c

/-- The scale is a positive real number. -/
theorem scale_eq : scale = ((11863283 / 134217728 : ℝ) : EReal) := by
  simp [scale, Ideal.ofBits, Ideal.ieee]
  change ((11863283 : ℝ) : EReal) * ((((2 : ℝ) ^ 27)⁻¹ : ℝ) : EReal) = _
  rw [← EReal.coe_mul]
  norm_num

theorem low_eq : low = ⊥ := by
  simp [low, Ideal.ofBits, Ideal.ieee]

/-- A positive real factor comes out of a difference, at the infinities too. -/
theorem sub_mul (a b : EReal) (k : ℝ) (hk : 0 < k) : a * k - b * k = (a - b) * k := by
  rw [sub_eq_add_neg, sub_eq_add_neg, ← EReal.neg_mul]
  exact (EReal.right_distrib_of_nonneg_of_ne_top (EReal.coe_nonneg.mpr hk.le) (EReal.coe_ne_top k) a (-b)).symm

/-- A positive real factor comes out of a largest value. -/
theorem fold_mul (f : Fin 256 → EReal) (k : ℝ) (hk : 0 < k) :
    (Finset.univ.fold max low fun m => f m * k) = (Finset.univ.fold max low f) * k := by
  have mono : Monotone fun x : EReal => x * k := fun x y h => mul_le_mul_of_nonneg_right h (EReal.coe_nonneg.mpr hk.le)
  have := Finset.fold_hom (op := max) (op' := max) (b := low) (f := f) (s := Finset.univ) (m := fun x : EReal => x * k)
    (fun x y => mono.map_max)
  rw [← this]
  show Finset.fold max low _ _ = Finset.fold max (low * k) _ _
  rw [low_eq, EReal.bot_mul_coe_of_pos hk]

/-- `exp2` of a value over `log 2` is `exp` of the value. -/
theorem exp2_over_log (a : EReal) : Ideal.exp2 (a * (((Real.log 2)⁻¹ : ℝ) : EReal)) = Ideal.exp a := by
  have hp : 0 < (Real.log 2)⁻¹ := inv_pos.mpr (Real.log_pos (by norm_num))
  induction a using EReal.rec with
  | bot => rw [EReal.bot_mul_coe_of_pos hp]; rfl
  | top => rw [EReal.top_mul_coe_of_pos hp]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = Real.exp r
    rw [Real.rpow_def_of_pos (by norm_num)]
    congr 1
    have : Real.log 2 ≠ 0 := (Real.log_pos (by norm_num)).ne'
    field_simp

/-- The kernel's exponential of a logit, with the factor `1 / log 2` in the scale, is `ex`. -/
theorem ex_eq (s : Fin 256 → EReal) (m : Fin 256) (c : EReal)
    (hc : c = (((11863283 / 134217728) * (Real.log 2)⁻¹ : ℝ) : EReal)) :
    Ideal.exp2 (s m * c - Finset.univ.fold max low fun k => s k * c) = ex s m := by
  have hp : 0 < (Real.log 2)⁻¹ := inv_pos.mpr (Real.log_pos (by norm_num))
  have e : ∀ x : EReal, x * c = (x * scale) * (((Real.log 2)⁻¹ : ℝ) : EReal) := fun x => by
    rw [hc, scale_eq, EReal.coe_mul, mul_assoc]
  simp only [e]
  rw [fold_mul _ _ hp, sub_mul _ _ _ hp, exp2_over_log, ex]

/-- A product over the 1536 columns of two rows side by side is the sum of the two products. -/
theorem sum_split (f : Fin 1536 → EReal) :
    (∑ k, f k) = (∑ k : Fin 1024, f ⟨k, by omega⟩) + ∑ k : Fin 512, f ⟨1024 + k, by omega⟩ :=
  Fin.sum_univ_add (a := 1024) (b := 512) f

end Cert.Mix
-- ==== Proof.MixBlock.lean ====
/-
  The body of the mixing call: what it leaves in its output block, row by row, as the function `Mix.row` of the blocks it
  reads.
-/
module

public import proofs.«01_k».proof.Proof.MixSpec
public import proofs.«01_k».proof.Proof.Gen.Kernel3Ideal.Value
public import Idealize.ShloMosaic.Lib.Pipeline.ValueKit

@[expose] public section

set_option maxRecDepth 16384

noncomputable section

open Idealize.ShloMosaic Idealize.ShloMosaic.TcCoe Idealize.SL.Sem

namespace Cert.Kernel3Ideal.Value

open Cert.Kernel3Ideal Cert.Kernel3Ideal.Gen

variable (x0 : Vec Ideal S1x512x1024 .f32) (x1 : Vec Ideal S1x512x1024 .bf16) (x2 : Vec Ideal S1x512x512 .bf16)
  (x3 : Vec Ideal S1x1x256x1024 .bf16) (x4 : Vec Ideal S1x1536x1024 .bf16)

/-- A row of the block of the layer's input. -/
def hRow (r : Fin 512) : Fin 1024 → EReal := fun j => x0 (ix3 0 r j)

/-- A row of the block of mixed tokens. -/
def tokRow (r : Fin 512) : Fin 1024 → EReal := fun j => x1 (ix3 0 r j)

/-- A row of the block of queries. -/
def qRow (r : Fin 512) : Fin 512 → EReal := fun j => x2 (ix3 0 r j)

/-- The rows of the block of memory keys and values. -/
def mem : Fin 256 → Fin 1024 → EReal := fun k j => x3 (ix4 0 0 k j)

/-- The block of weights. -/
def outW : Fin 1536 → Fin 1024 → EReal := fun k j => x4 (ix3 0 k j)

/-- The exponential the kernel computes from an array of logits, at a row and an entry. -/
theorem soft (s : FVec Ideal S512x256 .f32) (f : Fin 256 → EReal) (r : Fin 512) (hs : ∀ m, s (ix2 r m) = f m) (m : Fin 256) :
    FloatOps.exp2 ((s (ix2 r m) : Ideal .f32) * Named.named κ "scale2" (φ := .f32) 0x3E0293EE#32
      - Finset.fold max (Ideal.ofBits .f32 0xFF800000#32) (fun x => s (ix2 r x) * Named.named κ "scale2" (φ := .f32) 0x3E0293EE#32)
        Finset.univ) = Mix.ex f m := by
  simp only [hs]
  exact Mix.ex_eq f m _ rfl

/-- The first head's exponentials. -/
theorem head0 (r : Fin 512) (m : Fin 256) : k0_pay8 (View.ld x2 r0_0) (View.ld x3 r0_1) (ix2 r m)
    = Mix.ex (Mix.logit (qRow x2 r) (mem x3) 0) m := by
  refine Eq.trans ?_ (Mix.ex_eq (Mix.logit (qRow x2 r) (mem x3) 0) m (Named.named (F := Ideal) κ "scale2" (φ := .f32) 0x3E0293EE#32) rfl)
  have e : ∀ k : Fin 256, Mix.logit (qRow x2 r) (mem x3) 0 k
      = ∑ d : Fin 128, x2 (ix3 0 r ⟨d, by omega⟩) * x3 (ix4 0 0 k ⟨d, by omega⟩) := fun k => by
    simp only [Mix.logit, qRow, mem]
    blk_point []
  simp only [e]
  pointwise [k0_pay8, k0_pay2, k0_pay3]
  rfl

/-- The other heads' logits. -/
theorem head1 (r : Fin 512) (m : Fin 256) : k0_pay4 (View.ld x2 r0_0) (View.ld x3 r0_1) (ix2 r m)
    = Mix.logit (qRow x2 r) (mem x3) 1 m := by
  pointwise [k0_pay4, k0_pay3, Mix.logit, qRow, mem]
  blk_point []

theorem head2 (r : Fin 512) (m : Fin 256) : k0_pay5 (View.ld x2 r0_0) (View.ld x3 r0_1) (ix2 r m)
    = Mix.logit (qRow x2 r) (mem x3) 2 m := by
  pointwise [k0_pay5, k0_pay3, Mix.logit, qRow, mem]
  blk_point []

theorem head3 (r : Fin 512) (m : Fin 256) : k0_pay6 (View.ld x2 r0_0) (View.ld x3 r0_1) (ix2 r m)
    = Mix.logit (qRow x2 r) (mem x3) 3 m := by
  pointwise [k0_pay6, k0_pay3, Mix.logit, qRow, mem]
  blk_point []

/-- The four heads' outputs side by side. -/
def heads : FVec Ideal S512x512 .f32 :=
  k0_pay10 (k0_pay3 (View.ld x3 r0_1)) (k0_pay4 (View.ld x2 r0_0) (View.ld x3 r0_1)) (k0_pay5 (View.ld x2 r0_0) (View.ld x3 r0_1))
    (k0_pay6 (View.ld x2 r0_0) (View.ld x3 r0_1)) (k0_pay8 (View.ld x2 r0_0) (View.ld x3 r0_1))
    (k0_pay9 (View.ld x2 r0_0) (View.ld x3 r0_1))

/-- A term of a head's output, with its head given by the column. -/
theorem term (r k : Fin 512) (h : Fin 4) (hk : h.val = k.val / 128) (f : Fin 256 → EReal)
    (hf : ∀ m, f m = x3 (ix4 0 0 m ⟨512 + k, by omega⟩)) :
    (∑ m, Ideal.div (Mix.ex (Mix.logit (qRow x2 r) (mem x3) h) m) (∑ j, Mix.ex (Mix.logit (qRow x2 r) (mem x3) h) j) * f m)
      = Mix.read (qRow x2 r) (mem x3) k := by
  rw [show h = ⟨k.val / 128, by omega⟩ from Fin.ext hk]
  simp only [hf]
  rfl

theorem heads_apply (r k : Fin 512) : heads x2 x3 (ix2 r k) = Mix.read (qRow x2 r) (mem x3) k := by
  have e1 := soft _ _ r (head1 x2 x3 r)
  have e2 := soft _ _ r (head2 x2 x3 r)
  have e3 := soft _ _ r (head3 x2 x3 r)
  have e0 := head0 x2 x3 r
  have ek : ∀ m j, k0_pay3 (View.ld x3 r0_1) (ix2 m j) = x3 (ix4 0 0 m j) := fun m j => by
    pointwise [k0_pay3]
  unfold heads k0_pay9
  generalize k0_pay8 (View.ld x2 r0_0) (View.ld x3 r0_1) = z0 at e0 ⊢
  generalize k0_pay4 (View.ld x2 r0_0) (View.ld x3 r0_1) = z1 at e1 ⊢
  generalize k0_pay5 (View.ld x2 r0_0) (View.ld x3 r0_1) = z2 at e2 ⊢
  generalize k0_pay6 (View.ld x2 r0_0) (View.ld x3 r0_1) = z3 at e3 ⊢
  generalize k0_pay3 (View.ld x3 r0_1) = kv at ek ⊢
  pointwise [k0_pay10]
  simp only [e0, e1, e2, e3, ek]
  by_cases h1 : k.val < 128
  · rw [dif_pos h1]
    exact term x2 x3 r k 0 (by show 0 = _; omega) _ fun m => rfl
  rw [dif_neg h1]
  by_cases h2 : k.val - 128 < 128
  · rw [dif_pos h2]
    exact term x2 x3 r k 1 (by show 1 = _; omega) _ fun m => by blk_point []
  rw [dif_neg h2]
  by_cases h3 : k.val - 128 - 128 < 128
  · rw [dif_pos h3]
    exact term x2 x3 r k 2 (by show 2 = _; omega) _ fun m => by blk_point []
  rw [dif_neg h3]
  exact term x2 x3 r k 3 (by show 3 = _; omega) _ fun m => by blk_point []

/-- What the body leaves in its output block. -/
theorem block_apply (r : Fin 512) (c : Fin 1024) :
    out0_5 x0 x1 x2 x3 x4 (ix3 0 r c)
      = Mix.row (hRow x0 r) (tokRow x1 r) (qRow x2 r) (mem x3) (outW x4) c := by
  unfold out0_5
  rw [View.canon_unit_zero (show (![0, 0, 0] : Fin 3 → ℕ) = fun _ => 0 by funext a; fin_cases a <;> rfl)]
  change k0_pay1 _ (heads x2 x3) _ _ = _
  have e := heads_apply x2 x3 r
  generalize heads x2 x3 = z at e ⊢
  pointwise [k0_pay1, k0_pay7, Mix.row]
  simp only [e]
  rfl

end Cert.Kernel3Ideal.Value
-- ==== Proof.MixKernel3.lean ====
/-
  The mixing call of layer 1: its result array as a function of its arguments.
-/
module

public import proofs.«01_k».proof.Proof.MixBlock
public import Idealize.ShloMosaic.Lib.Pipeline.ValueKit

@[expose] public section

set_option maxRecDepth 16384

noncomputable section

open Idealize.ShloMosaic Idealize.ShloMosaic.TcCoe Idealize.SL.Sem

namespace Cert.Kernel3Ideal.Value

open Cert.Kernel3Ideal Cert.Kernel3Ideal.Gen

/-- The index maps of the windows, over all grid points: point `t` is batch row `t / 16` and token block `t % 16`; the memory
    is that of the batch row, and the memory and the weights are those of layer 1. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![1, t.val / 16, 0, 0] ∧ win0_4.index t = ![1, 0, 0]
    ∧ win0_5.index t = ![t.val / 16, t.val % 16, 0] :=
  (by decide +kernel : ∀ t : Fin grid0.N, _)

/-- The result array as a function of the argument arrays. -/
def value (H : FVec Ideal S2x8192x1024 .f32) (T : FVec Ideal S2x8192x1024 .bf16) (Q : FVec Ideal S2x8192x512 .bf16)
    (M : FVec Ideal S2x2x256x1024 .bf16) (W : FVec Ideal S2x1536x1024 .f32) : FVec Ideal S2x8192x1024 .f32 := fun i =>
  Mix.row (fun j => H (ix3 (i 0) (i 1) j)) (fun j => T (ix3 (i 0) (i 1) j)) (fun j => Q (ix3 (i 0) (i 1) j))
    (fun k j => M (ix4 1 (i 0) k j)) (fun k j => W (ix3 1 k j)) (i 2)

variable (m : (ℓ : Loc nD τ sig) → Buf (Elt Ideal) ℓ) (c : Dev nD) (t : Fin cfg0.N)

/-- The arrays the call is run on. -/
abbrev argH : FVec Ideal S2x8192x1024 .f32 := m ((c : Thread nD τ).loc main_arg0)
abbrev argT : FVec Ideal S2x8192x1024 .bf16 := m ((c : Thread nD τ).loc main_arg1)
abbrev argQ : FVec Ideal S2x8192x512 .bf16 := m ((c : Thread nD τ).loc main_arg2)
abbrev argM : FVec Ideal S2x2x256x1024 .bf16 := m ((c : Thread nD τ).loc main_arg3)
abbrev argW : FVec Ideal S2x1536x1024 .f32 := m ((c : Thread nD τ).loc main_arg4)

theorem lt_32 : t.val < 32 := lt_of_lt_of_eq t.isLt (by decide +kernel)

/-- The blocks of point `t`, read in the arrays. -/
theorem h_main (r : Fin 512) : hRow (iblk m c 0 t) r
    = fun j => argH m c (ix3 ⟨t.val / 16, by have := lt_32 t; omega⟩ ⟨t.val % 16 * 512 + r.val, by omega⟩ j) := by
  funext j
  unfold hRow
  blk_point [iblk, V, idx t]

theorem tok_main (r : Fin 512) : tokRow (iblk m c 1 t) r
    = fun j => argT m c (ix3 ⟨t.val / 16, by have := lt_32 t; omega⟩ ⟨t.val % 16 * 512 + r.val, by omega⟩ j) := by
  funext j
  unfold tokRow
  blk_point [iblk, V, idx t]

theorem q_main (r : Fin 512) : qRow (iblk m c 2 t) r
    = fun j => argQ m c (ix3 ⟨t.val / 16, by have := lt_32 t; omega⟩ ⟨t.val % 16 * 512 + r.val, by omega⟩ j) := by
  funext j
  unfold qRow
  blk_point [iblk, V, idx t]

theorem mem_main : mem (iblk m c 3 t)
    = fun k j => argM m c (ix4 1 ⟨t.val / 16, by have := lt_32 t; omega⟩ k j) := by
  funext k j
  unfold mem
  blk_point [iblk, V, idx t]

theorem w_main : outW (iblk m c 4 t) = fun k j => argW m c (ix3 1 k j) := by
  funext k j
  unfold outW
  blk_point [iblk, V, idx t]

/-- A row of the block, at the place in the result array where it is written. -/
theorem point (r : Fin 512) (d : Fin 1024) :
    Mix.row (hRow (iblk m c 0 t) r) (tokRow (iblk m c 1 t) r) (qRow (iblk m c 2 t) r) (mem (iblk m c 3 t)) (outW (iblk m c 4 t)) d
      = value (argH m c) (argT m c) (argQ m c) (argM m c) (argW m c) (((cfg0.win 5).blk t).view.emb (ix3 0 r d)) := by
  have he : ((cfg0.win 5).blk t).view.emb (ix3 0 r d)
      = ix3 ⟨t.val / 16, by have := lt_32 t; omega⟩ ⟨t.val % 16 * 512 + r.val, by omega⟩ d := by
    blk_ext [idx t]
  rw [he, h_main, tok_main, q_main, mem_main, w_main]
  rfl

/-- The result array after the run. -/
theorem final : (dats m 0 c).arrAt 5 (cfgs 0).N = value (argH m c) (argT m c) (argQ m c) (argM m c) (argW m c) := by
  refine (dats m 0 c).arrAt_eq_of_covers 5 _ (by decide +kernel) fun t _ y => ?_
  blk_simp
  rw [after0_5]
  obtain ⟨r, j, rfl⟩ : ∃ (r : Fin 512) (j : Fin 1024), y = ix3 0 r j := ⟨y 1, y 2, by blk_ext⟩
  exact (block_apply _ _ _ _ _ r j).trans (point m c t r j)

end Cert.Kernel3Ideal.Value
-- ==== Proof.MixClaim3.lean ====
/-
  The reference of the mixing part of layer 1 computes the same function, and so the value claim.
-/
module

public import proofs.«01_k».proof.Proof.MixKernel3
public import proofs.«01_k».proof.Proof.Gen.Reference3Ideal.Read
public import proofs.«01_k».proof.Defs
public import Idealize.ShloMosaic.Lib.Claim

@[expose] public section

set_option maxRecDepth 16384

noncomputable section

open Idealize.ShloMosaic Idealize.ShloMosaic.TcCoe Idealize.SL.Sem

namespace Cert.Reference3Ideal.Value

open Cert.Reference3Ideal Cert.Reference3Ideal.Gen

variable (H : FVec Ideal S2x8192x1024 .f32) (T : FVec Ideal S2x8192x1024 .bf16) (Q : FVec Ideal S2x8192x512 .bf16)
  (M : FVec Ideal S2x2x256x1024 .bf16) (W : FVec Ideal S2x1536x1024 .f32)

/-- The reference's logits of head `h`, unscaled. -/
theorem logit_apply (b : Fin 2) (h : Fin 4) (t : Fin 8192) (k : Fin 256) :
    Read.val_main_v11 (F := Ideal) Q M (ix4 b h t k)
      = Mix.logit (fun j => Q (ix3 b t j)) (fun k j => M (ix4 1 b k j)) h k := by
  open Read in
  pointwise [val_main_v0, val_main_v1, val_main_v4, val_main_v5, val_main_v6, val_main_v9, val_main_v10, val_main_v11, Mix.logit]
  blk_point []

/-- The reference's scaled logits. -/
theorem scaled_apply (b : Fin 2) (h : Fin 4) (t : Fin 8192) (k : Fin 256) :
    Read.val_main_v13 (F := Ideal) Q M (ix4 b h t k)
      = Mix.logit (fun j => Q (ix3 b t j)) (fun k j => M (ix4 1 b k j)) h k * Mix.scale := by
  rw [← logit_apply]
  open Read in
  pointwise [val_main_cst, val_main_v12, val_main_v13]

/-- The largest of them. -/
theorem largest_apply (b : Fin 2) (h : Fin 4) (t : Fin 8192) :
    Read.val_main_v14 (F := Ideal) Q M (ix3 b h t)
      = Finset.univ.fold max Mix.low fun k => Mix.logit (fun j => Q (ix3 b t j)) (fun k j => M (ix4 1 b k j)) h k * Mix.scale := by
  simp only [← scaled_apply]
  open Read in
  pointwise [val_main_cst_0, val_main_v14]

/-- The largest with the reference's lower bound, which is no bound. -/
theorem bound_apply (b : Fin 2) (h : Fin 4) (t : Fin 8192) :
    Read.val_main_v16 (F := Ideal) Q M (ix3 b h t) = Read.val_main_v14 (F := Ideal) Q M (ix3 b h t) := by
  rw [Read.val_main_v16_apply, Read.val_main_v15_apply, Read.val_main_cst_1_apply]
  generalize Read.val_main_v14 (F := Ideal) Q M (ix3 b h t) = z
  show max Mix.low z = z
  rw [Mix.low_eq]
  exact max_eq_right bot_le

/-- The reference's exponentials. -/
theorem ex_apply (b : Fin 2) (h : Fin 4) (t : Fin 8192) (k : Fin 256) :
    Read.val_main_v20 (F := Ideal) Q M (ix4 b h t k)
      = Mix.ex (Mix.logit (fun j => Q (ix3 b t j)) (fun k j => M (ix4 1 b k j)) h) k := by
  unfold Mix.ex
  rw [← largest_apply, ← scaled_apply, ← bound_apply]
  open Read in
  pointwise [val_main_v17, val_main_v18, val_main_v19, val_main_v20]

/-- The reference's outputs of the heads, side by side. -/
theorem read_apply (b : Fin 2) (t : Fin 8192) (k : Fin 512) :
    Read.val_main_v27 (F := Ideal) Q M (ix3 b t k) = Mix.read (fun j => Q (ix3 b t j)) (fun k j => M (ix4 1 b k j)) k := by
  have e := ex_apply Q M b
  open Read in
  pointwise [val_main_cst_2, val_main_v21, val_main_v22, val_main_v23, val_main_v24, val_main_v25, val_main_v26, val_main_v27,
    val_main_v7, val_main_v8, val_main_v0, val_main_v1, val_main_v4]
  simp only [e]
  unfold Mix.read Mix.weight
  exact Finset.sum_congr rfl fun x _ => mul_comm _ _

/-- The reference's result. -/
theorem value_eq : Read.val_main_v31 (F := Ideal) H T Q M W = Cert.Kernel3Ideal.Value.value H T Q M W := by
  funext i
  obtain ⟨b, t, c, rfl⟩ : ∃ (b : Fin 2) (t : Fin 8192) (c : Fin 1024), i = ix3 b t c := ⟨i 0, i 1, i 2, by blk_ext⟩
  show _ = Mix.row (fun j => H (ix3 b t j)) (fun j => T (ix3 b t j)) (fun j => Q (ix3 b t j)) (fun k j => M (ix4 1 b k j))
    (fun k j => W (ix3 1 k j)) c
  have e := read_apply Q M b t
  open Read in
  pointwise [val_main_v2, val_main_v3, val_main_v28, val_main_v29, val_main_v30, val_main_v31]
  simp only [e]
  unfold Mix.row
  rw [add_assoc]

end Cert.Reference3Ideal.Value

namespace Cert.Proof

/-- The call and the reference end with the same array. -/
theorem algebraic3 : Cert.algebraic_Kernel3Ideal_Reference3Ideal := by
  pair_intro
  · run_from Cert.Kernel3Ideal.Gen.run_main m g
  · run_from Cert.Reference3Ideal.Value.run m' g'
    rw [Cert.Kernel3Ideal.Value.final m c]
    obtain ⟨h0, h1, h2, h3, h4⟩ := hagree c
    rw [Cert.Reference3Ideal.Read.val_main_v31_eq m' c, h0, h1, h2, h3, h4]
    exact Cert.Reference3Ideal.Value.value_eq _ _ _ _ _

end Cert.Proof
-- ==== Proof.MixKernel6.lean ====
/-
  The mixing call of layer 0: its result array as a function of its arguments.
-/
module

public import proofs.«01_k».proof.Proof.MixBlock
public import proofs.«01_k».proof.Proof.Gen.Kernel6Ideal.Value
public import Idealize.ShloMosaic.Lib.Pipeline.ValueKit

@[expose] public section

set_option maxRecDepth 16384

noncomputable section

open Idealize.ShloMosaic Idealize.ShloMosaic.TcCoe Idealize.SL.Sem

namespace Cert.Kernel6Ideal.Value

open Cert.Kernel6Ideal Cert.Kernel6Ideal.Gen
open Cert.Kernel3Ideal.Value (hRow tokRow qRow mem outW)

/-- The two mixing calls have the same body, so this is the block read in `MixBlock`. -/
theorem block_apply (x0 : Vec Ideal S1x512x1024 .f32) (x1 : Vec Ideal S1x512x1024 .bf16) (x2 : Vec Ideal S1x512x512 .bf16)
    (x3 : Vec Ideal S1x1x256x1024 .bf16) (x4 : Vec Ideal S1x1536x1024 .bf16) (r : Fin 512) (c : Fin 1024) :
    out0_5 x0 x1 x2 x3 x4 (ix3 0 r c)
      = Mix.row (hRow x0 r) (tokRow x1 r) (qRow x2 r) (mem x3) (outW x4) c := by
  refine Eq.trans ?_ (Cert.Kernel3Ideal.Value.block_apply x0 x1 x2 x3 x4 r c)
  rfl

/-- The index maps of the windows, over all grid points: point `t` is batch row `t / 16` and token block `t % 16`; the memory
    is that of the batch row, and the memory and the weights are those of layer 0. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![0, t.val / 16, 0, 0] ∧ win0_4.index t = ![0, 0, 0]
    ∧ win0_5.index t = ![t.val / 16, t.val % 16, 0] :=
  (by decide +kernel : ∀ t : Fin grid0.N, _)

/-- The result array as a function of the argument arrays. -/
def value (H : FVec Ideal S2x8192x1024 .f32) (T : FVec Ideal S2x8192x1024 .bf16) (Q : FVec Ideal S2x8192x512 .bf16)
    (M : FVec Ideal S2x2x256x1024 .bf16) (W : FVec Ideal S2x1536x1024 .f32) : FVec Ideal S2x8192x1024 .f32 := fun i =>
  Mix.row (fun j => H (ix3 (i 0) (i 1) j)) (fun j => T (ix3 (i 0) (i 1) j)) (fun j => Q (ix3 (i 0) (i 1) j))
    (fun k j => M (ix4 0 (i 0) k j)) (fun k j => W (ix3 0 k j)) (i 2)

variable (m : (ℓ : Loc nD τ sig) → Buf (Elt Ideal) ℓ) (c : Dev nD) (t : Fin cfg0.N)

/-- The arrays the call is run on. -/
abbrev argH : FVec Ideal S2x8192x1024 .f32 := m ((c : Thread nD τ).loc main_arg0)
abbrev argT : FVec Ideal S2x8192x1024 .bf16 := m ((c : Thread nD τ).loc main_arg1)
abbrev argQ : FVec Ideal S2x8192x512 .bf16 := m ((c : Thread nD τ).loc main_arg2)
abbrev argM : FVec Ideal S2x2x256x1024 .bf16 := m ((c : Thread nD τ).loc main_arg3)
abbrev argW : FVec Ideal S2x1536x1024 .f32 := m ((c : Thread nD τ).loc main_arg4)

theorem lt_32 : t.val < 32 := lt_of_lt_of_eq t.isLt (by decide +kernel)

/-- The blocks of point `t`, read in the arrays. -/
theorem h_main (r : Fin 512) : hRow (iblk m c 0 t) r
    = fun j => argH m c (ix3 ⟨t.val / 16, by have := lt_32 t; omega⟩ ⟨t.val % 16 * 512 + r.val, by omega⟩ j) := by
  funext j
  unfold hRow
  blk_point [iblk, V, idx t]

theorem tok_main (r : Fin 512) : tokRow (iblk m c 1 t) r
    = fun j => argT m c (ix3 ⟨t.val / 16, by have := lt_32 t; omega⟩ ⟨t.val % 16 * 512 + r.val, by omega⟩ j) := by
  funext j
  unfold tokRow
  blk_point [iblk, V, idx t]

theorem q_main (r : Fin 512) : qRow (iblk m c 2 t) r
    = fun j => argQ m c (ix3 ⟨t.val / 16, by have := lt_32 t; omega⟩ ⟨t.val % 16 * 512 + r.val, by omega⟩ j) := by
  funext j
  unfold qRow
  blk_point [iblk, V, idx t]

theorem mem_main : mem (iblk m c 3 t)
    = fun k j => argM m c (ix4 0 ⟨t.val / 16, by have := lt_32 t; omega⟩ k j) := by
  funext k j
  unfold mem
  blk_point [iblk, V, idx t]

theorem w_main : outW (iblk m c 4 t) = fun k j => argW m c (ix3 0 k j) := by
  funext k j
  unfold outW
  blk_point [iblk, V, idx t]

/-- A row of the block, at the place in the result array where it is written. -/
theorem point (r : Fin 512) (d : Fin 1024) :
    Mix.row (hRow (iblk m c 0 t) r) (tokRow (iblk m c 1 t) r) (qRow (iblk m c 2 t) r) (mem (iblk m c 3 t)) (outW (iblk m c 4 t)) d
      = value (argH m c) (argT m c) (argQ m c) (argM m c) (argW m c) (((cfg0.win 5).blk t).view.emb (ix3 0 r d)) := by
  have he : ((cfg0.win 5).blk t).view.emb (ix3 0 r d)
      = ix3 ⟨t.val / 16, by have := lt_32 t; omega⟩ ⟨t.val % 16 * 512 + r.val, by omega⟩ d := by
    blk_ext [idx t]
  rw [he, h_main, tok_main, q_main, mem_main, w_main]
  rfl

/-- The result array after the run. -/
theorem final : (dats m 0 c).arrAt 5 (cfgs 0).N = value (argH m c) (argT m c) (argQ m c) (argM m c) (argW m c) := by
  refine (dats m 0 c).arrAt_eq_of_covers 5 _ (by decide +kernel) fun t _ y => ?_
  blk_simp
  rw [after0_5]
  obtain ⟨r, j, rfl⟩ : ∃ (r : Fin 512) (j : Fin 1024), y = ix3 0 r j := ⟨y 1, y 2, by blk_ext⟩
  exact (block_apply _ _ _ _ _ r j).trans (point m c t r j)

end Cert.Kernel6Ideal.Value
-- ==== Proof.MixClaim6.lean ====
/-
  The reference of the mixing part of layer 0 computes the same function, and so the value claim.
-/
module

public import proofs.«01_k».proof.Proof.MixKernel6
public import proofs.«01_k».proof.Proof.Gen.Reference6Ideal.Read
public import proofs.«01_k».proof.Defs
public import Idealize.ShloMosaic.Lib.Claim

@[expose] public section

set_option maxRecDepth 16384

noncomputable section

open Idealize.ShloMosaic Idealize.ShloMosaic.TcCoe Idealize.SL.Sem

namespace Cert.Reference6Ideal.Value

open Cert.Reference6Ideal Cert.Reference6Ideal.Gen

variable (H : FVec Ideal S2x8192x1024 .f32) (T : FVec Ideal S2x8192x1024 .bf16) (Q : FVec Ideal S2x8192x512 .bf16)
  (M : FVec Ideal S2x2x256x1024 .bf16) (W : FVec Ideal S2x1536x1024 .f32)

/-- The reference's logits of head `h`, unscaled. -/
theorem logit_apply (b : Fin 2) (h : Fin 4) (t : Fin 8192) (k : Fin 256) :
    Read.val_main_v11 (F := Ideal) Q M (ix4 b h t k)
      = Mix.logit (fun j => Q (ix3 b t j)) (fun k j => M (ix4 0 b k j)) h k := by
  open Read in
  pointwise [val_main_v0, val_main_v1, val_main_v4, val_main_v5, val_main_v6, val_main_v9, val_main_v10, val_main_v11, Mix.logit]
  blk_point []

/-- The reference's scaled logits. -/
theorem scaled_apply (b : Fin 2) (h : Fin 4) (t : Fin 8192) (k : Fin 256) :
    Read.val_main_v13 (F := Ideal) Q M (ix4 b h t k)
      = Mix.logit (fun j => Q (ix3 b t j)) (fun k j => M (ix4 0 b k j)) h k * Mix.scale := by
  rw [← logit_apply]
  open Read in
  pointwise [val_main_cst, val_main_v12, val_main_v13]

/-- The largest of them. -/
theorem largest_apply (b : Fin 2) (h : Fin 4) (t : Fin 8192) :
    Read.val_main_v14 (F := Ideal) Q M (ix3 b h t)
      = Finset.univ.fold max Mix.low fun k => Mix.logit (fun j => Q (ix3 b t j)) (fun k j => M (ix4 0 b k j)) h k * Mix.scale := by
  simp only [← scaled_apply]
  open Read in
  pointwise [val_main_cst_0, val_main_v14]

/-- The largest with the reference's lower bound, which is no bound. -/
theorem bound_apply (b : Fin 2) (h : Fin 4) (t : Fin 8192) :
    Read.val_main_v16 (F := Ideal) Q M (ix3 b h t) = Read.val_main_v14 (F := Ideal) Q M (ix3 b h t) := by
  rw [Read.val_main_v16_apply, Read.val_main_v15_apply, Read.val_main_cst_1_apply]
  generalize Read.val_main_v14 (F := Ideal) Q M (ix3 b h t) = z
  show max Mix.low z = z
  rw [Mix.low_eq]
  exact max_eq_right bot_le

/-- The reference's exponentials. -/
theorem ex_apply (b : Fin 2) (h : Fin 4) (t : Fin 8192) (k : Fin 256) :
    Read.val_main_v20 (F := Ideal) Q M (ix4 b h t k)
      = Mix.ex (Mix.logit (fun j => Q (ix3 b t j)) (fun k j => M (ix4 0 b k j)) h) k := by
  unfold Mix.ex
  rw [← largest_apply, ← scaled_apply, ← bound_apply]
  open Read in
  pointwise [val_main_v17, val_main_v18, val_main_v19, val_main_v20]

/-- The reference's outputs of the heads, side by side. -/
theorem read_apply (b : Fin 2) (t : Fin 8192) (k : Fin 512) :
    Read.val_main_v27 (F := Ideal) Q M (ix3 b t k) = Mix.read (fun j => Q (ix3 b t j)) (fun k j => M (ix4 0 b k j)) k := by
  have e := ex_apply Q M b
  open Read in
  pointwise [val_main_cst_2, val_main_v21, val_main_v22, val_main_v23, val_main_v24, val_main_v25, val_main_v26, val_main_v27,
    val_main_v7, val_main_v8, val_main_v0, val_main_v1, val_main_v4]
  simp only [e]
  unfold Mix.read Mix.weight
  exact Finset.sum_congr rfl fun x _ => mul_comm _ _

/-- The reference's result. -/
theorem value_eq : Read.val_main_v31 (F := Ideal) H T Q M W = Cert.Kernel6Ideal.Value.value H T Q M W := by
  funext i
  obtain ⟨b, t, c, rfl⟩ : ∃ (b : Fin 2) (t : Fin 8192) (c : Fin 1024), i = ix3 b t c := ⟨i 0, i 1, i 2, by blk_ext⟩
  show _ = Mix.row (fun j => H (ix3 b t j)) (fun j => T (ix3 b t j)) (fun j => Q (ix3 b t j)) (fun k j => M (ix4 0 b k j))
    (fun k j => W (ix3 0 k j)) c
  have e := read_apply Q M b t
  open Read in
  pointwise [val_main_v2, val_main_v3, val_main_v28, val_main_v29, val_main_v30, val_main_v31]
  simp only [e]
  unfold Mix.row
  rw [add_assoc]

end Cert.Reference6Ideal.Value

namespace Cert.Proof

/-- The call and the reference end with the same array. -/
theorem algebraic6 : Cert.algebraic_Kernel6Ideal_Reference6Ideal := by
  pair_intro
  · run_from Cert.Kernel6Ideal.Gen.run_main m g
  · run_from Cert.Reference6Ideal.Value.run m' g'
    rw [Cert.Kernel6Ideal.Value.final m c]
    obtain ⟨h0, h1, h2, h3, h4⟩ := hagree c
    rw [Cert.Reference6Ideal.Read.val_main_v31_eq m' c, h0, h1, h2, h3, h4]
    exact Cert.Reference6Ideal.Value.value_eq _ _ _ _ _

end Cert.Proof
-- ==== Proof.MemClaim7.lean ====
/-
  The keys and values of the memory tokens: the result array as a function of the arguments, and the same from the
  reference, and so the value claim.
-/
module

public import proofs.«01_k».proof.Proof.FfnSpec
public import proofs.«01_k».proof.Proof.Gen.Kernel7Ideal.Value
public import proofs.«01_k».proof.Proof.Gen.Reference7Ideal.Read
public import proofs.«01_k».proof.Defs
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel7Ideal.Value

open Cert.Kernel7Ideal Cert.Kernel7Ideal.Gen

/-- The result array as a function of the argument arrays: of layer `l`, batch row `b` and memory token `k`, the normalised
    token times the layer's weights. -/
def value (M : FVec Ideal S2x256x1024 .f32) (G : FVec Ideal S2x1024 .f32) (W : FVec Ideal S2x1024x1024 .f32) :
    FVec Ideal S2x2x256x1024 .bf16 := fun i =>
  ∑ j : Fin 1024, Ffn.rms (fun j => M (ix3 (i 1) (i 2) j)) (fun j => G (ix2 (i 0) j)) j * W (ix3 (i 0) j (i 3))

/-- What the body leaves in its output block. -/
theorem block_apply (x0 : Vec Ideal S1x256x1024 .f32) (x1 : Vec Ideal S1x1x1024 .f32) (x2 : Vec Ideal S1x1024x1024 .bf16)
    (r : Fin 256) (c : Fin 1024) : out0_3 x0 x1 x2 (ix4 0 0 r c)
      = ∑ j : Fin 1024, Ffn.rms (fun j => x0 (ix3 0 r j)) (fun j => x1 (ix3 0 0 j)) j * x2 (ix3 0 j c) := by
  unfold out0_3
  rw [View.canon_unit_zero (show (![0, 0, 0, 0] : Fin 4 → ℕ) = fun _ => 0 by funext a; fin_cases a <;> rfl)]
  pointwise [k0_pay1, Ffn.rms]

/-- The index maps of the windows: point `t` is layer `t / 2` and batch row `t % 2`. -/
theorem idx : ∀ t : Fin cfg0.N, win0_0.index t = ![t.val % 2, 0, 0] ∧ win0_1.index t = ![t.val / 2, 0, 0]
    ∧ win0_2.index t = ![t.val / 2, 0, 0] ∧ win0_3.index t = ![t.val / 2, t.val % 2, 0, 0] :=
  (by decide +kernel : ∀ t : Fin grid0.N, _)

variable (m : (ℓ : Loc nD τ sig) → Buf (Elt Ideal) ℓ) (c : Dev nD) (t : Fin cfg0.N)

/-- The arrays the call is run on. -/
abbrev argM : FVec Ideal S2x256x1024 .f32 := m ((c : Thread nD τ).loc main_arg0)
abbrev argG : FVec Ideal S2x1024 .f32 := m ((c : Thread nD τ).loc main_arg1)
abbrev argW : FVec Ideal S2x1024x1024 .f32 := m ((c : Thread nD τ).loc main_arg2)

theorem lt_4 : t.val < 4 := lt_of_lt_of_eq t.isLt (by decide +kernel)

/-- The blocks of point `t`, read in the arrays. -/
theorem mem_main (r : Fin 256) (j : Fin 1024) : iblk m c 0 t (ix3 0 r j) = argM m c (ix3 ⟨t.val % 2, by omega⟩ r j) := by
  blk_point [iblk, V, idx t]

theorem gain_main (j : Fin 1024) :
    iblk m c 1 t (ix3 0 0 j) = argG m c (ix2 ⟨t.val / 2, by have := lt_4 t; omega⟩ j) := by
  blk_point [iblk, V, idx t]

theorem w_main (j k : Fin 1024) :
    iblk m c 2 t (ix3 0 j k) = argW m c (ix3 ⟨t.val / 2, by have := lt_4 t; omega⟩ j k) := by
  blk_point [iblk, V, idx t]

/-- The result array after the run. -/
theorem final : (dats m 0 c).arrAt 3 (cfgs 0).N = value (argM m c) (argG m c) (argW m c) := by
  refine (dats m 0 c).arrAt_eq_of_covers 3 _ (by decide +kernel) fun t _ y => ?_
  blk_simp
  rw [after0_3]
  obtain ⟨r, j, rfl⟩ : ∃ (r : Fin 256) (j : Fin 1024), y = ix4 0 0 r j := ⟨y 2, y 3, by blk_ext⟩
  have he : ((cfg0.win 3).blk t).view.emb (ix4 0 0 r j)
      = ix4 ⟨t.val / 2, by have := lt_4 t; omega⟩ ⟨t.val % 2, by omega⟩ r j := by
    blk_ext [idx t]
  refine (block_apply _ _ _ r j).trans ?_
  simp only [mem_main, gain_main, w_main]
  exact (congrArg (value (argM m c) (argG m c) (argW m c)) he).symm

end Cert.Kernel7Ideal.Value

namespace Cert.Reference7Ideal.Value

open Cert.Reference7Ideal Cert.Reference7Ideal.Gen

variable (M : FVec Ideal S2x256x1024 .f32) (G : FVec Ideal S2x1024 .f32) (W : FVec Ideal S2x1024x1024 .f32)

/-- The reference's product of layer 0. -/
theorem first (b : Fin 2) (r : Fin 256) (c : Fin 1024) : Read.val_main_v17 (F := Ideal) M G W (ix3 b r c)
    = ∑ j : Fin 1024, Ffn.rms (fun j => M (ix3 b r j)) (fun j => G (ix2 0 j)) j * W (ix3 0 j c) := by
  open Read in
  pointwise [val_main_v0, val_main_v1, val_main_v2, val_main_cst, val_main_v3, val_main_v4, val_main_cst_0, val_main_v5,
    val_main_v6, val_main_cst_1, val_main_v7, val_main_v8, val_main_v9, val_main_v10, val_main_v11, val_main_v12,
    val_main_v13, val_main_v14, val_main_v15, val_main_v16, val_main_v17, Ffn.rms]

/-- The reference's product of layer 1. -/
theorem second (b : Fin 2) (r : Fin 256) (c : Fin 1024) : Read.val_main_v35 (F := Ideal) M G W (ix3 b r c)
    = ∑ j : Fin 1024, Ffn.rms (fun j => M (ix3 b r j)) (fun j => G (ix2 1 j)) j * W (ix3 1 j c) := by
  open Read in
  pointwise [val_main_v18, val_main_v19, val_main_v20, val_main_cst_2, val_main_v21, val_main_v22, val_main_cst_3, val_main_v23,
    val_main_v24, val_main_cst_4, val_main_v25, val_main_v26, val_main_v27, val_main_v28, val_main_v29, val_main_v30,
    val_main_v31, val_main_v32, val_main_v33, val_main_v34, val_main_v35, Ffn.rms]

/-- The reference's result. -/
theorem value_eq : Read.val_main_v39 (F := Ideal) M G W = Cert.Kernel7Ideal.Value.value M G W := by
  funext i
  obtain ⟨l, b, r, c, rfl⟩ : ∃ (l : Fin 2) (b : Fin 2) (r : Fin 256) (c : Fin 1024), i = ix4 l b r c :=
    ⟨i 0, i 1, i 2, i 3, by blk_ext⟩
  show _ = ∑ j : Fin 1024, Ffn.rms (fun j => M (ix3 b r j)) (fun j => G (ix2 l j)) j * W (ix3 l j c)
  open Read in
  pointwise [val_main_v36, val_main_v37, val_main_v38, val_main_v39]
  rw [first, second]
  match l with
  | ⟨0, _⟩ => rfl
  | ⟨1, _⟩ => rfl

end Cert.Reference7Ideal.Value

namespace Cert.Proof

/-- The call and the reference end with the same array. -/
theorem algebraic7 : Cert.algebraic_Kernel7Ideal_Reference7Ideal := by
  pair_intro
  · run_from Cert.Kernel7Ideal.Gen.run_main m g
  · run_from Cert.Reference7Ideal.Value.run m' g'
    rw [Cert.Kernel7Ideal.Value.final m c]
    obtain ⟨-, -, h2⟩ := hagree c
    refine (Cert.Reference7Ideal.Read.val_main_v39_eq _ _ _).trans ?_
    rw [h2]
    exact Cert.Reference7Ideal.Value.value_eq _ _ _

end Cert.Proof
-- ==== Proof.ProjSpec.lean ====
/-
  The projections of the sparse attention layer, as mathematics on one row of activations.

  A row is normalised and multiplied by a matrix. The kernel first rearranges the columns of that matrix (`prep`), so
  that what belongs together lies together, and fills 80 columns with zeros; the lemmas below say which column of the
  given matrix each column of the rearranged one is.
-/
module

public import proofs.«01_k».proof.Proof.FfnSpec
public import Idealize.ShloMosaic.Lib.Pipeline.ValueKit

@[expose] public section

set_option maxRecDepth 16384

noncomputable section

namespace Cert.Proj

open Idealize.ShloMosaic

/-- Column `k` of the projection of the normalised row. -/
def proj {n : ℕ} (x g : Fin 1024 → EReal) (W : Fin 1024 → Fin n → EReal) (k : Fin n) : EReal := ∑ j, Ffn.rms x g j * W j k

/-- The matrix with its columns rearranged: for the selected keys and values, and for the window's, the 64 columns of a
    group's keys are followed by the 64 columns of its values; columns 2608 to 2687 are zero. -/
def prep (W : Fin 1024 → Fin 3120 → EReal) (j : Fin 1024) (k : Fin 3200) : EReal :=
  if h : k.val < 1536 then W j ⟨k, by omega⟩
  else if h : k.val < 2560 then
    W j ⟨1536 + (k - 1536) / 512 * 512 + (k - 1536) / 64 % 2 * 256 + (k - 1536) % 512 / 128 * 64 + (k - 1536) % 64, by omega⟩
  else if h : k.val < 2608 then W j ⟨k, by omega⟩
  else if h : k.val < 2688 then 0
  else W j ⟨k - 80, by omega⟩

/-- The logistic function. -/
def sig (a : EReal) : EReal := Ideal.div 1 (1 + Ideal.exp (0 - a))

variable (x g : Fin 1024 → EReal) (W : Fin 1024 → Fin 3120 → EReal)

/-- The first 1536 columns stay where they are. -/
theorem proj_low (k : ℕ) (h : k < 1536) : proj x g (prep W) ⟨k, by omega⟩ = proj x g W ⟨k, by omega⟩ := by
  refine Finset.sum_congr rfl fun j _ => congrArg _ ?_
  unfold prep
  dsimp only
  rw [dif_pos h]

/-- The columns of keys (`p = 0`) and values (`p = 1`), of the selection (`w = 0`) and the window (`w = 1`). -/
theorem proj_mid (w p e d : ℕ) (hw : w < 2) (hp : p < 2) (he : e < 4) (hd : d < 64) :
    proj x g (prep W) ⟨1536 + 512 * w + 128 * e + 64 * p + d, by omega⟩
      = proj x g W ⟨1536 + 512 * w + 256 * p + 64 * e + d, by omega⟩ := by
  refine Finset.sum_congr rfl fun j _ => congrArg _ ?_
  unfold prep
  dsimp only
  rw [dif_neg (by omega), dif_pos (by show 1536 + 512 * w + 128 * e + 64 * p + d < 2560; omega)]
  refine congrArg (W j) (Fin.ext ?_)
  show 1536 + (1536 + 512 * w + 128 * e + 64 * p + d - 1536) / 512 * 512
    + (1536 + 512 * w + 128 * e + 64 * p + d - 1536) / 64 % 2 * 256
    + (1536 + 512 * w + 128 * e + 64 * p + d - 1536) % 512 / 128 * 64
    + (1536 + 512 * w + 128 * e + 64 * p + d - 1536) % 64 = 1536 + 512 * w + 256 * p + 64 * e + d
  omega

/-- The 48 columns of gates stay where they are. -/
theorem proj_gate (k : ℕ) (h : k < 48) : proj x g (prep W) ⟨2560 + k, by omega⟩ = proj x g W ⟨2560 + k, by omega⟩ := by
  refine Finset.sum_congr rfl fun j _ => congrArg _ ?_
  unfold prep
  dsimp only
  rw [dif_neg (by omega), dif_neg (by omega), dif_pos (by show 2560 + k < 2608; omega)]

/-- The 80 columns after them project to zero. -/
theorem proj_pad (k : ℕ) (h : 48 ≤ k) (h' : k < 128) : proj x g (prep W) ⟨2560 + k, by omega⟩ = 0 := by
  refine Finset.sum_eq_zero fun j _ => ?_
  unfold prep
  dsimp only
  rw [dif_neg (by omega), dif_neg (by omega), dif_neg (by omega), dif_pos (by show 2560 + k < 2688; omega), mul_zero]

/-- The last 512 columns move up by 80. -/
theorem proj_last (k : ℕ) (h : k < 512) : proj x g (prep W) ⟨2688 + k, by omega⟩ = proj x g W ⟨2608 + k, by omega⟩ := by
  refine Finset.sum_congr rfl fun j _ => congrArg _ ?_
  unfold prep
  dsimp only
  rw [dif_neg (by omega), dif_neg (by omega), dif_neg (by omega), dif_neg (by omega)]
  refine congrArg (W j) (Fin.ext ?_)
  show 2688 + k - 80 = 2608 + k
  omega

/-- The logistic function at zero. -/
theorem sig_zero : sig 0 = Ideal.ofBits .f32 0x3F000000#32 := by
  have he : Ideal.exp 0 = ((1 : ℝ) : EReal) := by
    show ((Real.exp 0 : ℝ) : EReal) = _
    rw [Real.exp_zero]
  have h2 : (1 : EReal) + ((1 : ℝ) : EReal) = ((2 : ℝ) : EReal) := by
    rw [← EReal.coe_one, ← EReal.coe_add]; norm_num
  have hb : Ideal.ofBits .f32 0x3F000000#32 = (((2 : ℝ)⁻¹ : ℝ) : EReal) := by
    simp [Ideal.ofBits, Ideal.ieee, -EReal.coe_mul]
    norm_num
  unfold sig
  rw [sub_zero, he, h2, hb]
  unfold Ideal.div
  rw [if_neg (by norm_num), one_mul]
  exact (EReal.coe_inv 2).symm

end Cert.Proj
-- ==== Proof.ProjBlock.lean ====
/-
  What one grid point of the projection call computes: the blocks of its eight results, entry by entry.

  `cols` is the projection of a row of the block with the weights as the body finds them. Each result is a stretch of
  its columns, stored in pieces; a lemma for each piece comes first.
-/
module

public import proofs.«01_k».proof.Proof.Gen.Kernel8Ideal.Value
public import proofs.«01_k».proof.Proof.ProjSpec
public import Idealize.ShloMosaic.Lib.Pipeline.ValueKit

@[expose] public section

set_option maxRecDepth 16384

noncomputable section

open Idealize.ShloMosaic Idealize.ShloMosaic.TcCoe Idealize.SL.Sem

namespace Cert.Kernel8Ideal.Value

open Cert.Kernel8Ideal Cert.Kernel8Ideal.Gen

/-- Row `r` of the activation block. -/
def xRow (x0 : Vec Ideal S1x512x1024 .f32) (r : Fin 512) : Fin 1024 → EReal := fun j => x0 (ix3 0 r j)
/-- The gain block as a row. -/
def gRow (x1 : Vec Ideal S1x1024 .f32) : Fin 1024 → EReal := fun j => x1 (ix2 0 j)
/-- The projection weights, rearranged. -/
def wMat (x2 : Vec Ideal S1024x3200 .bf16) : Fin 1024 → Fin 3200 → EReal := fun j k => x2 (ix2 j k)

/-- A choice between two values by a column number. -/
theorem pick_low (l : Fin 128) (a : EReal) :
    Scalar.select (IntOp.cmpi .slt (BitVec.ofNat 32 l) 64#32) a 0 = if l.val < 64 then a else 0 := by
  rw [show (64#32 : BitVec 32) = BitVec.ofNat 32 64 from rfl, WordCmp.cmpi_slt_ofNat (by omega) (by omega)]
  by_cases h : l.val < 64 <;> simp [h, Scalar.select]

variable (x0 : Vec Ideal S1x512x1024 .f32) (x1 : Vec Ideal S1x1024 .f32) (x2 : Vec Ideal S1024x3200 .bf16)

/-- Column `k` of the projection of row `r`. -/
def cols (r : Fin 512) (k : Fin 3200) : EReal := Proj.proj (xRow x0 r) (gRow x1) (wMat x2) k

/-- The scaled queries. -/
def queries (e : Fin 2) (k : Fin 1024) (r : Fin 256) : EReal :=
  cols x0 x1 x2 ⟨256 * e + r, by omega⟩ ⟨k, by omega⟩ * Ideal.ofBits .f32 0x3E38AA3B#32
/-- The rows for the compression. -/
def raw (p : Fin 4) (r : Fin 512) (l : Fin 128) : EReal := cols x0 x1 x2 r ⟨1024 + 128 * p + l, by omega⟩
/-- The keys, 64 columns of them and 64 of zeros. -/
def keys (w : Fin 2) (g : Fin 4) (r : Fin 512) (l : Fin 128) : EReal :=
  if l.val < 64 then cols x0 x1 x2 r ⟨1536 + 512 * w + 128 * g + l, by omega⟩ else 0
/-- The values turned around, under sixteen rows of ones. -/
def vals (w : Fin 2) (g : Fin 4) (e : Fin 2) (i : Fin 80) (r : Fin 256) : EReal :=
  if h : i.val < 16 then 1 else cols x0 x1 x2 ⟨256 * e + r, by omega⟩ ⟨1536 + 512 * w + 128 * g + 64 + (i - 16), by omega⟩
/-- The gates. -/
def gates (e : Fin 2) (k : Fin 128) (r : Fin 256) : EReal := Proj.sig (cols x0 x1 x2 ⟨256 * e + r, by omega⟩ ⟨2560 + k, by omega⟩)
/-- The queries for the memory. -/
def memq (r : Fin 512) (k : Fin 512) : EReal := cols x0 x1 x2 r ⟨2688 + k, by omega⟩

/-- The normalised block. -/
theorem norm (r : Fin 512) (j : Fin 1024) : k0_pay4 (View.ld x0 r0_0) (View.ld x1 r0_1) (ix2 r j) = Ffn.rms (xRow x0 r) (gRow x1) j := by
  pointwise [k0_pay4, Ffn.rms, xRow, gRow]

/-- All columns of queries, scaled. -/
theorem base_q (r : Fin 512) (k : Fin 1024) :
    k0_pay5 (View.ld x0 r0_0) (View.ld x1 r0_1) (View.ld x2 r0_2) (ix2 r k)
      = cols x0 x1 x2 r ⟨k, by omega⟩ * Ideal.ofBits .f32 0x3E38AA3B#32 := by
  pointwise [k0_pay5]
  simp only [norm]
  unfold cols Proj.proj wMat
  blk_point []

/-- All columns of gates. -/
theorem base_g (r : Fin 512) (k : Fin 128) :
    k0_pay53 x0 x1 x2 (ix2 r k) = Proj.sig (cols x0 x1 x2 r ⟨2560 + k, by omega⟩) := by
  pointwise [k0_pay53, k0_pay6]
  simp only [norm]
  unfold Proj.sig cols Proj.proj wMat
  blk_point []

/-- All columns of selected keys and values. -/
theorem base_s (r : Fin 512) (k : Fin 512) : k0_pay54 x0 x1 x2 (ix2 r k) = cols x0 x1 x2 r ⟨1536 + k, by omega⟩ := by
  pointwise [k0_pay54, k0_pay7]
  simp only [norm]
  unfold cols Proj.proj wMat
  blk_point []

/-- All columns of the window's keys and values. -/
theorem base_w (r : Fin 512) (k : Fin 512) : k0_pay55 x0 x1 x2 (ix2 r k) = cols x0 x1 x2 r ⟨2048 + k, by omega⟩ := by
  pointwise [k0_pay55, k0_pay13, k0_pay52]
  simp only [norm]
  unfold cols Proj.proj wMat
  blk_point []

/-- All columns for the compression. -/
theorem base_c (r : Fin 512) (k : Fin 512) : k0_pay56 x0 x1 x2 (ix2 r k) = cols x0 x1 x2 r ⟨1024 + k, by omega⟩ := by
  pointwise [k0_pay56, k0_pay14, k0_pay52]
  simp only [norm]
  unfold cols Proj.proj wMat
  blk_point []

theorem queries_0 (k : Fin 1024) (r : Fin 256) : k0_pay11 (k0_pay5 (View.ld x0 r0_0) (View.ld x1 r0_1) (View.ld x2 r0_2)) (ix4 0 0 k r) = queries x0 x1 x2 1 k r := by
  pointwise [k0_pay11]
  simp only [base_q]
  unfold queries
  blk_point []
  all_goals exact Fin.ext (by simp <;> omega)
theorem queries_1 (k : Fin 1024) (r : Fin 256) : k0_pay9 (k0_pay8 (View.ld x0 r0_0) (View.ld x1 r0_1) (View.ld x2 r0_2)) (ix4 0 0 k r) = queries x0 x1 x2 0 k r := by
  pointwise [k0_pay9, k0_pay8]
  simp only [base_q]
  unfold queries
  blk_point []
  all_goals exact Fin.ext (by simp <;> omega)

/-- The block of queries. -/
theorem queries_apply (e : Fin 2) (k : Fin 1024) (r : Fin 256) : out0_3 x0 x1 x2 (ix4 0 e k r) = queries x0 x1 x2 e k r := by
  unfold out0_3
  canon_tiles x h
  case piece0 =>
    obtain ⟨k', r', rfl⟩ : ∃ (k' : Fin 1024) (r' : Fin 256), x = ix4 0 0 k' r' := ⟨x 2, x 3, by blk_ext⟩
    obtain rfl : k = k' := Fin.ext h2
    obtain rfl : r = r' := Fin.ext h3
    obtain rfl : e = 1 := Fin.ext h1
    exact queries_0 x0 x1 x2 k r
  case piece1 =>
    obtain ⟨k', r', rfl⟩ : ∃ (k' : Fin 1024) (r' : Fin 256), x = ix4 0 0 k' r' := ⟨x 2, x 3, by blk_ext⟩
    obtain rfl : k = k' := Fin.ext h2
    obtain rfl : r = r' := Fin.ext h3
    obtain rfl : e = 0 := Fin.ext h1
    exact queries_1 x0 x1 x2 k r

theorem raw_0 (r : Fin 512) (l : Fin 128) : k0_pay18 (k0_pay56 x0 x1 x2) (ix4 0 0 r l) = raw x0 x1 x2 3 r l := by
  pointwise [k0_pay18]
  simp only [base_c]
  unfold raw
  blk_point []
  all_goals exact Fin.ext (by simp <;> omega)
theorem raw_1 (r : Fin 512) (l : Fin 128) : k0_pay17 (k0_pay56 x0 x1 x2) (ix4 0 0 r l) = raw x0 x1 x2 2 r l := by
  pointwise [k0_pay17]
  simp only [base_c]
  unfold raw
  blk_point []
  all_goals exact Fin.ext (by simp <;> omega)
theorem raw_2 (r : Fin 512) (l : Fin 128) : k0_pay16 (k0_pay56 x0 x1 x2) (ix4 0 0 r l) = raw x0 x1 x2 1 r l := by
  pointwise [k0_pay16]
  simp only [base_c]
  unfold raw
  blk_point []
  all_goals exact Fin.ext (by simp <;> omega)
theorem raw_3 (r : Fin 512) (l : Fin 128) : k0_pay15 (k0_pay52 x0 x1 x2) (View.ld x2 r0_10) (ix4 0 0 r l) = raw x0 x1 x2 0 r l := by
  pointwise [k0_pay15, k0_pay14, k0_pay52]
  simp only [norm]
  unfold raw cols Proj.proj wMat
  blk_point []

/-- The block of rows for the compression. -/
theorem raw_apply (g : Fin 4) (r : Fin 512) (l : Fin 128) : out0_4 x0 x1 x2 (ix4 0 g r l) = raw x0 x1 x2 g r l := by
  unfold out0_4
  canon_tiles x h
  case piece0 =>
    obtain ⟨r', l', rfl⟩ : ∃ (r' : Fin 512) (l' : Fin 128), x = ix4 0 0 r' l' := ⟨x 2, x 3, by blk_ext⟩
    obtain rfl : r = r' := Fin.ext h2
    obtain rfl : l = l' := Fin.ext h3
    obtain rfl : g = 3 := Fin.ext h1
    exact raw_0 x0 x1 x2 r l
  case piece1 =>
    obtain ⟨r', l', rfl⟩ : ∃ (r' : Fin 512) (l' : Fin 128), x = ix4 0 0 r' l' := ⟨x 2, x 3, by blk_ext⟩
    obtain rfl : r = r' := Fin.ext h2
    obtain rfl : l = l' := Fin.ext h3
    obtain rfl : g = 2 := Fin.ext h1
    exact raw_1 x0 x1 x2 r l
  case piece2 =>
    obtain ⟨r', l', rfl⟩ : ∃ (r' : Fin 512) (l' : Fin 128), x = ix4 0 0 r' l' := ⟨x 2, x 3, by blk_ext⟩
    obtain rfl : r = r' := Fin.ext h2
    obtain rfl : l = l' := Fin.ext h3
    obtain rfl : g = 1 := Fin.ext h1
    exact raw_2 x0 x1 x2 r l
  case piece3 =>
    obtain ⟨r', l', rfl⟩ : ∃ (r' : Fin 512) (l' : Fin 128), x = ix4 0 0 r' l' := ⟨x 2, x 3, by blk_ext⟩
    obtain rfl : r = r' := Fin.ext h2
    obtain rfl : l = l' := Fin.ext h3
    obtain rfl : g = 0 := Fin.ext h1
    exact raw_3 x0 x1 x2 r l

theorem skeys_0 (r : Fin 512) (l : Fin 128) : k0_pay48 (k0_pay54 x0 x1 x2) (k0_pay57 x0 x1 x2) (ix4 0 0 r l) = keys x0 x1 x2 0 3 r l := by
  pointwise [k0_pay48, k0_pay57, k0_pay46, k0_pay20]
  rw [pick_low]
  simp only [base_s]
  unfold keys
  blk_point []
  all_goals exact Fin.ext (by simp <;> omega)
theorem skeys_1 (r : Fin 512) (l : Fin 128) : k0_pay40 (k0_pay54 x0 x1 x2) (k0_pay57 x0 x1 x2) (ix4 0 0 r l) = keys x0 x1 x2 0 2 r l := by
  pointwise [k0_pay40, k0_pay57, k0_pay38, k0_pay20]
  rw [pick_low]
  simp only [base_s]
  unfold keys
  blk_point []
  all_goals exact Fin.ext (by simp <;> omega)
theorem skeys_2 (r : Fin 512) (l : Fin 128) : k0_pay31 (k0_pay54 x0 x1 x2) (k0_pay57 x0 x1 x2) (ix4 0 0 r l) = keys x0 x1 x2 0 1 r l := by
  pointwise [k0_pay31, k0_pay57, k0_pay29, k0_pay20]
  rw [pick_low]
  simp only [base_s]
  unfold keys
  blk_point []
  all_goals exact Fin.ext (by simp <;> omega)
theorem skeys_3 (r : Fin 512) (l : Fin 128) : k0_pay23 (k0_pay54 x0 x1 x2) (ix4 0 0 r l) = keys x0 x1 x2 0 0 r l := by
  pointwise [k0_pay23, k0_pay20, k0_pay21]
  rw [pick_low]
  simp only [base_s]
  unfold keys
  blk_point []
  all_goals exact Fin.ext (by simp <;> omega)

/-- The block of selected keys. -/
theorem skeys_apply (g : Fin 4) (r : Fin 512) (l : Fin 128) : out0_5 x0 x1 x2 (ix4 0 g r l) = keys x0 x1 x2 0 g r l := by
  unfold out0_5
  canon_tiles x h
  case piece0 =>
    obtain ⟨r', l', rfl⟩ : ∃ (r' : Fin 512) (l' : Fin 128), x = ix4 0 0 r' l' := ⟨x 2, x 3, by blk_ext⟩
    obtain rfl : r = r' := Fin.ext h2
    obtain rfl : l = l' := Fin.ext h3
    obtain rfl : g = 3 := Fin.ext h1
    exact skeys_0 x0 x1 x2 r l
  case piece1 =>
    obtain ⟨r', l', rfl⟩ : ∃ (r' : Fin 512) (l' : Fin 128), x = ix4 0 0 r' l' := ⟨x 2, x 3, by blk_ext⟩
    obtain rfl : r = r' := Fin.ext h2
    obtain rfl : l = l' := Fin.ext h3
    obtain rfl : g = 2 := Fin.ext h1
    exact skeys_1 x0 x1 x2 r l
  case piece2 =>
    obtain ⟨r', l', rfl⟩ : ∃ (r' : Fin 512) (l' : Fin 128), x = ix4 0 0 r' l' := ⟨x 2, x 3, by blk_ext⟩
    obtain rfl : r = r' := Fin.ext h2
    obtain rfl : l = l' := Fin.ext h3
    obtain rfl : g = 1 := Fin.ext h1
    exact skeys_2 x0 x1 x2 r l
  case piece3 =>
    obtain ⟨r', l', rfl⟩ : ∃ (r' : Fin 512) (l' : Fin 128), x = ix4 0 0 r' l' := ⟨x 2, x 3, by blk_ext⟩
    obtain rfl : r = r' := Fin.ext h2
    obtain rfl : l = l' := Fin.ext h3
    obtain rfl : g = 0 := Fin.ext h1
    exact skeys_3 x0 x1 x2 r l

theorem wkeys_0 (r : Fin 512) (l : Fin 128) : k0_pay49 (k0_pay55 x0 x1 x2) (k0_pay57 x0 x1 x2) (ix4 0 0 r l) = keys x0 x1 x2 1 3 r l := by
  pointwise [k0_pay49, k0_pay57, k0_pay47, k0_pay20]
  rw [pick_low]
  simp only [base_w]
  unfold keys
  blk_point []
  all_goals exact Fin.ext (by simp <;> omega)
theorem wkeys_1 (r : Fin 512) (l : Fin 128) : k0_pay41 (k0_pay57 x0 x1 x2) (k0_pay61 x0 x1 x2) (ix4 0 0 r l) = keys x0 x1 x2 1 2 r l := by
  pointwise [k0_pay41, k0_pay57, k0_pay61, k0_pay20, k0_pay39]
  rw [pick_low]
  simp only [base_w]
  unfold keys
  blk_point []
  all_goals exact Fin.ext (by simp <;> omega)
theorem wkeys_2 (r : Fin 512) (l : Fin 128) : k0_pay32 (k0_pay55 x0 x1 x2) (k0_pay57 x0 x1 x2) (ix4 0 0 r l) = keys x0 x1 x2 1 1 r l := by
  pointwise [k0_pay32, k0_pay57, k0_pay30, k0_pay20]
  rw [pick_low]
  simp only [base_w]
  unfold keys
  blk_point []
  all_goals exact Fin.ext (by simp <;> omega)
theorem wkeys_3 (r : Fin 512) (l : Fin 128) : k0_pay24 (k0_pay57 x0 x1 x2) (k0_pay59 x0 x1 x2) (ix4 0 0 r l) = keys x0 x1 x2 1 0 r l := by
  pointwise [k0_pay24, k0_pay57, k0_pay59, k0_pay20, k0_pay22]
  rw [pick_low]
  simp only [base_w]
  unfold keys
  blk_point []
  all_goals exact Fin.ext (by simp <;> omega)

/-- The block of the window's keys. -/
theorem wkeys_apply (g : Fin 4) (r : Fin 512) (l : Fin 128) : out0_7 x0 x1 x2 (ix4 0 g r l) = keys x0 x1 x2 1 g r l := by
  unfold out0_7
  canon_tiles x h
  case piece0 =>
    obtain ⟨r', l', rfl⟩ : ∃ (r' : Fin 512) (l' : Fin 128), x = ix4 0 0 r' l' := ⟨x 2, x 3, by blk_ext⟩
    obtain rfl : r = r' := Fin.ext h2
    obtain rfl : l = l' := Fin.ext h3
    obtain rfl : g = 3 := Fin.ext h1
    exact wkeys_0 x0 x1 x2 r l
  case piece1 =>
    obtain ⟨r', l', rfl⟩ : ∃ (r' : Fin 512) (l' : Fin 128), x = ix4 0 0 r' l' := ⟨x 2, x 3, by blk_ext⟩
    obtain rfl : r = r' := Fin.ext h2
    obtain rfl : l = l' := Fin.ext h3
    obtain rfl : g = 2 := Fin.ext h1
    exact wkeys_1 x0 x1 x2 r l
  case piece2 =>
    obtain ⟨r', l', rfl⟩ : ∃ (r' : Fin 512) (l' : Fin 128), x = ix4 0 0 r' l' := ⟨x 2, x 3, by blk_ext⟩
    obtain rfl : r = r' := Fin.ext h2
    obtain rfl : l = l' := Fin.ext h3
    obtain rfl : g = 1 := Fin.ext h1
    exact wkeys_2 x0 x1 x2 r l
  case piece3 =>
    obtain ⟨r', l', rfl⟩ : ∃ (r' : Fin 512) (l' : Fin 128), x = ix4 0 0 r' l' := ⟨x 2, x 3, by blk_ext⟩
    obtain rfl : r = r' := Fin.ext h2
    obtain rfl : l = l' := Fin.ext h3
    obtain rfl : g = 0 := Fin.ext h1
    exact wkeys_3 x0 x1 x2 r l

theorem svals_0 (i : Fin 80) (r : Fin 256) : k0_pay2 (k0_pay46 (k0_pay54 x0 x1 x2)) (ix5 0 0 0 i r) = vals x0 x1 x2 0 3 1 i r := by
  pointwise [k0_pay2, k0_pay46]
  simp only [base_s]
  unfold vals
  blk_point []
  all_goals exact Fin.ext (by simp <;> omega)
theorem svals_1 (i : Fin 80) (r : Fin 256) : k0_pay50 (k0_pay54 x0 x1 x2) (ix5 0 0 0 i r) = vals x0 x1 x2 0 3 0 i r := by
  pointwise [k0_pay50, k0_pay46]
  simp only [base_s]
  unfold vals
  blk_point []
  all_goals exact Fin.ext (by simp <;> omega)
theorem svals_2 (i : Fin 80) (r : Fin 256) : k0_pay44 (k0_pay60 x0 x1 x2) (ix5 0 0 0 i r) = vals x0 x1 x2 0 2 1 i r := by
  pointwise [k0_pay44, k0_pay60, k0_pay38]
  simp only [base_s]
  unfold vals
  blk_point []
  all_goals exact Fin.ext (by simp <;> omega)
theorem svals_3 (i : Fin 80) (r : Fin 256) : k0_pay42 (k0_pay60 x0 x1 x2) (ix5 0 0 0 i r) = vals x0 x1 x2 0 2 0 i r := by
  pointwise [k0_pay42, k0_pay60, k0_pay38]
  simp only [base_s]
  unfold vals
  blk_point []
  all_goals exact Fin.ext (by simp <;> omega)
theorem svals_4 (i : Fin 80) (r : Fin 256) : k0_pay36 (k0_pay29 (k0_pay54 x0 x1 x2)) (ix5 0 0 0 i r) = vals x0 x1 x2 0 1 1 i r := by
  pointwise [k0_pay36, k0_pay29]
  simp only [base_s]
  unfold vals
  blk_point []
  all_goals exact Fin.ext (by simp <;> omega)
theorem svals_5 (i : Fin 80) (r : Fin 256) : k0_pay33 (k0_pay54 x0 x1 x2) (ix5 0 0 0 i r) = vals x0 x1 x2 0 1 0 i r := by
  pointwise [k0_pay33, k0_pay29]
  simp only [base_s]
  unfold vals
  blk_point []
  all_goals exact Fin.ext (by simp <;> omega)
theorem svals_6 (i : Fin 80) (r : Fin 256) : k0_pay27 (k0_pay58 x0 x1 x2) (ix5 0 0 0 i r) = vals x0 x1 x2 0 0 1 i r := by
  pointwise [k0_pay27, k0_pay58, k0_pay21]
  simp only [base_s]
  unfold vals
  blk_point []
  all_goals exact Fin.ext (by simp <;> omega)
theorem svals_7 (i : Fin 80) (r : Fin 256) : k0_pay25 (k0_pay58 x0 x1 x2) (ix5 0 0 0 i r) = vals x0 x1 x2 0 0 0 i r := by
  pointwise [k0_pay25, k0_pay58, k0_pay21]
  simp only [base_s]
  unfold vals
  blk_point []
  all_goals exact Fin.ext (by simp <;> omega)

/-- The block of selected values. -/
theorem svals_apply (g : Fin 4) (e : Fin 2) (i : Fin 80) (r : Fin 256) : out0_6 x0 x1 x2 (ix5 0 g e i r) = vals x0 x1 x2 0 g e i r := by
  unfold out0_6
  canon_tiles x h
  case piece0 =>
    obtain ⟨i', r', rfl⟩ : ∃ (i' : Fin 80) (r' : Fin 256), x = ix5 0 0 0 i' r' := ⟨x 3, x 4, by blk_ext⟩
    obtain rfl : i = i' := Fin.ext h3
    obtain rfl : r = r' := Fin.ext h4
    obtain rfl : g = 3 := Fin.ext h1
    obtain rfl : e = 1 := Fin.ext h2
    exact svals_0 x0 x1 x2 i r
  case piece1 =>
    obtain ⟨i', r', rfl⟩ : ∃ (i' : Fin 80) (r' : Fin 256), x = ix5 0 0 0 i' r' := ⟨x 3, x 4, by blk_ext⟩
    obtain rfl : i = i' := Fin.ext h3
    obtain rfl : r = r' := Fin.ext h4
    obtain rfl : g = 3 := Fin.ext h1
    obtain rfl : e = 0 := Fin.ext h2
    exact svals_1 x0 x1 x2 i r
  case piece2 =>
    obtain ⟨i', r', rfl⟩ : ∃ (i' : Fin 80) (r' : Fin 256), x = ix5 0 0 0 i' r' := ⟨x 3, x 4, by blk_ext⟩
    obtain rfl : i = i' := Fin.ext h3
    obtain rfl : r = r' := Fin.ext h4
    obtain rfl : g = 2 := Fin.ext h1
    obtain rfl : e = 1 := Fin.ext h2
    exact svals_2 x0 x1 x2 i r
  case piece3 =>
    obtain ⟨i', r', rfl⟩ : ∃ (i' : Fin 80) (r' : Fin 256), x = ix5 0 0 0 i' r' := ⟨x 3, x 4, by blk_ext⟩
    obtain rfl : i = i' := Fin.ext h3
    obtain rfl : r = r' := Fin.ext h4
    obtain rfl : g = 2 := Fin.ext h1
    obtain rfl : e = 0 := Fin.ext h2
    exact svals_3 x0 x1 x2 i r
  case piece4 =>
    obtain ⟨i', r', rfl⟩ : ∃ (i' : Fin 80) (r' : Fin 256), x = ix5 0 0 0 i' r' := ⟨x 3, x 4, by blk_ext⟩
    obtain rfl : i = i' := Fin.ext h3
    obtain rfl : r = r' := Fin.ext h4
    obtain rfl : g = 1 := Fin.ext h1
    obtain rfl : e = 1 := Fin.ext h2
    exact svals_4 x0 x1 x2 i r
  case piece5 =>
    obtain ⟨i', r', rfl⟩ : ∃ (i' : Fin 80) (r' : Fin 256), x = ix5 0 0 0 i' r' := ⟨x 3, x 4, by blk_ext⟩
    obtain rfl : i = i' := Fin.ext h3
    obtain rfl : r = r' := Fin.ext h4
    obtain rfl : g = 1 := Fin.ext h1
    obtain rfl : e = 0 := Fin.ext h2
    exact svals_5 x0 x1 x2 i r
  case piece6 =>
    obtain ⟨i', r', rfl⟩ : ∃ (i' : Fin 80) (r' : Fin 256), x = ix5 0 0 0 i' r' := ⟨x 3, x 4, by blk_ext⟩
    obtain rfl : i = i' := Fin.ext h3
    obtain rfl : r = r' := Fin.ext h4
    obtain rfl : g = 0 := Fin.ext h1
    obtain rfl : e = 1 := Fin.ext h2
    exact svals_6 x0 x1 x2 i r
  case piece7 =>
    obtain ⟨i', r', rfl⟩ : ∃ (i' : Fin 80) (r' : Fin 256), x = ix5 0 0 0 i' r' := ⟨x 3, x 4, by blk_ext⟩
    obtain rfl : i = i' := Fin.ext h3
    obtain rfl : r = r' := Fin.ext h4
    obtain rfl : g = 0 := Fin.ext h1
    obtain rfl : e = 0 := Fin.ext h2
    exact svals_7 x0 x1 x2 i r

theorem wvals_0 (i : Fin 80) (r : Fin 256) : k0_pay3 (k0_pay47 (k0_pay55 x0 x1 x2)) (ix5 0 0 0 i r) = vals x0 x1 x2 1 3 1 i r := by
  pointwise [k0_pay3, k0_pay47]
  simp only [base_w]
  unfold vals
  blk_point []
  all_goals exact Fin.ext (by simp <;> omega)
theorem wvals_1 (i : Fin 80) (r : Fin 256) : k0_pay1 (k0_pay51 (k0_pay55 x0 x1 x2)) (ix5 0 0 0 i r) = vals x0 x1 x2 1 3 0 i r := by
  pointwise [k0_pay1, k0_pay51, k0_pay47]
  simp only [base_w]
  unfold vals
  blk_point []
  all_goals exact Fin.ext (by simp <;> omega)
theorem wvals_2 (i : Fin 80) (r : Fin 256) : k0_pay45 (k0_pay61 x0 x1 x2) (ix5 0 0 0 i r) = vals x0 x1 x2 1 2 1 i r := by
  pointwise [k0_pay45, k0_pay61, k0_pay39]
  simp only [base_w]
  unfold vals
  blk_point []
  all_goals exact Fin.ext (by simp <;> omega)
theorem wvals_3 (i : Fin 80) (r : Fin 256) : k0_pay43 (k0_pay61 x0 x1 x2) (ix5 0 0 0 i r) = vals x0 x1 x2 1 2 0 i r := by
  pointwise [k0_pay43, k0_pay61, k0_pay39]
  simp only [base_w]
  unfold vals
  blk_point []
  all_goals exact Fin.ext (by simp <;> omega)
theorem wvals_4 (i : Fin 80) (r : Fin 256) : k0_pay37 (k0_pay30 (k0_pay55 x0 x1 x2)) (ix5 0 0 0 i r) = vals x0 x1 x2 1 1 1 i r := by
  pointwise [k0_pay37, k0_pay30]
  simp only [base_w]
  unfold vals
  blk_point []
  all_goals exact Fin.ext (by simp <;> omega)
theorem wvals_5 (i : Fin 80) (r : Fin 256) : k0_pay35 (k0_pay34 (k0_pay55 x0 x1 x2)) (ix5 0 0 0 i r) = vals x0 x1 x2 1 1 0 i r := by
  pointwise [k0_pay35, k0_pay34, k0_pay30]
  simp only [base_w]
  unfold vals
  blk_point []
  all_goals exact Fin.ext (by simp <;> omega)
theorem wvals_6 (i : Fin 80) (r : Fin 256) : k0_pay28 (k0_pay59 x0 x1 x2) (ix5 0 0 0 i r) = vals x0 x1 x2 1 0 1 i r := by
  pointwise [k0_pay28, k0_pay59, k0_pay22]
  simp only [base_w]
  unfold vals
  blk_point []
  all_goals exact Fin.ext (by simp <;> omega)
theorem wvals_7 (i : Fin 80) (r : Fin 256) : k0_pay26 (k0_pay59 x0 x1 x2) (ix5 0 0 0 i r) = vals x0 x1 x2 1 0 0 i r := by
  pointwise [k0_pay26, k0_pay59, k0_pay22]
  simp only [base_w]
  unfold vals
  blk_point []
  all_goals exact Fin.ext (by simp <;> omega)

/-- The block of the window's values. -/
theorem wvals_apply (g : Fin 4) (e : Fin 2) (i : Fin 80) (r : Fin 256) : out0_8 x0 x1 x2 (ix5 0 g e i r) = vals x0 x1 x2 1 g e i r := by
  unfold out0_8
  canon_tiles x h
  case piece0 =>
    obtain ⟨i', r', rfl⟩ : ∃ (i' : Fin 80) (r' : Fin 256), x = ix5 0 0 0 i' r' := ⟨x 3, x 4, by blk_ext⟩
    obtain rfl : i = i' := Fin.ext h3
    obtain rfl : r = r' := Fin.ext h4
    obtain rfl : g = 3 := Fin.ext h1
    obtain rfl : e = 1 := Fin.ext h2
    exact wvals_0 x0 x1 x2 i r
  case piece1 =>
    obtain ⟨i', r', rfl⟩ : ∃ (i' : Fin 80) (r' : Fin 256), x = ix5 0 0 0 i' r' := ⟨x 3, x 4, by blk_ext⟩
    obtain rfl : i = i' := Fin.ext h3
    obtain rfl : r = r' := Fin.ext h4
    obtain rfl : g = 3 := Fin.ext h1
    obtain rfl : e = 0 := Fin.ext h2
    exact wvals_1 x0 x1 x2 i r
  case piece2 =>
    obtain ⟨i', r', rfl⟩ : ∃ (i' : Fin 80) (r' : Fin 256), x = ix5 0 0 0 i' r' := ⟨x 3, x 4, by blk_ext⟩
    obtain rfl : i = i' := Fin.ext h3
    obtain rfl : r = r' := Fin.ext h4
    obtain rfl : g = 2 := Fin.ext h1
    obtain rfl : e = 1 := Fin.ext h2
    exact wvals_2 x0 x1 x2 i r
  case piece3 =>
    obtain ⟨i', r', rfl⟩ : ∃ (i' : Fin 80) (r' : Fin 256), x = ix5 0 0 0 i' r' := ⟨x 3, x 4, by blk_ext⟩
    obtain rfl : i = i' := Fin.ext h3
    obtain rfl : r = r' := Fin.ext h4
    obtain rfl : g = 2 := Fin.ext h1
    obtain rfl : e = 0 := Fin.ext h2
    exact wvals_3 x0 x1 x2 i r
  case piece4 =>
    obtain ⟨i', r', rfl⟩ : ∃ (i' : Fin 80) (r' : Fin 256), x = ix5 0 0 0 i' r' := ⟨x 3, x 4, by blk_ext⟩
    obtain rfl : i = i' := Fin.ext h3
    obtain rfl : r = r' := Fin.ext h4
    obtain rfl : g = 1 := Fin.ext h1
    obtain rfl : e = 1 := Fin.ext h2
    exact wvals_4 x0 x1 x2 i r
  case piece5 =>
    obtain ⟨i', r', rfl⟩ : ∃ (i' : Fin 80) (r' : Fin 256), x = ix5 0 0 0 i' r' := ⟨x 3, x 4, by blk_ext⟩
    obtain rfl : i = i' := Fin.ext h3
    obtain rfl : r = r' := Fin.ext h4
    obtain rfl : g = 1 := Fin.ext h1
    obtain rfl : e = 0 := Fin.ext h2
    exact wvals_5 x0 x1 x2 i r
  case piece6 =>
    obtain ⟨i', r', rfl⟩ : ∃ (i' : Fin 80) (r' : Fin 256), x = ix5 0 0 0 i' r' := ⟨x 3, x 4, by blk_ext⟩
    obtain rfl : i = i' := Fin.ext h3
    obtain rfl : r = r' := Fin.ext h4
    obtain rfl : g = 0 := Fin.ext h1
    obtain rfl : e = 1 := Fin.ext h2
    exact wvals_6 x0 x1 x2 i r
  case piece7 =>
    obtain ⟨i', r', rfl⟩ : ∃ (i' : Fin 80) (r' : Fin 256), x = ix5 0 0 0 i' r' := ⟨x 3, x 4, by blk_ext⟩
    obtain rfl : i = i' := Fin.ext h3
    obtain rfl : r = r' := Fin.ext h4
    obtain rfl : g = 0 := Fin.ext h1
    obtain rfl : e = 0 := Fin.ext h2
    exact wvals_7 x0 x1 x2 i r

theorem gates_0 (k : Fin 128) (r : Fin 256) : k0_pay12 (k0_pay53 x0 x1 x2) (ix4 0 0 k r) = gates x0 x1 x2 1 k r := by
  pointwise [k0_pay12]
  simp only [base_g]
  unfold gates
  blk_point []
  all_goals exact Fin.ext (by simp <;> omega)
theorem gates_1 (k : Fin 128) (r : Fin 256) : k0_pay10 (k0_pay53 x0 x1 x2) (ix4 0 0 k r) = gates x0 x1 x2 0 k r := by
  pointwise [k0_pay10]
  simp only [base_g]
  unfold gates
  blk_point []
  all_goals exact Fin.ext (by simp <;> omega)

/-- The block of gates. -/
theorem gates_apply (e : Fin 2) (k : Fin 128) (r : Fin 256) : out0_9 x0 x1 x2 (ix4 0 e k r) = gates x0 x1 x2 e k r := by
  unfold out0_9
  canon_tiles x h
  case piece0 =>
    obtain ⟨k', r', rfl⟩ : ∃ (k' : Fin 128) (r' : Fin 256), x = ix4 0 0 k' r' := ⟨x 2, x 3, by blk_ext⟩
    obtain rfl : k = k' := Fin.ext h2
    obtain rfl : r = r' := Fin.ext h3
    obtain rfl : e = 1 := Fin.ext h1
    exact gates_0 x0 x1 x2 k r
  case piece1 =>
    obtain ⟨k', r', rfl⟩ : ∃ (k' : Fin 128) (r' : Fin 256), x = ix4 0 0 k' r' := ⟨x 2, x 3, by blk_ext⟩
    obtain rfl : k = k' := Fin.ext h2
    obtain rfl : r = r' := Fin.ext h3
    obtain rfl : e = 0 := Fin.ext h1
    exact gates_1 x0 x1 x2 k r

/-- The block of queries for the memory. -/
theorem memq_apply (r : Fin 512) (k : Fin 512) : out0_10 x0 x1 x2 (ix3 0 r k) = memq x0 x1 x2 r k := by
  unfold out0_10
  rw [View.canon_unit_zero (show (![0, 0, 0] : Fin 3 → ℕ) = fun _ => 0 by funext a; fin_cases a <;> rfl)]
  pointwise [k0_pay19, k0_pay52]
  simp only [norm]
  unfold memq cols Proj.proj wMat
  blk_point []

end Cert.Kernel8Ideal.Value
-- ==== Proof.ProjKernel.lean ====
/-
  The projection call: its eight result arrays as functions of its arguments.

  `rearranged` is the matrix that the program prepares for the call; its columns are those of `Proj.prep`.
-/
module

public import proofs.«01_k».proof.Proof.ProjBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen

variable (m : (ℓ : Loc nD τ sig) → Buf (Elt Ideal) ℓ)

/-- The index maps of the windows: point `t` is batch row `t / 16` and token block `t % 16`. -/
theorem idx : ∀ t : Fin cfg0.N, win0_0.index t = ![t.val / 16, t.val % 16, 0]
    ∧ win0_1.index t = ![0, 0] ∧ win0_2.index t = ![0, 0]
    ∧ win0_3.index t = ![t.val / 16, t.val % 16, 0, 0] ∧ win0_4.index t = ![t.val / 16, 0, t.val % 16, 0]
    ∧ win0_5.index t = ![t.val / 16, 0, t.val % 16, 0] ∧ win0_6.index t = ![t.val / 16, 0, t.val % 16, 0, 0]
    ∧ win0_7.index t = ![t.val / 16, 0, t.val % 16, 0] ∧ win0_8.index t = ![t.val / 16, 0, t.val % 16, 0, 0]
    ∧ win0_9.index t = ![t.val / 16, t.val % 16, 0, 0] ∧ win0_10.index t = ![t.val / 16, t.val % 16, 0] :=
  (by decide +kernel : ∀ t : Fin grid0.N, _)

/-! ## The prepared matrix -/

/-- The six stretches of 256 columns from column 1024 on, each as four groups of 64. -/
def heads (W : FVec Ideal S1x1024x3120 .f32) : FVec Ideal S1024x6x4x64 .f32 :=
  shapeCast S1024x6x4x64 (extractStridedSlice S1024x1536 ![0, 1024]
    (shapeCast S1024x3120 W shapeCasts_S1x1024x3120_S1024x3120) slices_S1024x3120_S1024x1536_0_1024)
    shapeCasts_S1024x1536_S1024x6x4x64

/-- The first two stretches. -/
def forCompression (W : FVec Ideal S1x1024x3120 .f32) : FVec Ideal S1024x512 .f32 :=
  shapeCast S1024x512 (extractStridedSlice S1024x2x4x64 ![0, 0, 0, 0] (heads W) slices_S1024x6x4x64_S1024x2x4x64_0_0_0_0)
    shapeCasts_S1024x2x4x64_S1024x512

/-- Two arrays of groups interleaved. -/
def interleave (a b : FVec Ideal S1024x1x4x64 .f32) : FVec Ideal S1024x512 .f32 :=
  shapeCast S1024x512 (concatenate S1024x4x2x64 2
    [⟨S1024x4x1x64, broadcastInDim S1024x4x1x64 ![0, 1, 3] bcast_S1024x4x64_S1024x4x1x64_0_1_3
        (shapeCast S1024x4x64 a shapeCasts_S1024x1x4x64_S1024x4x64)⟩,
      ⟨S1024x4x1x64, broadcastInDim S1024x4x1x64 ![0, 1, 3] bcast_S1024x4x64_S1024x4x1x64_0_1_3
        (shapeCast S1024x4x64 b shapeCasts_S1024x1x4x64_S1024x4x64)⟩]
    concatenates_S1024x4x1x64_S1024x4x1x64_S1024x4x2x64_d2) shapeCasts_S1024x4x2x64_S1024x512

/-- The third and the fourth stretch interleaved. -/
def selected (W : FVec Ideal S1x1024x3120 .f32) : FVec Ideal S1024x512 .f32 :=
  interleave (extractStridedSlice S1024x1x4x64 ![0, 2, 0, 0] (heads W) slices_S1024x6x4x64_S1024x1x4x64_0_2_0_0)
    (extractStridedSlice S1024x1x4x64 ![0, 3, 0, 0] (heads W) slices_S1024x6x4x64_S1024x1x4x64_0_3_0_0)

/-- The fifth and the sixth stretch interleaved. -/
def windowed (W : FVec Ideal S1x1024x3120 .f32) : FVec Ideal S1024x512 .f32 :=
  interleave (extractStridedSlice S1024x1x4x64 ![0, 4, 0, 0] (heads W) slices_S1024x6x4x64_S1024x1x4x64_0_4_0_0)
    (extractStridedSlice S1024x1x4x64 ![0, 5, 0, 0] (heads W) slices_S1024x6x4x64_S1024x1x4x64_0_5_0_0)

/-- The columns of the gates, filled up with zeros. -/
def gateCols (W : FVec Ideal S1x1024x3120 .f32) : FVec Ideal S1024x128 .f32 :=
  pad S1024x128 ![0, 0] ![0, 80] ![0, 0] (extractStridedSlice S1024x48 ![0, 2560]
    (shapeCast S1024x3120 W shapeCasts_S1x1024x3120_S1024x3120) slices_S1024x3120_S1024x48_0_2560)
    (sitofp (F := Ideal) .f32 (constantI S_ 32 0#32)) pads_S1024x48_S1024x128_000_0800 h_S_

/-- The matrix the call is handed. -/
def rearranged (W : FVec Ideal S1x1024x3120 .f32) : FVec Ideal S1024x3200 .bf16 :=
  truncf (F := Ideal) .bf16 (concatenate S1024x3200 1
    [⟨S1024x1024, extractStridedSlice S1024x1024 ![0, 0] (shapeCast S1024x3120 W shapeCasts_S1x1024x3120_S1024x3120)
        slices_S1024x3120_S1024x1024_0_0⟩,
      ⟨S1024x512, forCompression W⟩, ⟨S1024x512, selected W⟩, ⟨S1024x512, windowed W⟩, ⟨S1024x128, gateCols W⟩,
      ⟨S1024x512, extractStridedSlice S1024x512 ![0, 2608] (shapeCast S1024x3120 W shapeCasts_S1x1024x3120_S1024x3120)
        slices_S1024x3120_S1024x512_0_2608⟩]
    concatenates_S1024x1024_S1024x512_S1024x512_S1024x512_S1024x128_S1024x512_S1024x3200_d1) bitsLt_bf16_f32

variable (c : Dev nD) (t : Fin cfg0.N)

/-- The arrays the call is run on. -/
abbrev argX : FVec Ideal S2x8192x1024 .f32 := m ((c : Thread nD τ).loc main_arg0)
abbrev argG : FVec Ideal S2x1024 .f32 := m ((c : Thread nD τ).loc main_arg1)
abbrev argW : FVec Ideal S1x1024x3120 .f32 := m ((c : Thread nD τ).loc main_arg2)

section Entry

variable (σ : (b : DevRef τ sig) → b.ty.Contents (Elt Ideal))

/-- The last operations put the six stretches together. -/
theorem host_last : StableHlo.after hostOps0_2 σ main_v28
    = truncf (F := Ideal) .bf16 (concatenate S1024x3200 1
        [⟨S1024x1024, σ main_v3⟩, ⟨S1024x512, σ main_v7⟩, ⟨S1024x512, σ main_v15⟩, ⟨S1024x512, σ main_v23⟩,
          ⟨S1024x128, σ main_v25⟩,
          ⟨S1024x512, extractStridedSlice S1024x512 ![0, 2608] (σ main_v2) slices_S1024x3120_S1024x512_0_2608⟩]
        concatenates_S1024x1024_S1024x512_S1024x512_S1024x512_S1024x128_S1024x512_S1024x3200_d1) bitsLt_bf16_f32 := rfl

/-- The operations before them fill up the gates. -/
theorem host_pad : StableHlo.after hostOps0_1 σ main_v25
    = pad S1024x128 ![0, 0] ![0, 80] ![0, 0] (σ main_v24 : FVec Ideal S1024x48 .f32)
      (sitofp (F := Ideal) .f32 (σ main_c : IVec S_ 32)) pads_S1024x48_S1024x128_000_0800 h_S_ := rfl

/-- They leave everything else. -/
theorem host_keep (r : Ref sig .tc) (h : r ∉ [main_call0_v0, main_v25]) : StableHlo.after hostOps0_1 σ r = σ r :=
  StableHlo.after_of_writes_sub (W := [main_call0_v0, main_v25]) _ _ (StableHlo.forall_writes_sub_of_map rfl) h

/-- What the first operations make of the matrix. -/
theorem host_0 : StableHlo.after hostOps0 σ main_v2
    = shapeCast S1024x3120 (σ main_arg2 : FVec Ideal S1x1024x3120 .f32) shapeCasts_S1x1024x3120_S1024x3120 := rfl
theorem host_1 : StableHlo.after hostOps0 σ main_v3 = extractStridedSlice S1024x1024 ![0, 0]
    (shapeCast S1024x3120 (σ main_arg2 : FVec Ideal S1x1024x3120 .f32) shapeCasts_S1x1024x3120_S1024x3120)
    slices_S1024x3120_S1024x1024_0_0 := rfl
theorem host_2 : StableHlo.after hostOps0 σ main_v7 = forCompression (σ main_arg2) := rfl
theorem host_3 : StableHlo.after hostOps0 σ main_v15 = selected (σ main_arg2) := rfl
theorem host_4 : StableHlo.after hostOps0 σ main_v23 = windowed (σ main_arg2) := rfl
theorem host_5 : StableHlo.after hostOps0 σ main_v24 = extractStridedSlice S1024x48 ![0, 2560]
    (shapeCast S1024x3120 (σ main_arg2 : FVec Ideal S1x1024x3120 .f32) shapeCasts_S1x1024x3120_S1024x3120)
    slices_S1024x3120_S1024x48_0_2560 := rfl
theorem host_6 : StableHlo.after hostOps0 σ main_c = constantI S_ 32 0#32 := rfl

end Entry

/-- When the call starts, its third operand is the rearranged matrix. -/
theorem entry_weights : V m c main_v28 = rearranged (argW m c) := by
  show StableHlo.after hostOps0_2 (StableHlo.after hostOps0_1 (StableHlo.after hostOps0 fun b => m (c, b))) main_v28 = _
  rw [host_last, host_pad, host_keep _ main_v2 (by decide), host_keep _ main_v3 (by decide), host_keep _ main_v7 (by decide),
    host_keep _ main_v15 (by decide), host_keep _ main_v23 (by decide), host_0, host_1, host_2, host_3, host_4, host_5, host_6]
  rfl

/-- When the call starts, its second operand is the second row of the gains. -/
theorem entry_gain : V m c main_v29 = shapeCast S1x1024 (shapeCast S1024 (extractStridedSlice S1x1024 ![1, 0] (argG m c)
    slices_S2x1024_S1x1024_1_0) shapeCasts_S1x1024_S1024) shapeCasts_S1024_S1x1024 := rfl

section Matrix

variable (W : FVec Ideal S1x1024x3120 .f32) (j : Fin 1024)

/-- Equal columns hold equal numbers. -/
theorem col {k l : Fin 3120} (h : k.val = l.val) : W (ix3 0 j k) = W (ix3 0 j l) := by rw [Fin.ext h]

theorem forCompression_apply (k : Fin 512) : forCompression W (ix2 j k) = W (ix3 0 j ⟨1024 + k, by omega⟩) := by
  pointwise [forCompression, heads]
  refine congrArg (fun k : Fin 3120 => W (ix3 0 j k)) (Fin.ext ?_)
  dsimp only
  omega

theorem selected_apply (k : Fin 512) : selected W (ix2 j k)
    = W (ix3 0 j ⟨1536 + k / 64 % 2 * 256 + k / 128 * 64 + k % 64, by omega⟩) := by
  pointwise [selected, interleave, heads]
  split
  · refine congrArg (fun k : Fin 3120 => W (ix3 0 j k)) (Fin.ext ?_)
    dsimp only
    omega
  · refine congrArg (fun k : Fin 3120 => W (ix3 0 j k)) (Fin.ext ?_)
    dsimp only
    omega

theorem windowed_apply (k : Fin 512) : windowed W (ix2 j k)
    = W (ix3 0 j ⟨2048 + k / 64 % 2 * 256 + k / 128 * 64 + k % 64, by omega⟩) := by
  pointwise [windowed, interleave, heads]
  split
  · refine congrArg (fun k : Fin 3120 => W (ix3 0 j k)) (Fin.ext ?_)
    dsimp only
    omega
  · refine congrArg (fun k : Fin 3120 => W (ix3 0 j k)) (Fin.ext ?_)
    dsimp only
    omega

theorem zero_word : (FloatOps.sitofp .f32 0#32 : Ideal .f32) = (0 : EReal) := by
  show (((0#32 : BitVec 32).toInt : ℝ) : EReal) = 0
  norm_num

theorem gateCols_apply (k : Fin 128) : gateCols W (ix2 j k)
    = if h : k.val < 48 then W (ix3 0 j ⟨2560 + k, by omega⟩) else 0 := by
  pointwise [gateCols]
  split
  · rfl
  · exact zero_word

/-- The columns of the rearranged matrix. -/
theorem rearranged_apply (k : Fin 3200) : rearranged W (ix2 j k) = Proj.prep (fun j k => W (ix3 0 j k)) j k := by
  pointwise [rearranged]
  simp only [forCompression_apply, selected_apply, windowed_apply, gateCols_apply]
  unfold Proj.prep
  dsimp only
  by_cases h0 : k.val < 1024
  · rw [dif_pos h0, dif_pos (by omega)]
  rw [dif_neg h0]
  by_cases h1 : k.val < 1536
  · rw [dif_pos (by omega), dif_pos h1]
    exact col W j (by show 1024 + (k.val - 1024) = k.val; omega)
  rw [dif_neg (by omega), dif_neg h1]
  by_cases h2 : k.val < 2048
  · rw [dif_pos (by omega), dif_pos (by omega)]
    exact col W j (by dsimp only; omega)
  rw [dif_neg (by omega)]
  by_cases h3 : k.val < 2560
  · rw [dif_pos (by omega), dif_pos h3]
    exact col W j (by dsimp only; omega)
  rw [dif_neg (by omega), dif_neg h3]
  by_cases h4 : k.val < 2608
  · rw [dif_pos (by omega), dif_pos (by omega), dif_pos h4]
    exact col W j (by dsimp only; omega)
  rw [dif_neg h4]
  by_cases h5 : k.val < 2688
  · rw [dif_pos (by omega), dif_neg (by omega), dif_pos h5]
  rw [dif_neg (by omega), dif_neg h5]
  exact col W j (by dsimp only; omega)

end Matrix

theorem lt_32 : t.val < 32 := lt_of_lt_of_eq t.isLt (by decide +kernel)

/-- Row `r` of point `t`'s block is token `512 (t % 16) + r` of batch row `t / 16`. -/
theorem row_eq (r : Fin 512) : xRow (iblk m c 0 t) r
    = fun j => argX m c (ix3 ⟨t.val / 16, by have := lt_32 t; omega⟩ ⟨t.val % 16 * 512 + r.val, by omega⟩ j) := by
  funext j
  unfold xRow
  blk_point [iblk, V, idx t]

theorem gain_eq : gRow (iblk m c 1 t) = fun j => argG m c (ix2 1 j) := by
  funext j
  unfold gRow
  blk_simp [iblk]
  rw [entry_gain]
  have he : (win0_1.blk t).view.emb (ix2 0 j) = ix2 0 j := by blk_ext [idx t]
  rw [he]
  pointwise

theorem weights_eq : wMat (iblk m c 2 t) = Proj.prep fun j k => argW m c (ix3 0 j k) := by
  funext j k
  unfold wMat
  blk_simp [iblk]
  rw [entry_weights]
  have he : (win0_2.blk t).view.emb (ix2 j k) = ix2 j k := by blk_ext [idx t]
  rw [he, rearranged_apply]

/-! ## The results as functions of the arguments -/

variable (X : FVec Ideal S2x8192x1024 .f32) (G : FVec Ideal S2x1024 .f32) (W : FVec Ideal S1x1024x3120 .f32)

/-- Column `k` of the projection of a token. -/
def col8 (b : Fin 2) (s : Fin 8192) (k : Fin 3120) : EReal :=
  Proj.proj (fun j => X (ix3 b s j)) (fun j => G (ix2 1 j)) (fun j k => W (ix3 0 j k)) k

/-- The same of the rearranged matrix. -/
def prep8 (b : Fin 2) (s : Fin 8192) (k : Fin 3200) : EReal :=
  Proj.proj (fun j => X (ix3 b s j)) (fun j => G (ix2 1 j)) (Proj.prep fun j k => W (ix3 0 j k)) k

/-- The scaled queries of a tile of 256 tokens. -/
def vQueries (b : Fin 2) (e : Fin 32) (k : Fin 1024) (r : Fin 256) : EReal :=
  col8 X G W b ⟨256 * e + r, by omega⟩ ⟨k, by omega⟩ * Ideal.ofBits .f32 0x3E38AA3B#32
/-- The rows for the compression. -/
def vRaw (b : Fin 2) (p : Fin 4) (s : Fin 8192) (l : Fin 128) : EReal := col8 X G W b s ⟨1024 + 128 * p + l, by omega⟩
/-- The keys of the selection (`w = 0`) or the window (`w = 1`), followed by 64 zeros. -/
def vKeys (w : Fin 2) (b : Fin 2) (g : Fin 4) (s : Fin 8192) (l : Fin 128) : EReal :=
  if h : l.val < 64 then col8 X G W b s ⟨1536 + 512 * w + 64 * g + l, by omega⟩ else 0
/-- The values of a tile turned around, under sixteen rows of ones. -/
def vVals (w : Fin 2) (b : Fin 2) (g : Fin 4) (e : Fin 32) (i : Fin 80) (r : Fin 256) : EReal :=
  if h : i.val < 16 then 1 else col8 X G W b ⟨256 * e + r, by omega⟩ ⟨1536 + 512 * w + 256 + 64 * g + (i - 16), by omega⟩
/-- The 48 gates of a tile and 80 rows of one half. -/
def vGates (b : Fin 2) (e : Fin 32) (k : Fin 128) (r : Fin 256) : EReal :=
  if h : k.val < 48 then Proj.sig (col8 X G W b ⟨256 * e + r, by omega⟩ ⟨2560 + k, by omega⟩) else Ideal.ofBits .f32 0x3F000000#32
/-- The queries for the memory. -/
def vMemq (b : Fin 2) (s : Fin 8192) (k : Fin 512) : EReal := col8 X G W b s ⟨2608 + k, by omega⟩

/-- A column of a block is that column of a token. -/
theorem cols_eq (r : Fin 512) (k : Fin 3200) : cols (iblk m c 0 t) (iblk m c 1 t) (iblk m c 2 t) r k
    = prep8 (argX m c) (argG m c) (argW m c) ⟨t.val / 16, by have := lt_32 t; omega⟩ ⟨t.val % 16 * 512 + r.val, by omega⟩ k := by
  unfold cols prep8
  rw [row_eq, gain_eq, weights_eq]

/-- The token of a row of a tile. -/
theorem tok (e : Fin 2) (r : Fin 256) (h : t.val % 16 * 512 + (256 * e.val + r.val) < 8192)
    (h' : 256 * (t.val % 16 * 2 + e.val) + r.val < 8192) :
    (⟨t.val % 16 * 512 + (256 * e.val + r.val), h⟩ : Fin 8192) = ⟨256 * (t.val % 16 * 2 + e.val) + r.val, h'⟩ :=
  Fin.ext (by dsimp only; omega)

theorem queries_point (e : Fin 2) (k : Fin 1024) (r : Fin 256) :
    queries (iblk m c 0 t) (iblk m c 1 t) (iblk m c 2 t) e k r = vQueries (argX m c) (argG m c) (argW m c) ⟨t.val / 16, by have := lt_32 t; omega⟩ ⟨t.val % 16 * 2 + e.val, by omega⟩ k r := by
  unfold queries vQueries
  rw [cols_eq, tok t e r _ (by omega)]
  exact congrArg (· * Ideal.ofBits .f32 0x3E38AA3B#32) (Proj.proj_low _ _ _ k.val (by omega))

theorem raw_point (p : Fin 4) (r : Fin 512) (l : Fin 128) : raw (iblk m c 0 t) (iblk m c 1 t) (iblk m c 2 t) p r l = vRaw (argX m c) (argG m c) (argW m c) ⟨t.val / 16, by have := lt_32 t; omega⟩ p ⟨t.val % 16 * 512 + r.val, by omega⟩ l := by
  unfold raw vRaw
  rw [cols_eq]
  exact Proj.proj_low _ _ _ _ (by omega)

theorem keys_point (w : Fin 2) (g : Fin 4) (r : Fin 512) (l : Fin 128) :
    keys (iblk m c 0 t) (iblk m c 1 t) (iblk m c 2 t) w g r l = vKeys (argX m c) (argG m c) (argW m c) w ⟨t.val / 16, by have := lt_32 t; omega⟩ g ⟨t.val % 16 * 512 + r.val, by omega⟩ l := by
  unfold keys vKeys
  by_cases h : l.val < 64
  · rw [if_pos h, dif_pos h, cols_eq]
    exact Proj.proj_mid _ _ _ w.val 0 g.val l.val (by omega) (by omega) (by omega) h
  · rw [if_neg h, dif_neg h]

theorem vals_point (w : Fin 2) (g : Fin 4) (e : Fin 2) (i : Fin 80) (r : Fin 256) :
    vals (iblk m c 0 t) (iblk m c 1 t) (iblk m c 2 t) w g e i r = vVals (argX m c) (argG m c) (argW m c) w ⟨t.val / 16, by have := lt_32 t; omega⟩ g ⟨t.val % 16 * 2 + e.val, by omega⟩ i r := by
  unfold vals vVals
  by_cases h : i.val < 16
  · rw [dif_pos h, dif_pos h]
  · rw [dif_neg h, dif_neg h, cols_eq, tok]
    exact Proj.proj_mid _ _ _ w.val 1 g.val (i.val - 16) (by omega) (by omega) (by omega) (by omega)

theorem gates_point (e : Fin 2) (k : Fin 128) (r : Fin 256) :
    gates (iblk m c 0 t) (iblk m c 1 t) (iblk m c 2 t) e k r = vGates (argX m c) (argG m c) (argW m c) ⟨t.val / 16, by have := lt_32 t; omega⟩ ⟨t.val % 16 * 2 + e.val, by omega⟩ k r := by
  unfold gates vGates
  rw [cols_eq, tok t e r _ (by omega)]
  by_cases h : k.val < 48
  · rw [dif_pos h]
    exact congrArg Proj.sig (Proj.proj_gate _ _ _ k.val h)
  · rw [dif_neg h]
    exact (congrArg Proj.sig (Proj.proj_pad _ _ _ k.val (by omega) (by omega))).trans Proj.sig_zero

theorem memq_point (r : Fin 512) (k : Fin 512) : memq (iblk m c 0 t) (iblk m c 1 t) (iblk m c 2 t) r k = vMemq (argX m c) (argG m c) (argW m c) ⟨t.val / 16, by have := lt_32 t; omega⟩ ⟨t.val % 16 * 512 + r.val, by omega⟩ k := by
  unfold memq vMemq
  rw [cols_eq]
  exact Proj.proj_last _ _ _ k.val (by omega)

/-! ## The result arrays -/

/-- The first result. -/
def value3 : FVec Ideal S2x32x1024x256 .bf16 := fun i => vQueries X G W (i 0) (i 1) (i 2) (i 3)

theorem final3 : (dats m 0 c).arrAt 3 (cfgs 0).N = value3 (argX m c) (argG m c) (argW m c) := by
  refine (dats m 0 c).arrAt_eq_of_covers 3 _ (by decide +kernel) fun t _ y => ?_
  blk_simp
  rw [after0_3]
  obtain ⟨e, k, r, rfl⟩ : ∃ (e : Fin 2) (k : Fin 1024) (r : Fin 256), y = ix4 0 e k r := ⟨y 1, y 2, y 3, by blk_ext⟩
  have he : ((cfg0.win 3).blk t).view.emb (ix4 0 e k r) = ix4 ⟨t.val / 16, by have := lt_32 t; omega⟩ ⟨t.val % 16 * 2 + e.val, by omega⟩ k r := by
    blk_ext [idx t]
  rw [he]
  exact (queries_apply _ _ _ e k r).trans (queries_point m c t e k r)

/-- The second result. -/
def value4 : FVec Ideal S2x4x8192x128 .f32 := fun i => vRaw X G W (i 0) (i 1) (i 2) (i 3)

theorem final4 : (dats m 0 c).arrAt 4 (cfgs 0).N = value4 (argX m c) (argG m c) (argW m c) := by
  refine (dats m 0 c).arrAt_eq_of_covers 4 _ (by decide +kernel) fun t _ y => ?_
  blk_simp
  rw [after0_4]
  obtain ⟨g, r, l, rfl⟩ : ∃ (g : Fin 4) (r : Fin 512) (l : Fin 128), y = ix4 0 g r l := ⟨y 1, y 2, y 3, by blk_ext⟩
  have he : ((cfg0.win 4).blk t).view.emb (ix4 0 g r l) = ix4 ⟨t.val / 16, by have := lt_32 t; omega⟩ g ⟨t.val % 16 * 512 + r.val, by omega⟩ l := by
    blk_ext [idx t]
  rw [he]
  exact (raw_apply _ _ _ g r l).trans (raw_point m c t g r l)

/-- The third result. -/
def value5 : FVec Ideal S2x4x8192x128 .bf16 := fun i => vKeys X G W 0 (i 0) (i 1) (i 2) (i 3)

theorem final5 : (dats m 0 c).arrAt 5 (cfgs 0).N = value5 (argX m c) (argG m c) (argW m c) := by
  refine (dats m 0 c).arrAt_eq_of_covers 5 _ (by decide +kernel) fun t _ y => ?_
  blk_simp
  rw [after0_5]
  obtain ⟨g, r, l, rfl⟩ : ∃ (g : Fin 4) (r : Fin 512) (l : Fin 128), y = ix4 0 g r l := ⟨y 1, y 2, y 3, by blk_ext⟩
  have he : ((cfg0.win 5).blk t).view.emb (ix4 0 g r l) = ix4 ⟨t.val / 16, by have := lt_32 t; omega⟩ g ⟨t.val % 16 * 512 + r.val, by omega⟩ l := by
    blk_ext [idx t]
  rw [he]
  exact (skeys_apply _ _ _ g r l).trans (keys_point m c t 0 g r l)

/-- The fifth result. -/
def value7 : FVec Ideal S2x4x8192x128 .bf16 := fun i => vKeys X G W 1 (i 0) (i 1) (i 2) (i 3)

theorem final7 : (dats m 0 c).arrAt 7 (cfgs 0).N = value7 (argX m c) (argG m c) (argW m c) := by
  refine (dats m 0 c).arrAt_eq_of_covers 7 _ (by decide +kernel) fun t _ y => ?_
  blk_simp
  rw [after0_7]
  obtain ⟨g, r, l, rfl⟩ : ∃ (g : Fin 4) (r : Fin 512) (l : Fin 128), y = ix4 0 g r l := ⟨y 1, y 2, y 3, by blk_ext⟩
  have he : ((cfg0.win 7).blk t).view.emb (ix4 0 g r l) = ix4 ⟨t.val / 16, by have := lt_32 t; omega⟩ g ⟨t.val % 16 * 512 + r.val, by omega⟩ l := by
    blk_ext [idx t]
  rw [he]
  exact (wkeys_apply _ _ _ g r l).trans (keys_point m c t 1 g r l)

/-- The fourth result. -/
def value6 : FVec Ideal S2x4x32x80x256 .bf16 := fun i => vVals X G W 0 (i 0) (i 1) (i 2) (i 3) (i 4)

theorem final6 : (dats m 0 c).arrAt 6 (cfgs 0).N = value6 (argX m c) (argG m c) (argW m c) := by
  refine (dats m 0 c).arrAt_eq_of_covers 6 _ (by decide +kernel) fun t _ y => ?_
  blk_simp
  rw [after0_6]
  obtain ⟨g, e, k, r, rfl⟩ : ∃ (g : Fin 4) (e : Fin 2) (k : Fin 80) (r : Fin 256), y = ix5 0 g e k r := ⟨y 1, y 2, y 3, y 4, by blk_ext⟩
  have he : ((cfg0.win 6).blk t).view.emb (ix5 0 g e k r) = ix5 ⟨t.val / 16, by have := lt_32 t; omega⟩ g ⟨t.val % 16 * 2 + e.val, by omega⟩ k r := by
    blk_ext [idx t]
  rw [he]
  exact (svals_apply _ _ _ g e k r).trans (vals_point m c t 0 g e k r)

/-- The sixth result. -/
def value8 : FVec Ideal S2x4x32x80x256 .bf16 := fun i => vVals X G W 1 (i 0) (i 1) (i 2) (i 3) (i 4)

theorem final8 : (dats m 0 c).arrAt 8 (cfgs 0).N = value8 (argX m c) (argG m c) (argW m c) := by
  refine (dats m 0 c).arrAt_eq_of_covers 8 _ (by decide +kernel) fun t _ y => ?_
  blk_simp
  rw [after0_8]
  obtain ⟨g, e, k, r, rfl⟩ : ∃ (g : Fin 4) (e : Fin 2) (k : Fin 80) (r : Fin 256), y = ix5 0 g e k r := ⟨y 1, y 2, y 3, y 4, by blk_ext⟩
  have he : ((cfg0.win 8).blk t).view.emb (ix5 0 g e k r) = ix5 ⟨t.val / 16, by have := lt_32 t; omega⟩ g ⟨t.val % 16 * 2 + e.val, by omega⟩ k r := by
    blk_ext [idx t]
  rw [he]
  exact (wvals_apply _ _ _ g e k r).trans (vals_point m c t 1 g e k r)

/-- The seventh result. -/
def value9 : FVec Ideal S2x32x128x256 .f32 := fun i => vGates X G W (i 0) (i 1) (i 2) (i 3)

theorem final9 : (dats m 0 c).arrAt 9 (cfgs 0).N = value9 (argX m c) (argG m c) (argW m c) := by
  refine (dats m 0 c).arrAt_eq_of_covers 9 _ (by decide +kernel) fun t _ y => ?_
  blk_simp
  rw [after0_9]
  obtain ⟨e, k, r, rfl⟩ : ∃ (e : Fin 2) (k : Fin 128) (r : Fin 256), y = ix4 0 e k r := ⟨y 1, y 2, y 3, by blk_ext⟩
  have he : ((cfg0.win 9).blk t).view.emb (ix4 0 e k r) = ix4 ⟨t.val / 16, by have := lt_32 t; omega⟩ ⟨t.val % 16 * 2 + e.val, by omega⟩ k r := by
    blk_ext [idx t]
  rw [he]
  exact (gates_apply _ _ _ e k r).trans (gates_point m c t e k r)

/-- The eighth result. -/
def value10 : FVec Ideal S2x8192x512 .bf16 := fun i => vMemq X G W (i 0) (i 1) (i 2)

theorem final10 : (dats m 0 c).arrAt 10 (cfgs 0).N = value10 (argX m c) (argG m c) (argW m c) := by
  refine (dats m 0 c).arrAt_eq_of_covers 10 _ (by decide +kernel) fun t _ y => ?_
  blk_simp
  rw [after0_10]
  obtain ⟨r, k, rfl⟩ : ∃ (r : Fin 512) (k : Fin 512), y = ix3 0 r k := ⟨y 1, y 2, by blk_ext⟩
  have he : ((cfg0.win 10).blk t).view.emb (ix3 0 r k) = ix3 ⟨t.val / 16, by have := lt_32 t; omega⟩ ⟨t.val % 16 * 512 + r.val, by omega⟩ k := by
    blk_ext [idx t]
  rw [he]
  exact (memq_apply _ _ _ r k).trans (memq_point m c t r k)

end Cert.Kernel8Ideal.Value
-- ==== Proof.ProjClaim.lean ====
/-
  The reference of the projections computes the same eight arrays, and so the value claim.
-/
module

public import proofs.«01_k».proof.Proof.ProjKernel
public import proofs.«01_k».proof.Proof.Gen.Reference8Ideal.Read
public import proofs.«01_k».proof.Defs
public import Idealize.ShloMosaic.Lib.Claim

@[expose] public section

set_option maxRecDepth 16384

noncomputable section

open Idealize.ShloMosaic Idealize.ShloMosaic.TcCoe Idealize.SL.Sem

namespace Cert.Reference8Ideal.Value

open Cert.Reference8Ideal Cert.Reference8Ideal.Gen
open Cert.Kernel8Ideal.Value (col8 vQueries vRaw vKeys vVals vGates vMemq value3 value4 value5 value6 value7 value8 value9 value10)

variable (X : FVec Ideal S2x8192x1024 .f32) (G : FVec Ideal S2x1024 .f32) (W : FVec Ideal S1x1024x3120 .f32)

/-- The reference's projection, at a token and a column. -/
theorem proj_apply (b : Fin 2) (s : Fin 8192) (k : Fin 3120) : Read.val_main_v16 (F := Ideal) X G W (ix3 b s k) = col8 X G W b s k := by
  open Read in
  pointwise [
    val_main_v16, val_main_v14, val_main_v15, val_main_v11, val_main_v13, val_main_v10, val_main_v12,
    val_main_v9, val_main_v1, val_main_v8, val_main_v0, val_main_v6, val_main_v7, val_main_v4, val_main_v5,
    val_main_cst_1, val_main_v3, val_main_cst_0, val_main_v2, val_main_cst, col8, Proj.proj, Ffn.rms]

/-- Equal tokens and columns hold equal numbers. -/
theorem col_eq (b : Fin 2) {s s' : Fin 8192} {k k' : Fin 3120} (hs : s.val = s'.val) (hk : k.val = k'.val) :
    col8 X G W b s k = col8 X G W b s' k' := by
  rw [Fin.ext hs, Fin.ext hk]

theorem eq3 : Read.val_main_v36 (F := Ideal) X G W = value3 X G W := by
  funext i
  obtain ⟨b, e, k, r, rfl⟩ : ∃ (b : Fin 2) (e : Fin 32) (k : Fin 1024) (r : Fin 256), i = ix4 b e k r := ⟨i 0, i 1, i 2, i 3, by blk_ext⟩
  show _ = vQueries X G W b e k r
  open Read in
  pointwise [
    val_main_v36, val_main_v24, val_main_v23, val_main_v22, val_main_v20, val_main_v21, val_main_cst_2]
  simp only [proj_apply]
  unfold vQueries
  exact congrArg (· * Ideal.ofBits .f32 0x3E38AA3B#32) (col_eq X G W b (by simp <;> omega) rfl)

theorem eq4 : Read.val_main_v27 (F := Ideal) X G W = value4 X G W := by
  funext i
  obtain ⟨b, g, s, l, rfl⟩ : ∃ (b : Fin 2) (g : Fin 4) (s : Fin 8192) (l : Fin 128), i = ix4 b g s l := ⟨i 0, i 1, i 2, i 3, by blk_ext⟩
  show _ = vRaw X G W b g s l
  open Read in
  pointwise [
    val_main_v27, val_main_v26, val_main_v25]
  simp only [proj_apply]
  unfold vRaw
  exact col_eq X G W b rfl (by simp <;> omega)

theorem eq5 : Read.val_main_v41 (F := Ideal) X G W = value5 X G W := by
  funext i
  obtain ⟨b, g, s, l, rfl⟩ : ∃ (b : Fin 2) (g : Fin 4) (s : Fin 8192) (l : Fin 128), i = ix4 b g s l := ⟨i 0, i 1, i 2, i 3, by blk_ext⟩
  show _ = vKeys X G W 0 b g s l
  open Read in
  pointwise [
    val_main_v41, val_main_v40, val_main_v38, val_main_v39, val_main_v37, val_main_cst_6, val_main_v19,
    val_main_v18, val_main_v17]
  simp only [proj_apply]
  unfold vKeys
  exact dite_congr rfl (fun _ => col_eq X G W b rfl (by simp <;> omega)) fun _ => rfl

theorem eq6 : Read.val_main_v48 (F := Ideal) X G W = value6 X G W := by
  funext i
  obtain ⟨b, g, e, k, r, rfl⟩ : ∃ (b : Fin 2) (g : Fin 4) (e : Fin 32) (k : Fin 80) (r : Fin 256), i = ix5 b g e k r := ⟨i 0, i 1, i 2, i 3, i 4, by blk_ext⟩
  show _ = vVals X G W 0 b g e k r
  open Read in
  pointwise [
    val_main_v48, val_main_v47, val_main_v46, val_main_v45, val_main_cst_7, val_main_v44, val_main_v43,
    val_main_v42, val_main_v19, val_main_v18, val_main_v17]
  simp only [proj_apply]
  unfold vVals
  exact dite_congr rfl (fun _ => rfl) fun _ => col_eq X G W b (by simp <;> omega) (by simp <;> omega)

theorem eq7 : Read.val_main_v53 (F := Ideal) X G W = value7 X G W := by
  funext i
  obtain ⟨b, g, s, l, rfl⟩ : ∃ (b : Fin 2) (g : Fin 4) (s : Fin 8192) (l : Fin 128), i = ix4 b g s l := ⟨i 0, i 1, i 2, i 3, by blk_ext⟩
  show _ = vKeys X G W 1 b g s l
  open Read in
  pointwise [
    val_main_v53, val_main_v52, val_main_v50, val_main_v51, val_main_v49, val_main_cst_8, val_main_v19,
    val_main_v18, val_main_v17]
  simp only [proj_apply]
  unfold vKeys
  exact dite_congr rfl (fun _ => col_eq X G W b rfl (by simp <;> omega)) fun _ => rfl

theorem eq8 : Read.val_main_v60 (F := Ideal) X G W = value8 X G W := by
  funext i
  obtain ⟨b, g, e, k, r, rfl⟩ : ∃ (b : Fin 2) (g : Fin 4) (e : Fin 32) (k : Fin 80) (r : Fin 256), i = ix5 b g e k r := ⟨i 0, i 1, i 2, i 3, i 4, by blk_ext⟩
  show _ = vVals X G W 1 b g e k r
  open Read in
  pointwise [
    val_main_v60, val_main_v59, val_main_v58, val_main_v57, val_main_cst_9, val_main_v56, val_main_v55,
    val_main_v54, val_main_v19, val_main_v18, val_main_v17]
  simp only [proj_apply]
  unfold vVals
  exact dite_congr rfl (fun _ => rfl) fun _ => col_eq X G W b (by simp <;> omega) (by simp <;> omega)

theorem eq9 : Read.val_main_v62 (F := Ideal) X G W = value9 X G W := by
  funext i
  obtain ⟨b, e, k, r, rfl⟩ : ∃ (b : Fin 2) (e : Fin 32) (k : Fin 128) (r : Fin 256), i = ix4 b e k r := ⟨i 0, i 1, i 2, i 3, by blk_ext⟩
  show _ = vGates X G W b e k r
  open Read in
  pointwise [
    val_main_v62, val_main_v61, val_main_v35, val_main_v34, val_main_call0_v0, val_main_v33, val_main_v32,
    val_main_cst_5, val_main_cst_4, val_main_v31, val_main_v30, val_main_cst_3, val_main_v29, val_main_v28]
  simp only [proj_apply]
  unfold vGates
  by_cases h : k.val < 48
  · refine (dif_pos (show e.val * 256 + r.val < 8192 ∧ k.val < 48 from ⟨by omega, h⟩)).trans ?_
    refine Eq.trans ?_ (dif_pos h).symm
    unfold Proj.sig
    rw [zero_sub]
    exact congrArg (fun a => Ideal.div 1 (1 + Ideal.exp (-a))) (col_eq X G W b (by simp <;> omega) rfl)
  · refine (dif_neg fun hh => h hh.2).trans ?_
    refine Eq.trans ?_ (dif_neg h).symm
    rfl

theorem eq10 : Read.val_main_v64 (F := Ideal) X G W = value10 X G W := by
  funext i
  obtain ⟨b, s, k, rfl⟩ : ∃ (b : Fin 2) (s : Fin 8192) (k : Fin 512), i = ix3 b s k := ⟨i 0, i 1, i 2, by blk_ext⟩
  show _ = vMemq X G W b s k
  open Read in
  pointwise [
    val_main_v64, val_main_v63]
  simp only [proj_apply]
  unfold vMemq
  rfl

end Cert.Reference8Ideal.Value

namespace Cert.Proof

set_option maxHeartbeats 4000000 in
/-- The call and the reference end with the same eight arrays. -/
theorem algebraic8 : Cert.algebraic_Kernel8Ideal_Reference8Ideal := by
  pair_intro
  · run_from Cert.Kernel8Ideal.Gen.run_main m g
    · exact Cert.Kernel8Ideal.Gen.V_main_arg1 m c
    · exact Cert.Kernel8Ideal.Gen.V_main_arg2 m c
  · run_from Cert.Reference8Ideal.Value.run m' g'
    · rw [Cert.Kernel8Ideal.Value.final3 m c]
      refine (Cert.Reference8Ideal.Read.val_main_v36_eq _ _ _).trans ?_
      exact Cert.Reference8Ideal.Value.eq3 _ _ _
    · rw [Cert.Kernel8Ideal.Value.final4 m c]
      refine (Cert.Reference8Ideal.Read.val_main_v27_eq _ _ _).trans ?_
      exact Cert.Reference8Ideal.Value.eq4 _ _ _
    · rw [Cert.Kernel8Ideal.Value.final5 m c]
      refine (Cert.Reference8Ideal.Read.val_main_v41_eq _ _ _).trans ?_
      rw [(hagree c).2.2]
      exact Cert.Reference8Ideal.Value.eq5 _ _ _
    · rw [Cert.Kernel8Ideal.Value.final6 m c]
      refine (Cert.Reference8Ideal.Read.val_main_v48_eq _ _ _).trans ?_
      rw [(hagree c).2.2]
      exact Cert.Reference8Ideal.Value.eq6 _ _ _
    · rw [Cert.Kernel8Ideal.Value.final7 m c]
      refine (Cert.Reference8Ideal.Read.val_main_v53_eq _ _ _).trans ?_
      rw [(hagree c).2.2]
      exact Cert.Reference8Ideal.Value.eq7 _ _ _
    · rw [Cert.Kernel8Ideal.Value.final8 m c]
      refine (Cert.Reference8Ideal.Read.val_main_v60_eq _ _ _).trans ?_
      rw [(hagree c).2.2]
      exact Cert.Reference8Ideal.Value.eq8 _ _ _
    · rw [Cert.Kernel8Ideal.Value.final9 m c]
      refine (Cert.Reference8Ideal.Read.val_main_v62_eq _ _ _).trans ?_
      exact Cert.Reference8Ideal.Value.eq9 _ _ _
    · rw [Cert.Kernel8Ideal.Value.final10 m c]
      refine (Cert.Reference8Ideal.Read.val_main_v64_eq _ _ _).trans ?_
      exact Cert.Reference8Ideal.Value.eq10 _ _ _

end Cert.Proof
-- ==== Proof.NsaBody.lean ====
/-
  The body of the native sparse attention call (its ideal form, over any float values): from the twelve input blocks held
  at any contents and the output block and the eight scratch buffers held at anything, the body runs to its return and hands
  the inputs back as they were and the other buffers at something.
-/
module

public import proofs.«01_k».proof.Proof.Gen.KernelIdeal.Loops
public import proofs.«01_k».proof.Proof.Gen.KernelIdeal.Frame

@[expose] public section

set_option maxRecDepth 16384

noncomputable section

namespace Cert.Proof.Nsa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in
/-- The body, from its buffers held whole to a continuation that gets them back: the inputs as they were. -/
theorem body_run (c : Dev nD) (E : Set ℕ) (i : grid0.Coords) (arg3 : Memref sig .tc .vmem S1x1x256x256 .bf16) (harg3 : arg3.IsWhole) (arg4 : Memref sig .tc .vmem S1x1x512x128 .bf16) (harg4 : arg4.IsWhole) (arg5 : Memref sig .tc .vmem S1x1x64x512 .bf16) (harg5 : arg5.IsWhole) (arg6 : Memref sig .tc .vmem S1x1x8192x128 .bf16) (harg6 : arg6.IsWhole) (arg7 : Memref sig .tc .vmem S1x1x32x80x256 .bf16) (harg7 : arg7.IsWhole) (arg8 : Memref sig .tc .vmem S1x1x8192x128 .bf16) (harg8 : arg8.IsWhole) (arg9 : Memref sig .tc .vmem S1x1x32x80x256 .bf16) (harg9 : arg9.IsWhole) (arg10 : Memref sig .tc .vmem S8448x128 .bf16) (harg10 : arg10.IsWhole) (arg11 : Memref sig .tc .vmem S1x1x128x256 .f32) (harg11 : arg11.IsWhole) (arg12 : Memref sig .tc .vmem S1x1024x1024 .f32) (harg12 : arg12.IsWhole) (arg13 : Memref sig .tc .vmem S1x512x1024 .f32) (harg13 : arg13.IsWhole) (arg14 : Memref sig .tc .vmem S1x768x1024 .f32) (harg14 : arg14.IsWhole) (arg15 : Memref sig .tc .vmem S1x256x256 .bf16) (harg15 : arg15.IsWhole) (arg16 : Memref sig .tc .vmem S2x528x128 .f32) (harg16 : arg16.IsWhole) (arg17 : Memref sig .tc .vmem S256x1024 .bf16) (harg17 : arg17.IsWhole) (arg18 : Memref sig .tc .vmem S8x1024 .f32) (harg18 : arg18.IsWhole) (arg19 : Memref sig .tc .vmem S80x1024 .f32) (harg19 : arg19.IsWhole) (arg20 : Memref sig .tc .vmem S2x512x1024 .f32) (harg20 : arg20.IsWhole) (arg21 : Memref sig .tc .vmem S64x1024 .f32) (harg21 : arg21.IsWhole) (arg22 : Memref sig .tc .vmem S64x1024 .f32) (harg22 : arg22.IsWhole) (arg23 : Memref sig .tc .vmem S16x1024 .f32) (harg23 : arg23.IsWhole)
    (x0 : Vec F S1x1x256x256 .bf16) (x1 : Vec F S1x1x512x128 .bf16) (x2 : Vec F S1x1x64x512 .bf16) (x3 : Vec F S1x1x8192x128 .bf16) (x4 : Vec F S1x1x32x80x256 .bf16) (x5 : Vec F S1x1x8192x128 .bf16) (x6 : Vec F S1x1x32x80x256 .bf16) (x7 : Vec F S8448x128 .bf16) (x8 : Vec F S1x1x128x256 .f32) (x9 : Vec F S1x1024x1024 .f32) (x10 : Vec F S1x512x1024 .f32) (x11 : Vec F S1x768x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) E (cc0_nsa_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6 hf7 hf8 hf9 hf10 hf11
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  iexists _; iexists _; isplitr
  swap; · iexact H20
  ipureintro; rfl

end Cert.Proof.Nsa

end
-- ==== Proof.NsaFrame.lean ====
/-
  The frame of the native sparse attention call (its ideal form, over any float values): every run ends and leaves the eleven
  argument arrays as they were. The output array's contents are not stated, so its window is forgotten in the proof data; the
  eight scratch buffers are held at anything between the points of the grid.
-/
module

public import proofs.«01_k».proof.Proof.NsaBody

@[expose] public section

set_option maxRecDepth 16384

noncomputable section

namespace Cert.Proof.Nsa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window whose contents are not stated: the output's. -/
def fgt : Fin cfg0.W → Bool := fun w => decide (w = 12)

/-- The proof data: the arrays as the region finds them, each input's buffer at its block after every point, the output's at
    anything; between the points the scratch buffers and the generator register at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-- A whole scratch buffer held at contents `f`, as the body's run takes it, and back. -/
theorem scratch_in (c : Dev nD) (b : Ref sig .tc) (f : Buf (Elt F) ((c : Thread nD τ).loc b)) :
    (((c : Thread nD τ).loc b) ↦{fullShare} f : sProp 𝕄) ⊢ owns (c : Thread nD τ) (Memref.whole b) fullShare f :=
  Entails.of_eq (owns_whole (c : Thread nD τ) b fullShare f).symm
theorem scratch_out (c : Dev nD) (b : Ref sig .tc) (f : Buf (Elt F) ((c : Thread nD τ).loc b)) :
    (owns (c : Thread nD τ) (Memref.whole b) fullShare f : sProp 𝕄) ⊢ (((c : Thread nD τ).loc b) ↦{fullShare} f) :=
  Entails.of_eq (owns_whole (c : Thread nD τ) b fullShare f)

/-- What the body is called with at point `t`, the windows one by one. -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ X, owns (c : Thread nD τ) (st0_12 t) fullShare X))

/-- What it returns. -/
def bodyPost (c : Dev nD) (t : Fin cfg0.N) : sProp 𝕄 :=
  iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ X, owns (c : Thread nD τ) (st0_12 t) fullShare X))

/-- The body at any point: the inputs' buffers hold their blocks, and the scratch buffers come out of the invariant and go
    back into it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    after_0, after_1, after_2, after_3, after_4, after_5, after_6, after_7, after_8, after_9, after_10, after_11]
  unfold Pipeline.ΦA
  rw [scopedRest0_eq]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_run c Set.univ (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)

  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [S0]
  · iexists _; iapply (scratch_in c cc0_scratch0 s0); iexact S0
  isplitl [S1]
  · iexists _; iapply (scratch_in c cc0_scratch1 s1); iexact S1
  isplitl [S2]
  · iexists _; iapply (scratch_in c cc0_scratch2 s2); iexact S2
  isplitl [S3]
  · iexists _; iapply (scratch_in c cc0_scratch3 s3); iexact S3
  isplitl [S4]
  · iexists _; iapply (scratch_in c cc0_scratch4 s4); iexact S4
  isplitl [S5]
  · iexists _; iapply (scratch_in c cc0_scratch5 s5); iexact S5
  isplitl [S6]
  · iexists _; iapply (scratch_in c cc0_scratch6 s6); iexact S6
  isplitl [S7]
  · iexists _; iapply (scratch_in c cc0_scratch7 s7); iexact S7
  iintro ⟨H0, H1, H2, H3, H4, H5, H6, H7, H8, H9, H10, H11, ⟨%d12', H12⟩, ⟨%t0, S0⟩, ⟨%t1, S1⟩, ⟨%t2, S2⟩, ⟨%t3, S3⟩, ⟨%t4, S4⟩, ⟨%t5, S5⟩, ⟨%t6, S6⟩, ⟨%t7, S7⟩⟩
  isplitl [S0 S1 S2 S3 S4 S5 S6 S7 Hg]
  · isplitl [S0 S1 S2 S3 S4 S5 S6 S7]
    · isplitl [S0]
      · iexists t0; iapply (scratch_out c cc0_scratch0 t0); iexact S0
      isplitl [S1]
      · iexists t1; iapply (scratch_out c cc0_scratch1 t1); iexact S1
      isplitl [S2]
      · iexists t2; iapply (scratch_out c cc0_scratch2 t2); iexact S2
      isplitl [S3]
      · iexists t3; iapply (scratch_out c cc0_scratch3 t3); iexact S3
      isplitl [S4]
      · iexists t4; iapply (scratch_out c cc0_scratch4 t4); iexact S4
      isplitl [S5]
      · iexists t5; iapply (scratch_out c cc0_scratch5 t5); iexact S5
      isplitl [S6]
      · iexists t6; iapply (scratch_out c cc0_scratch6 t6); iexact S6
      iexists t7; iapply (scratch_out c cc0_scratch7 t7); iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists d12'; iexact H12

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation with the output's window forgotten. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The launch: every run ends, each input array as the region found it and every semaphore at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

set_option maxHeartbeats 4000000 in
/-- The frame: the argument arrays end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨(h.1.arr_in c 0 rfl).trans (V_main_arg0 m c),
      (h.1.arr_in c 1 rfl).trans (V_main_arg1 m c),
      (h.1.arr_in c 2 rfl).trans (V_main_arg2 m c),
      (h.1.arr_in c 3 rfl).trans (V_main_arg3 m c),
      (h.1.arr_in c 4 rfl).trans (V_main_arg4 m c),
      (h.1.arr_in c 5 rfl).trans (V_main_arg5 m c),
      (h.1.arr_in c 6 rfl).trans (V_main_arg6 m c),
      (h.1.arr_in c 8 rfl).trans (V_main_arg7 m c),
      (h.1.arr_in c 9 rfl).trans (V_main_arg8 m c),
      (h.1.arr_in c 10 rfl).trans (V_main_arg9 m c),
      (h.1.arr_in c 11 rfl).trans (V_main_arg10 m c)⟩, h.2⟩) (run_main m ρ)

end Cert.Proof.Nsa

end
-- ==== Proof.NsaClaim.lean ====
/-
  The frames of the native sparse attention call, of the program and of its ideal form. The two have the same text, so one run
  over any float values gives both.
-/
module

public import proofs.«01_k».proof.Defs
public import proofs.«01_k».proof.Proof.Gen.Kernel
public import proofs.«01_k».proof.Proof.NsaFrame

@[expose] public section

set_option maxRecDepth 16384

noncomputable section

namespace Cert.Proof

open Idealize.ShloMosaic Idealize.SL.Sem

/-- The ideal form of the attention call runs, keeps its arguments and leaves every semaphore at zero. -/
theorem frame_nsa_ideal : Cert.quiescent_KernelIdeal := fun m ρ _ => Nsa.frame (F := Ideal) m ρ

set_option maxHeartbeats 2000000 in
/-- The two programs' body tables are the same: each has one label, and runs the same body there. -/
theorem nsa_bodies {F : FTy → Type} [FloatOps F] : Cert.Kernel.defs₀ (F := F) = Cert.KernelIdeal.defs₀ (F := F) :=
  congrArg Defs.onTc (funext fun l => funext fun a => match l, a with
    | 0, (t, s) => rfl)

set_option maxHeartbeats 2000000 in
/-- So are their tables with the launch's region and pipeline. -/
theorem nsa_tables {F : FTy → Type} [FloatOps F] : Cert.Kernel.defs (F := F) = Cert.KernelIdeal.defs (F := F) :=
  congrArg (Pipeline.defs Cert.Kernel.pcfgs) nsa_bodies

set_option maxHeartbeats 4000000 in
/-- The program itself runs, keeps its arguments and leaves every semaphore at zero. -/
theorem frame_nsa : Cert.quiescent_Kernel := fun m ρ _ => by
  rw [nsa_tables]
  exact Nsa.frame (F := Bits) m ρ

end Cert.Proof

end
-- ==== Proof.CmpBody9.lean ====
/-
  The body of the call that compresses the keys, as nested sums.

  For each of the four heads the body adds up sixteen products twice: once with the first half of the positions and
  weights (`first`), once with the second half (`second`). It stores the second sum, reads it back one row further on
  (`shifted`), adds the two and applies the second layer. `pieces` says that this is what the body writes. The sums are
  stated for any table of buffers, since the call that compresses the values has them too.
-/
module

public import proofs.«01_k».proof.Proof.Gen.Kernel9Ideal.Value
public import Idealize.ShloMosaic.Lib.Pipeline.ValueKit

@[expose] public section

set_option maxRecDepth 16384

noncomputable section

open Idealize.ShloMosaic Idealize.ShloMosaic.TcCoe Idealize.SL.Sem

namespace Cert.Kernel9Ideal.Value

open Cert.Kernel9Ideal Cert.Kernel9Ideal.Gen

section General

variable {σ : RefSig} (arg1 : Memref σ .tc .vmem S1x2x8192x128 .f32) (harg1 : arg1.IsWhole)
  (arg2 : Memref σ .tc .vmem S1x32x256 .f32) (harg2 : arg2.IsWhole)
  (arg3 : Memref σ .tc .vmem S1x2048x128 .bf16) (harg3 : arg3.IsWhole)
  (arg4 : Memref σ .tc .vmem S1x128x64 .bf16) (harg4 : arg4.IsWhole)
  (arg6 : Memref σ .tc .vmem S520x128 .f32)
  (x0 : Vec Ideal S1x2x8192x128 .f32) (x1 : Vec Ideal S1x32x256 .f32) (x2 : Vec Ideal S1x2048x128 .bf16)
  (x3 : Vec Ideal S1x128x64 .bf16)

/-- Every sixteenth token from token `l` on, of the heads `2p` and `2p + 1`. -/
def rows (p : Fin 2) (l : Fin 16) : Vec Ideal S1x1x512x128 .f32 :=
  View.readAt (Elt Ideal) arg1.view
    { off := ![0, p.val, l.val, 0], size := S1x1x512x128.size, stride := ![1, 1, 16, 1],
      inb := by
        intro a
        have := p.isLt
        have := l.isLt
        fin_cases a <;> simp <;> omega } (harg1.unread x0)

/-- The position row `s`, for the heads `2p` and `2p + 1`. -/
def place (p : Fin 2) (s : Fin 32) : Vec Ideal S1x1x128 .f32 :=
  View.readAt (Elt Ideal) arg2.view (Rect.unit (s := S1x32x256) ![0, s.val, 128 * p.val] S1x1x128.size (by
    intro a
    have := p.isLt
    have := s.isLt
    fin_cases a <;> simp <;> omega)).toLoadRect (harg2.unread x1)

/-- The 64 rows of the first layer's weights that belong to place `s` of a block. -/
def layer1 (s : Fin 32) : Vec Ideal S1x64x128 .bf16 :=
  View.readAt (Elt Ideal) arg3.view (Rect.unit (s := S1x2048x128) ![0, 64 * s.val, 0] S1x64x128.size (by
    intro a
    have := s.isLt
    fin_cases a <;> simp <;> omega)).toLoadRect (harg3.unread x2)

/-- The second layer's weights. -/
def layer2 : Vec Ideal S1x128x64 .bf16 :=
  View.readAt (Elt Ideal) arg4.view (Rect.unit (s := S1x128x64) ![0, 0, 0] S1x128x64.size inb_S1x128x64_S1x128x64_0_0_0).toLoadRect
    (harg4.unread x3)

/-- The 64 lanes from `64 e` on. -/
def lanes (e : Fin 2) (v : FVec Ideal S512x128 .bf16) : FVec Ideal S512x64 .bf16 :=
  match e with
  | 0 => extractStridedSlice S512x64 ![0, 0] v slices_S512x128_o0_0_S512x64
  | 1 => extractStridedSlice S512x64 ![0, 64] v slices_S512x128_o0_64_S512x64

/-- One product added, of the lanes from `64 e` on. -/
def add (e : Fin 2) (a : FVec Ideal S512x128 .f32) (r : Vec Ideal S1x1x512x128 .f32) (q : Vec Ideal S1x1x128 .f32)
    (w : Vec Ideal S1x64x128 .bf16) : FVec Ideal S512x128 .f32 :=
  addf a (matmul dot_S512x64_S64x128_S512x128_1_0_0_1_n_n none (lanes e (k0_pay9 r q))
    (shapeCast S64x128 w shapeCasts_S1x64x128_S64x128 : FVec Ideal S64x128 .bf16) (constant S512x128 .f32 0x00000000#32))

/-- Sixteen steps from zero on. -/
def steps (f : Fin 16 → FVec Ideal S512x128 .f32 → FVec Ideal S512x128 .f32) : FVec Ideal S512x128 .f32 :=
  f 15 (f 14 (f 13 (f 12 (f 11 (f 10 (f 9 (f 8 (f 7 (f 6 (f 5 (f 4 (f 3 (f 2 (f 1 (f 0 k0_pay2)))))))))))))))

/-- The sum with the first half of the positions and weights, for head `2p + e`. -/
def first (p e : Fin 2) : FVec Ideal S512x128 .f32 :=
  steps fun l a => add e a (rows arg1 harg1 x0 p l) (place arg2 harg2 x1 p ⟨l.val, by omega⟩)
    (layer1 arg3 harg3 x2 ⟨l.val, by omega⟩)

/-- The sum with the second half. -/
def second (p e : Fin 2) : FVec Ideal S512x128 .f32 :=
  steps fun l a => add e a (rows arg1 harg1 x0 p l) (place arg2 harg2 x1 p ⟨16 + l.val, by omega⟩)
    (layer1 arg3 harg3 x2 ⟨16 + l.val, by omega⟩)

/-- What the scratch array holds: an array in its first 512 rows, over what was there before. -/
def over (v : FVec Ideal S512x128 .f32) (L : List (View.Piece (Elt Ideal) S520x128 .f32)) :
    List (View.Piece (Elt Ideal) S520x128 .f32) :=
  ⟨Rect.unit ![0, 0] S512x128.size inb_S520x128_S512x128_0_0, k0_pay259 v⟩ :: L

/-- Zeros in its last eight rows. -/
def tail : List (View.Piece (Elt Ideal) S520x128 .f32) :=
  [⟨Rect.unit ![512, 0] S8x128.size inb_S520x128_S8x128_512_0, k0_pay258 (F := Ideal)⟩]

/-- The scratch array's rows from row 1 on. -/
def shifted (L : List (View.Piece (Elt Ideal) S520x128 .f32)) : Vec Ideal S512x128 .f32 :=
  arg6.view.readCov L (Rect.unit (s := S520x128) ![1, 0] S512x128.size inb_S520x128_S512x128_1_0).toLoadRect

end General

variable (arg1 : Memref sig .tc .vmem S1x2x8192x128 .f32) (harg1 : arg1.IsWhole)
  (arg2 : Memref sig .tc .vmem S1x32x256 .f32) (harg2 : arg2.IsWhole)
  (arg3 : Memref sig .tc .vmem S1x2048x128 .bf16) (harg3 : arg3.IsWhole)
  (arg4 : Memref sig .tc .vmem S1x128x64 .bf16) (harg4 : arg4.IsWhole)
  (arg6 : Memref sig .tc .vmem S520x128 .f32)
  (x0 : Vec Ideal S1x2x8192x128 .f32) (x1 : Vec Ideal S1x32x256 .f32) (x2 : Vec Ideal S1x2048x128 .bf16)
  (x3 : Vec Ideal S1x128x64 .bf16)

set_option maxHeartbeats 4000000 in
/-- What the body writes, last store first. -/
theorem pieces (c : Dev nD) (i : grid0.Coords) (arg5 : Memref sig .tc .vmem S1x4x512x128 .bf16) (harg5 : arg5.IsWhole)
    (harg6 : arg6.IsWhole) :
    (kernelRun0_A c i arg1 harg1 arg2 harg2 arg3 harg3 arg4 harg4 arg5 harg5 arg6 harg6 x0 x1 x2 x3).1
      = [⟨Rect.unit ![0, 3, 0, 0] S1x1x512x128.size inb_S1x4x512x128_S1x1x512x128_0_3_0_0,
          k0_pay263 (first arg1 harg1 arg2 harg2 arg3 harg3 x0 x1 x2 1 1) (shifted arg6 (over (second arg1 harg1 arg2 harg2 arg3 harg3 x0 x1 x2 1 1) (over (second arg1 harg1 arg2 harg2 arg3 harg3 x0 x1 x2 1 0) (over (second arg1 harg1 arg2 harg2 arg3 harg3 x0 x1 x2 0 1) (over (second arg1 harg1 arg2 harg2 arg3 harg3 x0 x1 x2 0 0) tail)))))
            (layer2 arg4 harg4 x3)⟩,
        ⟨Rect.unit ![0, 2, 0, 0] S1x1x512x128.size inb_S1x4x512x128_S1x1x512x128_0_2_0_0,
          k0_pay263 (first arg1 harg1 arg2 harg2 arg3 harg3 x0 x1 x2 1 0) (shifted arg6 (over (second arg1 harg1 arg2 harg2 arg3 harg3 x0 x1 x2 1 0) (over (second arg1 harg1 arg2 harg2 arg3 harg3 x0 x1 x2 0 1) (over (second arg1 harg1 arg2 harg2 arg3 harg3 x0 x1 x2 0 0) tail))))
            (layer2 arg4 harg4 x3)⟩,
        ⟨Rect.unit ![0, 1, 0, 0] S1x1x512x128.size inb_S1x4x512x128_S1x1x512x128_0_1_0_0,
          k0_pay263 (first arg1 harg1 arg2 harg2 arg3 harg3 x0 x1 x2 0 1) (shifted arg6 (over (second arg1 harg1 arg2 harg2 arg3 harg3 x0 x1 x2 0 1) (over (second arg1 harg1 arg2 harg2 arg3 harg3 x0 x1 x2 0 0) tail))) (layer2 arg4 harg4 x3)⟩,
        ⟨Rect.unit ![0, 0, 0, 0] S1x1x512x128.size inb_S1x4x512x128_S1x1x512x128_0_0_0_0,
          k0_pay263 (first arg1 harg1 arg2 harg2 arg3 harg3 x0 x1 x2 0 0) (shifted arg6 (over (second arg1 harg1 arg2 harg2 arg3 harg3 x0 x1 x2 0 0) tail)) (layer2 arg4 harg4 x3)⟩] := by
  sl_kernel_rfl

end Cert.Kernel9Ideal.Value

end
-- ==== Proof.CmpSpec.lean ====
/-
  Compressing a block of tokens, in plain terms.

  Block `n` is the 32 tokens from token `16 n` on. A token past the end counts as zero, its position row included. The
  block's 32 × 64 numbers go through a layer of 128 units with `x · logistic x`, and through a second layer.
-/
module

public import proofs.«01_k».proof.Proof.FfnSpec

@[expose] public section

set_option maxRecDepth 16384

noncomputable section

namespace Cert.Cmp

open Idealize.ShloMosaic

variable (R : Fin 8192 → Fin 64 → EReal) (P : Fin 32 → Fin 64 → EReal) (W : Fin 2048 → Fin 128 → EReal)

/-- Number `d` of place `s` of block `n`. -/
def entry (n : Fin 512) (s : Fin 32) (d : Fin 64) : EReal :=
  if h : 16 * n.val + s.val < 8192 then R ⟨16 * n.val + s.val, h⟩ d + P s d else 0

/-- Unit `k` of block `n`, before the logistic. -/
def pre (n : Fin 512) (k : Fin 128) : EReal :=
  ∑ s : Fin 32, ∑ d : Fin 64, entry R P n s d * W ⟨64 * s + d, by omega⟩ k

/-- A number times its logistic. -/
def silu (a : EReal) : EReal := a * Ideal.div 1 (1 + Ideal.exp (0 - a))

/-- Number `j` of block `n`'s result. -/
def result (U : Fin 128 → Fin 64 → EReal) (n : Fin 512) (j : Fin 64) : EReal :=
  ∑ k, silu (pre R P W n k) * U k j

/-- A sum over 2048 places is the sum, over 32 stretches of 64 places, of the sums over each stretch. -/
theorem sum_stretches (f : Fin 2048 → EReal) :
    ∑ k, f k = ∑ s : Fin 32, ∑ d : Fin 64, f ⟨64 * s + d, by omega⟩ := by
  rw [← Equiv.sum_comp (finProdFinEquiv (m := 32) (n := 64)), Fintype.sum_prod_type]
  refine Finset.sum_congr rfl fun s _ => Finset.sum_congr rfl fun d _ => congrArg f (Fin.ext ?_)
  show d.val + 64 * s.val = 64 * s.val + d.val
  omega

/-- The first sixteen places of block `n`. -/
def low (n : Fin 512) (k : Fin 128) : EReal :=
  ∑ l : Fin 16, ∑ d : Fin 64, (R ⟨16 * n + l, by omega⟩ d + P ⟨l, by omega⟩ d) * W ⟨64 * l.val + d, by omega⟩ k

/-- Sixteen tokens from token `16 n` on as the last sixteen places of a block. -/
def high (n : Fin 512) (k : Fin 128) : EReal :=
  ∑ l : Fin 16, ∑ d : Fin 64, (R ⟨16 * n + l, by omega⟩ d + P ⟨16 + l, by omega⟩ d) * W ⟨64 * (16 + l.val) + d, by omega⟩ k

/-- A block's first sixteen places and, as its last sixteen, the tokens where the next block starts. -/
theorem pre_eq (n : Fin 512) (k : Fin 128) :
    pre R P W n k = low R P W n k + if h : n.val + 1 < 512 then high R P W ⟨n.val + 1, h⟩ k else 0 := by
  unfold pre low high
  rw [Fin.sum_univ_add (a := 16) (b := 16)]
  refine congrArg₂ (· + ·) (Finset.sum_congr rfl fun l _ => Finset.sum_congr rfl fun d _ => ?_) ?_
  · have hl : 16 * n.val + (Fin.castAdd 16 l).val < 8192 := by
      show 16 * n.val + l.val < 8192
      omega
    unfold entry
    rw [dif_pos hl]
    rfl
  · by_cases h : n.val + 1 < 512
    · rw [dif_pos h]
      refine Finset.sum_congr rfl fun l _ => Finset.sum_congr rfl fun d _ => ?_
      have hl : 16 * n.val + (Fin.natAdd 16 l).val < 8192 := by
        show 16 * n.val + (16 + l.val) < 8192
        omega
      unfold entry
      rw [dif_pos hl]
      refine congrArg₂ (· * ·) (congrArg₂ (· + ·) (congrArg (fun t => R t d) (Fin.ext ?_)) rfl) rfl
      show 16 * n.val + (16 + l.val) = 16 * (n.val + 1) + l.val
      omega
    · rw [dif_neg h]
      refine Finset.sum_eq_zero fun l _ => Finset.sum_eq_zero fun d _ => ?_
      have hl : ¬ 16 * n.val + (Fin.natAdd 16 l).val < 8192 := by
        show ¬ 16 * n.val + (16 + l.val) < 8192
        omega
      unfold entry
      rw [dif_neg hl, zero_mul]

end Cert.Cmp
-- ==== Proof.CmpBlock9.lean ====
/-
  The numbers that the body of the call that compresses the keys writes.

  `first_apply` and `second_apply` give the two sums of a head as `Cmp.low` and `Cmp.high` of that head's numbers,
  `shifted_apply` the second one read one row further on, and `block_apply` the whole written block.
-/
module

public import proofs.«01_k».proof.Proof.CmpBody9
public import proofs.«01_k».proof.Proof.CmpSpec

@[expose] public section

set_option maxRecDepth 16384

noncomputable section

open Idealize.ShloMosaic Idealize.ShloMosaic.TcCoe Idealize.SL.Sem

namespace Cert.Kernel9Ideal.Value

open Cert.Kernel9Ideal Cert.Kernel9Ideal.Gen

section General

variable {σ : RefSig} (arg1 : Memref σ .tc .vmem S1x2x8192x128 .f32) (harg1 : arg1.IsWhole)
  (arg2 : Memref σ .tc .vmem S1x32x256 .f32) (harg2 : arg2.IsWhole)
  (arg3 : Memref σ .tc .vmem S1x2048x128 .bf16) (harg3 : arg3.IsWhole)
  (arg4 : Memref σ .tc .vmem S1x128x64 .bf16) (harg4 : arg4.IsWhole)
  (arg6 : Memref σ .tc .vmem S520x128 .f32)
  (x0 : Vec Ideal S1x2x8192x128 .f32) (x1 : Vec Ideal S1x32x256 .f32) (x2 : Vec Ideal S1x2048x128 .bf16)
  (x3 : Vec Ideal S1x128x64 .bf16)

/-! ## What the loads read -/

theorem rows_apply (p : Fin 2) (l : Fin 16) (n : Fin 512) (d : Fin 128) :
    rows arg1 harg1 x0 p l (ix4 0 0 n d) = x0 (ix4 0 p ⟨16 * n + l, by omega⟩ d) := by
  refine (congrFun (harg1.read_unread x0) _).trans (congrArg x0 (funext fun a => Fin.ext ?_))
  fin_cases a
  · rfl
  · show p.val + 1 * 0 = p.val
    omega
  · show l.val + 16 * n.val = 16 * n.val + l.val
    omega
  · show 0 + 1 * d.val = d.val
    omega

theorem place_apply (p : Fin 2) (s : Fin 32) (d : Fin 128) :
    place arg2 harg2 x1 p s (ix3 0 0 d) = x1 (ix3 0 s ⟨128 * p + d, by omega⟩) := by
  refine (congrFun (harg2.read_unread x1) _).trans (congrArg x1 (funext fun a => Fin.ext ?_))
  fin_cases a
  · rfl
  · show s.val + 1 * 0 = s.val
    omega
  · show 128 * p.val + 1 * d.val = 128 * p.val + d.val
    omega

theorem layer1_apply (s : Fin 32) (d : Fin 64) (k : Fin 128) :
    layer1 arg3 harg3 x2 s (ix3 0 d k) = x2 (ix3 0 ⟨64 * s + d, by omega⟩ k) := by
  refine (congrFun (harg3.read_unread x2) _).trans (congrArg x2 (funext fun a => Fin.ext ?_))
  fin_cases a
  · rfl
  · show 64 * s.val + 1 * d.val = 64 * s.val + d.val
    omega
  · show 0 + 1 * k.val = k.val
    omega

theorem layer2_apply (k : Fin 128) (j : Fin 64) : layer2 arg4 harg4 x3 (ix3 0 k j) = x3 (ix3 0 k j) := by
  refine (congrFun (harg4.read_unread x3) _).trans (congrArg x3 (funext fun a => Fin.ext ?_))
  fin_cases a
  · rfl
  · show 0 + 1 * k.val = k.val
    omega
  · show 0 + 1 * j.val = j.val
    omega

/-! ## The sums -/

/-- One product added. -/
theorem add_apply (e : Fin 2) (a : FVec Ideal S512x128 .f32) (r : Vec Ideal S1x1x512x128 .f32) (q : Vec Ideal S1x1x128 .f32)
    (w : Vec Ideal S1x64x128 .bf16) (n : Fin 512) (k : Fin 128) :
    add e a r q w (ix2 n k) = a (ix2 n k)
      + ∑ d : Fin 64, (r (ix4 0 0 n ⟨64 * e + d, by omega⟩) + q (ix3 0 0 ⟨64 * e + d, by omega⟩)) * w (ix3 0 d k) := by
  fin_cases e
  · pointwise [add, lanes, k0_pay9, k0_pay8]
  · pointwise [add, lanes, k0_pay9, k0_pay8]

/-- Sixteen steps that each add something add up the sixteen things. -/
theorem steps_apply (f : Fin 16 → FVec Ideal S512x128 .f32 → FVec Ideal S512x128 .f32) (g : Fin 16 → EReal) (i : S512x128.Idx)
    (h : ∀ l a, f l a i = a i + g l) : steps f i = ∑ l, g l := by
  unfold steps
  simp only [h, Fin.sum_univ_castSucc, Fin.sum_univ_zero]
  rw [show k0_pay2 (F := Ideal) i = 0 by pointwise [k0_pay2]]
  rfl

/-- The tokens of head `2p + e`. -/
def tokens (p e : Fin 2) : Fin 8192 → Fin 64 → EReal := fun t d => x0 (ix4 0 p t ⟨64 * e + d, by omega⟩)
/-- Its positions. -/
def places (p e : Fin 2) : Fin 32 → Fin 64 → EReal := fun s d => x1 (ix3 0 s ⟨128 * p + (64 * e + d), by omega⟩)
/-- The two layers. -/
def weights1 : Fin 2048 → Fin 128 → EReal := fun j k => x2 (ix3 0 j k)
def weights2 : Fin 128 → Fin 64 → EReal := fun k j => x3 (ix3 0 k j)

theorem first_apply (p e : Fin 2) (n : Fin 512) (k : Fin 128) :
    first arg1 harg1 arg2 harg2 arg3 harg3 x0 x1 x2 p e (ix2 n k)
      = Cmp.low (tokens x0 p e) (places x1 p e) (weights1 x2) n k := by
  refine steps_apply _ _ _ fun l a => ?_
  rw [add_apply]
  simp only [rows_apply, place_apply, layer1_apply]
  rfl

theorem second_apply (p e : Fin 2) (n : Fin 512) (k : Fin 128) :
    second arg1 harg1 arg2 harg2 arg3 harg3 x0 x1 x2 p e (ix2 n k)
      = Cmp.high (tokens x0 p e) (places x1 p e) (weights1 x2) n k := by
  refine steps_apply _ _ _ fun l a => ?_
  rw [add_apply]
  simp only [rows_apply, place_apply, layer1_apply]
  rfl

/-! ## The scratch array -/

/-- Rows 512 and up hold zeros. -/
def ZeroFrom512 (L : List (View.Piece (Elt Ideal) S520x128 .f32)) : Prop :=
  ∀ (r : Fin 520) (k : Fin 128), ¬ r.val < 512 → View.canon L (ix2 r k) = 0

/-- An array written to the first 512 rows leaves the rows below as they were. -/
theorem zero_over (v : FVec Ideal S512x128 .f32) {L : List (View.Piece (Elt Ideal) S520x128 .f32)} (hL : ZeroFrom512 L) :
    ZeroFrom512 (over v L) := by
  refine fun r k h => (View.canon_cons_of_not_mem _ _ fun hm => h ?_).trans (hL r k h)
  have := (Rect.mem_set_unit (inb := inb_S520x128_S512x128_0_0).mp hm 0).2
  exact lt_of_lt_of_eq this (Nat.zero_add 512)

/-- The zeros themselves. -/
theorem zero_tail : ZeroFrom512 tail := by
  intro r k h
  have e : ix2 r k = (Rect.unit (s := S520x128) ![512, 0] S8x128.size inb_S520x128_S8x128_512_0).emb
      (ix2 (⟨r.val - 512, by omega⟩ : Fin 8) k) := by
    funext a
    refine Fin.ext ?_
    fin_cases a
    · show r.val = 512 + 1 * (r.val - 512)
      omega
    · show k.val = 0 + 1 * k.val
      omega
  rw [e]
  refine (View.canon_cons_emb _ _ _ _).trans ?_
  pointwise [k0_pay258]

/-- A written row. -/
theorem over_apply (v : FVec Ideal S512x128 .f32) (L : List (View.Piece (Elt Ideal) S520x128 .f32)) (n : Fin 512) (k : Fin 128) :
    View.canon (over v L) (ix2 ⟨n.val, by omega⟩ k) = v (ix2 n k) := by
  have e : ix2 (⟨n.val, by omega⟩ : Fin 520) k
      = (Rect.unit (s := S520x128) ![0, 0] S512x128.size inb_S520x128_S512x128_0_0).emb (ix2 n k) := by
    funext a
    refine Fin.ext ?_
    fin_cases a
    · show n.val = 0 + 1 * n.val
      omega
    · show k.val = 0 + 1 * k.val
      omega
  rw [e]
  refine (View.canon_cons_emb _ _ _ _).trans ?_
  pointwise [k0_pay259]

/-- The array read one row further on: zero past its last row. -/
theorem shifted_apply (v : FVec Ideal S512x128 .f32) {L : List (View.Piece (Elt Ideal) S520x128 .f32)} (hL : ZeroFrom512 L)
    (n : Fin 512) (k : Fin 128) :
    shifted arg6 (over v L) (ix2 n k) = if h : n.val + 1 < 512 then v (ix2 ⟨n.val + 1, h⟩ k) else 0 := by
  have e : shifted arg6 (over v L) (ix2 n k) = View.canon (over v L) (ix2 ⟨n.val + 1, by omega⟩ k) := by
    refine (congrFun (View.readCov_eq_canon' _ _ _) _).trans (congrArg _ (funext fun a => Fin.ext ?_))
    fin_cases a
    · show 1 + 1 * n.val = n.val + 1
      omega
    · show 0 + 1 * k.val = k.val
      omega
  rw [e]
  by_cases h : n.val + 1 < 512
  · rw [dif_pos h]
    exact over_apply v L ⟨n.val + 1, h⟩ k
  · rw [dif_neg h]
    exact zero_over v hL _ k h

/-! ## The written block -/

/-- The second layer: its 64 results, then 64 zeros. -/
theorem tile_left (h s : FVec Ideal S512x128 .f32) (w : Vec Ideal S1x128x64 .bf16) (n : Fin 512) (j : Fin 64) :
    k0_pay263 h s w (ix4 0 0 n ⟨j.val, by omega⟩)
      = ∑ k : Fin 128, Cmp.silu (h (ix2 n k) + s (ix2 n k)) * w (ix3 0 k j) := by
  pointwise [k0_pay263, Cmp.silu]

theorem tile_right (h s : FVec Ideal S512x128 .f32) (w : Vec Ideal S1x128x64 .bf16) (n : Fin 512) (j : Fin 64) :
    k0_pay263 h s w (ix4 0 0 n ⟨64 + j.val, by omega⟩) = 0 := by
  pointwise [k0_pay263]

/-- Number `j` of row `n` of the written block of head `2p + e`. -/
def block (p e : Fin 2) (n : Fin 512) (j : Fin 128) : EReal :=
  if h : j.val < 64 then Cmp.result (tokens x0 p e) (places x1 p e) (weights1 x2) (weights2 x3) n ⟨j.val, h⟩ else 0

theorem head_apply (p e : Fin 2) {L : List (View.Piece (Elt Ideal) S520x128 .f32)} (hL : ZeroFrom512 L) (n : Fin 512)
    (j : Fin 128) :
    k0_pay263 (first arg1 harg1 arg2 harg2 arg3 harg3 x0 x1 x2 p e)
        (shifted arg6 (over (second arg1 harg1 arg2 harg2 arg3 harg3 x0 x1 x2 p e) L)) (layer2 arg4 harg4 x3) (ix4 0 0 n j)
      = block x0 x1 x2 x3 p e n j := by
  unfold block
  by_cases h : j.val < 64
  · rw [dif_pos h]
    refine (tile_left _ _ _ n ⟨j.val, h⟩).trans ?_
    unfold Cmp.result
    refine Finset.sum_congr rfl fun k _ => ?_
    rw [first_apply, shifted_apply _ _ hL, layer2_apply, Cmp.pre_eq]
    simp only [second_apply]
    rfl
  · rw [dif_neg h]
    have e : j = ⟨64 + (j.val - 64), by omega⟩ := Fin.ext (by show j.val = 64 + (j.val - 64); omega)
    rw [e]
    exact tile_right _ _ _ n ⟨j.val - 64, by omega⟩

end General

variable (arg1 : Memref sig .tc .vmem S1x2x8192x128 .f32) (harg1 : arg1.IsWhole)
  (arg2 : Memref sig .tc .vmem S1x32x256 .f32) (harg2 : arg2.IsWhole)
  (arg3 : Memref sig .tc .vmem S1x2048x128 .bf16) (harg3 : arg3.IsWhole)
  (arg4 : Memref sig .tc .vmem S1x128x64 .bf16) (harg4 : arg4.IsWhole)
  (arg6 : Memref sig .tc .vmem S520x128 .f32)
  (x0 : Vec Ideal S1x2x8192x128 .f32) (x1 : Vec Ideal S1x32x256 .f32) (x2 : Vec Ideal S1x2048x128 .bf16)
  (x3 : Vec Ideal S1x128x64 .bf16)

/-- What the body leaves in the output block. -/
theorem block_apply (c : Dev nD) (i : grid0.Coords) (arg5 : Memref sig .tc .vmem S1x4x512x128 .bf16) (harg5 : arg5.IsWhole)
    (harg6 : arg6.IsWhole) (g : Fin 4) (n : Fin 512) (j : Fin 128) :
    out0_A_4 c i arg1 harg1 arg2 harg2 arg3 harg3 arg4 harg4 arg5 harg5 arg6 harg6 x0 x1 x2 x3 (ix4 0 g n j)
      = block x0 x1 x2 x3 ⟨g.val / 2, by omega⟩ ⟨g.val % 2, by omega⟩ n j := by
  unfold out0_A_4
  rw [View.read_writes_junk_eq_canon, pieces]
  canon_tiles x h
  all_goals
    obtain ⟨n', j', rfl⟩ : ∃ (n' : Fin 512) (j' : Fin 128), x = ix4 0 0 n' j' := ⟨x 2, x 3, by blk_ext⟩
    obtain rfl : n = n' := Fin.ext h2
    obtain rfl : j = j' := Fin.ext h3
  case piece0 =>
    obtain rfl : g = 3 := Fin.ext h1
    exact head_apply _ _ _ _ _ _ _ _ _ _ _ _ _ 1 1 (zero_over _ (zero_over _ (zero_over _ zero_tail))) n j
  case piece1 =>
    obtain rfl : g = 2 := Fin.ext h1
    exact head_apply _ _ _ _ _ _ _ _ _ _ _ _ _ 1 0 (zero_over _ (zero_over _ zero_tail)) n j
  case piece2 =>
    obtain rfl : g = 1 := Fin.ext h1
    exact head_apply _ _ _ _ _ _ _ _ _ _ _ _ _ 0 1 (zero_over _ zero_tail) n j
  case piece3 =>
    obtain rfl : g = 0 := Fin.ext h1
    exact head_apply _ _ _ _ _ _ _ _ _ _ _ _ _ 0 0 zero_tail n j

end Cert.Kernel9Ideal.Value

end
-- ==== Proof.CmpKernel9.lean ====
/-
  The call that compresses the keys: its result array as a function of its arguments.

  Point `t` of the grid compresses batch row `t`. Its block of tokens is the first half of that batch row. The positions are
  those of the keys, written four times side by side. The weights of the first layer are the first of two stacked matrices. So
  the array the call writes is, head by head, `Cmp.result` of that head's tokens.
-/
module

public import proofs.«01_k».proof.Proof.CmpBlock9
public import proofs.«01_k».proof.Proof.Gen.Kernel9Ideal.Value
public import Idealize.ShloMosaic.Lib.Pipeline.ValueKit

@[expose] public section

set_option maxRecDepth 16384

noncomputable section

open Idealize.ShloMosaic Idealize.ShloMosaic.TcCoe Idealize.SL.Sem

namespace Cert.Kernel9Ideal.Value

open Cert.Kernel9Ideal Cert.Kernel9Ideal.Gen

/-- The index maps of the windows, over all grid points. -/
theorem idx : ∀ t : Fin cfg0.N, win0_0.index t = ![t.val, 0, 0, 0] ∧ win0_1.index t = ![0, 0, 0]
    ∧ win0_2.index t = ![0, 0, 0] ∧ win0_3.index t = ![0, 0, 0] ∧ win0_4.index t = ![t.val, 0, 0, 0] :=
  (by decide +kernel : ∀ t : Fin grid0.N, _)

/-- The result array as a function of the argument arrays. -/
def value (R : FVec Ideal S2x4x8192x128 .f32) (P : FVec Ideal S1x32x64 .f32) (W : FVec Ideal S1x2048x128 .f32)
    (U : FVec Ideal S1x128x64 .f32) : FVec Ideal S2x4x512x128 .bf16 := fun i =>
  if h : (i 3).val < 64 then
    Cmp.result (fun t d => R (ix4 (i 0) ⟨(i 1).val / 2, by have : (i 1).val < 4 := (i 1).isLt; omega⟩ t ⟨64 * ((i 1).val % 2) + d, by omega⟩))
      (fun s d => P (ix3 0 s d)) (fun j k => W (ix3 0 j k)) (fun k j => U (ix3 0 k j)) (i 2) ⟨(i 3).val, h⟩
  else 0

/-- A call's positions, four times side by side. -/
def fourTimes (P : FVec Ideal S1x32x64 .f32) : FVec Ideal S1x32x256 .f32 :=
  broadcastInDim S1x32x256 ![1, 2] bcast_S32x256_S1x32x256_1_2 (shapeCast S32x256
    (broadcastInDim S1x32x4x64 ![0, 1, 2, 3] bcast_S1x32x1x64_S1x32x4x64_0_1_2_3
      (shapeCast S1x32x1x64 (shapeCast S32x64 P shapeCasts_S1x32x64_S32x64) shapeCasts_S32x64_S1x32x1x64))
    shapeCasts_S1x32x4x64_S32x256)

theorem fourTimes_apply (P : FVec Ideal S1x32x64 .f32) (s : Fin 32) (l : Fin 256) :
    fourTimes P (ix3 0 s l) = P (ix3 0 s ⟨l.val % 64, by omega⟩) := by
  pointwise [fourTimes]

/-- The positions of the two calls on each other. -/
def stackedPlaces (P Q : FVec Ideal S1x32x64 .f32) : FVec Ideal S2x32x256 .f32 :=
  concatenate S2x32x256 0 [⟨S1x32x256, fourTimes P⟩, ⟨S1x32x256, fourTimes Q⟩] concatenates_S1x32x256_S1x32x256_S2x32x256_d0

theorem stackedPlaces_apply (P Q : FVec Ideal S1x32x64 .f32) (s : Fin 32) (l : Fin 256) :
    stackedPlaces P Q (ix3 0 s l) = P (ix3 0 s ⟨l.val % 64, by omega⟩) := by
  unfold stackedPlaces
  refine (concatenate_pair_apply_left (t := S2x32x256) (s₁ := S1x32x256) (s₂ := S1x32x256) 0 _ _ _ (ix3 0 s l) rfl (ix3 0 s l) fun b => ?_).trans (fourTimes_apply P s l)
  fin_cases b <;> rfl

/-- The weights of the first layers of the two calls on each other. -/
def stackedWeights (W Y : FVec Ideal S1x2048x128 .f32) : FVec Ideal S2x2048x128 .bf16 :=
  truncf (F := Ideal) .bf16 (concatenate S2x2048x128 0
    [⟨S1x2048x128, broadcastInDim S1x2048x128 ![1, 2] bcast_S2048x128_S1x2048x128_1_2
        (shapeCast S2048x128 W shapeCasts_S1x2048x128_S2048x128)⟩,
      ⟨S1x2048x128, broadcastInDim S1x2048x128 ![1, 2] bcast_S2048x128_S1x2048x128_1_2
        (shapeCast S2048x128 Y shapeCasts_S1x2048x128_S2048x128)⟩]
    concatenates_S1x2048x128_S1x2048x128_S2x2048x128_d0) bitsLt_bf16_f32

theorem stackedWeights_apply (W Y : FVec Ideal S1x2048x128 .f32) (j : Fin 2048) (k : Fin 128) :
    stackedWeights W Y (ix3 0 j k) = W (ix3 0 j k) := by
  unfold stackedWeights
  rw [show ∀ v : FVec Ideal S2x2048x128 .f32, truncf (F := Ideal) .bf16 v bitsLt_bf16_f32 (ix3 0 j k) = v (ix3 0 j k)
    from fun v => by pointwise []]
  refine (concatenate_pair_apply_left (t := S2x2048x128) (s₁ := S1x2048x128) (s₂ := S1x2048x128) 0 _ _ _ (ix3 0 j k) rfl
    (ix3 0 j k) fun b => ?_).trans ?_
  · fin_cases b <;> rfl
  · pointwise []

variable (m : (ℓ : Loc nD τ sig) → Buf (Elt Ideal) ℓ) (c : Dev nD) (t : Fin cfg0.N)

/-- The arrays the call is run on. -/
abbrev argR : FVec Ideal S2x4x8192x128 .f32 := m ((c : Thread nD τ).loc main_arg0)
abbrev argP : FVec Ideal S1x32x64 .f32 := m ((c : Thread nD τ).loc main_arg1)
abbrev argW : FVec Ideal S1x2048x128 .f32 := m ((c : Thread nD τ).loc main_arg3)
abbrev argU : FVec Ideal S1x128x64 .f32 := m ((c : Thread nD τ).loc main_arg5)

theorem lt_2 : t.val < 2 := lt_of_lt_of_eq t.isLt (by decide +kernel)

/-- What the operations before the call make of them. -/
theorem host_places : V m c main_v10 = stackedPlaces (argP m c) (m ((c : Thread nD τ).loc main_arg2)) := rfl
theorem host_weights1 : V m c main_v16 = stackedWeights (argW m c) (m ((c : Thread nD τ).loc main_arg4)) := rfl

/-- The blocks of point `t`, read in the arrays. -/
theorem tokens_main (p e : Fin 2) : tokens (iblk m c 0 t) p e
    = fun s d => argR m c (ix4 ⟨t.val, lt_2 t⟩ ⟨p.val, by omega⟩ s ⟨64 * e.val + d.val, by omega⟩) := by
  funext s d
  unfold tokens
  blk_point [iblk, V, idx t]

theorem places_main (p e : Fin 2) : places (iblk m c 1 t) p e = fun s d => argP m c (ix3 0 s d) := by
  funext s d
  rw [show iblk m c 1 t = fun y => V m c main_v10 (((cfg0.win 1).blk t).view.emb y) from rfl, host_places]
  have he : ((cfg0.win 1).blk t).view.emb (ix3 0 s ⟨128 * p.val + (64 * e.val + d.val), by omega⟩)
      = ix3 0 s ⟨128 * p.val + (64 * e.val + d.val), by omega⟩ := by
    blk_ext [idx t]
  refine (congrArg (stackedPlaces _ _) he).trans ((stackedPlaces_apply _ _ s _).trans (congrArg (argP m c) ?_))
  refine congrArg (ix3 0 s) (Fin.ext ?_)
  show (128 * p.val + (64 * e.val + d.val)) % 64 = d.val
  omega

theorem weights1_main : weights1 (iblk m c 2 t) = fun j k => argW m c (ix3 0 j k) := by
  funext j k
  rw [show iblk m c 2 t = fun y => V m c main_v16 (((cfg0.win 2).blk t).view.emb y) from rfl, host_weights1]
  have he : ((cfg0.win 2).blk t).view.emb (ix3 0 j k) = ix3 0 j k := by
    blk_ext [idx t]
  exact (congrArg (stackedWeights _ _) he).trans (stackedWeights_apply _ _ j k)

theorem weights2_main : weights2 (iblk m c 3 t) = fun k j => argU m c (ix3 0 k j) := by
  funext k j
  unfold weights2
  blk_point [iblk, V, idx t]

/-- A number of the block, at the place in the result array where it is written. -/
theorem point (g : Fin 4) (n : Fin 512) (j : Fin 128) :
    block (iblk m c 0 t) (iblk m c 1 t) (iblk m c 2 t) (iblk m c 3 t) ⟨g.val / 2, by omega⟩ ⟨g.val % 2, by omega⟩ n j
      = value (argR m c) (argP m c) (argW m c) (argU m c) (((cfg0.win 4).blk t).view.emb (ix4 0 g n j)) := by
  have he : ((cfg0.win 4).blk t).view.emb (ix4 0 g n j) = ix4 ⟨t.val, lt_2 t⟩ g n j := by
    blk_ext [idx t]
  rw [he]
  unfold block
  rw [tokens_main, places_main, weights1_main, weights2_main]
  rfl

/-- The result array after the run. -/
theorem final : (dats m 0 c).arrAt 4 (cfgs 0).N = value (argR m c) (argP m c) (argW m c) (argU m c) := by
  refine (dats m 0 c).arrAt_eq_of_covers 4 _ (by decide +kernel) fun t _ y => ?_
  blk_simp
  rw [after0_4]
  obtain ⟨g, n, j, rfl⟩ : ∃ (g : Fin 4) (n : Fin 512) (j : Fin 128), y = ix4 0 g n j := ⟨y 1, y 2, y 3, by blk_ext⟩
  exact (block_apply (g := g) (n := n) (j := j) ..).trans (point m c t g n j)

end Cert.Kernel9Ideal.Value
-- ==== Proof.CmpReference.lean ====
/-
  What the references of the two compressing calls do with the tokens: block `n` takes the tokens from `16 n` on, and a place
  past the last token counts as zero.
-/
module

public import proofs.«01_k».proof.Proof.CmpSpec
public import proofs.«01_k».proof.Proof.Gen.Reference9Ideal.Read

@[expose] public section

set_option maxRecDepth 16384

noncomputable section

open Idealize.ShloMosaic Idealize.ShloMosaic.TcCoe Idealize.SL.Sem

namespace Cert.Reference9Ideal.Value

open Cert.Reference9Ideal Cert.Reference9Ideal.Gen

/-- The operand's axis of tokens is the one the indices speak of; the others are taken whole. -/
abbrev take : GatherDims S2x4x8192x64 S512x32x1 S2x4x512x32x64 :=
  gather_S2x4x8192x64_S512x32x1_S2x4x512x32x64_014_2_n_n_2_2_24164

theorem whole (j : S2x4x512x32x64.Idx) (at' : IVec S512x32x1 32) (a : Fin 4) (k : Fin 5) (h : a ≠ 2)
    (hk : take.offsetDims[take.sKept.idxOf a]? = some k) :
    take.start j at' a + take.offCoord j a = (j k).val := by
  have hs : a ∈ take.sKept := (take.mem_sKept a).2 ⟨fun h' => h (List.mem_singleton.mp h'), List.not_mem_nil⟩
  unfold GatherDims.start GatherDims.offCoord
  rw [dif_neg (show a ∉ take.startIndexMap from fun h' => h (List.mem_singleton.mp h')), dif_pos hs, Nat.zero_add]
  obtain ⟨h1, h2⟩ := List.getElem?_eq_some_iff.mp hk
  exact congrArg (fun k => (j k).val) h2

/-- The tokens taken at given places, read at a place: a place past the last token is moved back to it. -/
theorem take_apply (x : FVec Ideal S2x4x8192x64 .f32) (at' : IVec S512x32x1 32) (b : Fin 2) (g : Fin 4) (n : Fin 512)
    (s : Fin 32) (d : Fin 64) :
    Host.gather take x at' (ix5 b g n s d)
      = x (ix4 b g ⟨min (at' (ix3 n s 0)).toInt.toNat 8191, by omega⟩ d) := by
  unfold Host.gather
  refine congrArg x (funext fun a => Fin.ext ?_)
  show take.start _ _ a + take.batchCoord _ a + take.offCoord _ a = _
  rw [GatherDims.batchCoord_eq_zero _ _ _ List.not_mem_nil, Nat.add_zero]
  fin_cases a
  · exact whole _ _ 0 0 (by decide) (by decide +kernel)
  · exact whole _ _ 1 1 (by decide) (by decide +kernel)
  · show take.start _ _ (2 : Fin 4) + take.offCoord _ (2 : Fin 4) = min (at' (ix3 n s 0)).toInt.toNat 8191
    rw [GatherDims.offCoord_eq_zero _ _ _ fun h => ((GatherDims.mem_sKept _ _).mp h).1 (List.mem_singleton.mpr rfl)]
    unfold GatherDims.start
    rw [dif_pos (show (2 : Fin 4) ∈ take.startIndexMap from List.mem_singleton.mpr rfl), Nat.add_zero]
    refine congrArg (fun i => min (at' i).toInt.toNat 8191) (funext fun c => Fin.ext ?_)
    match c with
    | ⟨0, _⟩ => rfl
    | ⟨1, _⟩ => rfl
    | ⟨2, _⟩ => rfl
  · exact whole _ _ 3 4 (by decide) (by decide +kernel)

/-- Place `s` of block `n` is token `16 n + s`. -/
theorem at_apply (n : Fin 512) (s : Fin 32) :
    Read.val_main_v16 (F := Ideal) (ix2 n s) = BitVec.ofNat 32 (16 * n.val + s.val) := by
  open Read in
  rw [val_main_v16_apply, val_main_v14_apply, val_main_v11_apply, val_main_v10_apply, val_main_v8_apply, val_main_v9_apply,
    val_main_c_apply, val_main_v15_apply, val_main_v13_apply, val_main_v12_apply]
  show BitVec.ofNat 32 n.val * 16#32 + BitVec.ofNat 32 s.val = _
  refine BitVec.eq_of_toNat_eq ?_
  simp only [BitVec.toNat_add, BitVec.toNat_mul, BitVec.toNat_ofNat]
  omega

theorem toInt_at (n : Fin 512) (s : Fin 32) : (BitVec.ofNat 32 (16 * n.val + s.val)).toInt = (16 * n.val + s.val : ℕ) := by
  rw [BitVec.toInt_ofNat']
  exact Int.bmod_eq_of_le (by omega) (by omega)

/-- A place counts when its token is one of the 8192. -/
theorem counts_apply (n : Fin 512) (s : Fin 32) :
    Read.val_main_v18 (F := Ideal) (ix2 n s) = BitVec.ofBool (decide (16 * n.val + s.val < 8192)) := by
  open Read in
  rw [val_main_v18_apply, val_main_v17_apply, val_main_c_0_apply, at_apply]
  show BitVec.ofBool (BitVec.slt _ _) = _
  refine congrArg BitVec.ofBool ?_
  unfold BitVec.slt
  rw [toInt_at]
  refine decide_eq_decide.mpr ?_
  show ((16 * n.val + s.val : ℕ) : ℤ) < 8192 ↔ _
  omega

/-- The tokens of a head with its positions, as the blocks read them. -/
theorem entry_apply (x : FVec Ideal S2x4x8192x64 .f32) (y : EReal) (b : Fin 2) (g : Fin 4) (n : Fin 512) (s : Fin 32)
    (d : Fin 64) (P : Fin 32 → Fin 64 → EReal) (hy : y = P s d) :
    Scalar.select (Read.val_main_v18 (F := Ideal) (ix2 n s))
        (Host.gather take x (Read.val_main_call0_v0 (F := Ideal)) (ix5 b g n s d) + y : EReal) 0
      = Cmp.entry (fun t d => x (ix4 b g t d)) P n s d := by
  rw [counts_apply, take_apply]
  unfold Cmp.entry
  by_cases h : 16 * n.val + s.val < 8192
  · rw [dif_pos h, decide_eq_true h, hy]
    refine (show Scalar.select (BitVec.ofBool true) _ _ = _ from rfl).trans ?_
    refine congrArg (fun t => x (ix4 b g t d) + P s d) (Fin.ext ?_)
    show min (Read.val_main_call0_v0 (F := Ideal) (ix3 n s 0)).toInt.toNat 8191 = 16 * n.val + s.val
    have e : Read.val_main_call0_v0 (F := Ideal) (ix3 n s 0) = BitVec.ofNat 32 (16 * n.val + s.val) :=
      (Read.val_main_call0_v0_apply _).trans ((congrArg _ (by funext a; fin_cases a <;> rfl)).trans (at_apply n s))
    rw [e, toInt_at]
    omega
  · rw [dif_neg h, decide_eq_false h]
    rfl

end Cert.Reference9Ideal.Value
-- ==== Proof.CmpClaim9.lean ====
/-
  The reference of the call that compresses the keys computes the same function, and so the value claim.
-/
module

public import proofs.«01_k».proof.Proof.CmpKernel9
public import proofs.«01_k».proof.Proof.CmpReference
public import proofs.«01_k».proof.Defs
public import Idealize.ShloMosaic.Lib.Claim
public import Idealize.ShloMosaic.Lib.IdealHost

@[expose] public section

set_option maxRecDepth 16384

noncomputable section

open Idealize.ShloMosaic Idealize.ShloMosaic.TcCoe Idealize.SL.Sem

namespace Cert.Reference9Ideal.Value

open Cert.Reference9Ideal Cert.Reference9Ideal.Gen

variable (R : FVec Ideal S2x4x8192x128 .f32) (P : FVec Ideal S1x32x64 .f32) (W : FVec Ideal S1x2048x128 .f32)
  (U : FVec Ideal S1x128x64 .f32)

/-- The tokens of head `g`: half `g % 2` of the numbers of pair `g / 2`. -/
theorem head_apply (b : Fin 2) (g : Fin 4) (t : Fin 8192) (d : Fin 64) :
    Read.val_main_v4 (F := Ideal) R (ix4 b g t d)
      = R (ix4 b ⟨g.val / 2, by omega⟩ t ⟨64 * (g.val % 2) + d.val, by omega⟩) := by
  open Read in
  pointwise [val_main_v0, val_main_v1, val_main_v2, val_main_v3, val_main_v4]
  refine congrArg (fun l => R (ix4 b _ t l)) (Fin.ext ?_)
  show g.val % 2 * 64 + d.val = 64 * (g.val % 2) + d.val
  omega

/-- The positions. -/
theorem place_apply (b : Fin 2) (g : Fin 4) (n : Fin 512) (s : Fin 32) (d : Fin 64) :
    Read.val_main_v22 (F := Ideal) P (ix5 b g n s d) = P (ix3 0 s d) := by
  open Read in
  pointwise [val_main_v5, val_main_v21, val_main_v22]

/-- A block's numbers. -/
theorem masked_apply (b : Fin 2) (g : Fin 4) (n : Fin 512) (s : Fin 32) (d : Fin 64) :
    Read.val_main_v24 (F := Ideal) R P (ix5 b g n s d)
      = Cmp.entry (fun t d => R (ix4 b ⟨g.val / 2, by omega⟩ t ⟨64 * (g.val % 2) + d.val, by omega⟩))
          (fun s d => P (ix3 0 s d)) n s d := by
  have h := entry_apply (Read.val_main_v4 (F := Ideal) R) (Read.val_main_v22 (F := Ideal) P (ix5 b g n s d)) b g n s d
    (fun s d => P (ix3 0 s d)) (place_apply P b g n s d)
  simp only [head_apply] at h
  refine Eq.trans ?_ h
  open Read in
  rw [val_main_v24_apply, val_main_call1_v1_apply, val_main_v19_apply, val_main_v23_apply, val_main_call1_v2_apply,
    val_main_call1_v0_apply, val_main_cst_apply]
  refine congrArg₂ (fun c z => Scalar.select c _ z) (congrArg _ (by funext a; fin_cases a <;> rfl)) ?_
  exact Ideal.ofBits_zero _

/-- The first layer. -/
theorem pre_apply (b : Fin 2) (g : Fin 4) (n : Fin 512) (k : Fin 128) :
    Read.val_main_v26 (F := Ideal) R P W (ix4 b g n k)
      = Cmp.pre (fun t d => R (ix4 b ⟨g.val / 2, by omega⟩ t ⟨64 * (g.val % 2) + d.val, by omega⟩))
          (fun s d => P (ix3 0 s d)) (fun j k => W (ix3 0 j k)) n k := by
  have h : Read.val_main_v26 (F := Ideal) R P W (ix4 b g n k)
      = ∑ q : Fin 2048, Read.val_main_v25 (F := Ideal) R P (ix4 b g n q) * W (ix3 0 q k) := by
    open Read in
    pointwise [val_main_v26, val_main_v6]
  rw [h, Cmp.sum_stretches]
  unfold Cmp.pre
  refine Finset.sum_congr rfl fun s _ => Finset.sum_congr rfl fun d _ => congrArg (· * _) ?_
  rw [← masked_apply]
  open Read in
  pointwise [val_main_v25]

/-- The logistic. -/
theorem silu_apply (b : Fin 2) (g : Fin 4) (n : Fin 512) (k : Fin 128) :
    Read.val_main_v27 (F := Ideal) R P W (ix4 b g n k) = Cmp.silu (Read.val_main_v26 (F := Ideal) R P W (ix4 b g n k)) := by
  open Read in
  rw [val_main_v27_apply, val_main_call2_v5_apply, val_main_call2_v4_apply, val_main_call2_cst_0_apply,
    val_main_call2_v3_apply, val_main_call2_v2_apply, val_main_call2_cst_apply, val_main_call2_v1_apply,
    val_main_call2_v0_apply]
  generalize Read.val_main_v26 (F := Ideal) R P W (ix4 b g n k) = a
  rw [show (FloatOps.ofBits (F := Ideal) .f32 0x3F800000#32 : EReal) = 1 from Ideal.ofBits_one_f32]
  unfold Cmp.silu
  rw [zero_sub]
  rfl

/-- The reference's numbers before it fills up the rows with zeros. -/
theorem result_apply (b : Fin 2) (g : Fin 4) (n : Fin 512) (j : Fin 64) :
    Read.val_main_v28 (F := Ideal) R P W U (ix4 b g n j)
      = Cmp.result (fun t d => R (ix4 b ⟨g.val / 2, by omega⟩ t ⟨64 * (g.val % 2) + d.val, by omega⟩))
          (fun s d => P (ix3 0 s d)) (fun j k => W (ix3 0 j k)) (fun k j => U (ix3 0 k j)) n j := by
  have h : Read.val_main_v28 (F := Ideal) R P W U (ix4 b g n j)
      = ∑ k : Fin 128, Read.val_main_v27 (F := Ideal) R P W (ix4 b g n k) * U (ix3 0 k j) := by
    unfold Read.val_main_v28
    generalize Read.val_main_v27 (F := Ideal) R P W = y
    open Read in
    pointwise [val_main_v7]
  rw [h]
  unfold Cmp.result
  exact Finset.sum_congr rfl fun k _ => congrArg (· * U (ix3 0 k j))
    ((silu_apply R P W b g n k).trans (congrArg Cmp.silu (pre_apply R P W b g n k)))

/-- The reference's result. -/
theorem value_eq : Read.val_main_v31 (F := Ideal) R P W U = Cert.Kernel9Ideal.Value.value R P W U := by
  funext i
  obtain ⟨b, g, n, j, rfl⟩ : ∃ (b : Fin 2) (g : Fin 4) (n : Fin 512) (j : Fin 128), i = ix4 b g n j :=
    ⟨i 0, i 1, i 2, i 3, by blk_ext⟩
  unfold Cert.Kernel9Ideal.Value.value
  show Read.val_main_v30 (F := Ideal) R P W U (ix4 b g n j) = if h : j.val < 64 then _ else _
  unfold Read.val_main_v30
  by_cases h : j.val < 64
  · rw [dif_pos h]
    refine (concatenate_pair_apply_left (t := S2x4x512x128) (s₁ := S2x4x512x64) (s₂ := S2x4x512x64) 3 _ _ _ (ix4 b g n j) rfl
      (ix4 b g n ⟨j.val, h⟩) fun a => ?_).trans (result_apply R P W U b g n ⟨j.val, h⟩)
    fin_cases a <;> rfl
  · rw [dif_neg h]
    refine (concatenate_pair_apply_right (t := S2x4x512x128) (s₁ := S2x4x512x64) (s₂ := S2x4x512x64) 3 _ _ _ (ix4 b g n j) rfl
      rfl (ix4 b g n ⟨j.val - 64, by omega⟩) (fun a ha => ?_) ?_).trans ?_
    · fin_cases a <;> first | rfl | exact absurd rfl ha
    · show j.val - 64 + 64 = j.val
      omega
    · open Read in
      pointwise [val_main_v29, val_main_cst_1]

end Cert.Reference9Ideal.Value

namespace Cert.Proof

/-- The call and the reference end with the same array. -/
theorem algebraic9 : Cert.algebraic_Kernel9Ideal_Reference9Ideal := by
  pair_intro
  · run_from Cert.Kernel9Ideal.Gen.run_main m g
  · run_from Cert.Reference9Ideal.Value.run m' g'
    rw [Cert.Kernel9Ideal.Value.final m c]
    obtain ⟨h0, h1, h2, h3, h4, h5⟩ := hagree c
    rw [Cert.Reference9Ideal.Read.val_main_v31_eq m' c, h0, h1, h3, h5]
    exact Cert.Reference9Ideal.Value.value_eq _ _ _ _

end Cert.Proof
-- ==== Proof.CmpBody10.lean ====
/-
  The body of the call that compresses the values. Its two sums per head and its scratch array are those of the call that
  compresses the keys; only the second layer's product differs, which is written with tokens along the last axis.
-/
module

public import proofs.«01_k».proof.Proof.CmpBody9
public import proofs.«01_k».proof.Proof.Gen.Kernel10Ideal.Value
public import Idealize.ShloMosaic.Lib.Pipeline.ValueKit

@[expose] public section

set_option maxRecDepth 16384

noncomputable section

open Idealize.ShloMosaic Idealize.ShloMosaic.TcCoe Idealize.SL.Sem

namespace Cert.Kernel10Ideal.Value

open Cert.Kernel10Ideal Cert.Kernel10Ideal.Gen
open Cert.Kernel9Ideal.Value (first second over tail shifted)

variable (arg1 : Memref sig .tc .vmem S1x2x8192x128 .f32) (harg1 : arg1.IsWhole)
  (arg2 : Memref sig .tc .vmem S1x32x256 .f32) (harg2 : arg2.IsWhole)
  (arg3 : Memref sig .tc .vmem S1x2048x128 .bf16) (harg3 : arg3.IsWhole)
  (arg4 : Memref sig .tc .vmem S1x64x128 .bf16) (harg4 : arg4.IsWhole)
  (arg6 : Memref sig .tc .vmem S520x128 .f32)
  (x0 : Vec Ideal S1x2x8192x128 .f32) (x1 : Vec Ideal S1x32x256 .f32) (x2 : Vec Ideal S1x2048x128 .bf16)
  (x3 : Vec Ideal S1x64x128 .bf16)

/-- The second layer's weights. -/
def layer2 : Vec Ideal S1x64x128 .bf16 :=
  View.readAt (Elt Ideal) arg4.view (Rect.unit (s := S1x64x128) ![0, 0, 0] S1x64x128.size inb_S1x64x128_S1x64x128_0_0_0).toLoadRect
    (harg4.unread x3)

/-- What is written for head `2p + e`, the scratch array being `L` before. -/
def tile (p e : Fin 2) (L : List (View.Piece (Elt Ideal) S520x128 .f32)) : FVec Ideal S1x1x64x512 .bf16 :=
  k0_pay260 (first arg1 harg1 arg2 harg2 arg3 harg3 x0 x1 x2 p e)
    (shifted arg6 (over (second arg1 harg1 arg2 harg2 arg3 harg3 x0 x1 x2 p e) L)) (layer2 arg4 harg4 x3)

set_option maxHeartbeats 4000000 in
/-- What the body writes, last store first. -/
theorem pieces (c : Dev nD) (i : grid0.Coords) (arg5 : Memref sig .tc .vmem S1x4x64x512 .bf16) (harg5 : arg5.IsWhole)
    (harg6 : arg6.IsWhole) :
    (kernelRun0_A c i arg1 harg1 arg2 harg2 arg3 harg3 arg4 harg4 arg5 harg5 arg6 harg6 x0 x1 x2 x3).1
      = [⟨Rect.unit ![0, 3, 0, 0] S1x1x64x512.size inb_S1x4x64x512_S1x1x64x512_0_3_0_0,
          tile arg1 harg1 arg2 harg2 arg3 harg3 arg4 harg4 arg6 x0 x1 x2 x3 1 1
            (over (second arg1 harg1 arg2 harg2 arg3 harg3 x0 x1 x2 1 0)
              (over (second arg1 harg1 arg2 harg2 arg3 harg3 x0 x1 x2 0 1)
                (over (second arg1 harg1 arg2 harg2 arg3 harg3 x0 x1 x2 0 0) tail)))⟩,
        ⟨Rect.unit ![0, 2, 0, 0] S1x1x64x512.size inb_S1x4x64x512_S1x1x64x512_0_2_0_0,
          tile arg1 harg1 arg2 harg2 arg3 harg3 arg4 harg4 arg6 x0 x1 x2 x3 1 0
            (over (second arg1 harg1 arg2 harg2 arg3 harg3 x0 x1 x2 0 1)
              (over (second arg1 harg1 arg2 harg2 arg3 harg3 x0 x1 x2 0 0) tail))⟩,
        ⟨Rect.unit ![0, 1, 0, 0] S1x1x64x512.size inb_S1x4x64x512_S1x1x64x512_0_1_0_0,
          tile arg1 harg1 arg2 harg2 arg3 harg3 arg4 harg4 arg6 x0 x1 x2 x3 0 1
            (over (second arg1 harg1 arg2 harg2 arg3 harg3 x0 x1 x2 0 0) tail)⟩,
        ⟨Rect.unit ![0, 0, 0, 0] S1x1x64x512.size inb_S1x4x64x512_S1x1x64x512_0_0_0_0,
          tile arg1 harg1 arg2 harg2 arg3 harg3 arg4 harg4 arg6 x0 x1 x2 x3 0 0 tail⟩] := by
  sl_kernel_rfl

end Cert.Kernel10Ideal.Value

end
-- ==== Proof.CmpBlock10.lean ====
/-
  The numbers that the body of the call that compresses the values writes.
-/
module

public import proofs.«01_k».proof.Proof.CmpBody10
public import proofs.«01_k».proof.Proof.CmpBlock9

@[expose] public section

set_option maxRecDepth 16384

noncomputable section

open Idealize.ShloMosaic Idealize.ShloMosaic.TcCoe Idealize.SL.Sem

namespace Cert.Kernel10Ideal.Value

open Cert.Kernel10Ideal Cert.Kernel10Ideal.Gen
open Cert.Kernel9Ideal.Value (first second over tail shifted first_apply second_apply shifted_apply tokens places weights1
  ZeroFrom512 zero_over zero_tail)

variable (arg1 : Memref sig .tc .vmem S1x2x8192x128 .f32) (harg1 : arg1.IsWhole)
  (arg2 : Memref sig .tc .vmem S1x32x256 .f32) (harg2 : arg2.IsWhole)
  (arg3 : Memref sig .tc .vmem S1x2048x128 .bf16) (harg3 : arg3.IsWhole)
  (arg4 : Memref sig .tc .vmem S1x64x128 .bf16) (harg4 : arg4.IsWhole)
  (arg6 : Memref sig .tc .vmem S520x128 .f32)
  (x0 : Vec Ideal S1x2x8192x128 .f32) (x1 : Vec Ideal S1x32x256 .f32) (x2 : Vec Ideal S1x2048x128 .bf16)
  (x3 : Vec Ideal S1x64x128 .bf16)

theorem layer2_apply (j : Fin 64) (k : Fin 128) : layer2 arg4 harg4 x3 (ix3 0 j k) = x3 (ix3 0 j k) := by
  refine (congrFun (harg4.read_unread x3) _).trans (congrArg x3 (funext fun a => Fin.ext ?_))
  fin_cases a
  · rfl
  · show 0 + 1 * j.val = j.val
    omega
  · show 0 + 1 * k.val = k.val
    omega

/-- The second layer. -/
def weights2 : Fin 128 → Fin 64 → EReal := fun k j => x3 (ix3 0 j k)

/-- The second layer's product, with tokens along the last axis. -/
theorem product_apply (h s : FVec Ideal S512x128 .f32) (w : Vec Ideal S1x64x128 .bf16) (j : Fin 64) (n : Fin 512) :
    k0_pay260 h s w (ix4 0 0 j n) = ∑ k : Fin 128, w (ix3 0 j k) * Cmp.silu (h (ix2 n k) + s (ix2 n k)) := by
  pointwise [k0_pay260, Cmp.silu]

/-- Number `j` of token block `n` of head `2p + e`. -/
def block (p e : Fin 2) (j : Fin 64) (n : Fin 512) : EReal :=
  Cmp.result (tokens x0 p e) (places x1 p e) (weights1 x2) (weights2 x3) n j

theorem tile_apply (p e : Fin 2) {L : List (View.Piece (Elt Ideal) S520x128 .f32)} (hL : ZeroFrom512 L) (j : Fin 64)
    (n : Fin 512) :
    tile arg1 harg1 arg2 harg2 arg3 harg3 arg4 harg4 arg6 x0 x1 x2 x3 p e L (ix4 0 0 j n) = block x0 x1 x2 x3 p e j n := by
  unfold tile block Cmp.result
  rw [product_apply]
  refine Finset.sum_congr rfl fun k _ => ?_
  rw [mul_comm, layer2_apply, first_apply, shifted_apply _ _ hL, Cmp.pre_eq]
  simp only [second_apply]
  rfl

/-- What the body leaves in the output block. -/
theorem block_apply (c : Dev nD) (i : grid0.Coords) (arg5 : Memref sig .tc .vmem S1x4x64x512 .bf16) (harg5 : arg5.IsWhole)
    (harg6 : arg6.IsWhole) (g : Fin 4) (j : Fin 64) (n : Fin 512) :
    out0_A_4 c i arg1 harg1 arg2 harg2 arg3 harg3 arg4 harg4 arg5 harg5 arg6 harg6 x0 x1 x2 x3 (ix4 0 g j n)
      = block x0 x1 x2 x3 ⟨g.val / 2, by omega⟩ ⟨g.val % 2, by omega⟩ j n := by
  unfold out0_A_4
  rw [View.read_writes_junk_eq_canon, pieces]
  canon_tiles x h
  all_goals
    obtain ⟨j', n', rfl⟩ : ∃ (j' : Fin 64) (n' : Fin 512), x = ix4 0 0 j' n' := ⟨x 2, x 3, by blk_ext⟩
    obtain rfl : j = j' := Fin.ext h2
    obtain rfl : n = n' := Fin.ext h3
  case piece0 =>
    obtain rfl : g = 3 := Fin.ext h1
    exact tile_apply _ _ _ _ _ _ _ _ _ _ _ _ _ 1 1 (zero_over _ (zero_over _ (zero_over _ zero_tail))) j n
  case piece1 =>
    obtain rfl : g = 2 := Fin.ext h1
    exact tile_apply _ _ _ _ _ _ _ _ _ _ _ _ _ 1 0 (zero_over _ (zero_over _ zero_tail)) j n
  case piece2 =>
    obtain rfl : g = 1 := Fin.ext h1
    exact tile_apply _ _ _ _ _ _ _ _ _ _ _ _ _ 0 1 (zero_over _ zero_tail) j n
  case piece3 =>
    obtain rfl : g = 0 := Fin.ext h1
    exact tile_apply _ _ _ _ _ _ _ _ _ _ _ _ _ 0 0 zero_tail j n

end Cert.Kernel10Ideal.Value

end
-- ==== Proof.CmpKernel10.lean ====
/-
  The call that compresses the values: its result array as a function of its arguments.

  Point `t` of the grid compresses batch row `t`. Its block of tokens is the second half of that batch row, and its positions
  and first layer are the second ones of the two stacked on each other. The result has tokens along its last axis.
-/
module

public import proofs.«01_k».proof.Proof.CmpBlock10
public import proofs.«01_k».proof.Proof.CmpKernel9

@[expose] public section

set_option maxRecDepth 16384

noncomputable section

open Idealize.ShloMosaic Idealize.ShloMosaic.TcCoe Idealize.SL.Sem

namespace Cert.Kernel10Ideal.Value

open Cert.Kernel10Ideal Cert.Kernel10Ideal.Gen
open Cert.Kernel9Ideal.Value (tokens places weights1 fourTimes fourTimes_apply stackedPlaces stackedWeights)

/-- The index maps of the windows, over all grid points. -/
theorem idx : ∀ t : Fin cfg0.N, win0_0.index t = ![t.val, 1, 0, 0] ∧ win0_1.index t = ![1, 0, 0]
    ∧ win0_2.index t = ![1, 0, 0] ∧ win0_3.index t = ![0, 0, 0] ∧ win0_4.index t = ![t.val, 0, 0, 0] :=
  (by decide +kernel : ∀ t : Fin grid0.N, _)

/-- The result array as a function of the argument arrays. -/
def value (R : FVec Ideal S2x4x8192x128 .f32) (P : FVec Ideal S1x32x64 .f32) (W : FVec Ideal S1x2048x128 .f32)
    (U : FVec Ideal S1x128x64 .f32) : FVec Ideal S2x4x64x512 .bf16 := fun i =>
  Cmp.result (fun t d => R (ix4 (i 0) ⟨2 + (i 1).val / 2, by have : (i 1).val < 4 := (i 1).isLt; omega⟩ t ⟨64 * ((i 1).val % 2) + d, by omega⟩))
    (fun s d => P (ix3 0 s d)) (fun j k => W (ix3 0 j k)) (fun k j => U (ix3 0 k j)) (i 3) (i 2)

/-- The second of the stacked positions. -/
theorem stackedPlaces_second (P Q : FVec Ideal S1x32x64 .f32) (s : Fin 32) (l : Fin 256) :
    stackedPlaces P Q (ix3 1 s l) = Q (ix3 0 s ⟨l.val % 64, by omega⟩) := by
  unfold stackedPlaces
  refine (concatenate_pair_apply_right (t := S2x32x256) (s₁ := S1x32x256) (s₂ := S1x32x256) 0 _ _ _ (ix3 1 s l) rfl rfl
    (ix3 0 s l) (fun b hb => ?_) rfl).trans (fourTimes_apply Q s l)
  fin_cases b
  · exact absurd rfl hb
  · rfl
  · rfl

/-- The second of the stacked weights. -/
theorem stackedWeights_second (W Y : FVec Ideal S1x2048x128 .f32) (j : Fin 2048) (k : Fin 128) :
    stackedWeights W Y (ix3 1 j k) = Y (ix3 0 j k) := by
  unfold stackedWeights
  rw [show ∀ v : FVec Ideal S2x2048x128 .f32, truncf (F := Ideal) .bf16 v bitsLt_bf16_f32 (ix3 1 j k) = v (ix3 1 j k)
    from fun v => by pointwise []]
  refine (concatenate_pair_apply_right (t := S2x2048x128) (s₁ := S1x2048x128) (s₂ := S1x2048x128) 0 _ _ _ (ix3 1 j k) rfl rfl
    (ix3 0 j k) (fun b hb => ?_) rfl).trans ?_
  · fin_cases b
    · exact absurd rfl hb
    · rfl
    · rfl
  · pointwise []

variable (m : (ℓ : Loc nD τ sig) → Buf (Elt Ideal) ℓ) (c : Dev nD) (t : Fin cfg0.N)

/-- The arrays the call is run on. -/
abbrev argR : FVec Ideal S2x4x8192x128 .f32 := m ((c : Thread nD τ).loc main_arg0)
abbrev argP : FVec Ideal S1x32x64 .f32 := m ((c : Thread nD τ).loc main_arg2)
abbrev argW : FVec Ideal S1x2048x128 .f32 := m ((c : Thread nD τ).loc main_arg4)
abbrev argU : FVec Ideal S1x128x64 .f32 := m ((c : Thread nD τ).loc main_arg5)

theorem lt_2 : t.val < 2 := lt_of_lt_of_eq t.isLt (by decide +kernel)

/-- What the operations before the call make of them. -/
theorem host_places : V m c main_v10 = stackedPlaces (m ((c : Thread nD τ).loc main_arg1)) (argP m c) := rfl
theorem host_weights1 : V m c main_v16 = stackedWeights (m ((c : Thread nD τ).loc main_arg3)) (argW m c) := rfl

/-- The blocks of point `t`, read in the arrays. -/
theorem tokens_main (p e : Fin 2) : tokens (iblk m c 0 t) p e
    = fun s d => argR m c (ix4 ⟨t.val, lt_2 t⟩ ⟨2 + p.val, by omega⟩ s ⟨64 * e.val + d.val, by omega⟩) := by
  funext s d
  unfold tokens
  blk_point [iblk, V, idx t]

theorem places_main (p e : Fin 2) : places (iblk m c 1 t) p e = fun s d => argP m c (ix3 0 s d) := by
  funext s d
  unfold places
  rw [show iblk m c 1 t = fun y => V m c main_v10 (((cfg0.win 1).blk t).view.emb y) from rfl, host_places]
  have he : ((cfg0.win 1).blk t).view.emb (ix3 0 s ⟨128 * p.val + (64 * e.val + d.val), by omega⟩)
      = ix3 1 s ⟨128 * p.val + (64 * e.val + d.val), by omega⟩ := by
    blk_ext [idx t]
  refine (congrArg (stackedPlaces _ _) he).trans ((stackedPlaces_second _ _ s _).trans (congrArg (argP m c) ?_))
  refine congrArg (ix3 0 s) (Fin.ext ?_)
  show (128 * p.val + (64 * e.val + d.val)) % 64 = d.val
  omega

theorem weights1_main : weights1 (iblk m c 2 t) = fun j k => argW m c (ix3 0 j k) := by
  funext j k
  unfold weights1
  rw [show iblk m c 2 t = fun y => V m c main_v16 (((cfg0.win 2).blk t).view.emb y) from rfl, host_weights1]
  have he : ((cfg0.win 2).blk t).view.emb (ix3 0 j k) = ix3 1 j k := by
    blk_ext [idx t]
  exact (congrArg (stackedWeights _ _) he).trans (stackedWeights_second _ _ j k)

theorem weights2_main : weights2 (iblk m c 3 t) = fun k j => argU m c (ix3 0 k j) := by
  funext k j
  unfold weights2
  blk_point [iblk, V, idx t]

/-- A number of the block, at the place in the result array where it is written. -/
theorem point (g : Fin 4) (j : Fin 64) (n : Fin 512) :
    block (iblk m c 0 t) (iblk m c 1 t) (iblk m c 2 t) (iblk m c 3 t) ⟨g.val / 2, by omega⟩ ⟨g.val % 2, by omega⟩ j n
      = value (argR m c) (argP m c) (argW m c) (argU m c) (((cfg0.win 4).blk t).view.emb (ix4 0 g j n)) := by
  have he : ((cfg0.win 4).blk t).view.emb (ix4 0 g j n) = ix4 ⟨t.val, lt_2 t⟩ g j n := by
    blk_ext [idx t]
  rw [he]
  unfold block
  rw [tokens_main, places_main, weights1_main, weights2_main]
  rfl

/-- The result array after the run. -/
theorem final : (dats m 0 c).arrAt 4 (cfgs 0).N = value (argR m c) (argP m c) (argW m c) (argU m c) := by
  refine (dats m 0 c).arrAt_eq_of_covers 4 _ (by decide +kernel) fun t _ y => ?_
  blk_simp
  rw [after0_4]
  obtain ⟨g, j, n, rfl⟩ : ∃ (g : Fin 4) (j : Fin 64) (n : Fin 512), y = ix4 0 g j n := ⟨y 1, y 2, y 3, by blk_ext⟩
  exact (block_apply (g := g) (j := j) (n := n) ..).trans (point m c t g j n)

end Cert.Kernel10Ideal.Value

end
-- ==== Proof.CmpClaim10.lean ====
/-
  The reference of the call that compresses the values computes the same function, and so the value claim.

  Up to its last transposition it is the reference of the call that compresses the keys on an array whose two halves are
  exchanged, so its numbers are those read in `CmpClaim9`.
-/
module

public import proofs.«01_k».proof.Proof.CmpKernel10
public import proofs.«01_k».proof.Proof.CmpClaim9
public import proofs.«01_k».proof.Proof.Gen.Reference10Ideal.Read

@[expose] public section

set_option maxRecDepth 16384

noncomputable section

open Idealize.ShloMosaic Idealize.ShloMosaic.TcCoe Idealize.SL.Sem

namespace Cert.Reference10Ideal.Value

open Cert.Reference10Ideal Cert.Reference10Ideal.Gen

variable (R : FVec Ideal S2x4x8192x128 .f32) (P : FVec Ideal S1x32x64 .f32) (W : FVec Ideal S1x2048x128 .f32)
  (U : FVec Ideal S1x128x64 .f32)

/-- The array with its two halves exchanged. -/
def exchanged : FVec Ideal S2x4x8192x128 .f32 := fun i => R (ix4 (i 0) ⟨(2 + (i 1).val) % 4, by omega⟩ (i 2) (i 3))

/-- The tokens of head `g`: half `g % 2` of the numbers of pair `2 + g / 2`. -/
theorem head_apply (b : Fin 2) (g : Fin 4) (t : Fin 8192) (d : Fin 64) :
    Read.val_main_v4 (F := Ideal) R (ix4 b g t d)
      = R (ix4 b ⟨2 + g.val / 2, by omega⟩ t ⟨64 * (g.val % 2) + d.val, by omega⟩) := by
  open Read in
  pointwise [val_main_v0, val_main_v1, val_main_v2, val_main_v3, val_main_v4]
  refine congrArg₂ (fun p l => R (ix4 b p t l)) (Fin.ext ?_) (Fin.ext ?_)
  · rfl
  · show g.val % 2 * 64 + d.val = 64 * (g.val % 2) + d.val
    omega

theorem heads : Read.val_main_v4 (F := Ideal) R = Cert.Reference9Ideal.Read.val_main_v4 (F := Ideal) (exchanged R) := by
  funext i
  obtain ⟨b, g, t, d, rfl⟩ : ∃ (b : Fin 2) (g : Fin 4) (t : Fin 8192) (d : Fin 64), i = ix4 b g t d :=
    ⟨i 0, i 1, i 2, i 3, by blk_ext⟩
  rw [head_apply, Cert.Reference9Ideal.Value.head_apply]
  refine congrArg (fun p => R (ix4 b p t _)) (Fin.ext ?_)
  show 2 + g.val / 2 = (2 + g.val / 2) % 4
  omega

/-- So the two references agree before they lay out their results. -/
theorem result_eq : Read.val_main_v28 (F := Ideal) R P W U
    = Cert.Reference9Ideal.Read.val_main_v28 (F := Ideal) (exchanged R) P W U := by
  open Read in
  unfold val_main_v28 val_main_v27 val_main_call2_v5 val_main_call2_v3 val_main_call2_v1 val_main_call2_v0 val_main_v26
    val_main_v25 val_main_v24 val_main_v23 val_main_v20
  rw [heads]
  rfl

/-- The reference's result. -/
theorem value_eq : Read.val_main_v30 (F := Ideal) R P W U = Cert.Kernel10Ideal.Value.value R P W U := by
  funext i
  obtain ⟨b, g, j, n, rfl⟩ : ∃ (b : Fin 2) (g : Fin 4) (j : Fin 64) (n : Fin 512), i = ix4 b g j n :=
    ⟨i 0, i 1, i 2, i 3, by blk_ext⟩
  refine Eq.trans (b := Read.val_main_v28 (F := Ideal) R P W U (ix4 b g n j)) ?_ ?_
  · show Read.val_main_v29 (F := Ideal) R P W U (ix4 b g j n) = _
    rw [Read.val_main_v29_apply]
    exact congrArg _ (by funext a; fin_cases a <;> rfl)
  · rw [result_eq, Cert.Reference9Ideal.Value.result_apply]
    refine congrArg (fun T => Cmp.result T (fun s d => P (ix3 0 s d)) (fun j k => W (ix3 0 j k)) (fun k j => U (ix3 0 k j)) n j)
      (funext fun t => funext fun d => ?_)
    refine congrArg (fun p => R (ix4 b p t _)) (Fin.ext ?_)
    show (2 + g.val / 2) % 4 = 2 + g.val / 2
    omega

end Cert.Reference10Ideal.Value

namespace Cert.Proof

/-- The call and the reference end with the same array. -/
theorem algebraic10 : Cert.algebraic_Kernel10Ideal_Reference10Ideal := by
  pair_intro
  · run_from Cert.Kernel10Ideal.Gen.run_main m g
  · run_from Cert.Reference10Ideal.Value.run m' g'
    rw [Cert.Kernel10Ideal.Value.final m c]
    obtain ⟨h0, h1, h2, h3, h4, h5⟩ := hagree c
    rw [Cert.Reference10Ideal.Read.val_main_v30_eq m' c, h0, h2, h4, h5]
    exact Cert.Reference10Ideal.Value.value_eq _ _ _ _

end Cert.Proof
-- ==== Proof.lean ====
/-
  The certificate: every claim listed in the test file, in its order.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.FfnClaim2
public import proofs.«01_k».proof.Proof.FfnClaim5
public import proofs.«01_k».proof.Proof.ConvClaim
public import proofs.«01_k».proof.Proof.MixClaim3
public import proofs.«01_k».proof.Proof.MixClaim6
public import proofs.«01_k».proof.Proof.MemClaim7
public import proofs.«01_k».proof.Proof.ProjClaim
public import proofs.«01_k».proof.Proof.NsaClaim
public import proofs.«01_k».proof.Proof.CmpClaim9
public import proofs.«01_k».proof.Proof.CmpClaim10
public import Idealize.ShloMosaic.Adequacy
public import Idealize.ShloMosaic.Init

@[expose] public section

noncomputable section

namespace Cert.Proof

open Idealize.ShloMosaic Idealize.SL.Sem

/-- The reference of call 2 runs and keeps its arguments; it has no semaphore. -/
theorem frame_r2 : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run m ρ)

/-- The reference of call 3 runs and keeps its arguments; it has no semaphore. -/
theorem frame_r3 : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run m ρ)

/-- The reference of call 4 runs and keeps its arguments; it has no semaphore. -/
theorem frame_r4 : Cert.quiescent_Reference4Ideal := by
  intro m ρ _
  exact (θ_run Cert.Reference4Ideal.defs _ _).mono (fun r h => ⟨fun c => (h c).2.2, sem_eq_zero_of_no_sems (by decide) r.2⟩)
    (Cert.Reference4Ideal.Value.run m ρ)

/-- The reference of call 5 runs and keeps its arguments; it has no semaphore. -/
theorem frame_r5 : Cert.quiescent_Reference5Ideal := by
  intro m ρ _
  exact (θ_run Cert.Reference5Ideal.defs _ _).mono (fun r h => ⟨fun c => (h c).2, sem_eq_zero_of_no_sems (by decide) r.2⟩)
    (Cert.Reference5Ideal.Value.run m ρ)

/-- The reference of call 6 runs and keeps its arguments; it has no semaphore. -/
theorem frame_r6 : Cert.quiescent_Reference6Ideal := by
  intro m ρ _
  exact (θ_run Cert.Reference6Ideal.defs _ _).mono (fun r h => ⟨fun c => (h c).2, sem_eq_zero_of_no_sems (by decide) r.2⟩)
    (Cert.Reference6Ideal.Value.run m ρ)

/-- The reference of call 7 runs and keeps its arguments; it has no semaphore. -/
theorem frame_r7 : Cert.quiescent_Reference7Ideal := by
  intro m ρ _
  exact (θ_run Cert.Reference7Ideal.defs _ _).mono (fun r h => ⟨fun c => (h c).2, sem_eq_zero_of_no_sems (by decide) r.2⟩)
    (Cert.Reference7Ideal.Value.run m ρ)

/-- The reference of call 8 runs and keeps its arguments; it has no semaphore. -/
theorem frame_r8 : Cert.quiescent_Reference8Ideal := by
  intro m ρ _
  exact (θ_run Cert.Reference8Ideal.defs _ _).mono (fun r h => ⟨fun c => (h c).2.2.2.2.2.2.2.2, sem_eq_zero_of_no_sems (by decide) r.2⟩)
    (Cert.Reference8Ideal.Value.run m ρ)

/-- The reference of call 9 runs and keeps its arguments; it has no semaphore. -/
theorem frame_r9 : Cert.quiescent_Reference9Ideal := by
  intro m ρ _
  exact (θ_run Cert.Reference9Ideal.defs _ _).mono (fun r h => ⟨fun c => (h c).2, sem_eq_zero_of_no_sems (by decide) r.2⟩)
    (Cert.Reference9Ideal.Value.run m ρ)

/-- The reference of call 10 runs and keeps its arguments; it has no semaphore. -/
theorem frame_r10 : Cert.quiescent_Reference10Ideal := by
  intro m ρ _
  exact (θ_run Cert.Reference10Ideal.defs _ _).mono (fun r h => ⟨fun c => (h c).2, sem_eq_zero_of_no_sems (by decide) r.2⟩)
    (Cert.Reference10Ideal.Value.run m ρ)

/-- All the claims. -/
theorem claim : Cert.Claim := ⟨Cert.Kernel.Gen.facts,
  Cert.KernelIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  frame_nsa,
  frame_nsa_ideal,
  fun m ρ _ => Cert.Kernel2.Gen.frame m ρ,
  fun m ρ _ => Cert.Kernel2Ideal.Gen.frame m ρ,
  frame_r2,
  fun m ρ _ => Cert.Kernel3.Gen.frame m ρ,
  fun m ρ _ => Cert.Kernel3Ideal.Gen.frame m ρ,
  frame_r3,
  fun m ρ _ => Cert.Kernel4.Gen.frame m ρ,
  fun m ρ _ => Cert.Kernel4Ideal.Gen.frame m ρ,
  frame_r4,
  fun m ρ _ => Cert.Kernel5.Gen.frame m ρ,
  fun m ρ _ => Cert.Kernel5Ideal.Gen.frame m ρ,
  frame_r5,
  fun m ρ _ => Cert.Kernel6.Gen.frame m ρ,
  fun m ρ _ => Cert.Kernel6Ideal.Gen.frame m ρ,
  frame_r6,
  fun m ρ _ => Cert.Kernel7.Gen.frame m ρ,
  fun m ρ _ => Cert.Kernel7Ideal.Gen.frame m ρ,
  frame_r7,
  fun m ρ _ => Cert.Kernel8.Gen.frame m ρ,
  fun m ρ _ => Cert.Kernel8Ideal.Gen.frame m ρ,
  frame_r8,
  fun m ρ _ => Cert.Kernel9.Gen.frame m ρ,
  fun m ρ _ => Cert.Kernel9Ideal.Gen.frame m ρ,
  frame_r9,
  fun m ρ _ => Cert.Kernel10.Gen.frame m ρ,
  fun m ρ _ => Cert.Kernel10Ideal.Gen.frame m ρ,
  frame_r10,
  trivial,
  trivial,
  algebraic2,
  IdealRules.named_const.statement _ _ _ _ _ rfl,
  algebraic3,
  trivial,
  algebraic4,
  trivial,
  algebraic5,
  IdealRules.named_const.statement _ _ _ _ _ rfl,
  algebraic6,
  trivial,
  algebraic7,
  trivial,
  algebraic8,
  trivial,
  algebraic9,
  trivial,
  algebraic10⟩

end Cert.Proof

end
